-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v169) = v4 c
          ∧ r.2.mem ((c.tc : Thread Cert.ReferenceIdeal.nD Cert.ReferenceIdeal.τ).loc Cert.ReferenceIdeal.main_v71) = v5 c
          ∧ r.2.mem ((c.tc : Thread Cert.ReferenceIdeal.nD Cert.ReferenceIdeal.τ).loc Cert.ReferenceIdeal.main_v41) = v6 c
          ∧ r.2.mem ((c.tc : Thread Cert.ReferenceIdeal.nD Cert.ReferenceIdeal.τ).loc Cert.ReferenceIdeal.main_v170) = v7 c
          ∧ r.2.mem ((c.tc : Thread Cert.ReferenceIdeal.nD Cert.ReferenceIdeal.τ).loc Cert.ReferenceIdeal.main_v106) = v8 c
          ∧ r.2.mem ((c.tc : Thread Cert.ReferenceIdeal.nD Cert.ReferenceIdeal.τ).loc Cert.ReferenceIdeal.main_v77) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x256x8192 : Shape := ⟨3, ![6, 256, 8192]⟩
abbrev S6x256x2048 : Shape := ⟨3, ![6, 256, 2048]⟩
abbrev S_ : Shape := ⟨0, ![]⟩

class Facts : Prop where
  bcast_S_S6x256x8192 : S_.BroadcastsInDim S6x256x8192 (![] : Fin 0 → Fin S6x256x8192.rank)
  bcast_S_S6x256x2048 : S_.BroadcastsInDim S6x256x2048 (![] : Fin 0 → Fin S6x256x2048.rank)

variable [Facts]

def fn {F : FTy → Type} [FloatOps F] (main_arg0 : FVec F S6x256x8192 .bf16) (main_arg1 : FVec F S6x256x2048 .bf16) (main_arg2 : FVec F S6x256x2048 .bf16) : IVec S6x256x8192 1 × IVec S6x256x2048 1 × IVec S6x256x2048 1 :=
  let main_v0 : FVec F S6x256x8192 .bf16 := Host.absf main_arg0
  let main_cst : FVec F S_ .bf16 := constant S_ .bf16 0x7F80#16
  let main_v1 : FVec F S6x256x8192 .bf16 := broadcastInDim S6x256x8192 ![] bcast_S_S6x256x8192 main_cst
  let main_v2 : IVec S6x256x8192 1 := cmpf .olt main_v0 main_v1
  let main_v3 : FVec F S6x256x2048 .bf16 := Host.absf main_arg1
  let main_cst_0 : FVec F S_ .bf16 := constant S_ .bf16 0x7F80#16
  let main_v4 : FVec F S6x256x2048 .bf16 := broadcastInDim S6x256x2048 ![] bcast_S_S6x256x2048 main_cst_0
  let main_v5 : IVec S6x256x2048 1 := cmpf .olt main_v3 main_v4
  let main_v6 : FVec F S6x256x2048 .bf16 := Host.absf main_arg2
  let main_cst_1 : FVec F S_ .bf16 := constant S_ .bf16 0x7F80#16
  let main_v7 : FVec F S6x256x2048 .bf16 := broadcastInDim S6x256x2048 ![] bcast_S_S6x256x2048 main_cst_1
  let main_v8 : IVec S6x256x2048 1 := cmpf .olt main_v6 main_v7
  (main_v2, main_v5, main_v8)
-- ==== Kernel.lean ====
abbrev S6x256x8192 : Shape := ⟨3, ![6, 256, 8192]⟩
abbrev S6x256x2048 : Shape := ⟨3, ![6, 256, 2048]⟩
abbrev S6x256x64x128 : Shape := ⟨4, ![6, 256, 64, 128]⟩
abbrev S6x2x64 : Shape := ⟨3, ![6, 2, 64]⟩
abbrev S6x2x64x128 : Shape := ⟨4, ![6, 2, 64, 128]⟩
abbrev S6x256x16x128 : Shape := ⟨4, ![6, 256, 16, 128]⟩
abbrev S6x4x16 : Shape := ⟨3, ![6, 4, 16]⟩
abbrev S6x16x128 : Shape := ⟨3, ![6, 16, 128]⟩
abbrev S1x256x4096 : Shape := ⟨3, ![1, 256, 4096]⟩
abbrev S1x256x1024 : Shape := ⟨3, ![1, 256, 1024]⟩
abbrev S1x256x32x128 : Shape := ⟨4, ![1, 256, 32, 128]⟩
abbrev S1x2x64 : Shape := ⟨3, ![1, 2, 64]⟩
abbrev S1x2x32x128 : Shape := ⟨4, ![1, 2, 32, 128]⟩
abbrev S1x256x8x128 : Shape := ⟨4, ![1, 256, 8, 128]⟩
abbrev S1x4x16 : Shape := ⟨3, ![1, 4, 16]⟩
abbrev S1x8x128 : Shape := ⟨3, ![1, 8, 128]⟩
abbrev S1024x128 : Shape := ⟨2, ![1024, 128]⟩
abbrev S16x256 : Shape := ⟨2, ![16, 256]⟩
abbrev S4x16 : Shape := ⟨2, ![4, 16]⟩
abbrev S2x64 : Shape := ⟨2, ![2, 64]⟩
abbrev S1x128 : Shape := ⟨2, ![1, 128]⟩
abbrev S1x256x512 : Shape := ⟨3, ![1, 256, 512]⟩
abbrev S256x512 : Shape := ⟨2, ![256, 512]⟩
abbrev S16x512 : Shape := ⟨2, ![16, 512]⟩
abbrev S1x512 : Shape := ⟨2, ![1, 512]⟩
abbrev S16x16x512 : Shape := ⟨3, ![16, 16, 512]⟩
abbrev S512 : Shape := ⟨1, ![512]⟩
abbrev S256x128 : Shape := ⟨2, ![256, 128]⟩
abbrev S32x128 : Shape := ⟨2, ![32, 128]⟩
abbrev S8x4x128 : Shape := ⟨3, ![8, 4, 128]⟩
abbrev S1x8x4x128 : Shape := ⟨4, ![1, 8, 4, 128]⟩
abbrev S64x512 : Shape := ⟨2, ![64, 512]⟩
abbrev S4x16x512 : Shape := ⟨3, ![4, 16, 512]⟩
abbrev S4x128 : Shape := ⟨2, ![4, 128]⟩
abbrev S4 : Shape := ⟨1, ![4]⟩
abbrev S4x1 : Shape := ⟨2, ![4, 1]⟩
abbrev S64x128 : Shape := ⟨2, ![64, 128]⟩
abbrev S1x1 : Shape := ⟨2, ![1, 1]⟩
abbrev S2x512 : Shape := ⟨2, ![2, 512]⟩
abbrev S128x512 : Shape := ⟨2, ![128, 512]⟩
abbrev S8x16x512 : Shape := ⟨3, ![8, 16, 512]⟩
abbrev S8x128 : Shape := ⟨2, ![8, 128]⟩
abbrev S8 : Shape := ⟨1, ![8]⟩
abbrev S8x1 : Shape := ⟨2, ![8, 1]⟩
abbrev S128x128 : Shape := ⟨2, ![128, 128]⟩
abbrev S2x1 : Shape := ⟨2, ![2, 1]⟩
abbrev S16x128 : Shape := ⟨2, ![16, 128]⟩
abbrev S64x256 : Shape := ⟨2, ![64, 256]⟩
abbrev S128 : Shape := ⟨1, ![128]⟩
abbrev S128x256 : Shape := ⟨2, ![128, 256]⟩
abbrev S96x128 : Shape := ⟨2, ![96, 128]⟩
abbrev S192x128 : Shape := ⟨2, ![192, 128]⟩
abbrev S192x256 : Shape := ⟨2, ![192, 256]⟩
abbrev S160x128 : Shape := ⟨2, ![160, 128]⟩
abbrev S256x256 : Shape := ⟨2, ![256, 256]⟩
abbrev S224x128 : Shape := ⟨2, ![224, 128]⟩
abbrev S1x256x128 : Shape := ⟨3, ![1, 256, 128]⟩
abbrev S1x1x32x128 : Shape := ⟨4, ![1, 1, 32, 128]⟩

abbrev nBuf : Space → Nat
  | .hbm => 13
  | .vmem => 28
  | .smem => 0
  | _ => 0

abbrev bufTy : (tb : Table) → Fin (tcTables nBuf tb) → BufTy
  | .hbm, ⟨0, _⟩ => ⟨S6x256x8192, .bf16⟩
  | .hbm, ⟨1, _⟩ => ⟨S6x256x2048, .bf16⟩
  | .hbm, ⟨2, _⟩ => ⟨S6x256x2048, .bf16⟩
  | .hbm, ⟨3, _⟩ => ⟨S6x256x8192, .bf16⟩
  | .hbm, ⟨4, _⟩ => ⟨S6x256x64x128, .fp8e4m3⟩
  | .hbm, ⟨5, _⟩ => ⟨S6x2x64, .f32⟩
  | .hbm, ⟨6, _⟩ => ⟨S6x2x64x128, .bf16⟩
  | .hbm, ⟨7, _⟩ => ⟨S6x256x16x128, .fp8e4m3⟩
  | .hbm, ⟨8, _⟩ => ⟨S6x4x16, .f32⟩
  | .hbm, ⟨9, _⟩ => ⟨S6x16x128, .bf16⟩
  | .hbm, ⟨10, _⟩ => ⟨S6x256x16x128, .fp8e4m3⟩
  | .hbm, ⟨11, _⟩ => ⟨S6x16x128, .f32⟩
  | .hbm, ⟨12, _⟩ => ⟨S6x16x128, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x32x128, .fp8e4m3⟩
  | .local _ .vmem, ⟨9, _⟩ => ⟨S1x256x32x128, .fp8e4m3⟩
  | .local _ .vmem, ⟨10, _⟩ => ⟨S1x2x64, .f32⟩
  | .local _ .vmem, ⟨11, _⟩ => ⟨S1x2x64, .f32⟩
  | .local _ .vmem, ⟨12, _⟩ => ⟨S1x2x32x128, .bf16⟩
  | .local _ .vmem, ⟨13, _⟩ => ⟨S1x2x32x128, .bf16⟩
  | .local _ .vmem, ⟨14, _⟩ => ⟨S1x256x8x128, .fp8e4m3⟩
  | .local _ .vmem, ⟨15, _⟩ => ⟨S1x256x8x128, .fp8e4m3⟩
  | .local _ .vmem, ⟨16, _⟩ => ⟨S1x4x16, .f32⟩
  | .local _ .vmem, ⟨17, _⟩ => ⟨S1x4x16, .f32⟩
  | .local _ .vmem, ⟨18, _⟩ => ⟨S1x8x128, .bf16⟩
  | .local _ .vmem, ⟨19, _⟩ => ⟨S1x8x128, .bf16⟩
  | .local _ .vmem, ⟨20, _⟩ => ⟨S1x256x8x128, .fp8e4m3⟩
  | .local _ .vmem, ⟨21, _⟩ => ⟨S1x256x8x128, .fp8e4m3⟩
  | .local _ .vmem, ⟨22, _⟩ => ⟨S1x8x128, .f32⟩
  | .local _ .vmem, ⟨23, _⟩ => ⟨S1x8x128, .f32⟩
  | .local _ .vmem, ⟨24, _⟩ => ⟨S1x8x128, .bf16⟩
  | .local _ .vmem, ⟨25, _⟩ => ⟨S1x8x128, .bf16⟩
  | .local _ .vmem, ⟨26, _⟩ => ⟨S1024x128, .f32⟩
  | .local _ .vmem, ⟨27, _⟩ => ⟨S1024x128, .f32⟩
  | _, _ => ⟨S6x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v0_9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x32x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x32x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x8x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x8x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "sm_log2e" => some (((Real.sqrt 128)⁻¹ * (Real.log 2)⁻¹ : ℝ) : EReal)
  | _ => none
-- ==== ReferenceIdeal.lean ====
abbrev S6x256x8192 : Shape := ⟨3, ![6, 256, 8192]⟩
abbrev S6x256x2048 : Shape := ⟨3, ![6, 256, 2048]⟩
abbrev S_ : Shape := ⟨0, ![]⟩
abbrev S6x2x128x64x128 : Shape := ⟨5, ![6, 2, 128, 64, 128]⟩
abbrev S6x2x64x128 : Shape := ⟨4, ![6, 2, 64, 128]⟩
abbrev S6x2x1x64x128 : Shape := ⟨5, ![6, 2, 1, 64, 128]⟩
abbrev S6x2x64 : Shape := ⟨3, ![6, 2, 64]⟩
abbrev S6x2x1x64x1 : Shape := ⟨5, ![6, 2, 1, 64, 1]⟩
abbrev S6x256x16x128 : Shape := ⟨4, ![6, 256, 16, 128]⟩
abbrev S6x16x128 : Shape := ⟨3, ![6, 16, 128]⟩
abbrev S6x1x16x128 : Shape := ⟨4, ![6, 1, 16, 128]⟩
abbrev S6x4x64x16x128 : Shape := ⟨5, ![6, 4, 64, 16, 128]⟩
abbrev S6x4x16 : Shape := ⟨3, ![6, 4, 16]⟩
abbrev S6x4x1x16x1 : Shape := ⟨5, ![6, 4, 1, 16, 1]⟩
abbrev S6x256x16x4x128 : Shape := ⟨5, ![6, 256, 16, 4, 128]⟩
abbrev S6x16x256x256x4 : Shape := ⟨5, ![6, 16, 256, 256, 4]⟩
abbrev S6x16x4x256x256 : Shape := ⟨5, ![6, 16, 4, 256, 256]⟩
abbrev S6x256x64x128 : Shape := ⟨4, ![6, 256, 64, 128]⟩
abbrev S6x2x128x64 : Shape := ⟨4, ![6, 2, 128, 64]⟩
abbrev S6x256x64 : Shape := ⟨3, ![6, 256, 64]⟩
abbrev S6x256x16x4 : Shape := ⟨4, ![6, 256, 16, 4]⟩
abbrev S6x16x4x256 : Shape := ⟨4, ![6, 16, 4, 256]⟩
abbrev S6x4x64x16 : Shape := ⟨4, ![6, 4, 64, 16]⟩
abbrev S6x256x16 : Shape := ⟨3, ![6, 256, 16]⟩
abbrev S6x16x256 : Shape := ⟨3, ![6, 16, 256]⟩
abbrev S6x16x1x1x256 : Shape := ⟨5, ![6, 16, 1, 1, 256]⟩
abbrev S6x16x4x256x1 : Shape := ⟨5, ![6, 16, 4, 256, 1]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S6x16x128x4x256 : Shape := ⟨5, ![6, 16, 128, 4, 256]⟩
abbrev S6x1x16x1x128 : Shape := ⟨5, ![6, 1, 16, 1, 128]⟩
abbrev S6x256x16x4x1 : Shape := ⟨5, ![6, 256, 16, 4, 1]⟩

abbrev nBuf : Space → Nat
  | .hbm => 239
  | .vmem => 0
  | .smem => 0
  | _ => 0

abbrev hbmTy0_0 (i : Nat) : BufTy := match i % 128 with
  | 0 => ⟨S6x256x8192, .bf16⟩
  | 1 => ⟨S6x256x2048, .bf16⟩
  | 2 => ⟨S6x256x2048, .bf16⟩
  | 3 => ⟨S_, .f32⟩
  | 4 => ⟨S_, .f32⟩
  | 5 => ⟨S6x2x128x64x128, .bf16⟩
  | 6 => ⟨S6x2x128x64x128, .f32⟩
  | 7 => ⟨S_, .f32⟩
  | 8 => ⟨S6x2x64x128, .f32⟩
  | 9 => ⟨S_, .f32⟩
  | 10 => ⟨S6x2x64x128, .f32⟩
  | 11 => ⟨S6x2x64x128, .f32⟩
  | 12 => ⟨S6x2x64x128, .bf16⟩
  | 13 => ⟨S6x2x64x128, .f32⟩
  | 14 => ⟨S6x2x1x64x128, .f32⟩
  | 15 => ⟨S6x2x128x64x128, .f32⟩
  | 16 => ⟨S6x2x128x64x128, .f32⟩
  | 17 => ⟨S6x2x128x64x128, .f32⟩
  | 18 => ⟨S_, .f32⟩
  | 19 => ⟨S6x2x64, .f32⟩
  | 20 => ⟨S6x2x1x64x1, .f32⟩
  | 21 => ⟨S_, .f32⟩
  | 22 => ⟨S6x2x1x64x1, .f32⟩
  | 23 => ⟨S6x2x1x64x1, .f32⟩
  | 24 => ⟨S6x2x1x64x1, .f32⟩
  | 25 => ⟨S6x2x1x64x1, .f32⟩
  | 26 => ⟨S6x2x1x64x1, .f32⟩
  | 27 => ⟨S6x2x1x64x1, .f32⟩
  | 28 => ⟨S_, .f32⟩
  | 29 => ⟨S6x2x1x64x1, .f32⟩
  | 30 => ⟨S6x2x1x64x1, .f32⟩
  | 31 => ⟨S_, .f32⟩
  | 32 => ⟨S6x2x1x64x1, .f32⟩
  | 33 => ⟨S6x2x1x64x1, .i1⟩
  | 34 => ⟨S_, .f32⟩
  | 35 => ⟨S_, .f32⟩
  | 36 => ⟨S6x2x1x64x1, .f32⟩
  | 37 => ⟨S6x2x1x64x1, .f32⟩
  | 38 => ⟨S6x2x1x64x1, .f32⟩
  | 39 => ⟨S6x2x1x64x1, .f32⟩
  | 40 => ⟨S6x2x1x64x1, .f32⟩
  | 41 => ⟨S6x2x1x64x1, .f32⟩
  | 42 => ⟨S6x2x128x64x128, .f32⟩
  | 43 => ⟨S6x2x128x64x128, .f32⟩
  | 44 => ⟨S_, .f32⟩
  | 45 => ⟨S_, .f32⟩
  | 46 => ⟨S_, .f32⟩
  | 47 => ⟨S6x2x128x64x128, .f32⟩
  | 48 => ⟨S6x2x128x64x128, .f32⟩
  | 49 => ⟨S_, .f32⟩
  | 50 => ⟨S6x2x128x64x128, .f32⟩
  | 51 => ⟨S6x2x128x64x128, .f32⟩
  | 52 => ⟨S6x2x1x64x1, .f32⟩
  | 53 => ⟨S6x2x1x64x1, .f32⟩
  | 54 => ⟨S6x2x1x64x1, .f32⟩
  | 55 => ⟨S6x2x64, .f32⟩
  | 56 => ⟨S6x256x16x128, .bf16⟩
  | 57 => ⟨S6x256x16x128, .f32⟩
  | 58 => ⟨S_, .f32⟩
  | 59 => ⟨S6x16x128, .f32⟩
  | 60 => ⟨S_, .f32⟩
  | 61 => ⟨S6x16x128, .f32⟩
  | 62 => ⟨S6x16x128, .f32⟩
  | 63 => ⟨S6x16x128, .bf16⟩
  | 64 => ⟨S6x16x128, .f32⟩
  | 65 => ⟨S6x1x16x128, .f32⟩
  | 66 => ⟨S6x256x16x128, .f32⟩
  | 67 => ⟨S6x256x16x128, .f32⟩
  | 68 => ⟨S6x4x64x16x128, .f32⟩
  | 69 => ⟨S6x4x64x16x128, .f32⟩
  | 70 => ⟨S_, .f32⟩
  | 71 => ⟨S6x4x16, .f32⟩
  | 72 => ⟨S6x4x1x16x1, .f32⟩
  | 73 => ⟨S_, .f32⟩
  | 74 => ⟨S6x4x1x16x1, .f32⟩
  | 75 => ⟨S6x4x1x16x1, .f32⟩
  | 76 => ⟨S6x4x1x16x1, .f32⟩
  | 77 => ⟨S6x4x1x16x1, .f32⟩
  | 78 => ⟨S6x4x1x16x1, .f32⟩
  | 79 => ⟨S6x4x1x16x1, .f32⟩
  | 80 => ⟨S_, .f32⟩
  | 81 => ⟨S6x4x1x16x1, .f32⟩
  | 82 => ⟨S6x4x1x16x1, .f32⟩
  | 83 => ⟨S_, .f32⟩
  | 84 => ⟨S6x4x1x16x1, .f32⟩
  | 85 => ⟨S6x4x1x16x1, .i1⟩
  | 86 => ⟨S_, .f32⟩
  | 87 => ⟨S_, .f32⟩
  | 88 => ⟨S6x4x1x16x1, .f32⟩
  | 89 => ⟨S6x4x1x16x1, .f32⟩
  | 90 => ⟨S6x4x1x16x1, .f32⟩
  | 91 => ⟨S6x4x1x16x1, .f32⟩
  | 92 => ⟨S6x4x1x16x1, .f32⟩
  | 93 => ⟨S6x4x1x16x1, .f32⟩
  | 94 => ⟨S6x4x64x16x128, .f32⟩
  | 95 => ⟨S6x4x64x16x128, .f32⟩
  | 96 => ⟨S_, .f32⟩
  | 97 => ⟨S_, .f32⟩
  | 98 => ⟨S_, .f32⟩
  | 99 => ⟨S6x4x64x16x128, .f32⟩
  | 100 => ⟨S6x4x64x16x128, .f32⟩
  | 101 => ⟨S_, .f32⟩
  | 102 => ⟨S6x4x64x16x128, .f32⟩
  | 103 => ⟨S6x4x64x16x128, .f32⟩
  | 104 => ⟨S6x4x1x16x1, .f32⟩
  | 105 => ⟨S6x4x1x16x1, .f32⟩
  | 106 => ⟨S6x4x1x16x1, .f32⟩
  | 107 => ⟨S6x4x16, .f32⟩
  | 108 => ⟨S6x256x16x128, .bf16⟩
  | 109 => ⟨S6x256x16x128, .f32⟩
  | 110 => ⟨S_, .f32⟩
  | 111 => ⟨S6x16x128, .f32⟩
  | 112 => ⟨S_, .f32⟩
  | 113 => ⟨S6x16x128, .f32⟩
  | 114 => ⟨S6x16x128, .f32⟩
  | 115 => ⟨S6x16x128, .bf16⟩
  | 116 => ⟨S6x16x128, .f32⟩
  | 117 => ⟨S6x1x16x128, .f32⟩
  | 118 => ⟨S6x256x16x128, .f32⟩
  | 119 => ⟨S6x256x16x128, .f32⟩
  | 120 => ⟨S6x256x16x128, .f32⟩
  | 121 => ⟨S_, .f32⟩
  | 122 => ⟨S6x16x128, .f32⟩
  | 123 => ⟨S6x1x16x128, .f32⟩
  | 124 => ⟨S_, .f32⟩
  | 125 => ⟨S6x1x16x128, .f32⟩
  | 126 => ⟨S6x1x16x128, .f32⟩
  | 127 => ⟨S6x1x16x128, .f32⟩
  | _ => ⟨S6x256x8192, .bf16⟩

abbrev hbmTy0_1 (i : Nat) : BufTy := match i % 128 with
  | 0 => ⟨S6x1x16x128, .f32⟩
  | 1 => ⟨S6x1x16x128, .f32⟩
  | 2 => ⟨S6x1x16x128, .f32⟩
  | 3 => ⟨S_, .f32⟩
  | 4 => ⟨S6x1x16x128, .f32⟩
  | 5 => ⟨S6x1x16x128, .f32⟩
  | 6 => ⟨S_, .f32⟩
  | 7 => ⟨S6x1x16x128, .f32⟩
  | 8 => ⟨S6x1x16x128, .i1⟩
  | 9 => ⟨S_, .f32⟩
  | 10 => ⟨S_, .f32⟩
  | 11 => ⟨S6x1x16x128, .f32⟩
  | 12 => ⟨S6x1x16x128, .f32⟩
  | 13 => ⟨S6x1x16x128, .f32⟩
  | 14 => ⟨S6x1x16x128, .f32⟩
  | 15 => ⟨S6x1x16x128, .f32⟩
  | 16 => ⟨S6x1x16x128, .f32⟩
  | 17 => ⟨S6x256x16x128, .f32⟩
  | 18 => ⟨S6x256x16x128, .f32⟩
  | 19 => ⟨S_, .f32⟩
  | 20 => ⟨S_, .f32⟩
  | 21 => ⟨S_, .f32⟩
  | 22 => ⟨S6x256x16x128, .f32⟩
  | 23 => ⟨S6x256x16x128, .f32⟩
  | 24 => ⟨S_, .f32⟩
  | 25 => ⟨S6x256x16x128, .f32⟩
  | 26 => ⟨S6x256x16x128, .f32⟩
  | 27 => ⟨S6x1x16x128, .f32⟩
  | 28 => ⟨S6x1x16x128, .f32⟩
  | 29 => ⟨S6x1x16x128, .f32⟩
  | 30 => ⟨S6x16x128, .f32⟩
  | 31 => ⟨S6x256x16x4x128, .f32⟩
  | 32 => ⟨S6x256x16x128, .f32⟩
  | 33 => ⟨S6x16x256x256x4, .f32⟩
  | 34 => ⟨S6x16x4x256x256, .f32⟩
  | 35 => ⟨S6x2x64x128, .f32⟩
  | 36 => ⟨S6x2x128x64x128, .f32⟩
  | 37 => ⟨S6x256x64x128, .f32⟩
  | 38 => ⟨S6x256x16x4x128, .f32⟩
  | 39 => ⟨S6x16x256x256x4, .f32⟩
  | 40 => ⟨S6x16x4x256x256, .f32⟩
  | 41 => ⟨S6x2x128x64, .f32⟩
  | 42 => ⟨S6x256x64, .f32⟩
  | 43 => ⟨S6x256x16x4, .f32⟩
  | 44 => ⟨S6x16x4x256, .f32⟩
  | 45 => ⟨S6x4x64x16, .f32⟩
  | 46 => ⟨S6x256x16, .f32⟩
  | 47 => ⟨S6x16x256, .f32⟩
  | 48 => ⟨S6x16x1x1x256, .f32⟩
  | 49 => ⟨S6x16x4x256x1, .f32⟩
  | 50 => ⟨S6x16x4x256x256, .f32⟩
  | 51 => ⟨S6x16x4x256x256, .f32⟩
  | 52 => ⟨S6x16x4x256x256, .f32⟩
  | 53 => ⟨S6x16x4x256x256, .f32⟩
  | 54 => ⟨S6x16x4x256x256, .f32⟩
  | 55 => ⟨S_, .f32⟩
  | 56 => ⟨S_, .f32⟩
  | 57 => ⟨S6x16x4x256x256, .f32⟩
  | 58 => ⟨S6x16x4x256x256, .f32⟩
  | 59 => ⟨S256, .i32⟩
  | 60 => ⟨S1x256, .i32⟩
  | 61 => ⟨S256x1, .i32⟩
  | 62 => ⟨S256x256, .i32⟩
  | 63 => ⟨S256x256, .i32⟩
  | 64 => ⟨S256x256, .i1⟩
  | 65 => ⟨S_, .f32⟩
  | 66 => ⟨S_, .f32⟩
  | 67 => ⟨S6x16x4x256x256, .i1⟩
  | 68 => ⟨S6x16x4x256x256, .f32⟩
  | 69 => ⟨S6x16x4x256x256, .f32⟩
  | 70 => ⟨S_, .f32⟩
  | 71 => ⟨S6x16x4x256, .f32⟩
  | 72 => ⟨S6x16x4x256x1, .f32⟩
  | 73 => ⟨S6x16x4x256x256, .f32⟩
  | 74 => ⟨S6x16x4x256x256, .f32⟩
  | 75 => ⟨S6x16x4x256x256, .f32⟩
  | 76 => ⟨S_, .f32⟩
  | 77 => ⟨S6x16x4x256, .f32⟩
  | 78 => ⟨S_, .f32⟩
  | 79 => ⟨S6x16x4x256x256, .f32⟩
  | 80 => ⟨S6x16x4x256x256, .f32⟩
  | 81 => ⟨S_, .f32⟩
  | 82 => ⟨S_, .f32⟩
  | 83 => ⟨S_, .f32⟩
  | 84 => ⟨S6x16x4x256x256, .f32⟩
  | 85 => ⟨S6x16x4x256x256, .f32⟩
  | 86 => ⟨S_, .f32⟩
  | 87 => ⟨S6x16x4x256x256, .f32⟩
  | 88 => ⟨S6x16x4x256x256, .f32⟩
  | 89 => ⟨S6x16x128x4x256, .f32⟩
  | 90 => ⟨S6x256x16x4x128, .f32⟩
  | 91 => ⟨S_, .f32⟩
  | 92 => ⟨S6x256x16x4x128, .f32⟩
  | 93 => ⟨S6x256x16x4x128, .f32⟩
  | 94 => ⟨S6x1x16x1x128, .f32⟩
  | 95 => ⟨S6x256x16x4x128, .f32⟩
  | 96 => ⟨S6x256x16x4x128, .f32⟩
  | 97 => ⟨S6x256x16x4, .f32⟩
  | 98 => ⟨S6x256x16x4x1, .f32⟩
  | 99 => ⟨S6x256x16x4x128, .f32⟩
  | 100 => ⟨S6x256x16x4x128, .f32⟩
  | 101 => ⟨S6x16x128, .f32⟩
  | 102 => ⟨S6x1x16x1x128, .f32⟩
  | 103 => ⟨S6x256x16x4x128, .f32⟩
  | 104 => ⟨S6x256x16x4x128, .f32⟩
  | 105 => ⟨S6x256x16x4x128, .bf16⟩
  | 106 => ⟨S6x256x8192, .bf16⟩
  | 107 => ⟨S6x256x64x128, .f32⟩
  | 108 => ⟨S6x256x64x128, .fp8e4m3⟩
  | 109 => ⟨S6x256x16x128, .fp8e4m3⟩
  | 110 => ⟨S6x256x16x128, .fp8e4m3⟩
  | _ => ⟨S6x256x8192, .bf16⟩

abbrev hbmTy (i : Nat) : BufTy := match i / 128 with
  | 0 => hbmTy0_0 i
  | 1 => hbmTy0_1 i
  | _ => ⟨S6x256x8192, .bf16⟩

abbrev bufTy : (tb : Table) → Fin (tcTables nBuf tb) → BufTy
  | .hbm, ⟨i, _⟩ => hbmTy i
  | _, _ => ⟨S6x256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_cst_17 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_v74 : Ref sig .tc := ⟨.hbm, 111, rfl⟩
abbrev main_cst_19 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_20 : Ref sig .tc := ⟨.hbm, 121, rfl⟩
abbrev main_v83 : Ref sig .tc := ⟨.hbm, 122, rfl⟩
abbrev main_v84 : Ref sig .tc := ⟨.hbm, 123, rfl⟩
abbrev main_cst_21 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_v92 : Ref sig .tc := ⟨.hbm, 133, rfl⟩
abbrev main_cst_23 : Ref sig .tc := ⟨.hbm, 134, rfl⟩
abbrev main_v93 : Ref sig .tc := ⟨.hbm, 135, rfl⟩
abbrev main_v94 : Ref sig .tc := ⟨.hbm, 136, rfl⟩
abbrev main_cst_24 : Ref sig .tc := ⟨.hbm, 137, rfl⟩
abbrev main_call4_v0 : Ref sig .tc := ⟨.hbm, 138, rfl⟩
abbrev main_call4_v1 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_25 : Ref sig .tc := ⟨.hbm, 147, rfl⟩
abbrev main_cst_26 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_27 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_28 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_v140 : Ref sig .tc := ⟨.hbm, 197, rfl⟩
abbrev main_cst_29 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_30 : Ref sig .tc := ⟨.hbm, 204, rfl⟩
abbrev main_v146 : Ref sig .tc := ⟨.hbm, 205, rfl⟩
abbrev main_cst_31 : Ref sig .tc := ⟨.hbm, 206, rfl⟩
abbrev main_v147 : Ref sig .tc := ⟨.hbm, 207, rfl⟩
abbrev main_v148 : Ref sig .tc := ⟨.hbm, 208, rfl⟩
abbrev main_cst_32 : Ref sig .tc := ⟨.hbm, 209, rfl⟩
abbrev main_cst_33 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_cst_34 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩

abbrev nD : Nat := 1
abbrev τ : Topo := Topo.v7x

variable {F : FTy → Type} [FloatOps F]
-- ==== Proof.FrameK0.lean ====
/- The staging and scratch memrefs of the kernel, named, and the frame read off a run. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The arguments end unchanged, from a run whose outputs are left unnamed. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x32x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x32x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x8x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x8x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x128 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.FrameK1.lean ====
/- The run of the whole kernel body, its outputs at some contents. -/
module

public import proofs.«01_k».proof.Proof.FrameK0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 12112000 in set_option sl_exec.stridedRows true in
/-- The body's triple: on whole staging memrefs — the inputs' at their contents,
    the FORGOTTEN outputs' (3, 4, 5, 6, 7, 8, 9, 10, 11, 12) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x256x4096 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x4096 .bf16) (harg5 : arg5.IsWhole) (arg6 : Memref sig .tc .vmem S1x256x32x128 .fp8e4m3) (harg6 : arg6.IsWhole) (arg7 : Memref sig .tc .vmem S1x2x64 .f32) (harg7 : arg7.IsWhole) (arg8 : Memref sig .tc .vmem S1x2x32x128 .bf16) (harg8 : arg8.IsWhole) (arg9 : Memref sig .tc .vmem S1x256x8x128 .fp8e4m3) (harg9 : arg9.IsWhole) (arg10 : Memref sig .tc .vmem S1x4x16 .f32) (harg10 : arg10.IsWhole) (arg11 : Memref sig .tc .vmem S1x8x128 .bf16) (harg11 : arg11.IsWhole) (arg12 : Memref sig .tc .vmem S1x256x8x128 .fp8e4m3) (harg12 : arg12.IsWhole) (arg13 : Memref sig .tc .vmem S1x8x128 .f32) (harg13 : arg13.IsWhole) (arg14 : Memref sig .tc .vmem S1x8x128 .bf16) (harg14 : arg14.IsWhole) (arg15 : Memref sig .tc .vmem S1024x128 .f32) (harg15 : arg15.IsWhole) (arg16 : Memref sig .tc .vmem S1024x128 .f32) (harg16 : arg16.IsWhole)
    (x0 : Vec F S1x256x4096 .bf16) (x1 : Vec F S1x256x1024 .bf16) (x2 : Vec F S1x256x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_sage_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_sage_fp8_attention_eq_skeleton]; unfold cc0_sage_fp8_attention_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexists _, _; isplitr; swap; · iexact HS1
    ipureintro; rfl

end Cert.Kernel.Gen

end
-- ==== Proof.FrameK.lean ====
/- The frame of the kernel: it ends, its arguments unchanged and every counter at zero. -/
module

public import proofs.«01_k».proof.Proof.FrameK1
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9, 10, 11, 12): nothing reads what the kernel leaves in them, so nothing
    of it is named (Lib/Pipeline/Dat.lean `Dat.toRForget`). -/
def forgets0 : Fin 13 → Bool := fun w => w.val == 3 || w.val == 4 || w.val == 5 || w.val == 6 || w.val == 7 || w.val == 8 || w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets0) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Runs.lean ====
/- The staging and scratch memrefs of the idealized kernel, named, and the views its outputs are read through. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 3, through which its contents are stated (`View.read_writes_of_cover`: the
    choice does not matter). -/
abbrev VO0_3 : View sig .tc .vmem S1x256x4096 .bf16 := (Memref.whole cc0_stg3_0 : Memref sig .tc .vmem S1x256x4096 .bf16).view
/-- One staging buffer of output window 4, through which its contents are stated (`View.read_writes_of_cover`: the
    choice does not matter). -/
abbrev VO0_4 : View sig .tc .vmem S1x256x32x128 .fp8e4m3 := (Memref.whole cc0_stg4_0 : Memref sig .tc .vmem S1x256x32x128 .fp8e4m3).view
/-- One staging buffer of output window 5, through which its contents are stated (`View.read_writes_of_cover`: the
    choice does not matter). -/
abbrev VO0_5 : View sig .tc .vmem S1x2x64 .f32 := (Memref.whole cc0_stg5_0 : Memref sig .tc .vmem S1x2x64 .f32).view
/-- One staging buffer of output window 6, through which its contents are stated (`View.read_writes_of_cover`: the
    choice does not matter). -/
abbrev VO0_6 : View sig .tc .vmem S1x2x32x128 .bf16 := (Memref.whole cc0_stg6_0 : Memref sig .tc .vmem S1x2x32x128 .bf16).view
/-- One staging buffer of output window 7, through which its contents are stated (`View.read_writes_of_cover`: the
    choice does not matter). -/
abbrev VO0_7 : View sig .tc .vmem S1x256x8x128 .fp8e4m3 := (Memref.whole cc0_stg7_0 : Memref sig .tc .vmem S1x256x8x128 .fp8e4m3).view
/-- One staging buffer of output window 8, through which its contents are stated (`View.read_writes_of_cover`: the
    choice does not matter). -/
abbrev VO0_8 : View sig .tc .vmem S1x4x16 .f32 := (Memref.whole cc0_stg8_0 : Memref sig .tc .vmem S1x4x16 .f32).view
/-- One staging buffer of output window 9, through which its contents are stated (`View.read_writes_of_cover`: the
    choice does not matter). -/
abbrev VO0_9 : View sig .tc .vmem S1x8x128 .bf16 := (Memref.whole cc0_stg9_0 : Memref sig .tc .vmem S1x8x128 .bf16).view
/-- One staging buffer of output window 10, through which its contents are stated (`View.read_writes_of_cover`: the
    choice does not matter). -/
abbrev VO0_10 : View sig .tc .vmem S1x256x8x128 .fp8e4m3 := (Memref.whole cc0_stg10_0 : Memref sig .tc .vmem S1x256x8x128 .fp8e4m3).view
/-- One staging buffer of output window 11, through which its contents are stated (`View.read_writes_of_cover`: the
    choice does not matter). -/
abbrev VO0_11 : View sig .tc .vmem S1x8x128 .f32 := (Memref.whole cc0_stg11_0 : Memref sig .tc .vmem S1x8x128 .f32).view
/-- One staging buffer of output window 12, through which its contents are stated (`View.read_writes_of_cover`: the
    choice does not matter). -/
abbrev VO0_12 : View sig .tc .vmem S1x8x128 .bf16 := (Memref.whole cc0_stg12_0 : Memref sig .tc .vmem S1x8x128 .bf16).view
/-- Each window's current staging memref at point `t`, spelled as the pipeline passes it (`bodyAt0`), and its wholeness. -/
abbrev ms0_0 (t : Fin cfg0.N) : Memref sig .tc .vmem S1x256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x32x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x32x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x8x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x8x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x128 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunI.lean ====
/- The whole-body run of the idealized kernel: the body's triple, with the pieces each output's buffer ends with as
   its witness. Windows 5 and 8 (the two scale tables, read before they are stored) come in at named contents. -/
module

public import proofs.«01_k».proof.Proof.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: the definition's epilogue — `abstractNestedProofs` — walks it past the default budget)
set_option maxHeartbeats 12160000 in set_option sl_exec.stridedRows true in set_option sl_exec.resultNames true in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x4096 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x4096 .bf16) (harg5 : arg5.IsWhole) (arg6 : Memref sig .tc .vmem S1x256x32x128 .fp8e4m3) (harg6 : arg6.IsWhole) (arg7 : Memref sig .tc .vmem S1x2x64 .f32) (harg7 : arg7.IsWhole) (arg8 : Memref sig .tc .vmem S1x2x32x128 .bf16) (harg8 : arg8.IsWhole) (arg9 : Memref sig .tc .vmem S1x256x8x128 .fp8e4m3) (harg9 : arg9.IsWhole) (arg10 : Memref sig .tc .vmem S1x4x16 .f32) (harg10 : arg10.IsWhole) (arg11 : Memref sig .tc .vmem S1x8x128 .bf16) (harg11 : arg11.IsWhole) (arg12 : Memref sig .tc .vmem S1x256x8x128 .fp8e4m3) (harg12 : arg12.IsWhole) (arg13 : Memref sig .tc .vmem S1x8x128 .f32) (harg13 : arg13.IsWhole) (arg14 : Memref sig .tc .vmem S1x8x128 .bf16) (harg14 : arg14.IsWhole) (arg15 : Memref sig .tc .vmem S1024x128 .f32) (harg15 : arg15.IsWhole) (arg16 : Memref sig .tc .vmem S1024x128 .f32) (harg16 : arg16.IsWhole)
    (x0 : Vec Ideal S1x256x4096 .bf16) (x1 : Vec Ideal S1x256x1024 .bf16) (x2 : Vec Ideal S1x256x1024 .bf16) (x5 : Vec Ideal S1x2x64 .f32) (x8 : Vec Ideal S1x4x16 .f32) :
    Σ' (L3 : List (View.Piece (Elt Ideal) S1x256x4096 .bf16)), Σ' (L4 : List (View.Piece (Elt Ideal) S1x256x32x128 .fp8e4m3)), Σ' (L5 : List (View.Piece (Elt Ideal) S1x2x64 .f32)), Σ' (L6 : List (View.Piece (Elt Ideal) S1x2x32x128 .bf16)), Σ' (L7 : List (View.Piece (Elt Ideal) S1x256x8x128 .fp8e4m3)), Σ' (L8 : List (View.Piece (Elt Ideal) S1x4x16 .f32)), Σ' (L9 : List (View.Piece (Elt Ideal) S1x8x128 .bf16)), Σ' (L10 : List (View.Piece (Elt Ideal) S1x256x8x128 .fp8e4m3)), Σ' (L11 : List (View.Piece (Elt Ideal) S1x8x128 .f32)), Σ' (L12 : List (View.Piece (Elt Ideal) S1x8x128 .bf16)), { LT1 : List (View.Piece (Elt Ideal) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare x5 ∗ (∃ d, owns (c : Thread nD τ) arg8 fullShare d) ∗ (∃ d, owns (c : Thread nD τ) arg9 fullShare d) ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt Ideal) f L3) ∗ (∃ f, arg6.view.loc (c : Thread nD τ) ↦[arg6.view.set]{fullShare} arg6.view.writes (Elt Ideal) f L4) ∗ (∃ f, arg7.view.loc (c : Thread nD τ) ↦[arg7.view.set]{fullShare} arg7.view.writes (Elt Ideal) f L5) ∗ (∃ f, arg8.view.loc (c : Thread nD τ) ↦[arg8.view.set]{fullShare} arg8.view.writes (Elt Ideal) f L6) ∗ (∃ f, arg9.view.loc (c : Thread nD τ) ↦[arg9.view.set]{fullShare} arg9.view.writes (Elt Ideal) f L7) ∗ (∃ f, arg10.view.loc (c : Thread nD τ) ↦[arg10.view.set]{fullShare} arg10.view.writes (Elt Ideal) f L8) ∗ (∃ f, arg11.view.loc (c : Thread nD τ) ↦[arg11.view.set]{fullShare} arg11.view.writes (Elt Ideal) f L9) ∗ (∃ f, arg12.view.loc (c : Thread nD τ) ↦[arg12.view.set]{fullShare} arg12.view.writes (Elt Ideal) f L10) ∗ (∃ f, arg13.view.loc (c : Thread nD τ) ↦[arg13.view.set]{fullShare} arg13.view.writes (Elt Ideal) f L11) ∗ (∃ f, arg14.view.loc (c : Thread nD τ) ↦[arg14.view.set]{fullShare} arg14.view.writes (Elt Ideal) f L12) ∗ (∃ d, owns (c : Thread nD τ) arg15 fullShare d) ∗ (∃ f, arg16.view.loc (c : Thread nD τ) ↦[arg16.view.set]{fullShare} arg16.view.writes (Elt Ideal) f LT1)) -∗ K ⟨⟩))
          ⊢ wp frame (wpE (defs₀ (F := Ideal)) Variants.none c none) E (cc0_sage_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, fun E K => ?run⟩
  case run =>
    simp only [cc0_sage_fp8_attention_eq_skeleton]; unfold cc0_sage_fp8_attention_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg7.eq_unread hf5; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    iexists _; iexact HS1

end Cert.KernelIdeal.Gen

end
-- ==== Proof.LaunchI.lean ====
/- The launch of the idealized kernel: relational proof data (each output's buffer ends with the run's pieces read back;
   the two scale tables' pieces depend on what their buffers held), the body obligation, the run. -/
module

public import proofs.«01_k».proof.Proof.RunI
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The run at point `t`'s memrefs and input blocks, the scale tables' buffers at `y5` and `y8`. -/
abbrev runAt (c : Dev nD) (t : Fin cfg0.N) (y5 : Vec Ideal S1x2x64 .f32) (y8 : Vec Ideal S1x4x16 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) y5 y8

/-- The run's pieces for output 3, -/
def pcs_3 (c : Dev nD) (t : Fin cfg0.N) (y5 : Vec Ideal S1x2x64 .f32) (y8 : Vec Ideal S1x4x16 .f32) : List (View.Piece (Elt Ideal) S1x256x4096 .bf16) := (runAt m c t y5 y8).1
/-- which tile its block. -/
theorem cover_3 (c : Dev nD) (t : Fin cfg0.N) (y5 : Vec Ideal S1x2x64 .f32) (y8 : Vec Ideal S1x4x16 .f32) (y : S1x256x4096.Idx) : ∃ pc ∈ pcs_3 m c t y5 y8, y ∈ pc.1.set :=
  View.cover_of_tiledL (pcs_3 m c t y5 y8) S1x256x128.size (by sl_kernel_rfl) y

/-- The run's pieces for output 4, -/
def pcs_4 (c : Dev nD) (t : Fin cfg0.N) (y5 : Vec Ideal S1x2x64 .f32) (y8 : Vec Ideal S1x4x16 .f32) : List (View.Piece (Elt Ideal) S1x256x32x128 .fp8e4m3) := (runAt m c t y5 y8).2.1
/-- which tile its block. -/
theorem cover_4 (c : Dev nD) (t : Fin cfg0.N) (y5 : Vec Ideal S1x2x64 .f32) (y8 : Vec Ideal S1x4x16 .f32) (y : S1x256x32x128.Idx) : ∃ pc ∈ pcs_4 m c t y5 y8, y ∈ pc.1.set :=
  View.cover_of_tiledL (pcs_4 m c t y5 y8) S1x8x4x128.size (by sl_kernel_rfl) y

/-- The run's pieces for output 5, -/
def pcs_5 (c : Dev nD) (t : Fin cfg0.N) (y5 : Vec Ideal S1x2x64 .f32) (y8 : Vec Ideal S1x4x16 .f32) : List (View.Piece (Elt Ideal) S1x2x64 .f32) := (runAt m c t y5 y8).2.2.1
/-- which tile its block. -/
theorem cover_5 (c : Dev nD) (t : Fin cfg0.N) (y5 : Vec Ideal S1x2x64 .f32) (y8 : Vec Ideal S1x4x16 .f32) (y : S1x2x64.Idx) : ∃ pc ∈ pcs_5 m c t y5 y8, y ∈ pc.1.set :=
  View.cover_of_tiledL (pcs_5 m c t y5 y8) S1x2x64.size (by sl_kernel_rfl) y

/-- The run's pieces for output 6, -/
def pcs_6 (c : Dev nD) (t : Fin cfg0.N) (y5 : Vec Ideal S1x2x64 .f32) (y8 : Vec Ideal S1x4x16 .f32) : List (View.Piece (Elt Ideal) S1x2x32x128 .bf16) := (runAt m c t y5 y8).2.2.2.1
/-- which tile its block. -/
theorem cover_6 (c : Dev nD) (t : Fin cfg0.N) (y5 : Vec Ideal S1x2x64 .f32) (y8 : Vec Ideal S1x4x16 .f32) (y : S1x2x32x128.Idx) : ∃ pc ∈ pcs_6 m c t y5 y8, y ∈ pc.1.set :=
  View.cover_of_tiledL (pcs_6 m c t y5 y8) S1x1x32x128.size (by sl_kernel_rfl) y

/-- The run's pieces for output 7, -/
def pcs_7 (c : Dev nD) (t : Fin cfg0.N) (y5 : Vec Ideal S1x2x64 .f32) (y8 : Vec Ideal S1x4x16 .f32) : List (View.Piece (Elt Ideal) S1x256x8x128 .fp8e4m3) := (runAt m c t y5 y8).2.2.2.2.1
/-- which tile its block. -/
theorem cover_7 (c : Dev nD) (t : Fin cfg0.N) (y5 : Vec Ideal S1x2x64 .f32) (y8 : Vec Ideal S1x4x16 .f32) (y : S1x256x8x128.Idx) : ∃ pc ∈ pcs_7 m c t y5 y8, y ∈ pc.1.set :=
  View.cover_of_tiledL (pcs_7 m c t y5 y8) S1x8x4x128.size (by sl_kernel_rfl) y

/-- The run's pieces for output 8, -/
def pcs_8 (c : Dev nD) (t : Fin cfg0.N) (y5 : Vec Ideal S1x2x64 .f32) (y8 : Vec Ideal S1x4x16 .f32) : List (View.Piece (Elt Ideal) S1x4x16 .f32) := (runAt m c t y5 y8).2.2.2.2.2.1
/-- which tile its block. -/
theorem cover_8 (c : Dev nD) (t : Fin cfg0.N) (y5 : Vec Ideal S1x2x64 .f32) (y8 : Vec Ideal S1x4x16 .f32) (y : S1x4x16.Idx) : ∃ pc ∈ pcs_8 m c t y5 y8, y ∈ pc.1.set :=
  View.cover_of_tiledL (pcs_8 m c t y5 y8) S1x4x16.size (by sl_kernel_rfl) y

/-- The run's pieces for output 9, -/
def pcs_9 (c : Dev nD) (t : Fin cfg0.N) (y5 : Vec Ideal S1x2x64 .f32) (y8 : Vec Ideal S1x4x16 .f32) : List (View.Piece (Elt Ideal) S1x8x128 .bf16) := (runAt m c t y5 y8).2.2.2.2.2.2.1
/-- which tile its block. -/
theorem cover_9 (c : Dev nD) (t : Fin cfg0.N) (y5 : Vec Ideal S1x2x64 .f32) (y8 : Vec Ideal S1x4x16 .f32) (y : S1x8x128.Idx) : ∃ pc ∈ pcs_9 m c t y5 y8, y ∈ pc.1.set :=
  View.cover_of_tiledL (pcs_9 m c t y5 y8) S1x8x128.size (by sl_kernel_rfl) y

/-- The run's pieces for output 10, -/
def pcs_10 (c : Dev nD) (t : Fin cfg0.N) (y5 : Vec Ideal S1x2x64 .f32) (y8 : Vec Ideal S1x4x16 .f32) : List (View.Piece (Elt Ideal) S1x256x8x128 .fp8e4m3) := (runAt m c t y5 y8).2.2.2.2.2.2.2.1
/-- which tile its block. -/
theorem cover_10 (c : Dev nD) (t : Fin cfg0.N) (y5 : Vec Ideal S1x2x64 .f32) (y8 : Vec Ideal S1x4x16 .f32) (y : S1x256x8x128.Idx) : ∃ pc ∈ pcs_10 m c t y5 y8, y ∈ pc.1.set :=
  View.cover_of_tiledL (pcs_10 m c t y5 y8) S1x8x4x128.size (by sl_kernel_rfl) y

/-- The run's pieces for output 11, -/
def pcs_11 (c : Dev nD) (t : Fin cfg0.N) (y5 : Vec Ideal S1x2x64 .f32) (y8 : Vec Ideal S1x4x16 .f32) : List (View.Piece (Elt Ideal) S1x8x128 .f32) := (runAt m c t y5 y8).2.2.2.2.2.2.2.2.1
/-- which tile its block. -/
theorem cover_11 (c : Dev nD) (t : Fin cfg0.N) (y5 : Vec Ideal S1x2x64 .f32) (y8 : Vec Ideal S1x4x16 .f32) (y : S1x8x128.Idx) : ∃ pc ∈ pcs_11 m c t y5 y8, y ∈ pc.1.set :=
  View.cover_of_tiledL (pcs_11 m c t y5 y8) S1x8x128.size (by sl_kernel_rfl) y

/-- The run's pieces for output 12, -/
def pcs_12 (c : Dev nD) (t : Fin cfg0.N) (y5 : Vec Ideal S1x2x64 .f32) (y8 : Vec Ideal S1x4x16 .f32) : List (View.Piece (Elt Ideal) S1x8x128 .bf16) := (runAt m c t y5 y8).2.2.2.2.2.2.2.2.2.1
/-- which tile its block. -/
theorem cover_12 (c : Dev nD) (t : Fin cfg0.N) (y5 : Vec Ideal S1x2x64 .f32) (y8 : Vec Ideal S1x4x16 .f32) (y : S1x8x128.Idx) : ∃ pc ∈ pcs_12 m c t y5 y8, y ∈ pc.1.set :=
  View.cover_of_tiledL (pcs_12 m c t y5 y8) S1x8x128.size (by sl_kernel_rfl) y

/-- The relational proof data: an input's buffer keeps its contents; an output's ends with its pieces read back. -/
def rdat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => ∃ y5 y8, X = View.canon (pcs_3 m c t y5 y8)
    | ⟨4, _⟩ => fun Y X => ∃ y5 y8, X = View.canon (pcs_4 m c t y5 y8)
    | ⟨5, _⟩ => fun Y X => ∃ y8, X = View.canon (pcs_5 m c t Y y8)
    | ⟨6, _⟩ => fun Y X => ∃ y5 y8, X = View.canon (pcs_6 m c t y5 y8)
    | ⟨7, _⟩ => fun Y X => ∃ y5 y8, X = View.canon (pcs_7 m c t y5 y8)
    | ⟨8, _⟩ => fun Y X => ∃ y5, X = View.canon (pcs_8 m c t y5 Y)
    | ⟨9, _⟩ => fun Y X => ∃ y5 y8, X = View.canon (pcs_9 m c t y5 y8)
    | ⟨10, _⟩ => fun Y X => ∃ y5 y8, X = View.canon (pcs_10 m c t y5 y8)
    | ⟨11, _⟩ => fun Y X => ∃ y5 y8, X = View.canon (pcs_11 m c t y5 y8)
    | ⟨12, _⟩ => fun Y X => ∃ y5 y8, X = View.canon (pcs_12 m c t y5 y8)
  Φ _ := Pipeline.ΦA spec0 c
  q _ := fullShare
  owed _ := 0

theorem rdat_A (c : Dev nD) (w : Fin cfg0.W) : (rdat m c).A w = V m c (Pipeline.arrRef spec0 w) := by
  dsimp only [rdat]

theorem finds_0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk; rw [rdat_A]; rfl

theorem finds_1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk; rw [rdat_A]; rfl

theorem finds_2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk; rw [rdat_A]; rfl

/-- What the body is called with at point `t`, -/
def rbodyPre (c : Dev nD) (t : Fin cfg0.N) (Y : (w : Fin cfg0.W) → (cfg0.win w).block.Idx → Elt Ideal (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11)
    ∗ owns (c : Thread nD τ) (ms0_12 t) fullShare (Y 12))

/-- and what it returns. -/
def rbodyPost (c : Dev nD) (t : Fin cfg0.N) (Y : (w : Fin cfg0.W) → (cfg0.win w).block.Idx → Elt Ideal (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X)
    ∗ (∃ X, ⌜(rdat m c).after 7 t (Y 7) X⌝ ∗ owns (c : Thread nD τ) (ms0_7 t) fullShare X)
    ∗ (∃ X, ⌜(rdat m c).after 8 t (Y 8) X⌝ ∗ owns (c : Thread nD τ) (ms0_8 t) fullShare X)
    ∗ (∃ X, ⌜(rdat m c).after 9 t (Y 9) X⌝ ∗ owns (c : Thread nD τ) (ms0_9 t) fullShare X)
    ∗ (∃ X, ⌜(rdat m c).after 10 t (Y 10) X⌝ ∗ owns (c : Thread nD τ) (ms0_10 t) fullShare X)
    ∗ (∃ X, ⌜(rdat m c).after 11 t (Y 11) X⌝ ∗ owns (c : Thread nD τ) (ms0_11 t) fullShare X)
    ∗ (∃ X, ⌜(rdat m c).after 12 t (Y 12) X⌝ ∗ owns (c : Thread nD τ) (ms0_12 t) fullShare X))

set_option maxHeartbeats 1200000 in
theorem rsound_body (c : Dev nD) (t : Fin cfg0.N) (Y : (w : Fin cfg0.W) → (cfg0.win w).block.Idx → Elt Ideal (cfg0.win w).elt)
    (hY : ∀ w, (rdat m c).Finds w t (Y w)) :
    rbodyPre m c t Y ⊢ wp frame (wpE (defs₀ (F := Ideal)) Variants.none c none) Set.univ (bodyAt0 t) (fun _ => rbodyPost m c t Y) := by
  unfold rbodyPre rbodyPost bodyAt0
  have h0 := finds_0 m c t _ (hY 0); have h1 := finds_1 m c t _ (hY 1); have h2 := finds_2 m c t _ (hY 2)
  rw [show (rdat m c).Φ t.succ = (rdat m c).Φ t.castSucc from rfl,
    show (rdat m c).owesAt () t.succ = (rdat m c).owesAt () t.castSucc from rfl]
  rw [show (rdat m c).Φ t.castSucc = Pipeline.ΦA spec0 c from rfl, PhiA0_eq, h0, h1, h2]
  iintro ⟨⟨⟨HS0, HS1⟩, Hg⟩, Ho, H0, H1, H2, H3, H4, H5, H6, H7, H8, H9, H10, H11, H12⟩
  iapply ((runAt m c t (Y 5) (Y 8)).2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexists _; iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, HS0, ⟨%fT1, HS1⟩⟩
  isplitl [HS0 HS1 Hg]
  · isplitl [HS0 HS1]
    · isplitl [HS0]
      · iexact HS0
      iexists _; unfold owns; iexists _; isplitr
      swap; · iexact HS1
      ipureintro; rfl
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists (View.canon (pcs_3 m c t (Y 5) (Y 8))); isplitr
    · ipureintro; exact ⟨Y 5, Y 8, rfl⟩
    unfold owns; iexists _; isplitr
    swap; · iexact H3
    ipureintro; exact View.read_writes_eq_canon _ _ _ (cover_3 m c t (Y 5) (Y 8))
  isplitl [H4]
  · iexists (View.canon (pcs_4 m c t (Y 5) (Y 8))); isplitr
    · ipureintro; exact ⟨Y 5, Y 8, rfl⟩
    unfold owns; iexists _; isplitr
    swap; · iexact H4
    ipureintro; exact View.read_writes_eq_canon _ _ _ (cover_4 m c t (Y 5) (Y 8))
  isplitl [H5]
  · iexists (View.canon (pcs_5 m c t (Y 5) (Y 8))); isplitr
    · ipureintro; exact ⟨Y 8, rfl⟩
    unfold owns; iexists _; isplitr
    swap; · iexact H5
    ipureintro; exact View.read_writes_eq_canon _ _ _ (cover_5 m c t (Y 5) (Y 8))
  isplitl [H6]
  · iexists (View.canon (pcs_6 m c t (Y 5) (Y 8))); isplitr
    · ipureintro; exact ⟨Y 5, Y 8, rfl⟩
    unfold owns; iexists _; isplitr
    swap; · iexact H6
    ipureintro; exact View.read_writes_eq_canon _ _ _ (cover_6 m c t (Y 5) (Y 8))
  isplitl [H7]
  · iexists (View.canon (pcs_7 m c t (Y 5) (Y 8))); isplitr
    · ipureintro; exact ⟨Y 5, Y 8, rfl⟩
    unfold owns; iexists _; isplitr
    swap; · iexact H7
    ipureintro; exact View.read_writes_eq_canon _ _ _ (cover_7 m c t (Y 5) (Y 8))
  isplitl [H8]
  · iexists (View.canon (pcs_8 m c t (Y 5) (Y 8))); isplitr
    · ipureintro; exact ⟨Y 5, rfl⟩
    unfold owns; iexists _; isplitr
    swap; · iexact H8
    ipureintro; exact View.read_writes_eq_canon _ _ _ (cover_8 m c t (Y 5) (Y 8))
  isplitl [H9]
  · iexists (View.canon (pcs_9 m c t (Y 5) (Y 8))); isplitr
    · ipureintro; exact ⟨Y 5, Y 8, rfl⟩
    unfold owns; iexists _; isplitr
    swap; · iexact H9
    ipureintro; exact View.read_writes_eq_canon _ _ _ (cover_9 m c t (Y 5) (Y 8))
  isplitl [H10]
  · iexists (View.canon (pcs_10 m c t (Y 5) (Y 8))); isplitr
    · ipureintro; exact ⟨Y 5, Y 8, rfl⟩
    unfold owns; iexists _; isplitr
    swap; · iexact H10
    ipureintro; exact View.read_writes_eq_canon _ _ _ (cover_10 m c t (Y 5) (Y 8))
  isplitl [H11]
  · iexists (View.canon (pcs_11 m c t (Y 5) (Y 8))); isplitr
    · ipureintro; exact ⟨Y 5, Y 8, rfl⟩
    unfold owns; iexists _; isplitr
    swap; · iexact H11
    ipureintro; exact View.read_writes_eq_canon _ _ _ (cover_11 m c t (Y 5) (Y 8))
  iexists (View.canon (pcs_12 m c t (Y 5) (Y 8))); isplitr
  · ipureintro; exact ⟨Y 5, Y 8, rfl⟩
  unfold owns; iexists _; isplitr
  swap; · iexact H12
  ipureintro; exact View.read_writes_eq_canon _ _ _ (cover_12 m c t (Y 5) (Y 8))

theorem defs₀_row (t : Fin cfg0.N) :
    defs₀ (F := Ideal) .tc cfg0.body (cfg0.bodyArgs t (cfg0.slots t)) = bodyAt0 t := by
  unfold defs₀; rw [Defs.onTc_tc]

theorem rbody_obligation (c : Dev nD) : (rdat m c).BodyObligation (defs₀ (F := Ideal)) Variants.none () Set.univ := fun t Y hY => by
  rw [bigSep_W0, bigSep_W0, defs₀_row]
  exact triple_restated (rsound_body m c t Y hY) rfl .rfl fun _ => .rfl

set_option backward.isDefEq.respectTransparency.types false in
/-- The launch: every run terminates, every array of the pipeline ends at contents the proof data allow, every counter at zero. -/
theorem run_main_quiescent : θ_run defs (onTc (τ := τ) (main (F := Ideal))) (s₀ m ρ) (fun r => (RDat.FramePost (cfgs 0) (rdat m) (V m)) r ∧ r.2.sem = fun _ => 0) :=
  RDat.θ_run_frame (Q' := _) cfgs (0 : Fin 1) launch0 defs₀ Variants.none (rdat m) m ρ main
    (hbody := rbody_obligation m) (hshare := fun c w => by unfold RDat.share; split <;> rfl)
    (howed := fun _ _ => rfl) (V := V m) (hmain := hmain m Variants.none) (hA := rdat_A m) (hΦ := fun _ _ => rfl)

/-- The arguments end unchanged. -/
theorem args_of {r : PUnit × MemSt nD τ sig (Elt Ideal)} (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans ((rdat_A m c 0).trans (V_main_arg0 m c)),
      (RDat.FramePost.arr_in h c 1 rfl).trans ((rdat_A m c 1).trans (V_main_arg1 m c)),
      (RDat.FramePost.arr_in h c 2 rfl).trans ((rdat_A m c 2).trans (V_main_arg2 m c))⟩

end Cert.KernelIdeal.Gen

end
-- ==== Proof.Scales.lean ====
/- The quantiser's scale over the extended reals: the exponent, the scale, its reciprocal, the clipped code; and the
   kernel's spelling of them (powers of two, a multiplied reciprocal of `log 2`) as these. -/
module

public import Idealize.ShloMosaic.PureOps.Ideal.Laws
public import Idealize.ShloMosaic.Lib.IdealHost

@[expose] public section

noncomputable section

namespace Cert.Sage

open Idealize.ShloMosaic
open scoped BigOperators

/-- The f32 constant nearest `1/448`. -/
def c448 : EReal := Ideal.ofBits .f32 0x3B124925#32

/-- It is a positive real. -/
theorem c448_pos : ∃ r : ℝ, 0 < r ∧ c448 = (r : EReal) := by
  refine ⟨9586981 / 4294967296, by norm_num, ?_⟩
  unfold c448
  simp [Ideal.ofBits, Ideal.ieee, -EReal.coe_mul]; norm_num

/-- The exponent `floor (log₂ (a / 448)) + 1`, zero where `a` is zero. -/
def ex (a : EReal) : EReal :=
  if a = 0 then 0 else Ideal.liftRound Int.floor (Ideal.div (Ideal.log (a * c448)) (Ideal.log 2)) + 1

/-- The scale `2 ^ e`, -/
def sc (a : EReal) : EReal := Ideal.exp (ex a * Ideal.log 2)

/-- its reciprocal, -/
def sinv (a : EReal) : EReal := Ideal.exp (-(ex a) * Ideal.log 2)

/-- and a value's code: scaled, clipped to the format's range. -/
def code (u i : EReal) : EReal := min (max (u * i) (Ideal.ofBits .f32 0xC3E00000#32)) (Ideal.ofBits .f32 0x43E00000#32)

theorem log_two : Ideal.log 2 = ((Real.log 2 : ℝ) : EReal) := by
  have : (2 : EReal) = ((2 : ℝ) : EReal) := by norm_cast
  rw [this]
  show (if (2 : ℝ) ≤ 0 then ⊥ else ((Real.log 2 : ℝ) : EReal)) = _
  rw [if_neg (by norm_num)]

theorem log2_pos : 0 < Real.log 2 := Real.log_pos (by norm_num)

theorem mul_c448_eq_zero (a : EReal) : a * c448 = 0 ↔ a = 0 := by
  obtain ⟨r, hr, e⟩ := c448_pos
  rw [mul_eq_zero]
  constructor
  · rintro (h | h)
    · exact h
    · rw [e] at h; exact absurd (EReal.coe_eq_zero.mp h) hr.ne'
  · exact Or.inl

/-- Dividing by `log 2` is multiplying by its reciprocal. -/
theorem div_log_two (x : EReal) : Ideal.div x (Ideal.log 2) = x * (((Real.log 2)⁻¹ : ℝ) : EReal) := by
  unfold Ideal.div
  rw [log_two, if_neg (by simpa using log2_pos.ne'), EReal.coe_inv]

/-- A power of two is an exponential. -/
theorem exp2_eq (e : EReal) : Ideal.exp2 e = Ideal.exp (e * Ideal.log 2) := by
  rw [log_two]
  induction e with
  | bot => rw [EReal.bot_mul_coe_of_pos log2_pos]; rfl
  | top => rw [EReal.top_mul_coe_of_pos log2_pos]; rfl
  | coe r =>
    rw [← EReal.coe_mul]
    show ((Real.rpow 2 r : ℝ) : EReal) = ((Real.exp (r * Real.log 2) : ℝ) : EReal)
    congr 1
    show (2 : ℝ) ^ r = _
    rw [Real.rpow_def_of_pos (by norm_num), mul_comm]

theorem exp_zero : Ideal.exp 0 = 1 := by
  show Ideal.exp ((0 : ℝ) : EReal) = 1
  show ((Real.exp 0 : ℝ) : EReal) = 1
  rw [Real.exp_zero]; rfl

/-- The kernel's exponent of `p = a / 448`. -/
def kex (p : EReal) : EReal := Ideal.liftRound Int.floor (Ideal.log p * (((Real.log 2)⁻¹ : ℝ) : EReal)) + 1

/-- The kernel's scale of `p` is the quantiser's of `a`, -/
theorem ksc_eq (a : EReal) : (if a * c448 = 0 then 1 else Ideal.exp2 (kex (a * c448))) = sc a := by
  unfold sc ex kex
  rw [exp2_eq]
  by_cases h : a = 0
  · rw [if_pos ((mul_c448_eq_zero a).mpr h), if_pos h, zero_mul, exp_zero]
  · rw [if_neg (fun h' => h ((mul_c448_eq_zero a).mp h')), if_neg h, div_log_two]

/-- and so is its reciprocal. -/
theorem kinv_eq (a : EReal) : (if a * c448 = 0 then 1 else Ideal.exp2 (0 - kex (a * c448))) = sinv a := by
  unfold sinv ex kex
  rw [exp2_eq, zero_sub]
  by_cases h : a = 0
  · rw [if_pos ((mul_c448_eq_zero a).mpr h), if_pos h, neg_zero, zero_mul, exp_zero]
  · rw [if_neg (fun h' => h ((mul_c448_eq_zero a).mp h')), if_neg h, div_log_two]

/-- Of a real that is not negative the exponent is an integer, -/
theorem ex_real (a : ℝ) (h : 0 ≤ a) : ∃ n : ℤ, ex (a : EReal) = (((n : ℤ) : ℝ) : EReal) := by
  unfold ex
  by_cases h0 : (a : EReal) = 0
  · exact ⟨0, by rw [if_pos h0]; simp⟩
  · rw [if_neg h0, div_log_two]
    obtain ⟨r, hr, e⟩ := c448_pos
    have ha : 0 < a := lt_of_le_of_ne h (fun e => h0 (by rw [← e]; rfl))
    rw [e, ← EReal.coe_mul]
    have hp : 0 < a * r := mul_pos ha hr
    have hl : Ideal.log ((a * r : ℝ) : EReal) = ((Real.log (a * r) : ℝ) : EReal) := by
      show (if a * r ≤ 0 then ⊥ else ((Real.log (a * r) : ℝ) : EReal)) = _
      rw [if_neg (not_le.mpr hp)]
    rw [hl, ← EReal.coe_mul, Ideal.liftRound_coe]
    refine ⟨⌊Real.log (a * r) * (Real.log 2)⁻¹⌋ + 1, ?_⟩
    push_cast
    rfl

/-- so the scale is a positive real and the other its reciprocal. -/
theorem sc_real (a : ℝ) (h : 0 ≤ a) : ∃ r : ℝ, 0 < r ∧ sc (a : EReal) = (r : EReal) ∧ sinv (a : EReal) = ((r⁻¹ : ℝ) : EReal) := by
  obtain ⟨n, hn⟩ := ex_real a h
  refine ⟨Real.exp (n * Real.log 2), Real.exp_pos _, ?_, ?_⟩
  · unfold sc; rw [hn, log_two, ← EReal.coe_mul]; rfl
  · unfold sinv; rw [hn, log_two, ← EReal.coe_neg, ← EReal.coe_mul, ← Real.exp_neg, ← neg_mul]; rfl

/-- The largest distance from a real `m` is reached at the maximum or at the minimum. -/
theorem sup_abs_sub {ι : Type} (s : Finset ι) (hs : s.Nonempty) (f : ι → EReal) (m : ℝ) :
    s.sup (fun i => max (f i - (m : EReal)) (-(f i - (m : EReal)))) = max (s.sup f - (m : EReal)) ((m : EReal) - s.inf f) := by
  refine eq_of_forall_ge_iff fun z => ?_
  have h1 : ∀ x : EReal, x - (m : EReal) ≤ z ↔ x ≤ z + m := fun x =>
    EReal.sub_le_iff_le_add (Or.inl (EReal.coe_ne_bot m)) (Or.inl (EReal.coe_ne_top m))
  have h2 : ∀ x : EReal, (m : EReal) - x ≤ z ↔ (m : EReal) - z ≤ x := fun x => by
    induction x with
    | bot => induction z with
      | bot => simp
      | top => simp
      | coe z => simp [← EReal.coe_sub]
    | top => simp
    | coe x => induction z with
      | bot => simp [← EReal.coe_sub]
      | top => simp
      | coe z => rw [← EReal.coe_sub, ← EReal.coe_sub, EReal.coe_le_coe_iff, EReal.coe_le_coe_iff]; constructor <;> intro h <;> linarith
  have h3 : ∀ x : EReal, -(x - (m : EReal)) = (m : EReal) - x := fun x => by
    rw [EReal.neg_sub (Or.inr (EReal.coe_ne_bot m)) (Or.inr (EReal.coe_ne_top m)), add_comm, sub_eq_add_neg]
  rw [Finset.sup_le_iff, max_le_iff, h1, h2, Finset.sup_le_iff, Finset.le_inf_iff]
  constructor
  · intro h
    exact ⟨fun i hi => (h1 _).mp (max_le_iff.mp (h i hi)).1, fun i hi => (h2 _).mp (h3 _ ▸ (max_le_iff.mp (h i hi)).2)⟩
  · rintro ⟨ha, hb⟩ i hi
    exact max_le ((h1 _).mpr (ha i hi)) (h3 _ ▸ (h2 _).mpr (hb i hi))

end Cert.Sage

end
-- ==== Proof.Spec.lean ====
/- The problem's mathematics, one key/value head at a time, over the extended reals: functions of a head's columns
   `f s d` (token, channel). -/
module

public import proofs.«01_k».proof.Proof.Scales
public import Idealize.ShloMosaic.PureOps.Reduce

@[expose] public section

noncomputable section

namespace Cert.Sage

open Idealize.ShloMosaic
open scoped BigOperators

/-! ## Arrays read at natural coordinates -/

/-- An array's element at coordinates given as naturals (zero outside). -/
def nat {s : Shape} (A : s.Idx → EReal) (f : ℕ → ℕ) : EReal :=
  open Classical in if h : ∃ y : s.Idx, ∀ a, (y a).val = f a.val then A h.choose else 0

/-- It is the element at the index with these coordinates. -/
theorem nat_eq {s : Shape} (A : s.Idx → EReal) (y : s.Idx) (f : ℕ → ℕ) (h : ∀ a, (y a).val = f a.val) : A y = nat A f := by
  have hy : ∃ y : s.Idx, ∀ a, (y a).val = f a.val := ⟨y, h⟩
  unfold nat
  rw [dif_pos hy]
  congr 1
  funext a
  exact Fin.ext ((h a).trans (hy.choose_spec a).symm)

/-- Three coordinates. -/
def l3 (i j k : ℕ) : ℕ → ℕ
  | 0 => i
  | 1 => j
  | _ => k

/-- A rank three array's element. -/
def nat3 {s : Shape} (A : s.Idx → EReal) (i j k : ℕ) : EReal := nat A (l3 i j k)

theorem nat_real {s : Shape} (A : s.Idx → EReal) (hA : ∀ y, ∃ r : ℝ, A y = (r : EReal)) (f : ℕ → ℕ) : ∃ r : ℝ, nat A f = (r : EReal) := by
  unfold nat
  split
  · exact hA _
  · exact ⟨0, rfl⟩

/-! ## The mathematics -/

/-- A distance's size. -/
def ab (x : EReal) : EReal := max x (-x)

/-- The mean of the values, -/
def mvF (V : ℕ → ℕ → EReal) (d : ℕ) : EReal := Ideal.div (∑ s ∈ Finset.range 256, V s d) (Ideal.ofBits .f32 0x43800000#32)
/-- each channel's largest distance from it, -/
def vaF (V : ℕ → ℕ → EReal) (d : ℕ) : EReal := (Finset.range 256).sup fun s => ab (V s d - mvF V d)
/-- and the codes. -/
def vcF (V : ℕ → ℕ → EReal) (s d : ℕ) : EReal := code (V s d - mvF V d) (sinv (vaF V d))

/-- Each block of 64 keys' largest distance from the mean, -/
def kaF (K : ℕ → ℕ → EReal) (g : ℕ) : EReal :=
  (Finset.range 64 ×ˢ Finset.range 128).sup fun p => ab (K (64 * g + p.1) p.2 - mvF K p.2)
/-- and the codes. -/
def kcF (K : ℕ → ℕ → EReal) (s d : ℕ) : EReal := code (K s d - mvF K d) (sinv (kaF K (s / 64)))

/-- The mean of a block of 128 queries, -/
def mqF (X : ℕ → ℕ → EReal) (n d : ℕ) : EReal :=
  Ideal.div (∑ s ∈ Finset.range 128, X (128 * n + s) d) (Ideal.ofBits .f32 0x43000000#32)
/-- the block's largest distance from it, -/
def qaF (X : ℕ → ℕ → EReal) (n : ℕ) : EReal :=
  (Finset.range 128 ×ˢ Finset.range 128).sup fun p => ab (X (128 * n + p.1) p.2 - mqF X n p.2)
/-- and the codes. -/
def qcF (X : ℕ → ℕ → EReal) (s d : ℕ) : EReal := code (X s d - mqF X (s / 128) d) (sinv (qaF X (s / 128)))

/-- The score of query `q` and key `j`, -/
def sF (X K : ℕ → ℕ → EReal) (q j : ℕ) : EReal :=
  Ideal.div (sc (kaF K (j / 64)) * (sc (qaF X (q / 128)) * (∑ d ∈ Finset.range 128, kcF K j d * qcF X q d)
    + ∑ d ∈ Finset.range 128, kcF K j d * mqF X (q / 128) d)) (Ideal.sqrt (Ideal.ofBits .f32 0x43000000#32))
/-- with the later keys masked, -/
def smF (X K : ℕ → ℕ → EReal) (q j : ℕ) : EReal := if j ≤ q then sF X K q j else ⊥
/-- the largest, -/
def mxF (X K : ℕ → ℕ → EReal) (q : ℕ) : EReal := (Finset.range 256).sup (smF X K q)
/-- the weights, -/
def pF (X K : ℕ → ℕ → EReal) (q j : ℕ) : EReal := Ideal.exp (smF X K q j - mxF X K q)
/-- their sum, -/
def lF (X K : ℕ → ℕ → EReal) (q : ℕ) : EReal := ∑ j ∈ Finset.range 256, pF X K q j
/-- the weights' codes, -/
def pcF (X K : ℕ → ℕ → EReal) (q j : ℕ) : EReal :=
  min (max (pF X K q j * (Ideal.ofBits .f32 0x43800000#32)) 0) (Ideal.ofBits .f32 0x43E00000#32)
/-- and the attention's output. -/
def oF (X K V : ℕ → ℕ → EReal) (q d : ℕ) : EReal :=
  Ideal.div ((∑ j ∈ Finset.range 256, vcF V j d * pcF X K q j) * (Ideal.ofBits .f32 0x3B800000#32) * sc (vaF V d)) (lF X K q)
    + mvF V d

/-- A query head's columns of the first argument, -/
def XH {s : Shape} (A : s.Idx → EReal) (b h : ℕ) : ℕ → ℕ → EReal := fun t d => nat3 A b t (128 * h + d)

/-! ## Maxima over index sets -/

/-- A fold of `max` over the indices that an operation sends to `j` is the maximum over a set that lists them. -/
theorem fold_max_eq_sup {ι κ : Type} (s : Finset ι) (t : Finset κ) (x : ι → EReal) (g : κ → EReal) (b : EReal) (hb : b = ⊥)
    (h1 : ∀ i ∈ s, ∃ k ∈ t, x i = g k) (h2 : ∀ k ∈ t, ∃ i ∈ s, g k = x i) : s.fold max b x = t.sup g := by
  refine eq_of_forall_ge_iff fun z => ?_
  rw [Finset.fold_max_le, Finset.sup_le_iff, hb]
  constructor
  · rintro ⟨-, h⟩ k hk
    obtain ⟨i, hi, e⟩ := h2 k hk
    rw [e]; exact h i hi
  · intro h
    refine ⟨bot_le, fun i hi => ?_⟩
    obtain ⟨k, hk, e⟩ := h1 i hi
    rw [e]; exact h k hk

/-- The same for a fold of `min`. -/
theorem fold_min_eq_inf {ι κ : Type} (s : Finset ι) (t : Finset κ) (x : ι → EReal) (g : κ → EReal) (b : EReal) (hb : b = ⊤)
    (h1 : ∀ i ∈ s, ∃ k ∈ t, x i = g k) (h2 : ∀ k ∈ t, ∃ i ∈ s, g k = x i) : s.fold min b x = t.inf g := by
  refine eq_of_forall_le_iff fun z => ?_
  rw [Finset.le_fold_min, Finset.le_inf_iff, hb]
  constructor
  · rintro ⟨-, h⟩ k hk
    obtain ⟨i, hi, e⟩ := h2 k hk
    rw [e]; exact h i hi
  · intro h
    refine ⟨le_top, fun i hi => ?_⟩
    obtain ⟨k, hk, e⟩ := h1 i hi
    rw [e]; exact h k hk

theorem ofBits_neg_inf_f32 : Ideal.ofBits .f32 0xFF800000#32 = ⊥ := by simp [Ideal.ofBits, Ideal.ieee]
theorem ofBits_inf_f32 : Ideal.ofBits .f32 0x7F800000#32 = ⊤ := by simp [Ideal.ofBits, Ideal.ieee]
theorem ofBits_neg_inf_bf16 : Ideal.ofBits .bf16 0xFF80#16 = ⊥ := by simp [Ideal.ofBits, Ideal.ieee]
theorem ofBits_inf_bf16 : Ideal.ofBits .bf16 0x7F80#16 = ⊤ := by simp [Ideal.ofBits, Ideal.ieee]
theorem ofBits_two : Ideal.ofBits .f32 0x40000000#32 = 2 := by
  rw [show (2 : EReal) = ((2 : ℝ) : EReal) by norm_cast]
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_448 : Ideal.ofBits .f32 0x43E00000#32 = ((448 : ℝ) : EReal) := by
  simp [Ideal.ofBits, Ideal.ieee, -EReal.coe_mul]; norm_num
theorem ofBits_neg_448 : Ideal.ofBits .f32 0xC3E00000#32 = ((-448 : ℝ) : EReal) := by
  simp [Ideal.ofBits, Ideal.ieee, -EReal.coe_mul, -EReal.coe_neg]; norm_num
theorem ofBits_inv_256 : Ideal.ofBits .f32 0x3B800000#32 = ((1 / 256 : ℝ) : EReal) := by
  simp [Ideal.ofBits, Ideal.ieee, -EReal.coe_mul]; norm_num
theorem ofBits_inv_128 : Ideal.ofBits .f32 0x3C000000#32 = ((1 / 128 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num

/-- The kernel's mean multiplies by the reciprocal of the count. -/
theorem mul_inv_256 (x : EReal) : x * Ideal.ofBits .f32 0x3B800000#32 = Ideal.div x (Ideal.ofBits .f32 0x43800000#32) := by
  unfold Ideal.div
  rw [ofBits_inv_256, ofBits_256, if_neg (by simp), ← EReal.coe_inv, one_div]
theorem mul_inv_128 (x : EReal) : x * Ideal.ofBits .f32 0x3C000000#32 = Ideal.div x (Ideal.ofBits .f32 0x43000000#32) := by
  unfold Ideal.div
  rw [ofBits_inv_128, ofBits_128, if_neg (by simp), ← EReal.coe_inv, one_div]

end Cert.Sage

end
-- ==== Proof.KVal.lean ====
/- The idealized kernel's means and value scales, a grid point at a time. -/
module

public import proofs.«01_k».proof.Proof.LaunchI
public import proofs.«01_k».proof.Proof.Spec
public import Idealize.ShloMosaic.Lib.Pointwise
public import Idealize.ShloMosaic.Lib.WholeRead
public import Idealize.ShloMosaic.Lib.Pipeline.ValueKit.Tiles

@[expose] public section

set_option maxRecDepth 16384
noncomputable section
namespace Cert.KernelIdeal.Gen
open Idealize.ShloMosaic Idealize.ShloMosaic.TcCoe Idealize.ShloMosaic.Tactic
open Cert.Sage

theorem fold16_max (N n : ℕ) (hn : N * 16 = n) (b b' : EReal) (hb : b = ⊥) (hb' : b' = ⊥) (f : ℕ → EReal) (F : Fin 16 → Fin N → EReal)
    (hF : ∀ x y, F x y = f (y * 16 + x)) :
    (Finset.univ : Finset (Fin 16)).fold max b (fun x => (Finset.univ : Finset (Fin N)).fold max b' (F x)) = (Finset.range n).sup f := by
  subst hn
  refine eq_of_forall_ge_iff fun z => ?_
  simp only [Finset.fold_max_le, Finset.sup_le_iff, hb, hb', bot_le, true_and, Finset.mem_univ, forall_true_left, Finset.mem_range, hF]
  constructor
  · intro h k hk
    have := h ⟨k % 16, by omega⟩ ⟨k / 16, by omega⟩
    rwa [show k / 16 * 16 + k % 16 = k by omega] at this
  · intro h x y
    exact h _ (by omega)

theorem fold16_min (N n : ℕ) (hn : N * 16 = n) (b b' : EReal) (hb : b = ⊤) (hb' : b' = ⊤) (f : ℕ → EReal) (F : Fin 16 → Fin N → EReal)
    (hF : ∀ x y, F x y = f (y * 16 + x)) :
    (Finset.univ : Finset (Fin 16)).fold min b (fun x => (Finset.univ : Finset (Fin N)).fold min b' (F x)) = (Finset.range n).inf f := by
  subst hn
  refine eq_of_forall_le_iff fun z => ?_
  simp only [Finset.le_fold_min, Finset.le_inf_iff, hb, hb', le_top, true_and, Finset.mem_univ, forall_true_left, Finset.mem_range, hF]
  constructor
  · intro h k hk
    have := h ⟨k % 16, by omega⟩ ⟨k / 16, by omega⟩
    rwa [show k / 16 * 16 + k % 16 = k by omega] at this
  · intro h x y
    exact h _ (by omega)

abbrev ones : FVec Ideal S16x256 .bf16 := broadcast S16x256 (FloatOps.ofBits FTy.bf16 16256#16)

theorem pay8_v (B : Vec Ideal S1x256x512 .bf16) (V : ℕ → ℕ → EReal) (o : ℕ)
    (hB : ∀ (s : Fin 256) (c : Fin 512), B (ix3 0 s c) = V s (o + c)) (c : Fin 512) :
    k0_pay8 (F := Ideal) ones B (ix2 0 c) = mvF V (o + c) := by
  pointwise [k0_pay8, k0_pay7]
  rw [mul_inv_256, mvF, Finset.sum_range]
  simp only [hB]

theorem pay9_v (B : Vec Ideal S1x256x512 .bf16) (V : ℕ → ℕ → EReal) (o : ℕ)
    (hB : ∀ (s : Fin 256) (c : Fin 512), B (ix3 0 s c) = V s (o + c)) (c : Fin 512)
    (hm : ∃ r : ℝ, mvF V (o + c) = r) :
    k0_pay9 (F := Ideal) ones B (ix2 0 c) = vaF V (o + c) * c448 := by
  pointwise [k0_pay9, k0_pay7]
  rw [pay8_v B V o hB]
  rw [fold16_max 16 256 rfl _ _ ofBits_neg_inf_f32 ofBits_neg_inf_bf16 (fun s => V s (o + c)) _ (fun x y => hB _ _),
    fold16_min 16 256 rfl _ _ ofBits_inf_f32 ofBits_inf_bf16 (fun s => V s (o + c)) _ (fun x y => hB _ _)]
  obtain ⟨r, hr⟩ := hm
  unfold vaF ab
  rw [hr, sup_abs_sub _ ⟨0, by simp⟩]
  rfl

theorem pay12_v (B : Vec Ideal S1x256x512 .bf16) (c : Fin 512) (a : EReal) (h9 : k0_pay9 (F := Ideal) ones B (ix2 0 c) = a * c448) :
    k0_pay12 (F := Ideal) ones B (ix2 0 c) = sc a := by
  pointwise [k0_pay12, k0_pay10, k0_pay11]
  rw [h9, ← ksc_eq]
  rfl

theorem e860 : k0_pay860 (F := Ideal) = k0_pay8 := rfl
theorem e864 : k0_pay864 (F := Ideal) = k0_pay12 := rfl

theorem ld_0 (arg : Memref sig .tc .vmem S1x256x1024 .bf16) (harg : arg.IsWhole) (x : Vec Ideal S1x256x1024 .bf16) (s : Fin 256) (c : Fin 512) :
    (View.readAt (Elt Ideal) arg.view (Rect.unit (s := S1x256x1024) ![0, 0, 0] S1x256x512.size inb_S1x256x1024_S1x256x512_0_0_0).toLoadRect (harg.unread x)) (ix3 0 s c) = nat3 x 0 s (0 + c) := by
  rw [harg.readAt_unread]
  refine nat_eq _ _ _ ?_
  intro a; fin_cases a <;> simp [l3, LoadRect.idx, ix3]

theorem ld_512 (arg : Memref sig .tc .vmem S1x256x1024 .bf16) (harg : arg.IsWhole) (x : Vec Ideal S1x256x1024 .bf16) (s : Fin 256) (c : Fin 512) :
    (View.readAt (Elt Ideal) arg.view (Rect.unit (s := S1x256x1024) ![0, 0, 512] S1x256x512.size inb_S1x256x1024_S1x256x512_0_0_512).toLoadRect (harg.unread x)) (ix3 0 s c) = nat3 x 0 s (512 + c) := by
  rw [harg.readAt_unread]
  refine nat_eq _ _ _ ?_
  intro a; fin_cases a <;> simp [l3, LoadRect.idx, ix3]

/-- Eight rows stacked. -/
theorem cat8 (a0 a1 a2 a3 a4 a5 a6 a7 : FVec Ideal S1x128 .f32) (f : ℕ → ℕ → EReal)
    (h0 : ∀ d : Fin 128, a0 (ix2 0 d) = f 0 d) (h1 : ∀ d : Fin 128, a1 (ix2 0 d) = f 1 d) (h2 : ∀ d : Fin 128, a2 (ix2 0 d) = f 2 d)
    (h3 : ∀ d : Fin 128, a3 (ix2 0 d) = f 3 d) (h4 : ∀ d : Fin 128, a4 (ix2 0 d) = f 4 d) (h5 : ∀ d : Fin 128, a5 (ix2 0 d) = f 5 d)
    (h6 : ∀ d : Fin 128, a6 (ix2 0 d) = f 6 d) (h7 : ∀ d : Fin 128, a7 (ix2 0 d) = f 7 d) (h : Fin 8) (d : Fin 128) :
    k0_pay1714 (F := Ideal) a0 a1 a2 a3 a4 a5 a6 a7 (ix3 0 h d) = f h d := by
  pointwise [k0_pay1714]
  fin_vals h with hk <;> simp [hk, h0, h1, h2, h3, h4, h5, h6, h7]

theorem e1713 : k0_pay1713 (F := Ideal) = k0_pay1714 := rfl
theorem e1715 (a0 a1 a2 a3 a4 a5 a6 a7 : FVec Ideal S1x128 .f32) : k0_pay1 (F := Ideal) (k0_pay1715 a0 a1 a2 a3 a4 a5 a6 a7) = k0_pay1714 a0 a1 a2 a3 a4 a5 a6 a7 := rfl

/-- A head's columns of a row. -/
theorem sl_v (a : FVec Ideal S1x512 .f32) (o : Fin 2 → ℕ) (ho : S1x512.Slices o S1x128) (f : ℕ → EReal) (k : ℕ) (hk : ∀ c : Fin 512, a (ix2 0 c) = f (k + c)) (n : ℕ) (hn : n = k + o 1) (d : Fin 128) :
    extractStridedSlice S1x128 o a ho (ix2 0 d) = f (n + d) := by
  subst hn
  pointwise
  have h : ∀ (p : o 0 < 1) (q : o 1 + d.val < 512), a (ix2 ⟨o 0, p⟩ ⟨o 1 + d, q⟩) = f (k + o 1 + d) := by
    intro p q
    rw [show (⟨o 0, p⟩ : Fin 1) = 0 from Subsingleton.elim _ _, hk, add_assoc]
  exact h _ _

/-- A piece's local index is its place when it covers the block. -/
theorem ix3_of {a b c : ℕ} (x : (⟨3, ![a, b, c]⟩ : Shape).Idx) (i : Fin a) (j : Fin b) (k : Fin c)
    (hx : ∀ e : Fin 3, ((ix3 i j k : (⟨3, ![a, b, c]⟩ : Shape).Idx) e : ℕ) = (![0, 0, 0] : Fin 3 → ℕ) e + (x e : ℕ)) : x = ix3 i j k := by
  funext e
  refine Fin.ext ?_
  have := hx e
  fin_cases e <;> simp at this ⊢ <;> omega

variable (m : (ℓ : Loc nD τ sig) → Buf (Elt Ideal) ℓ)

theorem v48_v (c : Dev nD) (arg4 : Memref sig .tc .vmem S1x256x1024 .bf16) (harg4 : arg4.IsWhole) (x2 : Vec Ideal S1x256x1024 .bf16) (k : Fin 512) :
    kernelRun0_A.sl.v48 c arg4 harg4 x2 (ix2 0 k) = mvF (nat3 x2 0) (0 + k) :=
  pay8_v _ _ 0 (ld_0 _ _ _) _
theorem v5498_v (c : Dev nD) (arg4 : Memref sig .tc .vmem S1x256x1024 .bf16) (harg4 : arg4.IsWhole) (x2 : Vec Ideal S1x256x1024 .bf16) (k : Fin 512) :
    kernelRun0_A.sl.v5498 c arg4 harg4 x2 (ix2 0 k) = mvF (nat3 x2 0) (512 + k) :=
  pay8_v _ _ 512 (ld_512 _ _ _) _
theorem v350_v (c : Dev nD) (arg3 : Memref sig .tc .vmem S1x256x1024 .bf16) (harg3 : arg3.IsWhole) (x1 : Vec Ideal S1x256x1024 .bf16) (k : Fin 512) :
    kernelRun0_A.sl.v350 c arg3 harg3 x1 (ix2 0 k) = mvF (nat3 x1 0) (0 + k) :=
  pay8_v _ _ 0 (ld_0 arg3 harg3 x1) _
theorem v5800_v (c : Dev nD) (arg3 : Memref sig .tc .vmem S1x256x1024 .bf16) (harg3 : arg3.IsWhole) (x1 : Vec Ideal S1x256x1024 .bf16) (k : Fin 512) :
    kernelRun0_A.sl.v5800 c arg3 harg3 x1 (ix2 0 k) = mvF (nat3 x1 0) (512 + k) :=
  pay8_v _ _ 512 (ld_512 arg3 harg3 x1) _
theorem v73_v (c : Dev nD) (arg4 : Memref sig .tc .vmem S1x256x1024 .bf16) (harg4 : arg4.IsWhole) (x2 : Vec Ideal S1x256x1024 .bf16)
    (hm : ∀ c, ∃ r : ℝ, mvF (nat3 x2 0) c = r) (k : Fin 512) :
    kernelRun0_A.sl.v73 c arg4 harg4 x2 (ix2 0 k) = sc (vaF (nat3 x2 0) (0 + k)) :=
  pay12_v _ _ _ (pay9_v _ _ 0 (ld_0 _ _ _) _ (hm _))
theorem v5523_v (c : Dev nD) (arg4 : Memref sig .tc .vmem S1x256x1024 .bf16) (harg4 : arg4.IsWhole) (x2 : Vec Ideal S1x256x1024 .bf16)
    (hm : ∀ c, ∃ r : ℝ, mvF (nat3 x2 0) c = r) (k : Fin 512) :
    kernelRun0_A.sl.v5523 c arg4 harg4 x2 (ix2 0 k) = sc (vaF (nat3 x2 0) (512 + k)) :=
  pay12_v _ _ _ (pay9_v _ _ 512 (ld_512 _ _ _) _ (hm _))

theorem out12 (c : Dev nD) (t : Fin cfg0.N) (y5 : Vec Ideal S1x2x64 .f32) (y8 : Vec Ideal S1x4x16 .f32) (h : Fin 8) (d : Fin 128) :
    View.canon (pcs_12 m c t y5 y8) (ix3 0 h d) = mvF (nat3 (iblk m c 2 t) 0) (128 * h + d) := by
  refine View.canon_eq_of_allAt _ _ _ (cover_12 m c t y5 y8 _) ?_
  unfold pcs_12 runAt kernelRun0_A
  refine View.allAt_cons_unit _ _ _ _ _ ?_ (View.allAt_nil _ _)
  intro x hx
  obtain rfl := ix3_of (a := 1) (b := 8) (c := 128) x 0 h d hx

  refine cat8 _ _ _ _ _ _ _ _ (fun h d => mvF (nat3 (iblk m c 2 t) 0) (128 * h + d)) ?_ ?_ ?_ ?_ ?_ ?_ ?_ ?_ h d
  · exact sl_v (kernelRun0_A.sl.v48 c (ms0_2 t) (hs0_2 t) (iblk m c 2 t)) ![0, 0] slices_S1x512_o0_0_S1x128 (fun d => mvF (nat3 (iblk m c 2 t) 0) (d)) 0 (v48_v _ _ _ _) _ rfl
  · exact sl_v (kernelRun0_A.sl.v48 c (ms0_2 t) (hs0_2 t) (iblk m c 2 t)) ![0, 128] slices_S1x512_o0_128_S1x128 (fun d => mvF (nat3 (iblk m c 2 t) 0) (d)) 0 (v48_v _ _ _ _) _ rfl
  · exact sl_v (kernelRun0_A.sl.v48 c (ms0_2 t) (hs0_2 t) (iblk m c 2 t)) ![0, 256] slices_S1x512_o0_256_S1x128 (fun d => mvF (nat3 (iblk m c 2 t) 0) (d)) 0 (v48_v _ _ _ _) _ rfl
  · exact sl_v (kernelRun0_A.sl.v48 c (ms0_2 t) (hs0_2 t) (iblk m c 2 t)) ![0, 384] slices_S1x512_o0_384_S1x128 (fun d => mvF (nat3 (iblk m c 2 t) 0) (d)) 0 (v48_v _ _ _ _) _ rfl
  · exact sl_v (kernelRun0_A.sl.v5498 c (ms0_2 t) (hs0_2 t) (iblk m c 2 t)) ![0, 0] slices_S1x512_o0_0_S1x128 (fun d => mvF (nat3 (iblk m c 2 t) 0) (d)) 512 (v5498_v _ _ _ _) _ rfl
  · exact sl_v (kernelRun0_A.sl.v5498 c (ms0_2 t) (hs0_2 t) (iblk m c 2 t)) ![0, 128] slices_S1x512_o0_128_S1x128 (fun d => mvF (nat3 (iblk m c 2 t) 0) (d)) 512 (v5498_v _ _ _ _) _ rfl
  · exact sl_v (kernelRun0_A.sl.v5498 c (ms0_2 t) (hs0_2 t) (iblk m c 2 t)) ![0, 256] slices_S1x512_o0_256_S1x128 (fun d => mvF (nat3 (iblk m c 2 t) 0) (d)) 512 (v5498_v _ _ _ _) _ rfl
  · exact sl_v (kernelRun0_A.sl.v5498 c (ms0_2 t) (hs0_2 t) (iblk m c 2 t)) ![0, 384] slices_S1x512_o0_384_S1x128 (fun d => mvF (nat3 (iblk m c 2 t) 0) (d)) 512 (v5498_v _ _ _ _) _ rfl

theorem out9 (c : Dev nD) (t : Fin cfg0.N) (y5 : Vec Ideal S1x2x64 .f32) (y8 : Vec Ideal S1x4x16 .f32) (h : Fin 8) (d : Fin 128) :
    View.canon (pcs_9 m c t y5 y8) (ix3 0 h d) = mvF (nat3 (iblk m c 1 t) 0) (128 * h + d) := by
  refine View.canon_eq_of_allAt _ _ _ (cover_9 m c t y5 y8 _) ?_
  unfold pcs_9 runAt kernelRun0_A
  refine View.allAt_cons_unit _ _ _ _ _ ?_ (View.allAt_nil _ _)
  intro x hx
  obtain rfl := ix3_of (a := 1) (b := 8) (c := 128) x 0 h d hx
  rw [e1713]
  refine cat8 _ _ _ _ _ _ _ _ (fun h d => mvF (nat3 (iblk m c 1 t) 0) (128 * h + d)) ?_ ?_ ?_ ?_ ?_ ?_ ?_ ?_ h d
  · exact sl_v (kernelRun0_A.sl.v350 c (ms0_1 t) (hs0_1 t) (iblk m c 1 t)) ![0, 0] slices_S1x512_o0_0_S1x128 (fun d => mvF (nat3 (iblk m c 1 t) 0) (d)) 0 (v350_v _ _ _ _) _ rfl
  · exact sl_v (kernelRun0_A.sl.v350 c (ms0_1 t) (hs0_1 t) (iblk m c 1 t)) ![0, 128] slices_S1x512_o0_128_S1x128 (fun d => mvF (nat3 (iblk m c 1 t) 0) (d)) 0 (v350_v _ _ _ _) _ rfl
  · exact sl_v (kernelRun0_A.sl.v350 c (ms0_1 t) (hs0_1 t) (iblk m c 1 t)) ![0, 256] slices_S1x512_o0_256_S1x128 (fun d => mvF (nat3 (iblk m c 1 t) 0) (d)) 0 (v350_v _ _ _ _) _ rfl
  · exact sl_v (kernelRun0_A.sl.v350 c (ms0_1 t) (hs0_1 t) (iblk m c 1 t)) ![0, 384] slices_S1x512_o0_384_S1x128 (fun d => mvF (nat3 (iblk m c 1 t) 0) (d)) 0 (v350_v _ _ _ _) _ rfl
  · exact sl_v (kernelRun0_A.sl.v5800 c (ms0_1 t) (hs0_1 t) (iblk m c 1 t)) ![0, 0] slices_S1x512_o0_0_S1x128 (fun d => mvF (nat3 (iblk m c 1 t) 0) (d)) 512 (v5800_v _ _ _ _) _ rfl
  · exact sl_v (kernelRun0_A.sl.v5800 c (ms0_1 t) (hs0_1 t) (iblk m c 1 t)) ![0, 128] slices_S1x512_o0_128_S1x128 (fun d => mvF (nat3 (iblk m c 1 t) 0) (d)) 512 (v5800_v _ _ _ _) _ rfl
  · exact sl_v (kernelRun0_A.sl.v5800 c (ms0_1 t) (hs0_1 t) (iblk m c 1 t)) ![0, 256] slices_S1x512_o0_256_S1x128 (fun d => mvF (nat3 (iblk m c 1 t) 0) (d)) 512 (v5800_v _ _ _ _) _ rfl
  · exact sl_v (kernelRun0_A.sl.v5800 c (ms0_1 t) (hs0_1 t) (iblk m c 1 t)) ![0, 384] slices_S1x512_o0_384_S1x128 (fun d => mvF (nat3 (iblk m c 1 t) 0) (d)) 512 (v5800_v _ _ _ _) _ rfl

theorem out11 (c : Dev nD) (t : Fin cfg0.N) (y5 : Vec Ideal S1x2x64 .f32) (y8 : Vec Ideal S1x4x16 .f32) (hm : ∀ k, ∃ r : ℝ, mvF (nat3 (iblk m c 2 t) 0) k = r) (h : Fin 8) (d : Fin 128) :
    View.canon (pcs_11 m c t y5 y8) (ix3 0 h d) = sc (vaF (nat3 (iblk m c 2 t) 0) (128 * h + d)) := by
  refine View.canon_eq_of_allAt _ _ _ (cover_11 m c t y5 y8 _) ?_
  unfold pcs_11 runAt kernelRun0_A
  refine View.allAt_cons_unit _ _ _ _ _ ?_ (View.allAt_nil _ _)
  intro x hx
  obtain rfl := ix3_of (a := 1) (b := 8) (c := 128) x 0 h d hx
  unfold kernelRun0_A.sl.v10967; rw [e1715]
  refine cat8 _ _ _ _ _ _ _ _ (fun h d => sc (vaF (nat3 (iblk m c 2 t) 0) (128 * h + d))) ?_ ?_ ?_ ?_ ?_ ?_ ?_ ?_ h d
  · exact sl_v (kernelRun0_A.sl.v73 c (ms0_2 t) (hs0_2 t) (iblk m c 2 t)) ![0, 0] slices_S1x512_o0_0_S1x128 (fun d => sc (vaF (nat3 (iblk m c 2 t) 0) (d))) 0 (v73_v _ _ _ _ hm) _ rfl
  · exact sl_v (kernelRun0_A.sl.v73 c (ms0_2 t) (hs0_2 t) (iblk m c 2 t)) ![0, 128] slices_S1x512_o0_128_S1x128 (fun d => sc (vaF (nat3 (iblk m c 2 t) 0) (d))) 0 (v73_v _ _ _ _ hm) _ rfl
  · exact sl_v (kernelRun0_A.sl.v73 c (ms0_2 t) (hs0_2 t) (iblk m c 2 t)) ![0, 256] slices_S1x512_o0_256_S1x128 (fun d => sc (vaF (nat3 (iblk m c 2 t) 0) (d))) 0 (v73_v _ _ _ _ hm) _ rfl
  · exact sl_v (kernelRun0_A.sl.v73 c (ms0_2 t) (hs0_2 t) (iblk m c 2 t)) ![0, 384] slices_S1x512_o0_384_S1x128 (fun d => sc (vaF (nat3 (iblk m c 2 t) 0) (d))) 0 (v73_v _ _ _ _ hm) _ rfl
  · exact sl_v (kernelRun0_A.sl.v5523 c (ms0_2 t) (hs0_2 t) (iblk m c 2 t)) ![0, 0] slices_S1x512_o0_0_S1x128 (fun d => sc (vaF (nat3 (iblk m c 2 t) 0) (d))) 512 (v5523_v _ _ _ _ hm) _ rfl
  · exact sl_v (kernelRun0_A.sl.v5523 c (ms0_2 t) (hs0_2 t) (iblk m c 2 t)) ![0, 128] slices_S1x512_o0_128_S1x128 (fun d => sc (vaF (nat3 (iblk m c 2 t) 0) (d))) 512 (v5523_v _ _ _ _ hm) _ rfl
  · exact sl_v (kernelRun0_A.sl.v5523 c (ms0_2 t) (hs0_2 t) (iblk m c 2 t)) ![0, 256] slices_S1x512_o0_256_S1x128 (fun d => sc (vaF (nat3 (iblk m c 2 t) 0) (d))) 512 (v5523_v _ _ _ _ hm) _ rfl
  · exact sl_v (kernelRun0_A.sl.v5523 c (ms0_2 t) (hs0_2 t) (iblk m c 2 t)) ![0, 384] slices_S1x512_o0_384_S1x128 (fun d => sc (vaF (nat3 (iblk m c 2 t) 0) (d))) 512 (v5523_v _ _ _ _ hm) _ rfl

end Cert.KernelIdeal.Gen
-- ==== Proof.KModel.lean ====
/- The key scales and codes of a grid point, as one model of the block's columns. -/
module
public import proofs.«01_k».proof.Proof.KVal
@[expose] public section
set_option maxRecDepth 16384
noncomputable section
namespace Cert.KernelIdeal.Gen
open Idealize.ShloMosaic Idealize.ShloMosaic.TcCoe Idealize.ShloMosaic.Tactic
open Cert.Sage

/-- The largest distance of sixty-four rows of a block from a row of means. -/
def kdev (o : Fin 2 → ℕ) (ho : S256x512.Slices o S64x512) (B : FVec Ideal S256x512 .bf16) (mk : FVec Ideal S1x512 .f32) : FVec Ideal S1x512 .f32 :=
  have a := shapeCast S4x16x512 (extractStridedSlice S64x512 o B ho) shapeCasts_S64x512_S4x16x512
  have hi : FVec Ideal S16x512 .f32 := extf .f32 (multiReduction (F := Ideal) (φ := .bf16) .maximumf [0] S16x512 a 0xFF80#16 reduces_S4x16x512_S16x512 (.inr rfl) rfl) bitsLt_bf16_f32
  have lo : FVec Ideal S16x512 .f32 := extf .f32 (multiReduction (F := Ideal) (φ := .bf16) .minimumf [0] S16x512 a 0x7F80#16 reduces_S4x16x512_S16x512 (.inr rfl) rfl) bitsLt_bf16_f32
  k0_pay79 (F := Ideal) mk hi lo

/-- A head's four scaled largest distances. -/
def kp (o : Fin 2 → ℕ) (ho : S1x512.Slices o S1x128) (d0 d1 d2 d3 : FVec Ideal S1x512 .f32) : FVec Ideal S4x1 .f32 :=
  have c : FVec Ideal S4x128 .f32 := concatenate S4x128 0 [⟨S1x128, extractStridedSlice S1x128 o d0 ho⟩, ⟨S1x128, extractStridedSlice S1x128 o d1 ho⟩, ⟨S1x128, extractStridedSlice S1x128 o d2 ho⟩, ⟨S1x128, extractStridedSlice S1x128 o d3 ho⟩] concatenates_S1x128_S1x128_S1x128_S1x128_S4x128_d0
  mulf (shapeCast S4x1 (multiReduction .maximumf [1] S4 c 0xFF800000#32 reduces_S4x128_S4 (.inl rfl) rfl) shapeCasts_S4_S4x1) (broadcast S4x1 (Scalar.ofBits .f32 0x3B124925#32))

def hex (p : FVec Ideal S4x1 .f32) : FVec Ideal S4x1 .f32 :=
  addf (floor (mulf (log p) (broadcast S4x1 (Named.named κ "log2e" 0x3FB8AA3B#32)))) (broadcast S4x1 (Scalar.ofBits .f32 0x3F800000#32))
def kz (p : FVec Ideal S4x1 .f32) : IVec S4x1 1 := cmpf .oeq p (broadcast S4x1 (Scalar.ofBits .f32 0x00000000#32))
/-- The scales. -/
def ksc (p : FVec Ideal S4x1 .f32) : FVec Ideal S4x1 .f32 :=
  select (kz p) (broadcast S4x1 (Scalar.ofBits .f32 0x3F800000#32)) (exp2 (hex p))
/-- Their inverses. -/
def kinv (p : FVec Ideal S4x1 .f32) : FVec Ideal S4x1 .f32 :=
  select (kz p) (broadcast S4x1 (Scalar.ofBits .f32 0x3F800000#32)) (exp2 (subf (broadcast S4x1 (Scalar.ofBits .f32 0x00000000#32)) (hex p)))

/-- The codes of sixty-four rows of a head. -/
def kblk (o om oi : Fin 2 → ℕ) (ho : S256x512.Slices o S64x128) (hm : S1x512.Slices om S1x128) (hi : S4x1.Slices oi S1x1)
    (B : FVec Ideal S256x512 .bf16) (mk : FVec Ideal S1x512 .f32) (inv : FVec Ideal S4x1 .f32) : FVec Ideal S64x128 .f32 :=
  minimumf (maximumf (mulf (subf (extf .f32 (extractStridedSlice S64x128 o B ho) bitsLt_bf16_f32) (broadcastTo S64x128 (extractStridedSlice S1x128 om mk hm) broadcasts_S1x128_S64x128))
    (broadcastTo S64x128 (extractStridedSlice S1x1 oi inv hi) broadcasts_S1x1_S64x128)) (broadcast S64x128 (Scalar.ofBits .f32 0xC3E00000#32))) (broadcast S64x128 (Scalar.ofBits .f32 0x43E00000#32))

/-- A head's codes. -/
def kcode (n : ℕ) (h0 : S256x512.Slices ![0, n] S64x128) (h1 : S256x512.Slices ![64, n] S64x128) (h2 : S256x512.Slices ![128, n] S64x128) (h3 : S256x512.Slices ![192, n] S64x128)
    (hm : S1x512.Slices ![0, n] S1x128) (B : FVec Ideal S256x512 .bf16) (mk : FVec Ideal S1x512 .f32) (inv : FVec Ideal S4x1 .f32) : FVec Ideal S256x128 .f32 :=
  concatenate S256x128 0 [⟨S64x128, kblk ![0, n] ![0, n] ![0, 0] h0 hm slices_S4x1_o0_0_S1x1 B mk inv⟩, ⟨S64x128, kblk ![64, n] ![0, n] ![1, 0] h1 hm slices_S4x1_o1_0_S1x1 B mk inv⟩,
    ⟨S64x128, kblk ![128, n] ![0, n] ![2, 0] h2 hm slices_S4x1_o2_0_S1x1 B mk inv⟩, ⟨S64x128, kblk ![192, n] ![0, n] ![3, 0] h3 hm slices_S4x1_o3_0_S1x1 B mk inv⟩] concatenates_S64x128_S64x128_S64x128_S64x128_S256x128_d0

theorem kdev_v (o : Fin 2 → ℕ) (ho : S256x512.Slices o S64x512) (B : FVec Ideal S256x512 .bf16) (mk : FVec Ideal S1x512 .f32) (V : ℕ → ℕ → EReal) (n r0 : ℕ)
    (hB : ∀ (s : Fin 256) (c : Fin 512), B (ix2 s c) = V s (n + c)) (hk : ∀ c : Fin 512, mk (ix2 0 c) = mvF V (n + c))
    (hm : ∀ c, ∃ r : ℝ, mvF V c = r) (h0 : o 0 = r0) (h1 : o 1 = 0) (c : Fin 512) :
    kdev o ho B mk (ix2 0 c) = (Finset.range 64).sup fun s => ab (V (r0 + s) (n + c) - mvF V (n + c)) := by
  pointwise [kdev, k0_pay79]
  have hb : ∀ (p q), B (ix2 p q) = V p.val (n + q.val) := fun p q => hB p q
  rw [fold16_max 4 64 rfl _ _ ofBits_neg_inf_f32 ofBits_neg_inf_bf16 (fun s => V (r0 + s) (n + c)) _ (fun x y => by rw [hb]; subst h0; congr 1 <;> simp [h1] <;> omega),
    fold16_min 4 64 rfl _ _ ofBits_inf_f32 ofBits_inf_bf16 (fun s => V (r0 + s) (n + c)) _ (fun x y => by rw [hb]; subst h0; congr 1 <;> simp [h1] <;> omega), hk]
  obtain ⟨r, hr⟩ := hm (n + c)
  unfold ab
  rw [hr, sup_abs_sub _ ⟨0, by simp⟩]

theorem fold_max_range (n : ℕ) (b : EReal) (hb : b = ⊥) (f : ℕ → EReal) (F : Fin n → EReal) (hF : ∀ x, F x = f x) :
    (Finset.univ : Finset (Fin n)).fold max b F = (Finset.range n).sup f :=
  fold_max_eq_sup _ _ _ _ _ hb (fun i _ => ⟨i, by simp, hF i⟩) (fun k hk => ⟨⟨k, by simpa using hk⟩, by simp, (hF ⟨k, _⟩).symm⟩)

theorem kp_v (o : Fin 2 → ℕ) (ho : S1x512.Slices o S1x128) (d0 d1 d2 d3 : FVec Ideal S1x512 .f32) (f : ℕ → ℕ → EReal) (n : ℕ)
    (h0 : ∀ c : Fin 512, d0 (ix2 0 c) = f 0 (n + c)) (h1 : ∀ c : Fin 512, d1 (ix2 0 c) = f 1 (n + c)) (h2 : ∀ c : Fin 512, d2 (ix2 0 c) = f 2 (n + c))
    (h3 : ∀ c : Fin 512, d3 (ix2 0 c) = f 3 (n + c)) (n' : ℕ) (hn : n' = n + o 1) (g : Fin 4) :
    kp o ho d0 d1 d2 d3 (ix2 g 0) = ((Finset.range 128).sup fun d => f g (n' + d)) * c448 := by
  have e0 := sl_v d0 o ho (f 0) n h0 n' hn
  have e1 := sl_v d1 o ho (f 1) n h1 n' hn
  have e2 := sl_v d2 o ho (f 2) n h2 n' hn
  have e3 := sl_v d3 o ho (f 3) n h3 n' hn
  unfold kp
  generalize extractStridedSlice S1x128 o d0 ho = a0 at e0 ⊢
  generalize extractStridedSlice S1x128 o d1 ho = a1 at e1 ⊢
  generalize extractStridedSlice S1x128 o d2 ho = a2 at e2 ⊢
  generalize extractStridedSlice S1x128 o d3 ho = a3 at e3 ⊢
  pointwise
  rw [fold_max_range 128 _ ofBits_neg_inf_f32 (fun d => f g (n' + d))]
  · rfl
  · intro d
    fin_vals g with hk <;> simp [hk, e0, e1, e2, e3]

theorem kinv_v (p : FVec Ideal S4x1 .f32) (g : Fin 4) (a : EReal) (hp : p (ix2 g 0) = a * c448) : kinv p (ix2 g 0) = sinv a := by
  pointwise [kinv, kz, hex]
  rw [hp, ← kinv_eq]
  rfl
theorem ksc_v (p : FVec Ideal S4x1 .f32) (g : Fin 4) (a : EReal) (hp : p (ix2 g 0) = a * c448) : ksc p (ix2 g 0) = sc a := by
  pointwise [ksc, kz, hex]
  rw [hp, ← ksc_eq]
  rfl

theorem kblk_v (o om oi : Fin 2 → ℕ) (ho hm hi) (B : FVec Ideal S256x512 .bf16) (mk : FVec Ideal S1x512 .f32) (inv : FVec Ideal S4x1 .f32)
    (V : ℕ → ℕ → EReal) (k : ℕ) (u : ℕ → EReal) (hB : ∀ (s : Fin 256) (c : Fin 512), B (ix2 s c) = V s (k + c)) (hk : ∀ c : Fin 512, mk (ix2 0 c) = mvF V (k + c))
    (hu : ∀ g : Fin 4, inv (ix2 g 0) = u g) (g n n' : ℕ) (hn : n' = k + n) (h0 : o = ![64 * g, n]) (h1 : om = ![0, n]) (h2 : oi = ![g, 0]) (s : Fin 64) (d : Fin 128) :
    kblk o om oi ho hm hi B mk inv (ix2 s d) = code (V (64 * g + s) (n' + d) - mvF V (n' + d)) (u g) := by
  subst h0 h1 h2 hn
  pointwise [kblk]
  have hb : ∀ (p q), B (ix2 p q) = V p.val (k + q.val) := fun p q => hB p q
  have hk' : ∀ (p q), mk (ix2 p q) = mvF V (k + q.val) := fun p q => by rw [Subsingleton.elim p 0, hk]
  have hu' : ∀ (p q), inv (ix2 p q) = u p.val := fun p q => by rw [Subsingleton.elim q 0, hu]
  rw [hb, hk', hu']
  simp [code, add_assoc]

theorem kcode_v (n : ℕ) (h0 h1 h2 h3 hm) (B : FVec Ideal S256x512 .bf16) (mk : FVec Ideal S1x512 .f32) (inv : FVec Ideal S4x1 .f32)
    (V : ℕ → ℕ → EReal) (k : ℕ) (u : ℕ → EReal) (hB : ∀ (s : Fin 256) (c : Fin 512), B (ix2 s c) = V s (k + c)) (hk : ∀ c : Fin 512, mk (ix2 0 c) = mvF V (k + c))
    (hu : ∀ g : Fin 4, inv (ix2 g 0) = u g) (n' : ℕ) (hn : n' = k + n) (s : Fin 256) (d : Fin 128) :
    kcode n h0 h1 h2 h3 hm B mk inv (ix2 s d) = code (V s (n' + d) - mvF V (n' + d)) (u (s / 64)) := by
  have e := fun (g : ℕ) o oi ho hi h1 h2 => kblk_v o ![0, n] oi ho hm hi B mk inv V k u hB hk hu g n n' hn h1 rfl h2
  have e0 := e 0 ![0, n] ![0, 0] h0 slices_S4x1_o0_0_S1x1 rfl rfl
  have e1 := e 1 ![64, n] ![1, 0] h1 slices_S4x1_o1_0_S1x1 rfl rfl
  have e2 := e 2 ![128, n] ![2, 0] h2 slices_S4x1_o2_0_S1x1 rfl rfl
  have e3 := e 3 ![192, n] ![3, 0] h3 slices_S4x1_o3_0_S1x1 rfl rfl
  clear e
  unfold kcode
  generalize kblk ![0, n] ![0, n] ![0, 0] h0 hm slices_S4x1_o0_0_S1x1 B mk inv = a0 at e0 ⊢
  generalize kblk ![64, n] ![0, n] ![1, 0] h1 hm slices_S4x1_o1_0_S1x1 B mk inv = a1 at e1 ⊢
  generalize kblk ![128, n] ![0, n] ![2, 0] h2 hm slices_S4x1_o2_0_S1x1 B mk inv = a2 at e2 ⊢
  generalize kblk ![192, n] ![0, n] ![3, 0] h3 hm slices_S4x1_o3_0_S1x1 B mk inv = a3 at e3 ⊢
  pointwise
  have hs := s.isLt
  have key : ∀ (g : ℕ) (q : Fin 64), s.val = 64 * g + q.val → code (V (64 * g + q) (n' + d) - mvF V (n' + d)) (u g) = code (V s (n' + d) - mvF V (n' + d)) (u (s / 64)) := by
    intro g q h
    have := q.isLt
    rw [← h, show s.val / 64 = g by omega]
  split_ifs <;> (first | rw [e0] | rw [e1] | rw [e2] | rw [e3]) <;> exact key _ _ (by simp <;> omega)

/-- A head's scaled distances from the block and its row of means, -/
def kP (n : ℕ) (hn : S1x512.Slices ![0, n] S1x128) (B : FVec Ideal S256x512 .bf16) (mk : FVec Ideal S1x512 .f32) : FVec Ideal S4x1 .f32 :=
  kp ![0, n] hn (kdev ![0, 0] (by decide) B mk) (kdev ![64, 0] (by decide) B mk) (kdev ![128, 0] (by decide) B mk) (kdev ![192, 0] (by decide) B mk)
/-- and its codes. -/
def kC (n : ℕ) (h0 : S256x512.Slices ![0, n] S64x128) (h1 : S256x512.Slices ![64, n] S64x128) (h2 : S256x512.Slices ![128, n] S64x128) (h3 : S256x512.Slices ![192, n] S64x128)
    (hm : S1x512.Slices ![0, n] S1x128) (B : FVec Ideal S256x512 .bf16) (mk : FVec Ideal S1x512 .f32) : FVec Ideal S256x128 .f32 :=
  kcode n h0 h1 h2 h3 hm B mk (kinv (kP n hm B mk))

theorem kP_v (n : ℕ) (hn) (B : FVec Ideal S256x512 .bf16) (mk : FVec Ideal S1x512 .f32) (V : ℕ → ℕ → EReal) (k : ℕ)
    (hB : ∀ (s : Fin 256) (c : Fin 512), B (ix2 s c) = V s (k + c)) (hk : ∀ c : Fin 512, mk (ix2 0 c) = mvF V (k + c))
    (hm : ∀ c, ∃ r : ℝ, mvF V c = r) (n' : ℕ) (hn' : n' = k + n) (g : Fin 4) :
    kP n hn B mk (ix2 g 0) = kaF (fun s d => V s (n' + d)) g * c448 := by
  have e := fun (r0 : ℕ) o ho h0 h1 => kdev_v o ho B mk V k r0 hB hk hm h0 h1
  unfold kP
  rw [kp_v _ _ _ _ _ _ (fun g x => (Finset.range 64).sup fun s => ab (V (64 * g + s) x - mvF V x)) k (e 0 _ _ rfl rfl) (e 64 _ _ rfl rfl) (e 128 _ _ rfl rfl) (e 192 _ _ rfl rfl) n' hn']
  congr 1
  unfold kaF
  refine eq_of_forall_ge_iff fun z => ?_
  simp only [Finset.sup_le_iff, Finset.mem_range, Finset.mem_product, Prod.forall]
  exact ⟨fun h a b hab => h b hab.2 a hab.1, fun h b hb a ha => h a b ⟨ha, hb⟩⟩

theorem kC_v (n : ℕ) (h0 h1 h2 h3 hm) (B : FVec Ideal S256x512 .bf16) (mk : FVec Ideal S1x512 .f32) (V : ℕ → ℕ → EReal) (k : ℕ)
    (hB : ∀ (s : Fin 256) (c : Fin 512), B (ix2 s c) = V s (k + c)) (hk : ∀ c : Fin 512, mk (ix2 0 c) = mvF V (k + c))
    (hr : ∀ c, ∃ r : ℝ, mvF V c = r) (n' : ℕ) (hn' : n' = k + n) (s : Fin 256) (d : Fin 128) :
    kC n h0 h1 h2 h3 hm B mk (ix2 s d) = kcF (fun s d => V s (n' + d)) s d :=
  kcode_v n h0 h1 h2 h3 hm B mk _ V k (fun g => sinv (kaF (fun s d => V s (n' + d)) g)) hB hk
    (fun g => kinv_v _ g _ (kP_v n hm B mk V k hB hk hr n' hn' g)) n' hn' s d

section
variable (c : Dev nD) (arg3 : Memref sig .tc .vmem S1x256x1024 .bf16) (harg3 : arg3.IsWhole) (x1 : Vec Ideal S1x256x1024 .bf16)
abbrev kB0 := kernelRun0_A.sl.v344 c arg3 harg3 x1
abbrev kB1 := kernelRun0_A.sl.v5794 c arg3 harg3 x1
abbrev kM0 := kernelRun0_A.sl.v350 c arg3 harg3 x1
abbrev kM1 := kernelRun0_A.sl.v5800 c arg3 harg3 x1
theorem s_v422 : kernelRun0_A.sl.v422 c arg3 harg3 x1 = ksc (kP 0 (by decide) (kB0 c arg3 harg3 x1) (kM0 c arg3 harg3 x1)) := rfl
theorem s_v509 : kernelRun0_A.sl.v509 c arg3 harg3 x1 = ksc (kP 128 (by decide) (kB0 c arg3 harg3 x1) (kM0 c arg3 harg3 x1)) := rfl
theorem s_v596 : kernelRun0_A.sl.v596 c arg3 harg3 x1 = ksc (kP 256 (by decide) (kB0 c arg3 harg3 x1) (kM0 c arg3 harg3 x1)) := rfl
theorem s_v683 : kernelRun0_A.sl.v683 c arg3 harg3 x1 = ksc (kP 384 (by decide) (kB0 c arg3 harg3 x1) (kM0 c arg3 harg3 x1)) := rfl
theorem s_v5872 : kernelRun0_A.sl.v5872 c arg3 harg3 x1 = ksc (kP 0 (by decide) (kB1 c arg3 harg3 x1) (kM1 c arg3 harg3 x1)) := rfl
theorem s_v5959 : kernelRun0_A.sl.v5959 c arg3 harg3 x1 = ksc (kP 128 (by decide) (kB1 c arg3 harg3 x1) (kM1 c arg3 harg3 x1)) := rfl
theorem s_v6046 : kernelRun0_A.sl.v6046 c arg3 harg3 x1 = ksc (kP 256 (by decide) (kB1 c arg3 harg3 x1) (kM1 c arg3 harg3 x1)) := rfl
theorem s_v6133 : kernelRun0_A.sl.v6133 c arg3 harg3 x1 = ksc (kP 384 (by decide) (kB1 c arg3 harg3 x1) (kM1 c arg3 harg3 x1)) := rfl
theorem c_0 : k0_pay94 (F := Ideal) (kernelRun0_A.sl.v427 c arg3 harg3 x1) (kernelRun0_A.sl.v439 c arg3 harg3 x1) (kernelRun0_A.sl.v451 c arg3 harg3 x1) (kernelRun0_A.sl.v463 c arg3 harg3 x1) (kernelRun0_A.sl.v464 c arg3 harg3 x1) (kernelRun0_A.sl.v429 c arg3 harg3 x1) = shapeCast S256x128 (kC 0 (by decide) (by decide) (by decide) (by decide) (by decide) (kB0 c arg3 harg3 x1) (kM0 c arg3 harg3 x1)) shapeCasts_S256x128_S256x128 := rfl
theorem c_1 : k0_pay110 (F := Ideal) (kernelRun0_A.sl.v526 c arg3 harg3 x1) (kernelRun0_A.sl.v538 c arg3 harg3 x1) (kernelRun0_A.sl.v550 c arg3 harg3 x1) (kernelRun0_A.sl.v560 c arg3 harg3 x1) (broadcast S64x128 kernelRun0_A.sl.cst_28) = shapeCast S256x128 (kC 128 (by decide) (by decide) (by decide) (by decide) (by decide) (kB0 c arg3 harg3 x1) (kM0 c arg3 harg3 x1)) shapeCasts_S256x128_S256x128 := rfl
theorem c_2 : kernelRun0_A.sl.v653 c arg3 harg3 x1 = shapeCast S256x128 (kC 256 (by decide) (by decide) (by decide) (by decide) (by decide) (kB0 c arg3 harg3 x1) (kM0 c arg3 harg3 x1)) shapeCasts_S256x128_S256x128 := rfl
theorem c_3 : kernelRun0_A.sl.v740 c arg3 harg3 x1 = shapeCast S256x128 (kC 384 (by decide) (by decide) (by decide) (by decide) (by decide) (kB0 c arg3 harg3 x1) (kM0 c arg3 harg3 x1)) shapeCasts_S256x128_S256x128 := rfl
theorem c_6 : kernelRun0_A.sl.v6103 c arg3 harg3 x1 = shapeCast S256x128 (kC 256 (by decide) (by decide) (by decide) (by decide) (by decide) (kB1 c arg3 harg3 x1) (kM1 c arg3 harg3 x1)) shapeCasts_S256x128_S256x128 := rfl
theorem c_7 : kernelRun0_A.sl.v6190 c arg3 harg3 x1 = shapeCast S256x128 (kC 384 (by decide) (by decide) (by decide) (by decide) (by decide) (kB1 c arg3 harg3 x1) (kM1 c arg3 harg3 x1)) shapeCasts_S256x128_S256x128 := rfl
end
end Cert.KernelIdeal.Gen
-- ==== Proof.Interleave.lean ====
/- Interleaved rows: strided stores and what is read back of them. -/
module
public import proofs.«01_k».proof.Proof.KVal
@[expose] public section
set_option maxRecDepth 16384
noncomputable section
namespace Cert.KernelIdeal.Gen
open Idealize.ShloMosaic Idealize.ShloMosaic.TcCoe Idealize.ShloMosaic.Tactic
open Cert.Sage

/-- Every fourth row from one row on. -/
abbrev strd (r0 n : ℕ) (inb : ∀ a : Fin 2, (![n, 128] : Fin 2 → ℕ) a = 0 ∨ (![r0, 0] : Fin 2 → ℕ) a + (![4, 1] : Fin 2 → ℕ) a * ((![n, 128] : Fin 2 → ℕ) a - 1) < S1024x128.size a) (pos : ∀ a, 0 < (![4, 1] : Fin 2 → ℕ) a) : Rect S1024x128 :=
  { off := ![r0, 0], size := ![n, 128], stride := ![4, 1], inb := inb, stride_pos := pos }

/-- A strided store of the newest piece, read where it lies. -/
theorem str_hit (r0 n k : ℕ) (inb pos) (w : (⟨2, ![n, 128]⟩ : Shape).Idx → EReal) (L : List (View.Piece (Elt Ideal) S1024x128 .f32)) (r : Fin 1024) (d : Fin 128) (hr : r.val = r0 + 4 * k) (hk : k < n) :
    View.canon (Val := Elt Ideal) (e := .f32) (⟨strd r0 n inb pos, w⟩ :: L) (ix2 r d) = w (ix2 ⟨k, hk⟩ d) := by
  rw [← View.canon_cons_emb (Val := Elt Ideal) (e := .f32) (strd r0 n inb pos) w L (ix2 ⟨k, hk⟩ d)]
  congr 1
  funext a
  refine Fin.ext ?_
  rw [Rect.emb_apply]
  fin_cases a <;> simp [ix2, hr]

/-- The piece does not hold the rows of another residue, or of the other half. -/
theorem str_miss (r0 n : ℕ) (inb pos) (w : (⟨2, ![n, 128]⟩ : Shape).Idx → EReal) (L : List (View.Piece (Elt Ideal) S1024x128 .f32)) (r : Fin 1024) (d : Fin 128) (hr : ∀ k < n, r.val ≠ r0 + 4 * k) :
    View.canon (Val := Elt Ideal) (e := .f32) (⟨strd r0 n inb pos, w⟩ :: L) (ix2 r d) = View.canon L (ix2 r d) := by
  refine View.canon_cons_of_not_mem _ _ ?_
  rw [LoadRect.mem_set]
  intro h
  obtain ⟨k, hk, e⟩ := h (0 : Fin 2)
  exact hr k hk (by simpa [ix2] using e)

theorem il_cast (g : FVec Ideal S32x128 .f32) (n : ℕ) (f : ℕ → ℕ → ℕ → EReal) (h1 h2 h3) (h4 : n % 32 = 0)
    (hg : ∀ (r : Fin 32) (d : Fin 128), g (ix2 r d) = f ((n + r.val) % 4) ((n + r.val) / 4) d) (b : Fin 8) (j : Fin 4) (d : Fin 128) :
    shapeCast S1x8x4x128 (shapeCast S8x4x128 (truncf (F := Ideal) (φ := .f32) .fp8e4m3 g h1) h2) h3 (ix4 0 b j d) = f j (n / 4 + b.val) d := by
  pointwise
  rw [hg]
  congr 1 <;> simp <;> omega

/-- Eight tokens' rows read back. -/
theorem il_piece {sig : RefSig} {κ : Kind} {sp : Space} (v : View sig κ sp S1024x128 .f32) (L : List (View.Piece (Elt Ideal) S1024x128 .f32)) (o : Fin 2 → ℕ) (inb) (f : ℕ → ℕ → ℕ → EReal)
    (hL : ∀ (r : Fin 1024) (d : Fin 128), View.canon L (ix2 r d) = f (r.val % 4) (r.val / 4) d) (h1 h2 h3) (h4 : o 0 % 32 = 0) (h5 : o 1 = 0) (b : Fin 8) (j : Fin 4) (d : Fin 128) :
    shapeCast S1x8x4x128 (shapeCast S8x4x128 (truncf (F := Ideal) (φ := .f32) .fp8e4m3 (v.readCov (Val := Elt Ideal) L (Rect.unit (s := S1024x128) o S32x128.size inb).toLoadRect : FVec Ideal S32x128 .f32) h1) h2) h3 (ix4 0 b j d)
      = f j.val (o 0 / 4 + b.val) d.val := by
  refine il_cast _ (o 0) f h1 h2 h3 h4 ?_ b j d
  intro r d
  rw [View.readCov_eq_canon']
  have hL' : ∀ y : S1024x128.Idx, View.canon L y = f ((y 0).val % 4) ((y 0).val / 4) (y 1).val := by
    intro y
    rw [← hL (y 0) (y 1)]
    congr 1
    funext a; fin_cases a <;> rfl
  refine (hL' _).trans ?_
  simp [LoadRect.idx, ix2, h5]

/-- The rows of four strided stores. -/
theorem il_four (w : Fin 4 → (⟨2, ![256, 128]⟩ : Shape).Idx → EReal) (L : List (View.Piece (Elt Ideal) S1024x128 .f32)) (i0 i1 i2 i3 p) (f : ℕ → ℕ → ℕ → EReal)
    (hw : ∀ j s d, w j (ix2 s d) = f j s d) (r : Fin 1024) (d : Fin 128) :
    View.canon (Val := Elt Ideal) (e := .f32) (⟨strd 3 256 i3 p, w 3⟩ :: ⟨strd 2 256 i2 p, w 2⟩ :: ⟨strd 1 256 i1 p, w 1⟩ :: ⟨strd 0 256 i0 p, w 0⟩ :: L) (ix2 r d) = f (r.val % 4) (r.val / 4) d := by
  have hr := r.isLt
  have h4 : r.val % 4 = 3 ∨ r.val % 4 = 2 ∨ r.val % 4 = 1 ∨ r.val % 4 = 0 := by omega
  rcases h4 with h | h | h | h <;> rw [h]
  · rw [str_hit 3 256 (r.val / 4) _ _ _ _ _ _ (by omega) (by omega), hw]; rfl
  · rw [str_miss 3 256 _ _ _ _ _ _ (by omega), str_hit 2 256 (r.val / 4) _ _ _ _ _ _ (by omega) (by omega), hw]; rfl
  · rw [str_miss 3 256 _ _ _ _ _ _ (by omega), str_miss 2 256 _ _ _ _ _ _ (by omega), str_hit 1 256 (r.val / 4) _ _ _ _ _ _ (by omega) (by omega), hw]; rfl
  · rw [str_miss 3 256 _ _ _ _ _ _ (by omega), str_miss 2 256 _ _ _ _ _ _ (by omega), str_miss 1 256 _ _ _ _ _ _ (by omega), str_hit 0 256 (r.val / 4) _ _ _ _ _ _ (by omega) (by omega), hw]; rfl

/-- and of eight, over the two halves of the tokens. -/
theorem il_eight (w : Fin 4 → Fin 2 → (⟨2, ![128, 128]⟩ : Shape).Idx → EReal) (L : List (View.Piece (Elt Ideal) S1024x128 .f32)) (i0 i1 i2 i3 j0 j1 j2 j3 p) (f : ℕ → ℕ → ℕ → EReal)
    (hw : ∀ j (n : Fin 2) s d, w j n (ix2 s d) = f j (128 * n + s) d) (r : Fin 1024) (d : Fin 128) :
    View.canon (Val := Elt Ideal) (e := .f32) (⟨strd 515 128 j3 p, w 3 1⟩ :: ⟨strd 3 128 i3 p, w 3 0⟩ :: ⟨strd 514 128 j2 p, w 2 1⟩ :: ⟨strd 2 128 i2 p, w 2 0⟩ ::
      ⟨strd 513 128 j1 p, w 1 1⟩ :: ⟨strd 1 128 i1 p, w 1 0⟩ :: ⟨strd 512 128 j0 p, w 0 1⟩ :: ⟨strd 0 128 i0 p, w 0 0⟩ :: L) (ix2 r d) = f (r.val % 4) (r.val / 4) d := by
  have hr := r.isLt
  have h4 : r.val % 4 = 3 ∨ r.val % 4 = 2 ∨ r.val % 4 = 1 ∨ r.val % 4 = 0 := by omega
  have h2 : 512 ≤ r.val ∨ r.val < 512 := by omega
  have e : ∀ k : ℕ, k < 128 → 512 ≤ r.val → k = r.val / 4 - 128 → 128 * ((1 : Fin 2) : ℕ) + k = r.val / 4 := by intro k _ _ _; simp; omega
  have e' : ∀ k : ℕ, 128 * ((0 : Fin 2) : ℕ) + k = k := by intro k; simp
  rcases h4 with h | h | h | h <;> rcases h2 with h' | h' <;> rw [h]
  · rw [str_hit 515 128 (r.val / 4 - 128) _ _ _ _ _ _ (by omega) (by omega), hw]; rw [e _ (by omega) h' rfl]; rfl
  · rw [str_miss 515 128 _ _ _ _ _ _ (by omega), str_hit 3 128 (r.val / 4) _ _ _ _ _ _ (by omega) (by omega), hw]; rw [e']; rfl
  · rw [str_miss 515 128 _ _ _ _ _ _ (by omega), str_miss 3 128 _ _ _ _ _ _ (by omega), str_hit 514 128 (r.val / 4 - 128) _ _ _ _ _ _ (by omega) (by omega), hw]; rw [e _ (by omega) h' rfl]; rfl
  · rw [str_miss 515 128 _ _ _ _ _ _ (by omega), str_miss 3 128 _ _ _ _ _ _ (by omega), str_miss 514 128 _ _ _ _ _ _ (by omega), str_hit 2 128 (r.val / 4) _ _ _ _ _ _ (by omega) (by omega), hw]; rw [e']; rfl
  · rw [str_miss 515 128 _ _ _ _ _ _ (by omega), str_miss 3 128 _ _ _ _ _ _ (by omega), str_miss 514 128 _ _ _ _ _ _ (by omega), str_miss 2 128 _ _ _ _ _ _ (by omega), str_hit 513 128 (r.val / 4 - 128) _ _ _ _ _ _ (by omega) (by omega), hw]; rw [e _ (by omega) h' rfl]; rfl
  · rw [str_miss 515 128 _ _ _ _ _ _ (by omega), str_miss 3 128 _ _ _ _ _ _ (by omega), str_miss 514 128 _ _ _ _ _ _ (by omega), str_miss 2 128 _ _ _ _ _ _ (by omega), str_miss 513 128 _ _ _ _ _ _ (by omega), str_hit 1 128 (r.val / 4) _ _ _ _ _ _ (by omega) (by omega), hw]; rw [e']; rfl
  · rw [str_miss 515 128 _ _ _ _ _ _ (by omega), str_miss 3 128 _ _ _ _ _ _ (by omega), str_miss 514 128 _ _ _ _ _ _ (by omega), str_miss 2 128 _ _ _ _ _ _ (by omega), str_miss 513 128 _ _ _ _ _ _ (by omega), str_miss 1 128 _ _ _ _ _ _ (by omega), str_hit 512 128 (r.val / 4 - 128) _ _ _ _ _ _ (by omega) (by omega), hw]; rw [e _ (by omega) h' rfl]; rfl
  · rw [str_miss 515 128 _ _ _ _ _ _ (by omega), str_miss 3 128 _ _ _ _ _ _ (by omega), str_miss 514 128 _ _ _ _ _ _ (by omega), str_miss 2 128 _ _ _ _ _ _ (by omega), str_miss 513 128 _ _ _ _ _ _ (by omega), str_miss 1 128 _ _ _ _ _ _ (by omega), str_miss 512 128 _ _ _ _ _ _ (by omega), str_hit 0 128 (r.val / 4) _ _ _ _ _ _ (by omega) (by omega), hw]; rw [e']; rfl
end Cert.KernelIdeal.Gen
-- ==== Proof.Codes.lean ====
/- The key and value codes of a grid point. -/
module
public import proofs.«01_k».proof.Proof.KModel
public import proofs.«01_k».proof.Proof.Interleave
@[expose] public section
set_option maxRecDepth 16384
noncomputable section
namespace Cert.KernelIdeal.Gen
open Idealize.ShloMosaic Idealize.ShloMosaic.TcCoe Idealize.ShloMosaic.Tactic
open Cert.Sage

/-- The value codes of a head, of the block's columns. -/
def vC (n : ℕ) (h : S256x512.Slices ![0, n] S256x128) (hm : S1x512.Slices ![0, n] S1x128) (B : Vec Ideal S1x256x512 .bf16) : FVec Ideal S256x128 .f32 :=
  minimumf (maximumf (mulf (subf (extf .f32 (extractStridedSlice S256x128 ![0, n] (k0_pay7 (F := Ideal) B) h) bitsLt_bf16_f32) (broadcastTo S256x128 (extractStridedSlice S1x128 ![0, n] (k0_pay8 (F := Ideal) ones B) hm) broadcasts_S1x128_S256x128))
    (broadcastTo S256x128 (extractStridedSlice S1x128 ![0, n] (k0_pay13 (F := Ideal) ones B) hm) broadcasts_S1x128_S256x128)) (broadcast S256x128 (Scalar.ofBits .f32 0xC3E00000#32))) (broadcast S256x128 (Scalar.ofBits .f32 0x43E00000#32))

theorem pay13_v (B : Vec Ideal S1x256x512 .bf16) (c : Fin 512) (a : EReal) (h9 : k0_pay9 (F := Ideal) ones B (ix2 0 c) = a * c448) :
    k0_pay13 (F := Ideal) ones B (ix2 0 c) = sinv a := by
  pointwise [k0_pay13, k0_pay10, k0_pay11]
  rw [h9, ← kinv_eq]
  rfl

theorem vC_v (n : ℕ) (h hm) (B : Vec Ideal S1x256x512 .bf16) (V : ℕ → ℕ → EReal) (o : ℕ) (hB : ∀ (s : Fin 256) (c : Fin 512), B (ix3 0 s c) = V s (o + c))
    (hr : ∀ c, ∃ r : ℝ, mvF V c = r) (n' : ℕ) (hn : n' = o + n) (s : Fin 256) (d : Fin 128) :
    vC n h hm B (ix2 s d) = vcF (fun s d => V s (n' + d)) s d := by
  subst hn
  have e8 : ∀ (p q), k0_pay8 (F := Ideal) ones B (ix2 p q) = mvF V (o + q.val) := fun p q => by rw [Subsingleton.elim p 0, pay8_v B V o hB]
  have e13 : ∀ (p q), k0_pay13 (F := Ideal) ones B (ix2 p q) = sinv (vaF V (o + q.val)) := fun p q => by
    rw [Subsingleton.elim p 0]; exact pay13_v B _ _ (pay9_v B V o hB _ (hr _))
  have e7 : ∀ (p q), k0_pay7 (F := Ideal) B (ix2 p q) = V p.val (o + q.val) := fun p q => by pointwise [k0_pay7]; exact hB _ _
  unfold vC
  generalize k0_pay8 (F := Ideal) ones B = m8 at e8 ⊢
  generalize k0_pay13 (F := Ideal) ones B = m13 at e13 ⊢
  generalize k0_pay7 (F := Ideal) B = m7 at e7 ⊢
  pointwise
  rw [e7, e8, e13]
  simp [vcF, code, mvF, vaF, add_assoc]

theorem cast_id (g : FVec Ideal S256x128 .f32) (h) (s : Fin 256) (d : Fin 128) : shapeCast S256x128 g h (ix2 s d) = g (ix2 s d) := by
  pointwise
theorem cast_id' (g : FVec Ideal S128x128 .f32) (h) (s : Fin 128) (d : Fin 128) : shapeCast S128x128 g h (ix2 s d) = g (ix2 s d) := by
  pointwise

section
variable (c : Dev nD) (arg2 : Memref sig .tc .vmem S1x256x4096 .bf16) (harg2 : arg2.IsWhole) (arg3 arg4 : Memref sig .tc .vmem S1x256x1024 .bf16) (harg3 : arg3.IsWhole) (harg4 : arg4.IsWhole)
  (x0 : Vec Ideal S1x256x4096 .bf16) (x1 x2 : Vec Ideal S1x256x1024 .bf16)

theorem kB0_v (s : Fin 256) (k : Fin 512) : kB0 c arg3 harg3 x1 (ix2 s k) = nat3 x1 0 s (0 + k) := by
  rw [← ld_0 arg3 harg3 x1 s k]; unfold kB0 kernelRun0_A.sl.v344; pointwise
theorem kB1_v (s : Fin 256) (k : Fin 512) : kB1 c arg3 harg3 x1 (ix2 s k) = nat3 x1 0 s (512 + k) := by
  rw [← ld_512 arg3 harg3 x1 s k]; unfold kB1 kernelRun0_A.sl.v5794; pointwise

theorem c_4 : k0_pay945 (F := Ideal) (kernelRun0_A.sl.v5794 c arg3 harg3 x1) (kernelRun0_A.sl.v5800 c arg3 harg3 x1) (kernelRun0_A.sl.v5877 c arg3 harg3 x1) (kernelRun0_A.sl.v5889 c arg3 harg3 x1) (kernelRun0_A.sl.v5901 c arg3 harg3 x1) (kernelRun0_A.sl.v5911 c arg3 harg3 x1) (broadcast S64x128 kernelRun0_A.sl.cst_28) = shapeCast S256x128 (kC 0 (by decide) (by decide) (by decide) (by decide) (by decide) (kB1 c arg3 harg3 x1) (kM1 c arg3 harg3 x1)) shapeCasts_S256x128_S256x128 := rfl
theorem c_5 : k0_pay961 (F := Ideal) (kernelRun0_A.sl.v5976 c arg3 harg3 x1) (kernelRun0_A.sl.v5988 c arg3 harg3 x1) (kernelRun0_A.sl.v6000 c arg3 harg3 x1) (kernelRun0_A.sl.v6008 c arg3 harg3 x1) kernelRun0_A.sl.cst_27 kernelRun0_A.sl.cst_28 = shapeCast S256x128 (kC 128 (by decide) (by decide) (by decide) (by decide) (by decide) (kB1 c arg3 harg3 x1) (kM1 c arg3 harg3 x1)) shapeCasts_S256x128_S256x128 := rfl
/-- What the interleaved buffer holds of the first group's keys, -/
theorem il_k0 (hr : ∀ c, ∃ r : ℝ, mvF (nat3 x1 0) c = r) (r : Fin 1024) (d : Fin 128) :
    View.canon (Val := Elt Ideal) (e := .f32) (kernelRun0_A.sl.HS0_8 c arg3 harg3 arg4 harg4 x1 x2) (ix2 r d) = kcF (fun s d => nat3 x1 0 s (128 * (r.val % 4) + d)) (r.val / 4) d := by
  unfold kernelRun0_A.sl.HS0_8 kernelRun0_A.sl.HS0_7 kernelRun0_A.sl.HS0_6
  rw [c_0, c_1, c_2, c_3]
  refine il_four ![shapeCast S256x128 (kC 0 (by decide) (by decide) (by decide) (by decide) (by decide) (kB0 c arg3 harg3 x1) (kM0 c arg3 harg3 x1)) shapeCasts_S256x128_S256x128, shapeCast S256x128 (kC 128 (by decide) (by decide) (by decide) (by decide) (by decide) (kB0 c arg3 harg3 x1) (kM0 c arg3 harg3 x1)) shapeCasts_S256x128_S256x128, shapeCast S256x128 (kC 256 (by decide) (by decide) (by decide) (by decide) (by decide) (kB0 c arg3 harg3 x1) (kM0 c arg3 harg3 x1)) shapeCasts_S256x128_S256x128, shapeCast S256x128 (kC 384 (by decide) (by decide) (by decide) (by decide) (by decide) (kB0 c arg3 harg3 x1) (kM0 c arg3 harg3 x1)) shapeCasts_S256x128_S256x128] (kernelRun0_A.sl.HS0_4 c arg4 harg4 x2) _ _ _ _ _ (fun j s d => kcF (fun s d => nat3 x1 0 s (128 * j + d)) s d) ?_ r d
  intro j s d
  fin_cases j
  · exact (cast_id _ _ s d).trans (kC_v 0 _ _ _ _ _ _ _ _ 0 (kB0_v c arg3 harg3 x1) (v350_v c arg3 harg3 x1) hr _ rfl s d)
  · exact (cast_id _ _ s d).trans (kC_v 128 _ _ _ _ _ _ _ _ 0 (kB0_v c arg3 harg3 x1) (v350_v c arg3 harg3 x1) hr _ rfl s d)
  · exact (cast_id _ _ s d).trans (kC_v 256 _ _ _ _ _ _ _ _ 0 (kB0_v c arg3 harg3 x1) (v350_v c arg3 harg3 x1) hr _ rfl s d)
  · exact (cast_id _ _ s d).trans (kC_v 384 _ _ _ _ _ _ _ _ 0 (kB0_v c arg3 harg3 x1) (v350_v c arg3 harg3 x1) hr _ rfl s d)
/-- of the second's, -/
theorem il_k1 (hr : ∀ c, ∃ r : ℝ, mvF (nat3 x1 0) c = r) (r : Fin 1024) (d : Fin 128) :
    View.canon (Val := Elt Ideal) (e := .f32) (kernelRun0_A.sl.HS0_48 c arg2 harg2 arg3 harg3 arg4 harg4 x0 x1 x2) (ix2 r d) = kcF (fun s d => nat3 x1 0 s (128 * (4 + r.val % 4) + d)) (r.val / 4) d := by
  unfold kernelRun0_A.sl.HS0_48 kernelRun0_A.sl.HS0_47 kernelRun0_A.sl.HS0_46
  rw [c_4, c_5, c_6, c_7]
  refine il_four ![shapeCast S256x128 (kC 0 (by decide) (by decide) (by decide) (by decide) (by decide) (kB1 c arg3 harg3 x1) (kM1 c arg3 harg3 x1)) shapeCasts_S256x128_S256x128, shapeCast S256x128 (kC 128 (by decide) (by decide) (by decide) (by decide) (by decide) (kB1 c arg3 harg3 x1) (kM1 c arg3 harg3 x1)) shapeCasts_S256x128_S256x128, shapeCast S256x128 (kC 256 (by decide) (by decide) (by decide) (by decide) (by decide) (kB1 c arg3 harg3 x1) (kM1 c arg3 harg3 x1)) shapeCasts_S256x128_S256x128, shapeCast S256x128 (kC 384 (by decide) (by decide) (by decide) (by decide) (by decide) (kB1 c arg3 harg3 x1) (kM1 c arg3 harg3 x1)) shapeCasts_S256x128_S256x128] (kernelRun0_A.sl.HS0_44 c arg2 harg2 arg3 harg3 arg4 harg4 x0 x1 x2) _ _ _ _ _ (fun j s d => kcF (fun s d => nat3 x1 0 s (128 * (4 + j) + d)) s d) ?_ r d
  intro j s d
  fin_cases j
  · exact (cast_id _ _ s d).trans (kC_v 0 _ _ _ _ _ _ _ _ 512 (kB1_v c arg3 harg3 x1) (v5800_v c arg3 harg3 x1) hr _ rfl s d)
  · exact (cast_id _ _ s d).trans (kC_v 128 _ _ _ _ _ _ _ _ 512 (kB1_v c arg3 harg3 x1) (v5800_v c arg3 harg3 x1) hr _ rfl s d)
  · exact (cast_id _ _ s d).trans (kC_v 256 _ _ _ _ _ _ _ _ 512 (kB1_v c arg3 harg3 x1) (v5800_v c arg3 harg3 x1) hr _ rfl s d)
  · exact (cast_id _ _ s d).trans (kC_v 384 _ _ _ _ _ _ _ _ 512 (kB1_v c arg3 harg3 x1) (v5800_v c arg3 harg3 x1) hr _ rfl s d)

abbrev vB0 : Vec Ideal S1x256x512 .bf16 := View.readAt (Elt Ideal) arg4.view (Rect.unit (s := S1x256x1024) ![0, 0, 0] S1x256x512.size inb_S1x256x1024_S1x256x512_0_0_0).toLoadRect (harg4.unread x2)
abbrev vB1 : Vec Ideal S1x256x512 .bf16 := View.readAt (Elt Ideal) arg4.view (Rect.unit (s := S1x256x1024) ![0, 0, 512] S1x256x512.size inb_S1x256x1024_S1x256x512_0_0_512).toLoadRect (harg4.unread x2)
/-- of the first group's values, -/
theorem il_v0 (hr : ∀ c, ∃ r : ℝ, mvF (nat3 x2 0) c = r) (r : Fin 1024) (d : Fin 128) :
    View.canon (Val := Elt Ideal) (e := .f32) (kernelRun0_A.sl.HS0_4 c arg4 harg4 x2) (ix2 r d) = vcF (fun s d => nat3 x2 0 s (128 * (r.val % 4) + d)) (r.val / 4) d := by
  refine il_four ![shapeCast S256x128 (vC 0 (by decide) (by decide) (vB0 arg4 harg4 x2)) shapeCasts_S256x128_S256x128, shapeCast S256x128 (vC 128 (by decide) (by decide) (vB0 arg4 harg4 x2)) shapeCasts_S256x128_S256x128, shapeCast S256x128 (vC 256 (by decide) (by decide) (vB0 arg4 harg4 x2)) shapeCasts_S256x128_S256x128, shapeCast S256x128 (vC 384 (by decide) (by decide) (vB0 arg4 harg4 x2)) shapeCasts_S256x128_S256x128] [] _ _ _ _ _ (fun j s d => vcF (fun s d => nat3 x2 0 s (128 * j + d)) s d) ?_ r d
  intro j s d
  fin_cases j
  · exact (cast_id _ _ s d).trans (vC_v 0 _ _ _ _ 0 (ld_0 arg4 harg4 x2) hr _ rfl s d)
  · exact (cast_id _ _ s d).trans (vC_v 128 _ _ _ _ 0 (ld_0 arg4 harg4 x2) hr _ rfl s d)
  · exact (cast_id _ _ s d).trans (vC_v 256 _ _ _ _ 0 (ld_0 arg4 harg4 x2) hr _ rfl s d)
  · exact (cast_id _ _ s d).trans (vC_v 384 _ _ _ _ 0 (ld_0 arg4 harg4 x2) hr _ rfl s d)
/-- and of the second's. -/
theorem il_v1 (hr : ∀ c, ∃ r : ℝ, mvF (nat3 x2 0) c = r) (r : Fin 1024) (d : Fin 128) :
    View.canon (Val := Elt Ideal) (e := .f32) (kernelRun0_A.sl.HS0_44 c arg2 harg2 arg3 harg3 arg4 harg4 x0 x1 x2) (ix2 r d) = vcF (fun s d => nat3 x2 0 s (128 * (4 + r.val % 4) + d)) (r.val / 4) d := by
  refine il_four ![shapeCast S256x128 (vC 0 (by decide) (by decide) (vB1 arg4 harg4 x2)) shapeCasts_S256x128_S256x128, shapeCast S256x128 (vC 128 (by decide) (by decide) (vB1 arg4 harg4 x2)) shapeCasts_S256x128_S256x128, shapeCast S256x128 (vC 256 (by decide) (by decide) (vB1 arg4 harg4 x2)) shapeCasts_S256x128_S256x128, shapeCast S256x128 (vC 384 (by decide) (by decide) (vB1 arg4 harg4 x2)) shapeCasts_S256x128_S256x128] (kernelRun0_A.sl.HS0_40 c arg2 harg2 arg3 harg3 arg4 harg4 x0 x1 x2) _ _ _ _ _ (fun j s d => vcF (fun s d => nat3 x2 0 s (128 * (4 + j) + d)) s d) ?_ r d
  intro j s d
  fin_cases j
  · exact (cast_id _ _ s d).trans (vC_v 0 _ _ _ _ 512 (ld_512 arg4 harg4 x2) hr _ rfl s d)
  · exact (cast_id _ _ s d).trans (vC_v 128 _ _ _ _ 512 (ld_512 arg4 harg4 x2) hr _ rfl s d)
  · exact (cast_id _ _ s d).trans (vC_v 256 _ _ _ _ 512 (ld_512 arg4 harg4 x2) hr _ rfl s d)
  · exact (cast_id _ _ s d).trans (vC_v 384 _ _ _ _ 512 (ld_512 arg4 harg4 x2) hr _ rfl s d)
end

variable (m : (ℓ : Loc nD τ sig) → Buf (Elt Ideal) ℓ)

/-- A piece's local index is its place less the piece's offset. -/
theorem ix4_off (s : Fin 256) (h : Fin 8) (d : Fin 128) (o : Fin 4 → ℕ) (x : S1x8x4x128.Idx)
    (hx : ∀ e : Fin 4, ((ix4 0 s h d : S1x256x8x128.Idx) e : ℕ) = o e + (x e : ℕ)) (h3 : o 3 = 0) :
    ∃ (b : Fin 8) (j : Fin 4), x = ix4 0 b j d ∧ s.val = o 1 + b.val ∧ h.val = o 2 + j.val := by
  refine ⟨x 1, x 2, ?_, hx 1, hx 2⟩
  funext e
  refine Fin.ext ?_
  have h0 : (x 0).val < 1 := (x 0).isLt
  have := hx 3
  fin_cases e <;> simp [ix4] at this h0 ⊢ <;> omega

theorem out7 (c : Dev nD) (t : Fin cfg0.N) (y5 : Vec Ideal S1x2x64 .f32) (y8 : Vec Ideal S1x4x16 .f32) (hm : ∀ k, ∃ r : ℝ, mvF (nat3 (iblk m c 1 t) 0) k = r) (s : Fin 256) (h : Fin 8) (d : Fin 128) :
    View.canon (pcs_7 m c t y5 y8) (ix4 0 s h d) = kcF (fun s d => nat3 (iblk m c 1 t) 0 s (128 * h + d)) s d := by
  refine View.canon_eq_of_allAt _ _ _ (cover_7 m c t y5 y8 _) ?_
  have L0 := il_k0 c (ms0_1 t) (ms0_2 t) (hs0_1 t) (hs0_2 t) (iblk m c 1 t) (iblk m c 2 t) hm
  have L1 := il_k1 c (ms0_0 t) (hs0_0 t) (ms0_1 t) (ms0_2 t) (hs0_1 t) (hs0_2 t) (iblk m c 0 t) (iblk m c 1 t) (iblk m c 2 t) hm
  unfold pcs_7 runAt kernelRun0_A
  iterate 32
    refine View.allAt_cons_unit _ _ _ _ _ (fun x hx => ?_) ?_
    · obtain ⟨b, j, rfl, hs, hh⟩ := ix4_off s h d _ x hx rfl
      refine (il_piece _ _ _ _ (fun j s d => kcF (fun s d => nat3 (iblk m c 1 t) 0 s (128 * (4 + j) + d)) s d) L1 _ _ _ rfl rfl b j d).trans ?_
      simp only [hs, hh]; rfl
  iterate 32
    refine View.allAt_cons_unit _ _ _ _ _ (fun x hx => ?_) ?_
    · obtain ⟨b, j, rfl, hs, hh⟩ := ix4_off s h d _ x hx rfl
      refine (il_piece _ _ _ _ (fun j s d => kcF (fun s d => nat3 (iblk m c 1 t) 0 s (128 * j + d)) s d) L0 _ _ _ rfl rfl b j d).trans ?_
      simp only [hs, hh]; simp
  exact View.allAt_nil _ _

theorem out10 (c : Dev nD) (t : Fin cfg0.N) (y5 : Vec Ideal S1x2x64 .f32) (y8 : Vec Ideal S1x4x16 .f32) (hm : ∀ k, ∃ r : ℝ, mvF (nat3 (iblk m c 2 t) 0) k = r) (s : Fin 256) (h : Fin 8) (d : Fin 128) :
    View.canon (pcs_10 m c t y5 y8) (ix4 0 s h d) = vcF (fun s d => nat3 (iblk m c 2 t) 0 s (128 * h + d)) s d := by
  refine View.canon_eq_of_allAt _ _ _ (cover_10 m c t y5 y8 _) ?_
  have L0 := il_v0 c (ms0_2 t) (hs0_2 t) (iblk m c 2 t) hm
  have L1 := il_v1 c (ms0_0 t) (hs0_0 t) (ms0_1 t) (ms0_2 t) (hs0_1 t) (hs0_2 t) (iblk m c 0 t) (iblk m c 1 t) (iblk m c 2 t) hm
  unfold pcs_10 runAt kernelRun0_A
  iterate 32
    refine View.allAt_cons_unit _ _ _ _ _ (fun x hx => ?_) ?_
    · obtain ⟨b, j, rfl, hs, hh⟩ := ix4_off s h d _ x hx rfl
      refine (il_piece _ _ _ _ (fun j s d => vcF (fun s d => nat3 (iblk m c 2 t) 0 s (128 * (4 + j) + d)) s d) L1 _ _ _ rfl rfl b j d).trans ?_
      simp only [hs, hh]; rfl
  iterate 32
    refine View.allAt_cons_unit _ _ _ _ _ (fun x hx => ?_) ?_
    · obtain ⟨b, j, rfl, hs, hh⟩ := ix4_off s h d _ x hx rfl
      refine (il_piece _ _ _ _ (fun j s d => vcF (fun s d => nat3 (iblk m c 2 t) 0 s (128 * j + d)) s d) L0 _ _ _ rfl rfl b j d).trans ?_
      simp only [hs, hh]; simp
  exact View.allAt_nil _ _

end Cert.KernelIdeal.Gen
-- ==== Proof.QModel.lean ====
/- The means, scales and codes of the queries, as the kernel computes them. -/
module
public import proofs.«01_k».proof.Proof.KModel
@[expose] public section
set_option maxRecDepth 16384
noncomputable section
namespace Cert.KernelIdeal.Gen
open Idealize.ShloMosaic Idealize.ShloMosaic.TcCoe Idealize.ShloMosaic.Tactic
open Cert.Sage

/-- The rows that sum each half of the tokens. -/
abbrev qG : FVec Ideal S16x256 .bf16 := truncf .bf16 kernelRun0_A.sl.v30 bitsLt_bf16_f32

theorem qG_i : ∀ n : Fin 2, ∀ s : Fin 256, (kernelRun0_A.sl.v1 (ix2 (⟨n.val, by omega⟩ : Fin 16) s) == kernelRun0_A.sl.v26 (ix2 (⟨n.val, by omega⟩ : Fin 16) s)) = decide (s.val / 128 = n.val) := by
  decide +kernel

theorem qG_v (n : Fin 2) (s : Fin 256) : qG (ix2 (⟨n.val, by omega⟩ : Fin 16) s) = if s.val / 128 = n.val then 1 else 0 := by
  have hv := qG_i n s
  unfold qG kernelRun0_A.sl.v30
  generalize kernelRun0_A.sl.v1 = a at hv ⊢
  generalize kernelRun0_A.sl.v26 = b at hv ⊢
  pointwise [kernelRun0_A.sl.cst_4, kernelRun0_A.sl.cst_5]
  simp only [IntOp.cmpi, hv]
  by_cases h : s.val / 128 = n.val <;> simp [h, Scalar.select]

/-- The means of the halves. -/
def qM (B : FVec Ideal S256x512 .bf16) : FVec Ideal S2x512 .f32 :=
  extf .f32 (truncf .bf16 (mulf (extractStridedSlice S2x512 ![0, 0] (matmul dot_S16x256_S256x512_S16x512_1_0_0_1_n_n none qG B (constant S16x512 .f32 0#32)) slices_S16x512_o0_0_S2x512)
    (broadcast S2x512 (Scalar.ofBits .f32 1006632960#32))) bitsLt_bf16_f32) bitsLt_bf16_f32

theorem qM_v (B : FVec Ideal S256x512 .bf16) (X : ℕ → ℕ → EReal) (o : ℕ) (hB : ∀ (s : Fin 256) (c : Fin 512), B (ix2 s c) = X s (o + c)) (n : Fin 2) (c : Fin 512) :
    qM B (ix2 n c) = mqF X n (o + c) := by
  have hG := qG_v n
  unfold qM
  generalize qG = G at hG ⊢
  pointwise
  have hG' : ∀ (p) (s : Fin 256), G (ix2 ⟨n.val, p⟩ s) = if s.val / 128 = n.val then 1 else 0 := fun _ s => hG s
  simp only [hG', hB, ite_mul, one_mul, zero_mul]
  rw [mul_inv_128]
  unfold mqF
  congr 1
  rw [← Finset.sum_filter]
  have hn := n.isLt
  refine Finset.sum_bij' (fun s _ => s.val - 128 * n.val) (fun k hk => ⟨128 * n.val + k, by have := Finset.mem_range.mp hk; omega⟩) ?_ ?_ ?_ ?_ ?_
  · intro s hs
    have h1 := (Finset.mem_filter.mp hs).2
    simp only [Finset.mem_range]; omega
  · intro k hk
    have := Finset.mem_range.mp hk
    simp only [Finset.mem_filter, Finset.mem_univ, true_and]; omega
  · intro s hs
    have h1 := (Finset.mem_filter.mp hs).2
    apply Fin.ext; simp only; omega
  · intro k hk; simp
  · intro s hs
    have h1 := (Finset.mem_filter.mp hs).2
    congr 1; omega

/-- The largest distance of half of the rows of a block from a row of means. -/
def qdev (o om : Fin 2 → ℕ) (ho : S256x512.Slices o S128x512) (hm : S2x512.Slices om S1x512) (B : FVec Ideal S256x512 .bf16) (M : FVec Ideal S2x512 .f32) : FVec Ideal S1x512 .f32 :=
  have a := shapeCast S8x16x512 (extractStridedSlice S128x512 o B ho) shapeCasts_S128x512_S8x16x512
  have hi : FVec Ideal S16x512 .f32 := extf .f32 (multiReduction (F := Ideal) (φ := .bf16) .maximumf [0] S16x512 a 0xFF80#16 reduces_S8x16x512_S16x512 (.inr rfl) rfl) bitsLt_bf16_f32
  have lo : FVec Ideal S16x512 .f32 := extf .f32 (multiReduction (F := Ideal) (φ := .bf16) .minimumf [0] S16x512 a 0x7F80#16 reduces_S8x16x512_S16x512 (.inr rfl) rfl) bitsLt_bf16_f32
  k0_pay79 (F := Ideal) (extractStridedSlice S1x512 om M hm) hi lo

theorem qdev_v (o om : Fin 2 → ℕ) (ho hm0) (B : FVec Ideal S256x512 .bf16) (M : FVec Ideal S2x512 .f32) (X : ℕ → ℕ → EReal) (k n r0 : ℕ)
    (hB : ∀ (s : Fin 256) (c : Fin 512), B (ix2 s c) = X s (k + c)) (hk : ∀ (n : Fin 2) (c : Fin 512), M (ix2 n c) = mqF X n (k + c))
    (hr : ∀ c, ∃ r : ℝ, mqF X n c = r) (h0 : o = ![r0, 0]) (h1 : om = ![n, 0]) (c : Fin 512) :
    qdev o om ho hm0 B M (ix2 0 c) = (Finset.range 128).sup fun s => ab (X (r0 + s) (k + c) - mqF X n (k + c)) := by
  subst h0 h1
  pointwise [qdev, k0_pay79]
  have hb : ∀ (p q), B (ix2 p q) = X p.val (k + q.val) := fun p q => hB p q
  have hm' : ∀ (p q), M (ix2 p q) = mqF X p.val (k + q.val) := fun p q => hk p q
  rw [fold16_max 8 128 rfl _ _ ofBits_neg_inf_f32 ofBits_neg_inf_bf16 (fun s => X (r0 + s) (k + c)) _ (fun x y => by rw [hb]),
    fold16_min 8 128 rfl _ _ ofBits_inf_f32 ofBits_inf_bf16 (fun s => X (r0 + s) (k + c)) _ (fun x y => by rw [hb]), hm']
  obtain ⟨r, hr⟩ := hr (k + c)
  unfold ab
  simp only [Matrix.cons_val_zero, Matrix.cons_val_one, Nat.zero_add, hr]
  rw [sup_abs_sub _ ⟨0, by simp⟩]

def qhex (p : FVec Ideal S8x1 .f32) : FVec Ideal S8x1 .f32 :=
  addf (floor (mulf (log p) (broadcast S8x1 (Named.named κ "log2e" 0x3FB8AA3B#32)))) (broadcast S8x1 (Scalar.ofBits .f32 0x3F800000#32))
def qz (p : FVec Ideal S8x1 .f32) : IVec S8x1 1 := cmpf .oeq p (broadcast S8x1 (Scalar.ofBits .f32 0x00000000#32))
/-- The scales. -/
def qsc (p : FVec Ideal S8x1 .f32) : FVec Ideal S8x1 .f32 :=
  select (qz p) (broadcast S8x1 (Scalar.ofBits .f32 0x3F800000#32)) (exp2 (qhex p))
/-- Their inverses. -/
def qinv (p : FVec Ideal S8x1 .f32) : FVec Ideal S8x1 .f32 :=
  select (qz p) (broadcast S8x1 (Scalar.ofBits .f32 0x3F800000#32)) (exp2 (subf (broadcast S8x1 (Scalar.ofBits .f32 0x00000000#32)) (qhex p)))

theorem qinv_v (p : FVec Ideal S8x1 .f32) (g : Fin 8) (a : EReal) (hp : p (ix2 g 0) = a * c448) : qinv p (ix2 g 0) = sinv a := by
  pointwise [qinv, qz, qhex]
  rw [hp, ← kinv_eq]
  rfl
theorem qsc_v (p : FVec Ideal S8x1 .f32) (g : Fin 8) (a : EReal) (hp : p (ix2 g 0) = a * c448) : qsc p (ix2 g 0) = sc a := by
  pointwise [qsc, qz, qhex]
  rw [hp, ← ksc_eq]
  rfl

/-- Eight rows taken from two, four heads each. -/
def qp (d0 d1 : FVec Ideal S1x512 .f32) : FVec Ideal S8x1 .f32 :=
  have c : FVec Ideal S8x128 .f32 := concatenate S8x128 0 [⟨S1x128, extractStridedSlice S1x128 ![0, 0] d0 (by decide)⟩, ⟨S1x128, extractStridedSlice S1x128 ![0, 128] d0 (by decide)⟩, ⟨S1x128, extractStridedSlice S1x128 ![0, 256] d0 (by decide)⟩, ⟨S1x128, extractStridedSlice S1x128 ![0, 384] d0 (by decide)⟩,
    ⟨S1x128, extractStridedSlice S1x128 ![0, 0] d1 (by decide)⟩, ⟨S1x128, extractStridedSlice S1x128 ![0, 128] d1 (by decide)⟩, ⟨S1x128, extractStridedSlice S1x128 ![0, 256] d1 (by decide)⟩, ⟨S1x128, extractStridedSlice S1x128 ![0, 384] d1 (by decide)⟩] concatenates_S1x128_S1x128_S1x128_S1x128_S1x128_S1x128_S1x128_S1x128_S8x128_d0
  mulf (shapeCast S8x1 (multiReduction .maximumf [1] S8 c 0xFF800000#32 reduces_S8x128_S8 (.inl rfl) rfl) shapeCasts_S8_S8x1) (broadcast S8x1 (Scalar.ofBits .f32 0x3B124925#32))

theorem qp_v (d0 d1 : FVec Ideal S1x512 .f32) (f : ℕ → ℕ → EReal) (k : ℕ)
    (h0 : ∀ c : Fin 512, d0 (ix2 0 c) = f 0 (k + c)) (h1 : ∀ c : Fin 512, d1 (ix2 0 c) = f 1 (k + c)) (g : Fin 8) :
    qp d0 d1 (ix2 g 0) = ((Finset.range 128).sup fun d => f (g / 4) (k + 128 * (g % 4) + d)) * c448 := by
  have e0 := sl_v d0 ![0, 0] (by decide) (f 0) k h0 _ rfl
  have e1 := sl_v d0 ![0, 128] (by decide) (f 0) k h0 _ rfl
  have e2 := sl_v d0 ![0, 256] (by decide) (f 0) k h0 _ rfl
  have e3 := sl_v d0 ![0, 384] (by decide) (f 0) k h0 _ rfl
  have e4 := sl_v d1 ![0, 0] (by decide) (f 1) k h1 _ rfl
  have e5 := sl_v d1 ![0, 128] (by decide) (f 1) k h1 _ rfl
  have e6 := sl_v d1 ![0, 256] (by decide) (f 1) k h1 _ rfl
  have e7 := sl_v d1 ![0, 384] (by decide) (f 1) k h1 _ rfl
  unfold qp
  generalize extractStridedSlice S1x128 ![0, 0] d0 _ = a0 at e0 ⊢
  generalize extractStridedSlice S1x128 ![0, 128] d0 _ = a1 at e1 ⊢
  generalize extractStridedSlice S1x128 ![0, 256] d0 _ = a2 at e2 ⊢
  generalize extractStridedSlice S1x128 ![0, 384] d0 _ = a3 at e3 ⊢
  generalize extractStridedSlice S1x128 ![0, 0] d1 _ = a4 at e4 ⊢
  generalize extractStridedSlice S1x128 ![0, 128] d1 _ = a5 at e5 ⊢
  generalize extractStridedSlice S1x128 ![0, 256] d1 _ = a6 at e6 ⊢
  generalize extractStridedSlice S1x128 ![0, 384] d1 _ = a7 at e7 ⊢
  pointwise
  rw [fold_max_range 128 _ ofBits_neg_inf_f32 (fun d => f (g / 4) (k + 128 * (g % 4) + d))]
  · rfl
  · intro d
    fin_vals g with hk <;> simp [hk, e0, e1, e2, e3, e4, e5, e6, e7]

/-- The scaled distances of a block, -/
def qP (B : FVec Ideal S256x512 .bf16) : FVec Ideal S8x1 .f32 :=
  qp (qdev ![0, 0] ![0, 0] (by decide) (by decide) B (qM B)) (qdev ![128, 0] ![1, 0] (by decide) (by decide) B (qM B))

theorem qP_v (B : FVec Ideal S256x512 .bf16) (X : ℕ → ℕ → EReal) (k : ℕ) (hB : ∀ (s : Fin 256) (c : Fin 512), B (ix2 s c) = X s (k + c))
    (hr : ∀ n c, ∃ r : ℝ, mqF X n c = r) (g : Fin 8) :
    qP B (ix2 g 0) = qaF (fun s d => X s (k + 128 * (g % 4) + d)) (g / 4) * c448 := by
  have e := fun (n r0 : ℕ) o om ho hm h0 h1 => qdev_v o om ho hm B (qM B) X k n r0 hB (qM_v B X k hB) (hr n) h0 h1
  unfold qP
  rw [qp_v _ _ (fun g x => (Finset.range 128).sup fun s => ab (X (128 * g + s) x - mqF X g x)) k (e 0 0 _ _ _ _ rfl rfl) (e 1 128 _ _ _ _ rfl rfl)]
  congr 1
  unfold qaF
  refine eq_of_forall_ge_iff fun z => ?_
  simp only [Finset.sup_le_iff, Finset.mem_range, Finset.mem_product, Prod.forall]
  exact ⟨fun h a b hab => h b hab.2 a hab.1, fun h b hb a ha => h a b ⟨ha, hb⟩⟩

/-- and the codes of half a head. -/
def qC (o om oi : Fin 2 → ℕ) (ho : S256x512.Slices o S128x128) (hm : S2x512.Slices om S1x128) (hi : S8x1.Slices oi S1x1)
    (B : FVec Ideal S256x512 .bf16) : FVec Ideal S128x128 .f32 :=
  minimumf (maximumf (mulf (subf (extf .f32 (extractStridedSlice S128x128 o B ho) bitsLt_bf16_f32) (broadcastTo S128x128 (extractStridedSlice S1x128 om (qM B) hm) broadcasts_S1x128_S128x128))
    (broadcastTo S128x128 (extractStridedSlice S1x1 oi (qinv (qP B)) hi) broadcasts_S1x1_S128x128)) (broadcast S128x128 (Scalar.ofBits .f32 0xC3E00000#32))) (broadcast S128x128 (Scalar.ofBits .f32 0x43E00000#32))

theorem qC_v (o om oi : Fin 2 → ℕ) (ho hm hi) (B : FVec Ideal S256x512 .bf16) (X : ℕ → ℕ → EReal) (k : ℕ) (hB : ∀ (s : Fin 256) (c : Fin 512), B (ix2 s c) = X s (k + c))
    (hr : ∀ n c, ∃ r : ℝ, mqF X n c = r) (g n : ℕ) (hg : g < 4) (hn : n < 2) (h0 : o = ![128 * n, 128 * g]) (h1 : om = ![n, 128 * g]) (h2 : oi = ![4 * n + g, 0]) (s d : Fin 128) :
    qC o om oi ho hm hi B (ix2 s d) = qcF (fun s d => X s (k + 128 * g + d)) (128 * n + s) d := by
  subst h0 h1 h2
  have hM := qM_v B X k hB
  have hP := fun g => qinv_v _ g _ (qP_v B X k hB hr g)
  unfold qC
  generalize qM B = M at hM ⊢
  generalize qinv (qP B) = inv at hP ⊢
  pointwise
  have hb : ∀ (p q), B (ix2 p q) = X p.val (k + q.val) := fun p q => hB p q
  have hm' : ∀ (p q), M (ix2 p q) = mqF X p.val (k + q.val) := fun p q => hM p q
  have hu' : ∀ (p q), inv (ix2 p q) = sinv (qaF (fun s d => X s (k + 128 * (p.val % 4) + d)) (p.val / 4)) := fun p q => by rw [Subsingleton.elim q 0, hP]
  rw [hb, hm', hu']
  have hs := s.isLt
  have e1 : (128 * n + s.val) / 128 = n := by omega
  have e2 : (4 * n + g) % 4 = g := by omega
  have e3 : (4 * n + g) / 4 = n := by omega
  simp [code, add_assoc, qcF, e1, e2, e3, mqF]
end Cert.KernelIdeal.Gen
-- ==== Proof.QCodes.lean ====
/- What the interleaved buffer holds of the queries, and the queries' codes. -/
module
public import proofs.«01_k».proof.Proof.Codes
public import proofs.«01_k».proof.Proof.QModel
@[expose] public section
set_option maxRecDepth 16384
noncomputable section
namespace Cert.KernelIdeal.Gen
open Idealize.ShloMosaic Idealize.ShloMosaic.TcCoe Idealize.ShloMosaic.Tactic
open Cert.Sage

section
variable (c : Dev nD) (arg2 : Memref sig .tc .vmem S1x256x4096 .bf16) (harg2 : arg2.IsWhole) (arg3 arg4 : Memref sig .tc .vmem S1x256x1024 .bf16) (harg3 : arg3.IsWhole) (harg4 : arg4.IsWhole)
  (x0 : Vec Ideal S1x256x4096 .bf16) (x1 x2 : Vec Ideal S1x256x1024 .bf16)
theorem ld_q (o : ℕ) (ho : o + 512 ≤ 4096) (inb) (arg2 : Memref sig .tc .vmem S1x256x4096 .bf16) (harg2 : arg2.IsWhole) (x0 : Vec Ideal S1x256x4096 .bf16) (s : Fin 256) (k : Fin 512) :
    View.readAt (Elt Ideal) arg2.view (Rect.unit (s := S1x256x4096) ![0, 0, o] S1x256x512.size inb).toLoadRect (harg2.unread x0) (ix3 0 s k) = nat3 x0 0 s (o + k) := by
  rw [harg2.readAt_unread]
  refine nat_eq _ _ _ ?_
  intro a; fin_cases a <;> simp [l3, LoadRect.idx, ix3]
theorem qcF_congr (X Y : ℕ → ℕ → EReal) (h : ∀ s d, X s d = Y s d) (s d : ℕ) : qcF X s d = qcF Y s d := by
  rw [show X = Y from funext fun s => funext fun d => h s d]

abbrev qB0 := kernelRun0_A.sl.v944 c arg2 harg2 x0
theorem qB0_v (s : Fin 256) (k : Fin 512) : qB0 c arg2 harg2 x0 (ix2 s k) = nat3 x0 0 s (0 + k) := by
  rw [← ld_q 0 (by decide) (by decide) arg2 harg2 x0 s k]; unfold qB0 kernelRun0_A.sl.v944; pointwise
theorem qm_0 : kernelRun0_A.sl.v950 c arg2 harg2 x0 = qM (qB0 c arg2 harg2 x0) := rfl
theorem q_0_3_1 : kernelRun0_A.sl.v1162 c arg2 harg2 x0 = (shapeCast S128x128 (qC ![128, 384] ![1, 384] ![7, 0] (by decide) (by decide) (by decide) (qB0 c arg2 harg2 x0)) shapeCasts_S128x128_S128x128) := rfl
theorem q_0_3_0 : kernelRun0_A.sl.v1147 c arg2 harg2 x0 = (shapeCast S128x128 (qC ![0, 384] ![0, 384] ![3, 0] (by decide) (by decide) (by decide) (qB0 c arg2 harg2 x0)) shapeCasts_S128x128_S128x128) := rfl
theorem q_0_2_1 : kernelRun0_A.sl.v1121 c arg2 harg2 x0 = (shapeCast S128x128 (qC ![128, 256] ![1, 256] ![6, 0] (by decide) (by decide) (by decide) (qB0 c arg2 harg2 x0)) shapeCasts_S128x128_S128x128) := rfl
theorem q_0_2_0 : kernelRun0_A.sl.v1106 c arg2 harg2 x0 = (shapeCast S128x128 (qC ![0, 256] ![0, 256] ![2, 0] (by decide) (by decide) (by decide) (qB0 c arg2 harg2 x0)) shapeCasts_S128x128_S128x128) := rfl
theorem q_0_1_1 : kernelRun0_A.sl.v1080 c arg2 harg2 x0 = (shapeCast S128x128 (qC ![128, 128] ![1, 128] ![5, 0] (by decide) (by decide) (by decide) (qB0 c arg2 harg2 x0)) shapeCasts_S128x128_S128x128) := rfl
theorem q_0_1_0 : kernelRun0_A.sl.v1065 c arg2 harg2 x0 = (shapeCast S128x128 (qC ![0, 128] ![0, 128] ![1, 0] (by decide) (by decide) (by decide) (qB0 c arg2 harg2 x0)) shapeCasts_S128x128_S128x128) := rfl
theorem q_0_0_1 : kernelRun0_A.sl.v1039 c arg2 harg2 x0 = (shapeCast S128x128 (qC ![128, 0] ![1, 0] ![4, 0] (by decide) (by decide) (by decide) (qB0 c arg2 harg2 x0)) shapeCasts_S128x128_S128x128) := rfl
theorem q_0_0_0 : k0_pay185 (F := Ideal) (kernelRun0_A.sl.v944 c arg2 harg2 x0) (kernelRun0_A.sl.v950 c arg2 harg2 x0) (kernelRun0_A.sl.v991 c arg2 harg2 x0) (broadcast S8x1 kernelRun0_A.sl.cst_486) = (shapeCast S128x128 (qC ![0, 0] ![0, 0] ![0, 0] (by decide) (by decide) (by decide) (qB0 c arg2 harg2 x0)) shapeCasts_S128x128_S128x128) := rfl
theorem il_q0 (hr : ∀ n c, ∃ r : ℝ, mqF (nat3 x0 0) n c = r) (r : Fin 1024) (d : Fin 128) :
    View.canon (Val := Elt Ideal) (e := .f32) (kernelRun0_A.sl.HS0_16 c arg2 harg2 arg3 harg3 arg4 harg4 x0 x1 x2) (ix2 r d) = qcF (fun s d => nat3 x0 0 s (0 + 128 * (r.val % 4) + d)) (r.val / 4) d := by
  unfold kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9
  rw [q_0_0_0, q_0_0_1, q_0_1_0, q_0_1_1, q_0_2_0, q_0_2_1, q_0_3_0, q_0_3_1]
  refine il_eight ![![(shapeCast S128x128 (qC ![0, 0] ![0, 0] ![0, 0] (by decide) (by decide) (by decide) (qB0 c arg2 harg2 x0)) shapeCasts_S128x128_S128x128), (shapeCast S128x128 (qC ![128, 0] ![1, 0] ![4, 0] (by decide) (by decide) (by decide) (qB0 c arg2 harg2 x0)) shapeCasts_S128x128_S128x128)], ![(shapeCast S128x128 (qC ![0, 128] ![0, 128] ![1, 0] (by decide) (by decide) (by decide) (qB0 c arg2 harg2 x0)) shapeCasts_S128x128_S128x128), (shapeCast S128x128 (qC ![128, 128] ![1, 128] ![5, 0] (by decide) (by decide) (by decide) (qB0 c arg2 harg2 x0)) shapeCasts_S128x128_S128x128)], ![(shapeCast S128x128 (qC ![0, 256] ![0, 256] ![2, 0] (by decide) (by decide) (by decide) (qB0 c arg2 harg2 x0)) shapeCasts_S128x128_S128x128), (shapeCast S128x128 (qC ![128, 256] ![1, 256] ![6, 0] (by decide) (by decide) (by decide) (qB0 c arg2 harg2 x0)) shapeCasts_S128x128_S128x128)], ![(shapeCast S128x128 (qC ![0, 384] ![0, 384] ![3, 0] (by decide) (by decide) (by decide) (qB0 c arg2 harg2 x0)) shapeCasts_S128x128_S128x128), (shapeCast S128x128 (qC ![128, 384] ![1, 384] ![7, 0] (by decide) (by decide) (by decide) (qB0 c arg2 harg2 x0)) shapeCasts_S128x128_S128x128)]] (kernelRun0_A.sl.HS0_8 c arg3 harg3 arg4 harg4 x1 x2) _ _ _ _ _ _ _ _ _ (fun j s d => qcF (fun s d => nat3 x0 0 s (0 + 128 * j + d)) s d) ?_ r d
  intro j n s d
  fin_cases j <;> fin_cases n
  · exact (cast_id' _ _ s d).trans (qC_v _ _ _ _ _ _ _ (nat3 x0 0) 0 (qB0_v c arg2 harg2 x0) hr 0 0 (by decide) (by decide) rfl rfl rfl s d)
  · exact (cast_id' _ _ s d).trans (qC_v _ _ _ _ _ _ _ (nat3 x0 0) 0 (qB0_v c arg2 harg2 x0) hr 0 1 (by decide) (by decide) rfl rfl rfl s d)
  · exact (cast_id' _ _ s d).trans (qC_v _ _ _ _ _ _ _ (nat3 x0 0) 0 (qB0_v c arg2 harg2 x0) hr 1 0 (by decide) (by decide) rfl rfl rfl s d)
  · exact (cast_id' _ _ s d).trans (qC_v _ _ _ _ _ _ _ (nat3 x0 0) 0 (qB0_v c arg2 harg2 x0) hr 1 1 (by decide) (by decide) rfl rfl rfl s d)
  · exact (cast_id' _ _ s d).trans (qC_v _ _ _ _ _ _ _ (nat3 x0 0) 0 (qB0_v c arg2 harg2 x0) hr 2 0 (by decide) (by decide) rfl rfl rfl s d)
  · exact (cast_id' _ _ s d).trans (qC_v _ _ _ _ _ _ _ (nat3 x0 0) 0 (qB0_v c arg2 harg2 x0) hr 2 1 (by decide) (by decide) rfl rfl rfl s d)
  · exact (cast_id' _ _ s d).trans (qC_v _ _ _ _ _ _ _ (nat3 x0 0) 0 (qB0_v c arg2 harg2 x0) hr 3 0 (by decide) (by decide) rfl rfl rfl s d)
  · exact (cast_id' _ _ s d).trans (qC_v _ _ _ _ _ _ _ (nat3 x0 0) 0 (qB0_v c arg2 harg2 x0) hr 3 1 (by decide) (by decide) rfl rfl rfl s d)
abbrev qB1 := kernelRun0_A.sl.v2081 c arg2 harg2 x0
theorem qB1_v (s : Fin 256) (k : Fin 512) : qB1 c arg2 harg2 x0 (ix2 s k) = nat3 x0 0 s (512 + k) := by
  rw [← ld_q 512 (by decide) (by decide) arg2 harg2 x0 s k]; unfold qB1 kernelRun0_A.sl.v2081; pointwise
theorem qm_1 : kernelRun0_A.sl.v2087 c arg2 harg2 x0 = qM (qB1 c arg2 harg2 x0) := rfl
theorem q_1_3_1 : kernelRun0_A.sl.v2299 c arg2 harg2 x0 = (shapeCast S128x128 (qC ![128, 384] ![1, 384] ![7, 0] (by decide) (by decide) (by decide) (qB1 c arg2 harg2 x0)) shapeCasts_S128x128_S128x128) := rfl
theorem q_1_3_0 : kernelRun0_A.sl.v2284 c arg2 harg2 x0 = (shapeCast S128x128 (qC ![0, 384] ![0, 384] ![3, 0] (by decide) (by decide) (by decide) (qB1 c arg2 harg2 x0)) shapeCasts_S128x128_S128x128) := rfl
theorem q_1_2_1 : kernelRun0_A.sl.v2258 c arg2 harg2 x0 = (shapeCast S128x128 (qC ![128, 256] ![1, 256] ![6, 0] (by decide) (by decide) (by decide) (qB1 c arg2 harg2 x0)) shapeCasts_S128x128_S128x128) := rfl
theorem q_1_2_0 : kernelRun0_A.sl.v2243 c arg2 harg2 x0 = (shapeCast S128x128 (qC ![0, 256] ![0, 256] ![2, 0] (by decide) (by decide) (by decide) (qB1 c arg2 harg2 x0)) shapeCasts_S128x128_S128x128) := rfl
theorem q_1_1_1 : kernelRun0_A.sl.v2217 c arg2 harg2 x0 = (shapeCast S128x128 (qC ![128, 128] ![1, 128] ![5, 0] (by decide) (by decide) (by decide) (qB1 c arg2 harg2 x0)) shapeCasts_S128x128_S128x128) := rfl
theorem q_1_1_0 : kernelRun0_A.sl.v2202 c arg2 harg2 x0 = (shapeCast S128x128 (qC ![0, 128] ![0, 128] ![1, 0] (by decide) (by decide) (by decide) (qB1 c arg2 harg2 x0)) shapeCasts_S128x128_S128x128) := rfl
theorem q_1_0_1 : kernelRun0_A.sl.v2176 c arg2 harg2 x0 = (shapeCast S128x128 (qC ![128, 0] ![1, 0] ![4, 0] (by decide) (by decide) (by decide) (qB1 c arg2 harg2 x0)) shapeCasts_S128x128_S128x128) := rfl
theorem q_1_0_0 : k0_pay356 (F := Ideal) (kernelRun0_A.sl.v2081 c arg2 harg2 x0) (kernelRun0_A.sl.v2087 c arg2 harg2 x0) (kernelRun0_A.sl.v2128 c arg2 harg2 x0) = (shapeCast S128x128 (qC ![0, 0] ![0, 0] ![0, 0] (by decide) (by decide) (by decide) (qB1 c arg2 harg2 x0)) shapeCasts_S128x128_S128x128) := rfl
theorem il_q1 (hr : ∀ n c, ∃ r : ℝ, mqF (nat3 x0 0) n c = r) (r : Fin 1024) (d : Fin 128) :
    View.canon (Val := Elt Ideal) (e := .f32) (kernelRun0_A.sl.HS0_24 c arg2 harg2 arg3 harg3 arg4 harg4 x0 x1 x2) (ix2 r d) = qcF (fun s d => nat3 x0 0 s (512 + 128 * (r.val % 4) + d)) (r.val / 4) d := by
  unfold kernelRun0_A.sl.HS0_24 kernelRun0_A.sl.HS0_23 kernelRun0_A.sl.HS0_22 kernelRun0_A.sl.HS0_21 kernelRun0_A.sl.HS0_20 kernelRun0_A.sl.HS0_19 kernelRun0_A.sl.HS0_18 kernelRun0_A.sl.HS0_17
  rw [q_1_0_0, q_1_0_1, q_1_1_0, q_1_1_1, q_1_2_0, q_1_2_1, q_1_3_0, q_1_3_1]
  refine il_eight ![![(shapeCast S128x128 (qC ![0, 0] ![0, 0] ![0, 0] (by decide) (by decide) (by decide) (qB1 c arg2 harg2 x0)) shapeCasts_S128x128_S128x128), (shapeCast S128x128 (qC ![128, 0] ![1, 0] ![4, 0] (by decide) (by decide) (by decide) (qB1 c arg2 harg2 x0)) shapeCasts_S128x128_S128x128)], ![(shapeCast S128x128 (qC ![0, 128] ![0, 128] ![1, 0] (by decide) (by decide) (by decide) (qB1 c arg2 harg2 x0)) shapeCasts_S128x128_S128x128), (shapeCast S128x128 (qC ![128, 128] ![1, 128] ![5, 0] (by decide) (by decide) (by decide) (qB1 c arg2 harg2 x0)) shapeCasts_S128x128_S128x128)], ![(shapeCast S128x128 (qC ![0, 256] ![0, 256] ![2, 0] (by decide) (by decide) (by decide) (qB1 c arg2 harg2 x0)) shapeCasts_S128x128_S128x128), (shapeCast S128x128 (qC ![128, 256] ![1, 256] ![6, 0] (by decide) (by decide) (by decide) (qB1 c arg2 harg2 x0)) shapeCasts_S128x128_S128x128)], ![(shapeCast S128x128 (qC ![0, 384] ![0, 384] ![3, 0] (by decide) (by decide) (by decide) (qB1 c arg2 harg2 x0)) shapeCasts_S128x128_S128x128), (shapeCast S128x128 (qC ![128, 384] ![1, 384] ![7, 0] (by decide) (by decide) (by decide) (qB1 c arg2 harg2 x0)) shapeCasts_S128x128_S128x128)]] (kernelRun0_A.sl.HS0_16 c arg2 harg2 arg3 harg3 arg4 harg4 x0 x1 x2) _ _ _ _ _ _ _ _ _ (fun j s d => qcF (fun s d => nat3 x0 0 s (512 + 128 * j + d)) s d) ?_ r d
  intro j n s d
  fin_cases j <;> fin_cases n
  · exact (cast_id' _ _ s d).trans (qC_v _ _ _ _ _ _ _ (nat3 x0 0) 512 (qB1_v c arg2 harg2 x0) hr 0 0 (by decide) (by decide) rfl rfl rfl s d)
  · exact (cast_id' _ _ s d).trans (qC_v _ _ _ _ _ _ _ (nat3 x0 0) 512 (qB1_v c arg2 harg2 x0) hr 0 1 (by decide) (by decide) rfl rfl rfl s d)
  · exact (cast_id' _ _ s d).trans (qC_v _ _ _ _ _ _ _ (nat3 x0 0) 512 (qB1_v c arg2 harg2 x0) hr 1 0 (by decide) (by decide) rfl rfl rfl s d)
  · exact (cast_id' _ _ s d).trans (qC_v _ _ _ _ _ _ _ (nat3 x0 0) 512 (qB1_v c arg2 harg2 x0) hr 1 1 (by decide) (by decide) rfl rfl rfl s d)
  · exact (cast_id' _ _ s d).trans (qC_v _ _ _ _ _ _ _ (nat3 x0 0) 512 (qB1_v c arg2 harg2 x0) hr 2 0 (by decide) (by decide) rfl rfl rfl s d)
  · exact (cast_id' _ _ s d).trans (qC_v _ _ _ _ _ _ _ (nat3 x0 0) 512 (qB1_v c arg2 harg2 x0) hr 2 1 (by decide) (by decide) rfl rfl rfl s d)
  · exact (cast_id' _ _ s d).trans (qC_v _ _ _ _ _ _ _ (nat3 x0 0) 512 (qB1_v c arg2 harg2 x0) hr 3 0 (by decide) (by decide) rfl rfl rfl s d)
  · exact (cast_id' _ _ s d).trans (qC_v _ _ _ _ _ _ _ (nat3 x0 0) 512 (qB1_v c arg2 harg2 x0) hr 3 1 (by decide) (by decide) rfl rfl rfl s d)
abbrev qB2 := kernelRun0_A.sl.v3218 c arg2 harg2 x0
theorem qB2_v (s : Fin 256) (k : Fin 512) : qB2 c arg2 harg2 x0 (ix2 s k) = nat3 x0 0 s (1024 + k) := by
  rw [← ld_q 1024 (by decide) (by decide) arg2 harg2 x0 s k]; unfold qB2 kernelRun0_A.sl.v3218; pointwise
theorem qm_2 : kernelRun0_A.sl.v3224 c arg2 harg2 x0 = qM (qB2 c arg2 harg2 x0) := rfl
theorem q_2_3_1 : kernelRun0_A.sl.v3436 c arg2 harg2 x0 = (shapeCast S128x128 (qC ![128, 384] ![1, 384] ![7, 0] (by decide) (by decide) (by decide) (qB2 c arg2 harg2 x0)) shapeCasts_S128x128_S128x128) := rfl
theorem q_2_3_0 : kernelRun0_A.sl.v3421 c arg2 harg2 x0 = (shapeCast S128x128 (qC ![0, 384] ![0, 384] ![3, 0] (by decide) (by decide) (by decide) (qB2 c arg2 harg2 x0)) shapeCasts_S128x128_S128x128) := rfl
theorem q_2_2_1 : kernelRun0_A.sl.v3395 c arg2 harg2 x0 = (shapeCast S128x128 (qC ![128, 256] ![1, 256] ![6, 0] (by decide) (by decide) (by decide) (qB2 c arg2 harg2 x0)) shapeCasts_S128x128_S128x128) := rfl
theorem q_2_2_0 : kernelRun0_A.sl.v3380 c arg2 harg2 x0 = (shapeCast S128x128 (qC ![0, 256] ![0, 256] ![2, 0] (by decide) (by decide) (by decide) (qB2 c arg2 harg2 x0)) shapeCasts_S128x128_S128x128) := rfl
theorem q_2_1_1 : kernelRun0_A.sl.v3354 c arg2 harg2 x0 = (shapeCast S128x128 (qC ![128, 128] ![1, 128] ![5, 0] (by decide) (by decide) (by decide) (qB2 c arg2 harg2 x0)) shapeCasts_S128x128_S128x128) := rfl
theorem q_2_1_0 : kernelRun0_A.sl.v3339 c arg2 harg2 x0 = (shapeCast S128x128 (qC ![0, 128] ![0, 128] ![1, 0] (by decide) (by decide) (by decide) (qB2 c arg2 harg2 x0)) shapeCasts_S128x128_S128x128) := rfl
theorem q_2_0_1 : kernelRun0_A.sl.v3313 c arg2 harg2 x0 = (shapeCast S128x128 (qC ![128, 0] ![1, 0] ![4, 0] (by decide) (by decide) (by decide) (qB2 c arg2 harg2 x0)) shapeCasts_S128x128_S128x128) := rfl
theorem q_2_0_0 : k0_pay527 (F := Ideal) (kernelRun0_A.sl.v3218 c arg2 harg2 x0) (kernelRun0_A.sl.v3224 c arg2 harg2 x0) (kernelRun0_A.sl.v3263 c arg2 harg2 x0) = (shapeCast S128x128 (qC ![0, 0] ![0, 0] ![0, 0] (by decide) (by decide) (by decide) (qB2 c arg2 harg2 x0)) shapeCasts_S128x128_S128x128) := rfl
theorem il_q2 (hr : ∀ n c, ∃ r : ℝ, mqF (nat3 x0 0) n c = r) (r : Fin 1024) (d : Fin 128) :
    View.canon (Val := Elt Ideal) (e := .f32) (kernelRun0_A.sl.HS0_32 c arg2 harg2 arg3 harg3 arg4 harg4 x0 x1 x2) (ix2 r d) = qcF (fun s d => nat3 x0 0 s (1024 + 128 * (r.val % 4) + d)) (r.val / 4) d := by
  unfold kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25
  rw [q_2_0_0, q_2_0_1, q_2_1_0, q_2_1_1, q_2_2_0, q_2_2_1, q_2_3_0, q_2_3_1]
  refine il_eight ![![(shapeCast S128x128 (qC ![0, 0] ![0, 0] ![0, 0] (by decide) (by decide) (by decide) (qB2 c arg2 harg2 x0)) shapeCasts_S128x128_S128x128), (shapeCast S128x128 (qC ![128, 0] ![1, 0] ![4, 0] (by decide) (by decide) (by decide) (qB2 c arg2 harg2 x0)) shapeCasts_S128x128_S128x128)], ![(shapeCast S128x128 (qC ![0, 128] ![0, 128] ![1, 0] (by decide) (by decide) (by decide) (qB2 c arg2 harg2 x0)) shapeCasts_S128x128_S128x128), (shapeCast S128x128 (qC ![128, 128] ![1, 128] ![5, 0] (by decide) (by decide) (by decide) (qB2 c arg2 harg2 x0)) shapeCasts_S128x128_S128x128)], ![(shapeCast S128x128 (qC ![0, 256] ![0, 256] ![2, 0] (by decide) (by decide) (by decide) (qB2 c arg2 harg2 x0)) shapeCasts_S128x128_S128x128), (shapeCast S128x128 (qC ![128, 256] ![1, 256] ![6, 0] (by decide) (by decide) (by decide) (qB2 c arg2 harg2 x0)) shapeCasts_S128x128_S128x128)], ![(shapeCast S128x128 (qC ![0, 384] ![0, 384] ![3, 0] (by decide) (by decide) (by decide) (qB2 c arg2 harg2 x0)) shapeCasts_S128x128_S128x128), (shapeCast S128x128 (qC ![128, 384] ![1, 384] ![7, 0] (by decide) (by decide) (by decide) (qB2 c arg2 harg2 x0)) shapeCasts_S128x128_S128x128)]] (kernelRun0_A.sl.HS0_24 c arg2 harg2 arg3 harg3 arg4 harg4 x0 x1 x2) _ _ _ _ _ _ _ _ _ (fun j s d => qcF (fun s d => nat3 x0 0 s (1024 + 128 * j + d)) s d) ?_ r d
  intro j n s d
  fin_cases j <;> fin_cases n
  · exact (cast_id' _ _ s d).trans (qC_v _ _ _ _ _ _ _ (nat3 x0 0) 1024 (qB2_v c arg2 harg2 x0) hr 0 0 (by decide) (by decide) rfl rfl rfl s d)
  · exact (cast_id' _ _ s d).trans (qC_v _ _ _ _ _ _ _ (nat3 x0 0) 1024 (qB2_v c arg2 harg2 x0) hr 0 1 (by decide) (by decide) rfl rfl rfl s d)
  · exact (cast_id' _ _ s d).trans (qC_v _ _ _ _ _ _ _ (nat3 x0 0) 1024 (qB2_v c arg2 harg2 x0) hr 1 0 (by decide) (by decide) rfl rfl rfl s d)
  · exact (cast_id' _ _ s d).trans (qC_v _ _ _ _ _ _ _ (nat3 x0 0) 1024 (qB2_v c arg2 harg2 x0) hr 1 1 (by decide) (by decide) rfl rfl rfl s d)
  · exact (cast_id' _ _ s d).trans (qC_v _ _ _ _ _ _ _ (nat3 x0 0) 1024 (qB2_v c arg2 harg2 x0) hr 2 0 (by decide) (by decide) rfl rfl rfl s d)
  · exact (cast_id' _ _ s d).trans (qC_v _ _ _ _ _ _ _ (nat3 x0 0) 1024 (qB2_v c arg2 harg2 x0) hr 2 1 (by decide) (by decide) rfl rfl rfl s d)
  · exact (cast_id' _ _ s d).trans (qC_v _ _ _ _ _ _ _ (nat3 x0 0) 1024 (qB2_v c arg2 harg2 x0) hr 3 0 (by decide) (by decide) rfl rfl rfl s d)
  · exact (cast_id' _ _ s d).trans (qC_v _ _ _ _ _ _ _ (nat3 x0 0) 1024 (qB2_v c arg2 harg2 x0) hr 3 1 (by decide) (by decide) rfl rfl rfl s d)
abbrev qB3 := kernelRun0_A.sl.v4355 c arg2 harg2 x0
theorem qB3_v (s : Fin 256) (k : Fin 512) : qB3 c arg2 harg2 x0 (ix2 s k) = nat3 x0 0 s (1536 + k) := by
  rw [← ld_q 1536 (by decide) (by decide) arg2 harg2 x0 s k]; unfold qB3 kernelRun0_A.sl.v4355; pointwise
theorem qm_3 : kernelRun0_A.sl.v4361 c arg2 harg2 x0 = qM (qB3 c arg2 harg2 x0) := rfl
theorem q_3_3_1 : kernelRun0_A.sl.v4573 c arg2 harg2 x0 = (shapeCast S128x128 (qC ![128, 384] ![1, 384] ![7, 0] (by decide) (by decide) (by decide) (qB3 c arg2 harg2 x0)) shapeCasts_S128x128_S128x128) := rfl
theorem q_3_3_0 : kernelRun0_A.sl.v4558 c arg2 harg2 x0 = (shapeCast S128x128 (qC ![0, 384] ![0, 384] ![3, 0] (by decide) (by decide) (by decide) (qB3 c arg2 harg2 x0)) shapeCasts_S128x128_S128x128) := rfl
theorem q_3_2_1 : kernelRun0_A.sl.v4532 c arg2 harg2 x0 = (shapeCast S128x128 (qC ![128, 256] ![1, 256] ![6, 0] (by decide) (by decide) (by decide) (qB3 c arg2 harg2 x0)) shapeCasts_S128x128_S128x128) := rfl
theorem q_3_2_0 : kernelRun0_A.sl.v4517 c arg2 harg2 x0 = (shapeCast S128x128 (qC ![0, 256] ![0, 256] ![2, 0] (by decide) (by decide) (by decide) (qB3 c arg2 harg2 x0)) shapeCasts_S128x128_S128x128) := rfl
theorem q_3_1_1 : kernelRun0_A.sl.v4491 c arg2 harg2 x0 = (shapeCast S128x128 (qC ![128, 128] ![1, 128] ![5, 0] (by decide) (by decide) (by decide) (qB3 c arg2 harg2 x0)) shapeCasts_S128x128_S128x128) := rfl
theorem q_3_1_0 : kernelRun0_A.sl.v4476 c arg2 harg2 x0 = (shapeCast S128x128 (qC ![0, 128] ![0, 128] ![1, 0] (by decide) (by decide) (by decide) (qB3 c arg2 harg2 x0)) shapeCasts_S128x128_S128x128) := rfl
theorem q_3_0_1 : kernelRun0_A.sl.v4450 c arg2 harg2 x0 = (shapeCast S128x128 (qC ![128, 0] ![1, 0] ![4, 0] (by decide) (by decide) (by decide) (qB3 c arg2 harg2 x0)) shapeCasts_S128x128_S128x128) := rfl
theorem q_3_0_0 : k0_pay700 (F := Ideal) (kernelRun0_A.sl.v4355 c arg2 harg2 x0) (kernelRun0_A.sl.v4361 c arg2 harg2 x0) (kernelRun0_A.sl.v4377 c arg2 harg2 x0) (kernelRun0_A.sl.v4378 c arg2 harg2 x0) (kernelRun0_A.sl.v4379 c arg2 harg2 x0) (kernelRun0_A.sl.v4380 c arg2 harg2 x0) (kernelRun0_A.sl.v4396 c arg2 harg2 x0) (kernelRun0_A.sl.v4397 c arg2 harg2 x0) (kernelRun0_A.sl.v4398 c arg2 harg2 x0) (kernelRun0_A.sl.v4399 c arg2 harg2 x0) = (shapeCast S128x128 (qC ![0, 0] ![0, 0] ![0, 0] (by decide) (by decide) (by decide) (qB3 c arg2 harg2 x0)) shapeCasts_S128x128_S128x128) := rfl
theorem il_q3 (hr : ∀ n c, ∃ r : ℝ, mqF (nat3 x0 0) n c = r) (r : Fin 1024) (d : Fin 128) :
    View.canon (Val := Elt Ideal) (e := .f32) (kernelRun0_A.sl.HS0_40 c arg2 harg2 arg3 harg3 arg4 harg4 x0 x1 x2) (ix2 r d) = qcF (fun s d => nat3 x0 0 s (1536 + 128 * (r.val % 4) + d)) (r.val / 4) d := by
  unfold kernelRun0_A.sl.HS0_40 kernelRun0_A.sl.HS0_39 kernelRun0_A.sl.HS0_38 kernelRun0_A.sl.HS0_37 kernelRun0_A.sl.HS0_36 kernelRun0_A.sl.HS0_35 kernelRun0_A.sl.HS0_34 kernelRun0_A.sl.HS0_33
  rw [q_3_0_0, q_3_0_1, q_3_1_0, q_3_1_1, q_3_2_0, q_3_2_1, q_3_3_0, q_3_3_1]
  refine il_eight ![![(shapeCast S128x128 (qC ![0, 0] ![0, 0] ![0, 0] (by decide) (by decide) (by decide) (qB3 c arg2 harg2 x0)) shapeCasts_S128x128_S128x128), (shapeCast S128x128 (qC ![128, 0] ![1, 0] ![4, 0] (by decide) (by decide) (by decide) (qB3 c arg2 harg2 x0)) shapeCasts_S128x128_S128x128)], ![(shapeCast S128x128 (qC ![0, 128] ![0, 128] ![1, 0] (by decide) (by decide) (by decide) (qB3 c arg2 harg2 x0)) shapeCasts_S128x128_S128x128), (shapeCast S128x128 (qC ![128, 128] ![1, 128] ![5, 0] (by decide) (by decide) (by decide) (qB3 c arg2 harg2 x0)) shapeCasts_S128x128_S128x128)], ![(shapeCast S128x128 (qC ![0, 256] ![0, 256] ![2, 0] (by decide) (by decide) (by decide) (qB3 c arg2 harg2 x0)) shapeCasts_S128x128_S128x128), (shapeCast S128x128 (qC ![128, 256] ![1, 256] ![6, 0] (by decide) (by decide) (by decide) (qB3 c arg2 harg2 x0)) shapeCasts_S128x128_S128x128)], ![(shapeCast S128x128 (qC ![0, 384] ![0, 384] ![3, 0] (by decide) (by decide) (by decide) (qB3 c arg2 harg2 x0)) shapeCasts_S128x128_S128x128), (shapeCast S128x128 (qC ![128, 384] ![1, 384] ![7, 0] (by decide) (by decide) (by decide) (qB3 c arg2 harg2 x0)) shapeCasts_S128x128_S128x128)]] (kernelRun0_A.sl.HS0_32 c arg2 harg2 arg3 harg3 arg4 harg4 x0 x1 x2) _ _ _ _ _ _ _ _ _ (fun j s d => qcF (fun s d => nat3 x0 0 s (1536 + 128 * j + d)) s d) ?_ r d
  intro j n s d
  fin_cases j <;> fin_cases n
  · exact (cast_id' _ _ s d).trans (qC_v _ _ _ _ _ _ _ (nat3 x0 0) 1536 (qB3_v c arg2 harg2 x0) hr 0 0 (by decide) (by decide) rfl rfl rfl s d)
  · exact (cast_id' _ _ s d).trans (qC_v _ _ _ _ _ _ _ (nat3 x0 0) 1536 (qB3_v c arg2 harg2 x0) hr 0 1 (by decide) (by decide) rfl rfl rfl s d)
  · exact (cast_id' _ _ s d).trans (qC_v _ _ _ _ _ _ _ (nat3 x0 0) 1536 (qB3_v c arg2 harg2 x0) hr 1 0 (by decide) (by decide) rfl rfl rfl s d)
  · exact (cast_id' _ _ s d).trans (qC_v _ _ _ _ _ _ _ (nat3 x0 0) 1536 (qB3_v c arg2 harg2 x0) hr 1 1 (by decide) (by decide) rfl rfl rfl s d)
  · exact (cast_id' _ _ s d).trans (qC_v _ _ _ _ _ _ _ (nat3 x0 0) 1536 (qB3_v c arg2 harg2 x0) hr 2 0 (by decide) (by decide) rfl rfl rfl s d)
  · exact (cast_id' _ _ s d).trans (qC_v _ _ _ _ _ _ _ (nat3 x0 0) 1536 (qB3_v c arg2 harg2 x0) hr 2 1 (by decide) (by decide) rfl rfl rfl s d)
  · exact (cast_id' _ _ s d).trans (qC_v _ _ _ _ _ _ _ (nat3 x0 0) 1536 (qB3_v c arg2 harg2 x0) hr 3 0 (by decide) (by decide) rfl rfl rfl s d)
  · exact (cast_id' _ _ s d).trans (qC_v _ _ _ _ _ _ _ (nat3 x0 0) 1536 (qB3_v c arg2 harg2 x0) hr 3 1 (by decide) (by decide) rfl rfl rfl s d)
abbrev qB4 := kernelRun0_A.sl.v6394 c arg2 harg2 x0
theorem qB4_v (s : Fin 256) (k : Fin 512) : qB4 c arg2 harg2 x0 (ix2 s k) = nat3 x0 0 s (2048 + k) := by
  rw [← ld_q 2048 (by decide) (by decide) arg2 harg2 x0 s k]; unfold qB4 kernelRun0_A.sl.v6394; pointwise
theorem qm_4 : kernelRun0_A.sl.v6400 c arg2 harg2 x0 = qM (qB4 c arg2 harg2 x0) := rfl
theorem q_4_3_1 : kernelRun0_A.sl.v6612 c arg2 harg2 x0 = (shapeCast S128x128 (qC ![128, 384] ![1, 384] ![7, 0] (by decide) (by decide) (by decide) (qB4 c arg2 harg2 x0)) shapeCasts_S128x128_S128x128) := rfl
theorem q_4_3_0 : kernelRun0_A.sl.v6597 c arg2 harg2 x0 = (shapeCast S128x128 (qC ![0, 384] ![0, 384] ![3, 0] (by decide) (by decide) (by decide) (qB4 c arg2 harg2 x0)) shapeCasts_S128x128_S128x128) := rfl
theorem q_4_2_1 : kernelRun0_A.sl.v6571 c arg2 harg2 x0 = (shapeCast S128x128 (qC ![128, 256] ![1, 256] ![6, 0] (by decide) (by decide) (by decide) (qB4 c arg2 harg2 x0)) shapeCasts_S128x128_S128x128) := rfl
theorem q_4_2_0 : kernelRun0_A.sl.v6556 c arg2 harg2 x0 = (shapeCast S128x128 (qC ![0, 256] ![0, 256] ![2, 0] (by decide) (by decide) (by decide) (qB4 c arg2 harg2 x0)) shapeCasts_S128x128_S128x128) := rfl
theorem q_4_1_1 : kernelRun0_A.sl.v6530 c arg2 harg2 x0 = (shapeCast S128x128 (qC ![128, 128] ![1, 128] ![5, 0] (by decide) (by decide) (by decide) (qB4 c arg2 harg2 x0)) shapeCasts_S128x128_S128x128) := rfl
theorem q_4_1_0 : kernelRun0_A.sl.v6515 c arg2 harg2 x0 = (shapeCast S128x128 (qC ![0, 128] ![0, 128] ![1, 0] (by decide) (by decide) (by decide) (qB4 c arg2 harg2 x0)) shapeCasts_S128x128_S128x128) := rfl
theorem q_4_0_1 : kernelRun0_A.sl.v6489 c arg2 harg2 x0 = (shapeCast S128x128 (qC ![128, 0] ![1, 0] ![4, 0] (by decide) (by decide) (by decide) (qB4 c arg2 harg2 x0)) shapeCasts_S128x128_S128x128) := rfl
theorem q_4_0_0 : k0_pay1035 (F := Ideal) (kernelRun0_A.sl.v6394 c arg2 harg2 x0) (kernelRun0_A.sl.v6400 c arg2 harg2 x0) (kernelRun0_A.sl.v6440 c arg2 harg2 x0) = (shapeCast S128x128 (qC ![0, 0] ![0, 0] ![0, 0] (by decide) (by decide) (by decide) (qB4 c arg2 harg2 x0)) shapeCasts_S128x128_S128x128) := rfl
theorem il_q4 (hr : ∀ n c, ∃ r : ℝ, mqF (nat3 x0 0) n c = r) (r : Fin 1024) (d : Fin 128) :
    View.canon (Val := Elt Ideal) (e := .f32) (kernelRun0_A.sl.HS0_56 c arg2 harg2 arg3 harg3 arg4 harg4 x0 x1 x2) (ix2 r d) = qcF (fun s d => nat3 x0 0 s (2048 + 128 * (r.val % 4) + d)) (r.val / 4) d := by
  unfold kernelRun0_A.sl.HS0_56 kernelRun0_A.sl.HS0_55 kernelRun0_A.sl.HS0_54 kernelRun0_A.sl.HS0_53 kernelRun0_A.sl.HS0_52 kernelRun0_A.sl.HS0_51 kernelRun0_A.sl.HS0_50 kernelRun0_A.sl.HS0_49
  rw [q_4_0_0, q_4_0_1, q_4_1_0, q_4_1_1, q_4_2_0, q_4_2_1, q_4_3_0, q_4_3_1]
  refine il_eight ![![(shapeCast S128x128 (qC ![0, 0] ![0, 0] ![0, 0] (by decide) (by decide) (by decide) (qB4 c arg2 harg2 x0)) shapeCasts_S128x128_S128x128), (shapeCast S128x128 (qC ![128, 0] ![1, 0] ![4, 0] (by decide) (by decide) (by decide) (qB4 c arg2 harg2 x0)) shapeCasts_S128x128_S128x128)], ![(shapeCast S128x128 (qC ![0, 128] ![0, 128] ![1, 0] (by decide) (by decide) (by decide) (qB4 c arg2 harg2 x0)) shapeCasts_S128x128_S128x128), (shapeCast S128x128 (qC ![128, 128] ![1, 128] ![5, 0] (by decide) (by decide) (by decide) (qB4 c arg2 harg2 x0)) shapeCasts_S128x128_S128x128)], ![(shapeCast S128x128 (qC ![0, 256] ![0, 256] ![2, 0] (by decide) (by decide) (by decide) (qB4 c arg2 harg2 x0)) shapeCasts_S128x128_S128x128), (shapeCast S128x128 (qC ![128, 256] ![1, 256] ![6, 0] (by decide) (by decide) (by decide) (qB4 c arg2 harg2 x0)) shapeCasts_S128x128_S128x128)], ![(shapeCast S128x128 (qC ![0, 384] ![0, 384] ![3, 0] (by decide) (by decide) (by decide) (qB4 c arg2 harg2 x0)) shapeCasts_S128x128_S128x128), (shapeCast S128x128 (qC ![128, 384] ![1, 384] ![7, 0] (by decide) (by decide) (by decide) (qB4 c arg2 harg2 x0)) shapeCasts_S128x128_S128x128)]] (kernelRun0_A.sl.HS0_48 c arg2 harg2 arg3 harg3 arg4 harg4 x0 x1 x2) _ _ _ _ _ _ _ _ _ (fun j s d => qcF (fun s d => nat3 x0 0 s (2048 + 128 * j + d)) s d) ?_ r d
  intro j n s d
  fin_cases j <;> fin_cases n
  · exact (cast_id' _ _ s d).trans (qC_v _ _ _ _ _ _ _ (nat3 x0 0) 2048 (qB4_v c arg2 harg2 x0) hr 0 0 (by decide) (by decide) rfl rfl rfl s d)
  · exact (cast_id' _ _ s d).trans (qC_v _ _ _ _ _ _ _ (nat3 x0 0) 2048 (qB4_v c arg2 harg2 x0) hr 0 1 (by decide) (by decide) rfl rfl rfl s d)
  · exact (cast_id' _ _ s d).trans (qC_v _ _ _ _ _ _ _ (nat3 x0 0) 2048 (qB4_v c arg2 harg2 x0) hr 1 0 (by decide) (by decide) rfl rfl rfl s d)
  · exact (cast_id' _ _ s d).trans (qC_v _ _ _ _ _ _ _ (nat3 x0 0) 2048 (qB4_v c arg2 harg2 x0) hr 1 1 (by decide) (by decide) rfl rfl rfl s d)
  · exact (cast_id' _ _ s d).trans (qC_v _ _ _ _ _ _ _ (nat3 x0 0) 2048 (qB4_v c arg2 harg2 x0) hr 2 0 (by decide) (by decide) rfl rfl rfl s d)
  · exact (cast_id' _ _ s d).trans (qC_v _ _ _ _ _ _ _ (nat3 x0 0) 2048 (qB4_v c arg2 harg2 x0) hr 2 1 (by decide) (by decide) rfl rfl rfl s d)
  · exact (cast_id' _ _ s d).trans (qC_v _ _ _ _ _ _ _ (nat3 x0 0) 2048 (qB4_v c arg2 harg2 x0) hr 3 0 (by decide) (by decide) rfl rfl rfl s d)
  · exact (cast_id' _ _ s d).trans (qC_v _ _ _ _ _ _ _ (nat3 x0 0) 2048 (qB4_v c arg2 harg2 x0) hr 3 1 (by decide) (by decide) rfl rfl rfl s d)
abbrev qB5 := kernelRun0_A.sl.v7531 c arg2 harg2 x0
theorem qB5_v (s : Fin 256) (k : Fin 512) : qB5 c arg2 harg2 x0 (ix2 s k) = nat3 x0 0 s (2560 + k) := by
  rw [← ld_q 2560 (by decide) (by decide) arg2 harg2 x0 s k]; unfold qB5 kernelRun0_A.sl.v7531; pointwise
theorem qm_5 : kernelRun0_A.sl.v7537 c arg2 harg2 x0 = qM (qB5 c arg2 harg2 x0) := rfl
theorem q_5_3_1 : kernelRun0_A.sl.v7749 c arg2 harg2 x0 = (shapeCast S128x128 (qC ![128, 384] ![1, 384] ![7, 0] (by decide) (by decide) (by decide) (qB5 c arg2 harg2 x0)) shapeCasts_S128x128_S128x128) := rfl
theorem q_5_3_0 : kernelRun0_A.sl.v7734 c arg2 harg2 x0 = (shapeCast S128x128 (qC ![0, 384] ![0, 384] ![3, 0] (by decide) (by decide) (by decide) (qB5 c arg2 harg2 x0)) shapeCasts_S128x128_S128x128) := rfl
theorem q_5_2_1 : kernelRun0_A.sl.v7708 c arg2 harg2 x0 = (shapeCast S128x128 (qC ![128, 256] ![1, 256] ![6, 0] (by decide) (by decide) (by decide) (qB5 c arg2 harg2 x0)) shapeCasts_S128x128_S128x128) := rfl
theorem q_5_2_0 : kernelRun0_A.sl.v7693 c arg2 harg2 x0 = (shapeCast S128x128 (qC ![0, 256] ![0, 256] ![2, 0] (by decide) (by decide) (by decide) (qB5 c arg2 harg2 x0)) shapeCasts_S128x128_S128x128) := rfl
theorem q_5_1_1 : kernelRun0_A.sl.v7667 c arg2 harg2 x0 = (shapeCast S128x128 (qC ![128, 128] ![1, 128] ![5, 0] (by decide) (by decide) (by decide) (qB5 c arg2 harg2 x0)) shapeCasts_S128x128_S128x128) := rfl
theorem q_5_1_0 : kernelRun0_A.sl.v7652 c arg2 harg2 x0 = (shapeCast S128x128 (qC ![0, 128] ![0, 128] ![1, 0] (by decide) (by decide) (by decide) (qB5 c arg2 harg2 x0)) shapeCasts_S128x128_S128x128) := rfl
theorem q_5_0_1 : kernelRun0_A.sl.v7626 c arg2 harg2 x0 = (shapeCast S128x128 (qC ![128, 0] ![1, 0] ![4, 0] (by decide) (by decide) (by decide) (qB5 c arg2 harg2 x0)) shapeCasts_S128x128_S128x128) := rfl
theorem q_5_0_0 : k0_pay1199 (F := Ideal) (kernelRun0_A.sl.v7531 c arg2 harg2 x0) (kernelRun0_A.sl.v7537 c arg2 harg2 x0) (kernelRun0_A.sl.v7576 c arg2 harg2 x0) = (shapeCast S128x128 (qC ![0, 0] ![0, 0] ![0, 0] (by decide) (by decide) (by decide) (qB5 c arg2 harg2 x0)) shapeCasts_S128x128_S128x128) := rfl
theorem il_q5 (hr : ∀ n c, ∃ r : ℝ, mqF (nat3 x0 0) n c = r) (r : Fin 1024) (d : Fin 128) :
    View.canon (Val := Elt Ideal) (e := .f32) (kernelRun0_A.sl.HS0_64 c arg2 harg2 arg3 harg3 arg4 harg4 x0 x1 x2) (ix2 r d) = qcF (fun s d => nat3 x0 0 s (2560 + 128 * (r.val % 4) + d)) (r.val / 4) d := by
  unfold kernelRun0_A.sl.HS0_64 kernelRun0_A.sl.HS0_63 kernelRun0_A.sl.HS0_62 kernelRun0_A.sl.HS0_61 kernelRun0_A.sl.HS0_60 kernelRun0_A.sl.HS0_59 kernelRun0_A.sl.HS0_58 kernelRun0_A.sl.HS0_57
  rw [q_5_0_0, q_5_0_1, q_5_1_0, q_5_1_1, q_5_2_0, q_5_2_1, q_5_3_0, q_5_3_1]
  refine il_eight ![![(shapeCast S128x128 (qC ![0, 0] ![0, 0] ![0, 0] (by decide) (by decide) (by decide) (qB5 c arg2 harg2 x0)) shapeCasts_S128x128_S128x128), (shapeCast S128x128 (qC ![128, 0] ![1, 0] ![4, 0] (by decide) (by decide) (by decide) (qB5 c arg2 harg2 x0)) shapeCasts_S128x128_S128x128)], ![(shapeCast S128x128 (qC ![0, 128] ![0, 128] ![1, 0] (by decide) (by decide) (by decide) (qB5 c arg2 harg2 x0)) shapeCasts_S128x128_S128x128), (shapeCast S128x128 (qC ![128, 128] ![1, 128] ![5, 0] (by decide) (by decide) (by decide) (qB5 c arg2 harg2 x0)) shapeCasts_S128x128_S128x128)], ![(shapeCast S128x128 (qC ![0, 256] ![0, 256] ![2, 0] (by decide) (by decide) (by decide) (qB5 c arg2 harg2 x0)) shapeCasts_S128x128_S128x128), (shapeCast S128x128 (qC ![128, 256] ![1, 256] ![6, 0] (by decide) (by decide) (by decide) (qB5 c arg2 harg2 x0)) shapeCasts_S128x128_S128x128)], ![(shapeCast S128x128 (qC ![0, 384] ![0, 384] ![3, 0] (by decide) (by decide) (by decide) (qB5 c arg2 harg2 x0)) shapeCasts_S128x128_S128x128), (shapeCast S128x128 (qC ![128, 384] ![1, 384] ![7, 0] (by decide) (by decide) (by decide) (qB5 c arg2 harg2 x0)) shapeCasts_S128x128_S128x128)]] (kernelRun0_A.sl.HS0_56 c arg2 harg2 arg3 harg3 arg4 harg4 x0 x1 x2) _ _ _ _ _ _ _ _ _ (fun j s d => qcF (fun s d => nat3 x0 0 s (2560 + 128 * j + d)) s d) ?_ r d
  intro j n s d
  fin_cases j <;> fin_cases n
  · exact (cast_id' _ _ s d).trans (qC_v _ _ _ _ _ _ _ (nat3 x0 0) 2560 (qB5_v c arg2 harg2 x0) hr 0 0 (by decide) (by decide) rfl rfl rfl s d)
  · exact (cast_id' _ _ s d).trans (qC_v _ _ _ _ _ _ _ (nat3 x0 0) 2560 (qB5_v c arg2 harg2 x0) hr 0 1 (by decide) (by decide) rfl rfl rfl s d)
  · exact (cast_id' _ _ s d).trans (qC_v _ _ _ _ _ _ _ (nat3 x0 0) 2560 (qB5_v c arg2 harg2 x0) hr 1 0 (by decide) (by decide) rfl rfl rfl s d)
  · exact (cast_id' _ _ s d).trans (qC_v _ _ _ _ _ _ _ (nat3 x0 0) 2560 (qB5_v c arg2 harg2 x0) hr 1 1 (by decide) (by decide) rfl rfl rfl s d)
  · exact (cast_id' _ _ s d).trans (qC_v _ _ _ _ _ _ _ (nat3 x0 0) 2560 (qB5_v c arg2 harg2 x0) hr 2 0 (by decide) (by decide) rfl rfl rfl s d)
  · exact (cast_id' _ _ s d).trans (qC_v _ _ _ _ _ _ _ (nat3 x0 0) 2560 (qB5_v c arg2 harg2 x0) hr 2 1 (by decide) (by decide) rfl rfl rfl s d)
  · exact (cast_id' _ _ s d).trans (qC_v _ _ _ _ _ _ _ (nat3 x0 0) 2560 (qB5_v c arg2 harg2 x0) hr 3 0 (by decide) (by decide) rfl rfl rfl s d)
  · exact (cast_id' _ _ s d).trans (qC_v _ _ _ _ _ _ _ (nat3 x0 0) 2560 (qB5_v c arg2 harg2 x0) hr 3 1 (by decide) (by decide) rfl rfl rfl s d)
abbrev qB6 := kernelRun0_A.sl.v8668 c arg2 harg2 x0
theorem qB6_v (s : Fin 256) (k : Fin 512) : qB6 c arg2 harg2 x0 (ix2 s k) = nat3 x0 0 s (3072 + k) := by
  rw [← ld_q 3072 (by decide) (by decide) arg2 harg2 x0 s k]; unfold qB6 kernelRun0_A.sl.v8668; pointwise
theorem qm_6 : kernelRun0_A.sl.v8674 c arg2 harg2 x0 = qM (qB6 c arg2 harg2 x0) := rfl
theorem q_6_3_1 : kernelRun0_A.sl.v8886 c arg2 harg2 x0 = (shapeCast S128x128 (qC ![128, 384] ![1, 384] ![7, 0] (by decide) (by decide) (by decide) (qB6 c arg2 harg2 x0)) shapeCasts_S128x128_S128x128) := rfl
theorem q_6_3_0 : kernelRun0_A.sl.v8871 c arg2 harg2 x0 = (shapeCast S128x128 (qC ![0, 384] ![0, 384] ![3, 0] (by decide) (by decide) (by decide) (qB6 c arg2 harg2 x0)) shapeCasts_S128x128_S128x128) := rfl
theorem q_6_2_1 : kernelRun0_A.sl.v8845 c arg2 harg2 x0 = (shapeCast S128x128 (qC ![128, 256] ![1, 256] ![6, 0] (by decide) (by decide) (by decide) (qB6 c arg2 harg2 x0)) shapeCasts_S128x128_S128x128) := rfl
theorem q_6_2_0 : kernelRun0_A.sl.v8830 c arg2 harg2 x0 = (shapeCast S128x128 (qC ![0, 256] ![0, 256] ![2, 0] (by decide) (by decide) (by decide) (qB6 c arg2 harg2 x0)) shapeCasts_S128x128_S128x128) := rfl
theorem q_6_1_1 : kernelRun0_A.sl.v8804 c arg2 harg2 x0 = (shapeCast S128x128 (qC ![128, 128] ![1, 128] ![5, 0] (by decide) (by decide) (by decide) (qB6 c arg2 harg2 x0)) shapeCasts_S128x128_S128x128) := rfl
theorem q_6_1_0 : kernelRun0_A.sl.v8789 c arg2 harg2 x0 = (shapeCast S128x128 (qC ![0, 128] ![0, 128] ![1, 0] (by decide) (by decide) (by decide) (qB6 c arg2 harg2 x0)) shapeCasts_S128x128_S128x128) := rfl
theorem q_6_0_1 : kernelRun0_A.sl.v8763 c arg2 harg2 x0 = (shapeCast S128x128 (qC ![128, 0] ![1, 0] ![4, 0] (by decide) (by decide) (by decide) (qB6 c arg2 harg2 x0)) shapeCasts_S128x128_S128x128) := rfl
theorem q_6_0_0 : k0_pay1372 (F := Ideal) (kernelRun0_A.sl.v8668 c arg2 harg2 x0) (kernelRun0_A.sl.v8674 c arg2 harg2 x0) (kernelRun0_A.sl.v8690 c arg2 harg2 x0) (kernelRun0_A.sl.v8691 c arg2 harg2 x0) (kernelRun0_A.sl.v8692 c arg2 harg2 x0) (kernelRun0_A.sl.v8693 c arg2 harg2 x0) (kernelRun0_A.sl.v8708 c arg2 harg2 x0) (kernelRun0_A.sl.v8709 c arg2 harg2 x0) (kernelRun0_A.sl.v8710 c arg2 harg2 x0) (kernelRun0_A.sl.v8711 c arg2 harg2 x0) = (shapeCast S128x128 (qC ![0, 0] ![0, 0] ![0, 0] (by decide) (by decide) (by decide) (qB6 c arg2 harg2 x0)) shapeCasts_S128x128_S128x128) := rfl
theorem il_q6 (hr : ∀ n c, ∃ r : ℝ, mqF (nat3 x0 0) n c = r) (r : Fin 1024) (d : Fin 128) :
    View.canon (Val := Elt Ideal) (e := .f32) (kernelRun0_A.sl.HS0_72 c arg2 harg2 arg3 harg3 arg4 harg4 x0 x1 x2) (ix2 r d) = qcF (fun s d => nat3 x0 0 s (3072 + 128 * (r.val % 4) + d)) (r.val / 4) d := by
  unfold kernelRun0_A.sl.HS0_72 kernelRun0_A.sl.HS0_71 kernelRun0_A.sl.HS0_70 kernelRun0_A.sl.HS0_69 kernelRun0_A.sl.HS0_68 kernelRun0_A.sl.HS0_67 kernelRun0_A.sl.HS0_66 kernelRun0_A.sl.HS0_65
  rw [q_6_0_0, q_6_0_1, q_6_1_0, q_6_1_1, q_6_2_0, q_6_2_1, q_6_3_0, q_6_3_1]
  refine il_eight ![![(shapeCast S128x128 (qC ![0, 0] ![0, 0] ![0, 0] (by decide) (by decide) (by decide) (qB6 c arg2 harg2 x0)) shapeCasts_S128x128_S128x128), (shapeCast S128x128 (qC ![128, 0] ![1, 0] ![4, 0] (by decide) (by decide) (by decide) (qB6 c arg2 harg2 x0)) shapeCasts_S128x128_S128x128)], ![(shapeCast S128x128 (qC ![0, 128] ![0, 128] ![1, 0] (by decide) (by decide) (by decide) (qB6 c arg2 harg2 x0)) shapeCasts_S128x128_S128x128), (shapeCast S128x128 (qC ![128, 128] ![1, 128] ![5, 0] (by decide) (by decide) (by decide) (qB6 c arg2 harg2 x0)) shapeCasts_S128x128_S128x128)], ![(shapeCast S128x128 (qC ![0, 256] ![0, 256] ![2, 0] (by decide) (by decide) (by decide) (qB6 c arg2 harg2 x0)) shapeCasts_S128x128_S128x128), (shapeCast S128x128 (qC ![128, 256] ![1, 256] ![6, 0] (by decide) (by decide) (by decide) (qB6 c arg2 harg2 x0)) shapeCasts_S128x128_S128x128)], ![(shapeCast S128x128 (qC ![0, 384] ![0, 384] ![3, 0] (by decide) (by decide) (by decide) (qB6 c arg2 harg2 x0)) shapeCasts_S128x128_S128x128), (shapeCast S128x128 (qC ![128, 384] ![1, 384] ![7, 0] (by decide) (by decide) (by decide) (qB6 c arg2 harg2 x0)) shapeCasts_S128x128_S128x128)]] (kernelRun0_A.sl.HS0_64 c arg2 harg2 arg3 harg3 arg4 harg4 x0 x1 x2) _ _ _ _ _ _ _ _ _ (fun j s d => qcF (fun s d => nat3 x0 0 s (3072 + 128 * j + d)) s d) ?_ r d
  intro j n s d
  fin_cases j <;> fin_cases n
  · exact (cast_id' _ _ s d).trans (qC_v _ _ _ _ _ _ _ (nat3 x0 0) 3072 (qB6_v c arg2 harg2 x0) hr 0 0 (by decide) (by decide) rfl rfl rfl s d)
  · exact (cast_id' _ _ s d).trans (qC_v _ _ _ _ _ _ _ (nat3 x0 0) 3072 (qB6_v c arg2 harg2 x0) hr 0 1 (by decide) (by decide) rfl rfl rfl s d)
  · exact (cast_id' _ _ s d).trans (qC_v _ _ _ _ _ _ _ (nat3 x0 0) 3072 (qB6_v c arg2 harg2 x0) hr 1 0 (by decide) (by decide) rfl rfl rfl s d)
  · exact (cast_id' _ _ s d).trans (qC_v _ _ _ _ _ _ _ (nat3 x0 0) 3072 (qB6_v c arg2 harg2 x0) hr 1 1 (by decide) (by decide) rfl rfl rfl s d)
  · exact (cast_id' _ _ s d).trans (qC_v _ _ _ _ _ _ _ (nat3 x0 0) 3072 (qB6_v c arg2 harg2 x0) hr 2 0 (by decide) (by decide) rfl rfl rfl s d)
  · exact (cast_id' _ _ s d).trans (qC_v _ _ _ _ _ _ _ (nat3 x0 0) 3072 (qB6_v c arg2 harg2 x0) hr 2 1 (by decide) (by decide) rfl rfl rfl s d)
  · exact (cast_id' _ _ s d).trans (qC_v _ _ _ _ _ _ _ (nat3 x0 0) 3072 (qB6_v c arg2 harg2 x0) hr 3 0 (by decide) (by decide) rfl rfl rfl s d)
  · exact (cast_id' _ _ s d).trans (qC_v _ _ _ _ _ _ _ (nat3 x0 0) 3072 (qB6_v c arg2 harg2 x0) hr 3 1 (by decide) (by decide) rfl rfl rfl s d)
abbrev qB7 := kernelRun0_A.sl.r c arg2 harg2 x0
theorem qB7_v (s : Fin 256) (k : Fin 512) : qB7 c arg2 harg2 x0 (ix2 s k) = nat3 x0 0 s (3584 + k) := by
  rw [← ld_q 3584 (by decide) (by decide) arg2 harg2 x0 s k]; unfold qB7 kernelRun0_A.sl.r k0_pay1532; pointwise
theorem qm_7 : kernelRun0_A.sl.r_1 c arg2 harg2 x0 = qM (qB7 c arg2 harg2 x0) := rfl
theorem q_7_3_1 : k0_pay1558 (F := Ideal) (kernelRun0_A.sl.r c arg2 harg2 x0) (kernelRun0_A.sl.r_1 c arg2 harg2 x0) (kernelRun0_A.sl.r_9 c arg2 harg2 x0) = (shapeCast S128x128 (qC ![128, 384] ![1, 384] ![7, 0] (by decide) (by decide) (by decide) (qB7 c arg2 harg2 x0)) shapeCasts_S128x128_S128x128) := rfl
theorem q_7_3_0 : k0_pay1557 (F := Ideal) (kernelRun0_A.sl.r c arg2 harg2 x0) (kernelRun0_A.sl.r_1 c arg2 harg2 x0) (kernelRun0_A.sl.r_9 c arg2 harg2 x0) = (shapeCast S128x128 (qC ![0, 384] ![0, 384] ![3, 0] (by decide) (by decide) (by decide) (qB7 c arg2 harg2 x0)) shapeCasts_S128x128_S128x128) := rfl
theorem q_7_2_1 : k0_pay1555 (F := Ideal) (kernelRun0_A.sl.r c arg2 harg2 x0) (kernelRun0_A.sl.r_1 c arg2 harg2 x0) (kernelRun0_A.sl.r_9 c arg2 harg2 x0) = (shapeCast S128x128 (qC ![128, 256] ![1, 256] ![6, 0] (by decide) (by decide) (by decide) (qB7 c arg2 harg2 x0)) shapeCasts_S128x128_S128x128) := rfl
theorem q_7_2_0 : k0_pay1554 (F := Ideal) (kernelRun0_A.sl.r c arg2 harg2 x0) (kernelRun0_A.sl.r_1 c arg2 harg2 x0) (kernelRun0_A.sl.r_9 c arg2 harg2 x0) = (shapeCast S128x128 (qC ![0, 256] ![0, 256] ![2, 0] (by decide) (by decide) (by decide) (qB7 c arg2 harg2 x0)) shapeCasts_S128x128_S128x128) := rfl
theorem q_7_1_1 : k0_pay1552 (F := Ideal) (kernelRun0_A.sl.r_12 c arg2 harg2 x0) = (shapeCast S128x128 (qC ![128, 128] ![1, 128] ![5, 0] (by decide) (by decide) (by decide) (qB7 c arg2 harg2 x0)) shapeCasts_S128x128_S128x128) := rfl
theorem q_7_1_0 : k0_pay1550 (F := Ideal) (kernelRun0_A.sl.r c arg2 harg2 x0) (kernelRun0_A.sl.r_1 c arg2 harg2 x0) (kernelRun0_A.sl.r_9 c arg2 harg2 x0) = (shapeCast S128x128 (qC ![0, 128] ![0, 128] ![1, 0] (by decide) (by decide) (by decide) (qB7 c arg2 harg2 x0)) shapeCasts_S128x128_S128x128) := rfl
theorem q_7_0_1 : k0_pay1548 (F := Ideal) (kernelRun0_A.sl.r_10 c arg2 harg2 x0) = (shapeCast S128x128 (qC ![128, 0] ![1, 0] ![4, 0] (by decide) (by decide) (by decide) (qB7 c arg2 harg2 x0)) shapeCasts_S128x128_S128x128) := rfl
theorem q_7_0_0 : k0_pay1546 (F := Ideal) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) = (shapeCast S128x128 (qC ![0, 0] ![0, 0] ![0, 0] (by decide) (by decide) (by decide) (qB7 c arg2 harg2 x0)) shapeCasts_S128x128_S128x128) := rfl
theorem il_q7 (hr : ∀ n c, ∃ r : ℝ, mqF (nat3 x0 0) n c = r) (r : Fin 1024) (d : Fin 128) :
    View.canon (Val := Elt Ideal) (e := .f32) (kernelRun0_A.sl.HS0_80 c arg2 harg2 arg3 harg3 arg4 harg4 x0 x1 x2) (ix2 r d) = qcF (fun s d => nat3 x0 0 s (3584 + 128 * (r.val % 4) + d)) (r.val / 4) d := by
  unfold kernelRun0_A.sl.HS0_80
  rw [q_7_0_0, q_7_0_1, q_7_1_0, q_7_1_1, q_7_2_0, q_7_2_1, q_7_3_0, q_7_3_1]
  refine il_eight ![![(shapeCast S128x128 (qC ![0, 0] ![0, 0] ![0, 0] (by decide) (by decide) (by decide) (qB7 c arg2 harg2 x0)) shapeCasts_S128x128_S128x128), (shapeCast S128x128 (qC ![128, 0] ![1, 0] ![4, 0] (by decide) (by decide) (by decide) (qB7 c arg2 harg2 x0)) shapeCasts_S128x128_S128x128)], ![(shapeCast S128x128 (qC ![0, 128] ![0, 128] ![1, 0] (by decide) (by decide) (by decide) (qB7 c arg2 harg2 x0)) shapeCasts_S128x128_S128x128), (shapeCast S128x128 (qC ![128, 128] ![1, 128] ![5, 0] (by decide) (by decide) (by decide) (qB7 c arg2 harg2 x0)) shapeCasts_S128x128_S128x128)], ![(shapeCast S128x128 (qC ![0, 256] ![0, 256] ![2, 0] (by decide) (by decide) (by decide) (qB7 c arg2 harg2 x0)) shapeCasts_S128x128_S128x128), (shapeCast S128x128 (qC ![128, 256] ![1, 256] ![6, 0] (by decide) (by decide) (by decide) (qB7 c arg2 harg2 x0)) shapeCasts_S128x128_S128x128)], ![(shapeCast S128x128 (qC ![0, 384] ![0, 384] ![3, 0] (by decide) (by decide) (by decide) (qB7 c arg2 harg2 x0)) shapeCasts_S128x128_S128x128), (shapeCast S128x128 (qC ![128, 384] ![1, 384] ![7, 0] (by decide) (by decide) (by decide) (qB7 c arg2 harg2 x0)) shapeCasts_S128x128_S128x128)]] (kernelRun0_A.sl.HS0_72 c arg2 harg2 arg3 harg3 arg4 harg4 x0 x1 x2) _ _ _ _ _ _ _ _ _ (fun j s d => qcF (fun s d => nat3 x0 0 s (3584 + 128 * j + d)) s d) ?_ r d
  intro j n s d
  fin_cases j <;> fin_cases n
  · exact (cast_id' _ _ s d).trans (qC_v _ _ _ _ _ _ _ (nat3 x0 0) 3584 (qB7_v c arg2 harg2 x0) hr 0 0 (by decide) (by decide) rfl rfl rfl s d)
  · exact (cast_id' _ _ s d).trans (qC_v _ _ _ _ _ _ _ (nat3 x0 0) 3584 (qB7_v c arg2 harg2 x0) hr 0 1 (by decide) (by decide) rfl rfl rfl s d)
  · exact (cast_id' _ _ s d).trans (qC_v _ _ _ _ _ _ _ (nat3 x0 0) 3584 (qB7_v c arg2 harg2 x0) hr 1 0 (by decide) (by decide) rfl rfl rfl s d)
  · exact (cast_id' _ _ s d).trans (qC_v _ _ _ _ _ _ _ (nat3 x0 0) 3584 (qB7_v c arg2 harg2 x0) hr 1 1 (by decide) (by decide) rfl rfl rfl s d)
  · exact (cast_id' _ _ s d).trans (qC_v _ _ _ _ _ _ _ (nat3 x0 0) 3584 (qB7_v c arg2 harg2 x0) hr 2 0 (by decide) (by decide) rfl rfl rfl s d)
  · exact (cast_id' _ _ s d).trans (qC_v _ _ _ _ _ _ _ (nat3 x0 0) 3584 (qB7_v c arg2 harg2 x0) hr 2 1 (by decide) (by decide) rfl rfl rfl s d)
  · exact (cast_id' _ _ s d).trans (qC_v _ _ _ _ _ _ _ (nat3 x0 0) 3584 (qB7_v c arg2 harg2 x0) hr 3 0 (by decide) (by decide) rfl rfl rfl s d)
  · exact (cast_id' _ _ s d).trans (qC_v _ _ _ _ _ _ _ (nat3 x0 0) 3584 (qB7_v c arg2 harg2 x0) hr 3 1 (by decide) (by decide) rfl rfl rfl s d)
end

variable (m : (ℓ : Loc nD τ sig) → Buf (Elt Ideal) ℓ)

theorem ix4_off' (s : Fin 256) (h : Fin 32) (d : Fin 128) (o : Fin 4 → ℕ) (x : S1x8x4x128.Idx)
    (hx : ∀ e : Fin 4, ((ix4 0 s h d : S1x256x32x128.Idx) e : ℕ) = o e + (x e : ℕ)) (h3 : o 3 = 0) :
    ∃ (b : Fin 8) (j : Fin 4), x = ix4 0 b j d ∧ s.val = o 1 + b.val ∧ h.val = o 2 + j.val := by
  refine ⟨x 1, x 2, ?_, hx 1, hx 2⟩
  funext e
  match e with
  | 0 => exact Subsingleton.elim (α := Fin 1) _ _
  | 1 => rfl
  | 2 => rfl
  | 3 =>
    apply Fin.ext
    have := hx 3
    rw [h3] at this
    exact (Nat.zero_add _ ▸ this).symm

/-- The codes of the queries. -/
theorem out4 (c : Dev nD) (t : Fin cfg0.N) (y5 : Vec Ideal S1x2x64 .f32) (y8 : Vec Ideal S1x4x16 .f32) (hm : ∀ n k, ∃ r : ℝ, mqF (nat3 (iblk m c 0 t) 0) n k = r) (s : Fin 256) (h : Fin 32) (d : Fin 128) :
    View.canon (pcs_4 m c t y5 y8) (ix4 0 s h d) = qcF (fun s d => nat3 (iblk m c 0 t) 0 s (128 * h + d)) s d := by
  refine View.canon_eq_of_allAt _ _ _ (cover_4 m c t y5 y8 _) ?_
  have L0 := il_q0 c (ms0_0 t) (hs0_0 t) (ms0_1 t) (ms0_2 t) (hs0_1 t) (hs0_2 t) (iblk m c 0 t) (iblk m c 1 t) (iblk m c 2 t) hm
  have L1 := il_q1 c (ms0_0 t) (hs0_0 t) (ms0_1 t) (ms0_2 t) (hs0_1 t) (hs0_2 t) (iblk m c 0 t) (iblk m c 1 t) (iblk m c 2 t) hm
  have L2 := il_q2 c (ms0_0 t) (hs0_0 t) (ms0_1 t) (ms0_2 t) (hs0_1 t) (hs0_2 t) (iblk m c 0 t) (iblk m c 1 t) (iblk m c 2 t) hm
  have L3 := il_q3 c (ms0_0 t) (hs0_0 t) (ms0_1 t) (ms0_2 t) (hs0_1 t) (hs0_2 t) (iblk m c 0 t) (iblk m c 1 t) (iblk m c 2 t) hm
  have L4 := il_q4 c (ms0_0 t) (hs0_0 t) (ms0_1 t) (ms0_2 t) (hs0_1 t) (hs0_2 t) (iblk m c 0 t) (iblk m c 1 t) (iblk m c 2 t) hm
  have L5 := il_q5 c (ms0_0 t) (hs0_0 t) (ms0_1 t) (ms0_2 t) (hs0_1 t) (hs0_2 t) (iblk m c 0 t) (iblk m c 1 t) (iblk m c 2 t) hm
  have L6 := il_q6 c (ms0_0 t) (hs0_0 t) (ms0_1 t) (ms0_2 t) (hs0_1 t) (hs0_2 t) (iblk m c 0 t) (iblk m c 1 t) (iblk m c 2 t) hm
  have L7 := il_q7 c (ms0_0 t) (hs0_0 t) (ms0_1 t) (ms0_2 t) (hs0_1 t) (hs0_2 t) (iblk m c 0 t) (iblk m c 1 t) (iblk m c 2 t) hm
  unfold pcs_4 runAt kernelRun0_A
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (3584 + 128 * j + d)) s d) L7 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (3072 + 128 * j + d)) s d) L6 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (2560 + 128 * j + d)) s d) L5 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (2048 + 128 * j + d)) s d) L4 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (1536 + 128 * j + d)) s d) L3 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (1024 + 128 * j + d)) s d) L2 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (512 + 128 * j + d)) s d) L1 _ _ _ rfl rfl b j d).trans ?_
      simp only [hs, hh]
      refine qcF_congr _ _ (fun s d => congrArg _ ?_) _ _
      simp <;> omega
  iterate 32
    refine View.allAt_cons_unit _ _ _ _ _ (fun x hx => ?_) ?_
    · obtain ⟨b, j, rfl, hs, hh⟩ := ix4_off' s h d _ x hx rfl
      refine (il_piece _ _ _ _ (fun j s d => qcF (fun s d => nat3 (iblk m c 0 t) 0 s (0 + 128 * j + d)) s d) L0 _ _ _ rfl rfl b j d).trans ?_
      simp only [hs, hh]
      refine qcF_congr _ _ (fun s d => congrArg _ ?_) _ _
      simp <;> omega
  exact View.allAt_nil _ _
end Cert.KernelIdeal.Gen
-- ==== Proof.Tables.lean ====
/- The tables of scales after each point. -/
module
public import proofs.«01_k».proof.Proof.QCodes
@[expose] public section
set_option maxRecDepth 16384
noncomputable section
namespace Cert.KernelIdeal.Gen
open Idealize.ShloMosaic Idealize.ShloMosaic.TcCoe Idealize.ShloMosaic.Tactic
open Cert.Sage

/-- One step of the keys' table: the lanes numbered `a` take the scales, the others keep what they had. -/
noncomputable def ktab (a : BitVec 32) (s : FVec Ideal S4x1 .f32) (p : FVec Ideal S4x16 .f32) : FVec Ideal S4x16 .f32 :=
  select (cmpi .eq kernelRun0_A.sl.v32 (broadcast S4x16 a)) (broadcastTo S4x16 (shapeCast S4x1 s shapeCasts_S4x1_S4x1) broadcasts_S4x1_S4x16) p

theorem ktab_v (a : BitVec 32) (s p) (g : Fin 4) (l : Fin 16) : ktab a s p (ix2 g l) = if BitVec.ofNat 32 l.val = a then s (ix2 g 0) else p (ix2 g l) := by
  pointwise [ktab, kernelRun0_A.sl.v32]
  have e : ∀ q, s (ix2 g q) = s (ix2 g 0) := fun q => by rw [Subsingleton.elim q 0]
  rw [e]
  by_cases h : BitVec.ofNat 32 l.val = a
  · simp [h, IntOp.cmpi, Scalar.select]
  · have hb : (BitVec.ofNat 32 l.val == a) = false := by simpa using h
    simp only [IntOp.cmpi, Scalar.select, hb, if_neg h]
    simp

/-- One step of the queries' table. -/
noncomputable def qtab (a : BitVec 32) (o0 o1 : Fin 2 → ℕ) (h0 : S8x1.Slices o0 S1x1) (h1 : S8x1.Slices o1 S1x1) (s : FVec Ideal S8x1 .f32) (p : FVec Ideal S2x64 .f32) : FVec Ideal S2x64 .f32 :=
  select (cmpi .eq kernelRun0_A.sl.v33 (broadcast S2x64 a)) (broadcastTo S2x64 (shapeCast S2x1 (concatenate S2x1 0 [⟨S1x1, extractStridedSlice S1x1 o0 s h0⟩, ⟨S1x1, extractStridedSlice S1x1 o1 s h1⟩] concatenates_S1x1_S1x1_S2x1_d0) shapeCasts_S2x1_S2x1) broadcasts_S2x1_S2x64) p

theorem s1_v (s : FVec Ideal S8x1 .f32) (o : Fin 2 → ℕ) (h) (f : ℕ → EReal) (hs : ∀ g : Fin 8, s (ix2 g 0) = f g) (g : ℕ) (ho : o = ![g, 0]) : extractStridedSlice S1x1 o s h (ix2 0 0) = f g := by
  subst ho
  pointwise
  have e : ∀ p q, s (ix2 p q) = f p := fun p q => by rw [Subsingleton.elim q 0, hs]
  rw [e]

theorem qtab_v (a : BitVec 32) (o0 o1 h0 h1 s p) (f : ℕ → EReal) (hs : ∀ g : Fin 8, s (ix2 g 0) = f g) (g : ℕ) (e0 : o0 = ![g, 0]) (e1 : o1 = ![4 + g, 0]) (n : Fin 2) (l : Fin 64) :
    qtab a o0 o1 h0 h1 s p (ix2 n l) = if BitVec.ofNat 32 l.val = a then f (4 * n + g) else p (ix2 n l) := by
  have z0 := s1_v s o0 h0 f hs g e0
  have z1 := s1_v s o1 h1 f hs (4 + g) e1
  unfold qtab
  generalize extractStridedSlice S1x1 o0 s h0 = a0 at z0 ⊢
  generalize extractStridedSlice S1x1 o1 s h1 = a1 at z1 ⊢
  pointwise [kernelRun0_A.sl.v33]
  have f0 : ∀ x y, a0 (ix2 x y) = f g := fun x y => by rw [Subsingleton.elim x 0, Subsingleton.elim y 0, z0]
  have f1 : ∀ x y, a1 (ix2 x y) = f (4 + g) := fun x y => by rw [Subsingleton.elim x 0, Subsingleton.elim y 0, z1]
  by_cases h : BitVec.ofNat 32 l.val = a
  · fin_vals n with hk <;> simp [h, hk, IntOp.cmpi, Scalar.select, f0, f1]
  · have hb : (BitVec.ofNat 32 l.val == a) = false := by simpa using h
    simp only [IntOp.cmpi, Scalar.select, hb, if_neg h]
    simp

noncomputable abbrev kad (j : ℕ) (a b : BitVec 32) : BitVec 32 := Scalar.addi (Scalar.addi (Scalar.muli 8#32 (BitVec.ofNat 32 j)) a) b
noncomputable abbrev qad (j : ℕ) (a b : BitVec 32) : BitVec 32 := Scalar.addi (Scalar.addi (Scalar.muli 32#32 (BitVec.ofNat 32 j)) a) b
theorem kad_v : ∀ (j : Fin 2) (G : Fin 2) (i : Fin 4) (l : Fin 16), (BitVec.ofNat 32 l.val = kad j.val (BitVec.ofNat 32 (4 * G.val)) (BitVec.ofNat 32 i.val)) ↔ l.val = 8 * j.val + 4 * G.val + i.val := by decide +kernel
theorem qad_v : ∀ (j : Fin 2) (k : Fin 8) (i : Fin 4) (l : Fin 64), (BitVec.ofNat 32 l.val = qad j.val (BitVec.ofNat 32 (4 * k.val)) (BitVec.ofNat 32 i.val)) ↔ l.val = 32 * j.val + 4 * k.val + i.val := by decide +kernel

theorem pick8 (q J : ℕ) (G : ℕ → EReal) (p : EReal) : (if q = 8 * J + 7 then G 7 else if q = 8 * J + 6 then G 6 else if q = 8 * J + 5 then G 5 else if q = 8 * J + 4 then G 4 else
    if q = 8 * J + 3 then G 3 else if q = 8 * J + 2 then G 2 else if q = 8 * J + 1 then G 1 else if q = 8 * J + 0 then G 0 else p) = if q / 8 = J then G (q % 8) else p := by
  split_ifs <;> first | rfl | (exfalso; omega) | (congr 1; omega)

/-- Four steps of the queries' table. -/
noncomputable def qtab4 (j : ℕ) (a : BitVec 32) (s : FVec Ideal S8x1 .f32) (p : FVec Ideal S2x64 .f32) : FVec Ideal S2x64 .f32 :=
  qtab (qad j a 3#32) ![3, 0] ![7, 0] (by decide) (by decide) s <| qtab (qad j a 2#32) ![2, 0] ![6, 0] (by decide) (by decide) s <|
    qtab (qad j a 1#32) ![1, 0] ![5, 0] (by decide) (by decide) s <| qtab (qad j a 0#32) ![0, 0] ![4, 0] (by decide) (by decide) s p

theorem qtab4_v (j : Fin 2) (k : Fin 8) (a : BitVec 32) (ha : a = BitVec.ofNat 32 (4 * k.val)) (s p) (f : ℕ → EReal) (hs : ∀ g : Fin 8, s (ix2 g 0) = f g) (n : Fin 2) (l : Fin 64) :
    qtab4 j.val a s p (ix2 n l) = if l.val / 4 = 8 * j.val + k.val then f (4 * n + l.val % 4) else p (ix2 n l) := by
  subst ha
  unfold qtab4
  rw [qtab_v _ _ _ _ _ _ _ f hs 3 rfl rfl, qtab_v _ _ _ _ _ _ _ f hs 2 rfl rfl, qtab_v _ _ _ _ _ _ _ f hs 1 rfl rfl, qtab_v _ _ _ _ _ _ _ f hs 0 rfl rfl]
  have e3 := qad_v j k 3 l
  have e2 := qad_v j k 2 l
  have e1 := qad_v j k 1 l
  have e0 := qad_v j k 0 l
  simp only [show BitVec.ofNat 32 (3 : Fin 4).val = 3#32 from rfl, show BitVec.ofNat 32 (2 : Fin 4).val = 2#32 from rfl, show BitVec.ofNat 32 (1 : Fin 4).val = 1#32 from rfl, show BitVec.ofNat 32 (0 : Fin 4).val = 0#32 from rfl,
    show (3 : Fin 4).val = 3 from rfl, show (2 : Fin 4).val = 2 from rfl, show (1 : Fin 4).val = 1 from rfl, show (0 : Fin 4).val = 0 from rfl] at e0 e1 e2 e3
  simp only [e0, e1, e2, e3]
  split_ifs <;> first | rfl | (exfalso; omega) | (congr 1; omega)

section
variable (c : Dev nD) (i : grid0.Coords) (arg2 : Memref sig .tc .vmem S1x256x4096 .bf16) (harg2 : arg2.IsWhole) (arg3 : Memref sig .tc .vmem S1x256x1024 .bf16) (harg3 : arg3.IsWhole)
  (arg7 : Memref sig .tc .vmem S1x2x64 .f32) (harg7 : arg7.IsWhole) (arg10 : Memref sig .tc .vmem S1x4x16 .f32) (harg10 : arg10.IsWhole)
  (x0 : Vec Ideal S1x256x4096 .bf16) (x1 : Vec Ideal S1x256x1024 .bf16) (x5 : Vec Ideal S1x2x64 .f32) (x8 : Vec Ideal S1x4x16 .f32)
theorem t_q0 : kernelRun0_A.sl.v1173 c i arg2 harg2 arg7 harg7 x0 x5 = qtab4 (i 1).val 0#32 (qsc (qP (qB0 c arg2 harg2 x0))) (kernelRun0_A.sl.v40 c arg7 harg7 x5) := rfl
theorem t_q1 : kernelRun0_A.sl.v2310 c i arg2 harg2 arg7 harg7 x0 x5 = qtab4 (i 1).val 4#32 (qsc (qP (qB1 c arg2 harg2 x0))) (kernelRun0_A.sl.v1173 c i arg2 harg2 arg7 harg7 x0 x5) := rfl
theorem t_q2 : kernelRun0_A.sl.v3447 c i arg2 harg2 arg7 harg7 x0 x5 = qtab4 (i 1).val 8#32 (qsc (qP (qB2 c arg2 harg2 x0))) (kernelRun0_A.sl.v2310 c i arg2 harg2 arg7 harg7 x0 x5) := rfl
theorem t_q3 : kernelRun0_A.sl.v4584 c i arg2 harg2 arg7 harg7 x0 x5 = qtab4 (i 1).val 12#32 (qsc (qP (qB3 c arg2 harg2 x0))) (kernelRun0_A.sl.v3447 c i arg2 harg2 arg7 harg7 x0 x5) := rfl
theorem t_q4 : kernelRun0_A.sl.v6623 c i arg2 harg2 arg7 harg7 x0 x5 = qtab4 (i 1).val 16#32 (qsc (qP (qB4 c arg2 harg2 x0))) (kernelRun0_A.sl.v4584 c i arg2 harg2 arg7 harg7 x0 x5) := rfl
theorem t_q5 : kernelRun0_A.sl.v7760 c i arg2 harg2 arg7 harg7 x0 x5 = qtab4 (i 1).val 20#32 (qsc (qP (qB5 c arg2 harg2 x0))) (kernelRun0_A.sl.v6623 c i arg2 harg2 arg7 harg7 x0 x5) := rfl
theorem t_q6 : kernelRun0_A.sl.v8897 c i arg2 harg2 arg7 harg7 x0 x5 = qtab4 (i 1).val 24#32 (qsc (qP (qB6 c arg2 harg2 x0))) (kernelRun0_A.sl.v7760 c i arg2 harg2 arg7 harg7 x0 x5) := rfl
theorem t_q7 : kernelRun0_A.sl.r_14 c i arg2 harg2 arg7 harg7 x0 x5 = qtab4 (i 1).val 28#32 (qsc (qP (qB7 c arg2 harg2 x0))) (kernelRun0_A.sl.v8897 c i arg2 harg2 arg7 harg7 x0 x5) := rfl
theorem t_k : kernelRun0_A.sl.v6199 c i arg3 harg3 arg10 harg10 x1 x8 = (ktab (kad (i 1).val 4#32 3#32) (ksc (kP 384 (by decide) (kB1 c arg3 harg3 x1) (kM1 c arg3 harg3 x1))) (ktab (kad (i 1).val 4#32 2#32) (ksc (kP 256 (by decide) (kB1 c arg3 harg3 x1) (kM1 c arg3 harg3 x1))) (ktab (kad (i 1).val 4#32 1#32) (ksc (kP 128 (by decide) (kB1 c arg3 harg3 x1) (kM1 c arg3 harg3 x1))) (ktab (kad (i 1).val 4#32 0#32) (ksc (kP 0 (by decide) (kB1 c arg3 harg3 x1) (kM1 c arg3 harg3 x1))) (ktab (kad (i 1).val 0#32 3#32) (ksc (kP 384 (by decide) (kB0 c arg3 harg3 x1) (kM0 c arg3 harg3 x1))) (ktab (kad (i 1).val 0#32 2#32) (ksc (kP 256 (by decide) (kB0 c arg3 harg3 x1) (kM0 c arg3 harg3 x1))) (ktab (kad (i 1).val 0#32 1#32) (ksc (kP 128 (by decide) (kB0 c arg3 harg3 x1) (kM0 c arg3 harg3 x1))) (ktab (kad (i 1).val 0#32 0#32) (ksc (kP 0 (by decide) (kB0 c arg3 harg3 x1) (kM0 c arg3 harg3 x1))) (kernelRun0_A.sl.v38 c arg10 harg10 x8))))))))) := rfl

theorem v40_v (n : Fin 2) (l : Fin 64) : kernelRun0_A.sl.v40 c arg7 harg7 x5 (ix2 n l) = x5 (ix3 0 n l) := by
  have e : View.readAt (Elt Ideal) arg7.view (Rect.unit (s := S1x2x64) ![0, 0, 0] S1x2x64.size inb_S1x2x64_S1x2x64_0_0_0).toLoadRect (harg7.unread x5) = x5 := by
    funext y
    rw [harg7.readAt_unread]
    congr 1
    funext a
    have y0 : (y 0).val = 0 := Nat.lt_one_iff.mp (y 0).isLt
    apply Fin.ext
    fin_cases a <;> simp [LoadRect.idx, y0]
  unfold kernelRun0_A.sl.v40
  rw [e]
  pointwise
theorem v38_v (n : Fin 4) (l : Fin 16) : kernelRun0_A.sl.v38 c arg10 harg10 x8 (ix2 n l) = x8 (ix3 0 n l) := by
  have e : View.readAt (Elt Ideal) arg10.view (Rect.unit (s := S1x4x16) ![0, 0, 0] S1x4x16.size inb_S1x4x16_S1x4x16_0_0_0).toLoadRect (harg10.unread x8) = x8 := by
    funext y
    rw [harg10.readAt_unread]
    congr 1
    funext a
    have y0 : (y 0).val = 0 := Nat.lt_one_iff.mp (y 0).isLt
    apply Fin.ext
    fin_cases a <;> simp [LoadRect.idx, y0]
  unfold kernelRun0_A.sl.v38
  rw [e]
  pointwise

theorem qs_v (hr : ∀ n c, ∃ r : ℝ, mqF (nat3 x0 0) n c = r) (n : Fin 2) (l : Fin 64) :
    kernelRun0_A.sl.r_14 c i arg2 harg2 arg7 harg7 x0 x5 (ix2 n l) = if l.val / 32 = (i 1).val then sc (qaF (fun s d => nat3 x0 0 s (128 * (l.val % 32) + d)) n) else x5 (ix3 0 n l) := by
  have hq := fun (B : FVec Ideal S256x512 .bf16) (k : ℕ) hB => fun g => qsc_v (qP B) g _ (qP_v B (nat3 x0 0) k hB hr g)
  have hi : (i 1).val < 2 := (i 1).isLt
  have hl := l.isLt
  have hn := n.isLt
  rw [t_q7, qtab4_v ⟨(i 1).val, hi⟩ 7 28#32 rfl _ _ (fun g => sc (qaF (fun s d => nat3 x0 0 s (3584 + 128 * (g % 4) + d)) (g / 4))) (hq _ 3584 (qB7_v c arg2 harg2 x0)) n l]
  rw [t_q6, qtab4_v ⟨(i 1).val, hi⟩ 6 24#32 rfl _ _ (fun g => sc (qaF (fun s d => nat3 x0 0 s (3072 + 128 * (g % 4) + d)) (g / 4))) (hq _ 3072 (qB6_v c arg2 harg2 x0)) n l]
  rw [t_q5, qtab4_v ⟨(i 1).val, hi⟩ 5 20#32 rfl _ _ (fun g => sc (qaF (fun s d => nat3 x0 0 s (2560 + 128 * (g % 4) + d)) (g / 4))) (hq _ 2560 (qB5_v c arg2 harg2 x0)) n l]
  rw [t_q4, qtab4_v ⟨(i 1).val, hi⟩ 4 16#32 rfl _ _ (fun g => sc (qaF (fun s d => nat3 x0 0 s (2048 + 128 * (g % 4) + d)) (g / 4))) (hq _ 2048 (qB4_v c arg2 harg2 x0)) n l]
  rw [t_q3, qtab4_v ⟨(i 1).val, hi⟩ 3 12#32 rfl _ _ (fun g => sc (qaF (fun s d => nat3 x0 0 s (1536 + 128 * (g % 4) + d)) (g / 4))) (hq _ 1536 (qB3_v c arg2 harg2 x0)) n l]
  rw [t_q2, qtab4_v ⟨(i 1).val, hi⟩ 2 8#32 rfl _ _ (fun g => sc (qaF (fun s d => nat3 x0 0 s (1024 + 128 * (g % 4) + d)) (g / 4))) (hq _ 1024 (qB2_v c arg2 harg2 x0)) n l]
  rw [t_q1, qtab4_v ⟨(i 1).val, hi⟩ 1 4#32 rfl _ _ (fun g => sc (qaF (fun s d => nat3 x0 0 s (512 + 128 * (g % 4) + d)) (g / 4))) (hq _ 512 (qB1_v c arg2 harg2 x0)) n l]
  rw [t_q0, qtab4_v ⟨(i 1).val, hi⟩ 0 0#32 rfl _ _ (fun g => sc (qaF (fun s d => nat3 x0 0 s (0 + 128 * (g % 4) + d)) (g / 4))) (hq _ 0 (qB0_v c arg2 harg2 x0)) n l]
  rw [v40_v]
  have e1 : (4 * n.val + l.val % 4) % 4 = l.val % 4 := by omega
  have e2 : (4 * n.val + l.val % 4) / 4 = n.val := by omega
  simp only [e1, e2]
  refine (pick8 (l.val / 4) (i 1).val (fun k => sc (qaF (fun s d => nat3 x0 0 s (512 * k + 128 * (l.val % 4) + d)) n)) _).trans ?_
  rw [show l.val / 4 / 8 = l.val / 32 by omega]
  simp only
  rw [show 512 * (l.val / 4 % 8) + 128 * (l.val % 4) = 128 * (l.val % 32) by omega]

theorem ks_v (hr : ∀ c, ∃ r : ℝ, mvF (nat3 x1 0) c = r) (n : Fin 4) (l : Fin 16) :
    kernelRun0_A.sl.v6199 c i arg3 harg3 arg10 harg10 x1 x8 (ix2 n l) = if l.val / 8 = (i 1).val then sc (kaF (fun s d => nat3 x1 0 s (128 * (l.val % 8) + d)) n) else x8 (ix3 0 n l) := by
  have hi : (i 1).val < 2 := (i 1).isLt
  have hl := l.isLt
  rw [t_k, ktab_v, ktab_v, ktab_v, ktab_v, ktab_v, ktab_v, ktab_v, ktab_v, v38_v]
  have e00 : (BitVec.ofNat 32 l.val = kad (i 1).val 0#32 0#32) ↔ l.val = 8 * (i 1).val + 0 := (kad_v ⟨(i 1).val, hi⟩ 0 0 l).trans (by simp [add_assoc])
  rw [ksc_v _ n _ (kP_v 0 _ _ _ (nat3 x1 0) 0 (kB0_v c arg3 harg3 x1) (v350_v c arg3 harg3 x1) hr 0 rfl n)]
  have e01 : (BitVec.ofNat 32 l.val = kad (i 1).val 0#32 1#32) ↔ l.val = 8 * (i 1).val + 1 := (kad_v ⟨(i 1).val, hi⟩ 0 1 l).trans (by simp [add_assoc])
  rw [ksc_v _ n _ (kP_v 128 _ _ _ (nat3 x1 0) 0 (kB0_v c arg3 harg3 x1) (v350_v c arg3 harg3 x1) hr 128 rfl n)]
  have e02 : (BitVec.ofNat 32 l.val = kad (i 1).val 0#32 2#32) ↔ l.val = 8 * (i 1).val + 2 := (kad_v ⟨(i 1).val, hi⟩ 0 2 l).trans (by simp [add_assoc])
  rw [ksc_v _ n _ (kP_v 256 _ _ _ (nat3 x1 0) 0 (kB0_v c arg3 harg3 x1) (v350_v c arg3 harg3 x1) hr 256 rfl n)]
  have e03 : (BitVec.ofNat 32 l.val = kad (i 1).val 0#32 3#32) ↔ l.val = 8 * (i 1).val + 3 := (kad_v ⟨(i 1).val, hi⟩ 0 3 l).trans (by simp [add_assoc])
  rw [ksc_v _ n _ (kP_v 384 _ _ _ (nat3 x1 0) 0 (kB0_v c arg3 harg3 x1) (v350_v c arg3 harg3 x1) hr 384 rfl n)]
  have e10 : (BitVec.ofNat 32 l.val = kad (i 1).val 4#32 0#32) ↔ l.val = 8 * (i 1).val + 4 := (kad_v ⟨(i 1).val, hi⟩ 1 0 l).trans (by simp [add_assoc])
  rw [ksc_v _ n _ (kP_v 0 _ _ _ (nat3 x1 0) 512 (kB1_v c arg3 harg3 x1) (v5800_v c arg3 harg3 x1) hr 512 rfl n)]
  have e11 : (BitVec.ofNat 32 l.val = kad (i 1).val 4#32 1#32) ↔ l.val = 8 * (i 1).val + 5 := (kad_v ⟨(i 1).val, hi⟩ 1 1 l).trans (by simp [add_assoc])
  rw [ksc_v _ n _ (kP_v 128 _ _ _ (nat3 x1 0) 512 (kB1_v c arg3 harg3 x1) (v5800_v c arg3 harg3 x1) hr 640 rfl n)]
  have e12 : (BitVec.ofNat 32 l.val = kad (i 1).val 4#32 2#32) ↔ l.val = 8 * (i 1).val + 6 := (kad_v ⟨(i 1).val, hi⟩ 1 2 l).trans (by simp [add_assoc])
  rw [ksc_v _ n _ (kP_v 256 _ _ _ (nat3 x1 0) 512 (kB1_v c arg3 harg3 x1) (v5800_v c arg3 harg3 x1) hr 768 rfl n)]
  have e13 : (BitVec.ofNat 32 l.val = kad (i 1).val 4#32 3#32) ↔ l.val = 8 * (i 1).val + 7 := (kad_v ⟨(i 1).val, hi⟩ 1 3 l).trans (by simp [add_assoc])
  rw [ksc_v _ n _ (kP_v 384 _ _ _ (nat3 x1 0) 512 (kB1_v c arg3 harg3 x1) (v5800_v c arg3 harg3 x1) hr 896 rfl n)]
  simp only [e00, e01, e02, e03, e10, e11, e12, e13]
  exact pick8 l.val (i 1).val (fun k => sc (kaF (fun s d => nat3 x1 0 s (128 * k + d)) n)) _
end

variable (m : (ℓ : Loc nD τ sig) → Buf (Elt Ideal) ℓ)

theorem coords_1 : ∀ t : Fin cfg0.N, (grid0.coords t 1).val = t.val % 2 := (by decide +kernel : ∀ t : Fin grid0.N, _)

/-- The queries' table after a point. -/
theorem out5 (c : Dev nD) (t : Fin cfg0.N) (y5 : Vec Ideal S1x2x64 .f32) (y8 : Vec Ideal S1x4x16 .f32) (hm : ∀ n k, ∃ r : ℝ, mqF (nat3 (iblk m c 0 t) 0) n k = r) (n : Fin 2) (l : Fin 64) :
    View.canon (pcs_5 m c t y5 y8) (ix3 0 n l) = if l.val / 32 = t.val % 2 then sc (qaF (fun s d => nat3 (iblk m c 0 t) 0 s (128 * (l.val % 32) + d)) n) else y5 (ix3 0 n l) := by
  refine View.canon_eq_of_allAt _ _ _ (cover_5 m c t y5 y8 _) ?_
  have L := qs_v c (grid0.coords t) (ms0_0 t) (hs0_0 t) (ms0_5 t) (hs0_5 t) (iblk m c 0 t) y5 hm n l
  rw [coords_1] at L
  unfold pcs_5 runAt kernelRun0_A
  refine View.allAt_cons_unit _ _ _ _ _ ?_ (View.allAt_nil _ _)
  intro x hx
  obtain rfl := ix3_of (a := 1) (b := 2) (c := 64) x 0 n l hx
  rw [← L]
  generalize kernelRun0_A.sl.r_14 c (grid0.coords t) (ms0_0 t) (hs0_0 t) (ms0_5 t) (hs0_5 t) (iblk m c 0 t) y5 = T
  pointwise [k0_pay1710]

/-- The keys' table after a point. -/
theorem out8 (c : Dev nD) (t : Fin cfg0.N) (y5 : Vec Ideal S1x2x64 .f32) (y8 : Vec Ideal S1x4x16 .f32) (hm : ∀ k, ∃ r : ℝ, mvF (nat3 (iblk m c 1 t) 0) k = r) (n : Fin 4) (l : Fin 16) :
    View.canon (pcs_8 m c t y5 y8) (ix3 0 n l) = if l.val / 8 = t.val % 2 then sc (kaF (fun s d => nat3 (iblk m c 1 t) 0 s (128 * (l.val % 8) + d)) n) else y8 (ix3 0 n l) := by
  refine View.canon_eq_of_allAt _ _ _ (cover_8 m c t y5 y8 _) ?_
  have L := ks_v c (grid0.coords t) (ms0_1 t) (hs0_1 t) (ms0_8 t) (hs0_8 t) (iblk m c 1 t) y8 hm n l
  rw [coords_1] at L
  unfold pcs_8 runAt kernelRun0_A
  refine View.allAt_cons_unit _ _ _ _ _ ?_ (View.allAt_nil _ _)
  intro x hx
  obtain rfl := ix3_of (a := 1) (b := 4) (c := 16) x 0 n l hx
  rw [← L]
  generalize kernelRun0_A.sl.v6199 c (grid0.coords t) (ms0_1 t) (hs0_1 t) (ms0_8 t) (hs0_8 t) (iblk m c 1 t) y8 = T
  pointwise [k0_pay1709]
end Cert.KernelIdeal.Gen
-- ==== Proof.QMeans.lean ====
/- The means of the queries, as the kernel writes them. -/
module
public import proofs.«01_k».proof.Proof.QCodes
@[expose] public section
set_option maxRecDepth 16384
noncomputable section
namespace Cert.KernelIdeal.Gen
open Idealize.ShloMosaic Idealize.ShloMosaic.TcCoe Idealize.ShloMosaic.Tactic
open Cert.Sage

/-- A row's four heads, one below another. -/
def mrow (n : ℕ) (h0 : S2x512.Slices ![n, 0] S1x128) (h1 : S2x512.Slices ![n, 128] S1x128) (h2 : S2x512.Slices ![n, 256] S1x128) (h3 : S2x512.Slices ![n, 384] S1x128) (M : FVec Ideal S2x512 .f32) : FVec Ideal S4x128 .f32 :=
  concatenate S4x128 0 [⟨S1x128, extractStridedSlice S1x128 ![n, 0] M h0⟩, ⟨S1x128, extractStridedSlice S1x128 ![n, 128] M h1⟩, ⟨S1x128, extractStridedSlice S1x128 ![n, 256] M h2⟩, ⟨S1x128, extractStridedSlice S1x128 ![n, 384] M h3⟩] concatenates_S1x128_S1x128_S1x128_S1x128_S4x128_d0

theorem sl2_v (M : FVec Ideal S2x512 .f32) (o : Fin 2 → ℕ) (ho : S2x512.Slices o S1x128) (f : ℕ → ℕ → EReal) (hM : ∀ (n : Fin 2) (c : Fin 512), M (ix2 n c) = f n c) (n a : ℕ) (h : o = ![n, a]) (d : Fin 128) :
    extractStridedSlice S1x128 o M ho (ix2 0 d) = f n (a + d) := by
  subst h
  pointwise
  have e : ∀ p q, M (ix2 p q) = f p.val q.val := fun p q => hM p q
  rw [e]

theorem mrow_v (n : ℕ) (h0 h1 h2 h3 M) (f : ℕ → ℕ → EReal) (hM : ∀ (n : Fin 2) (c : Fin 512), M (ix2 n c) = f n c) (g : Fin 4) (d : Fin 128) :
    mrow n h0 h1 h2 h3 M (ix2 g d) = f n (128 * g + d) := by
  have e0 := sl2_v M _ h0 f hM n 0 rfl
  have e1 := sl2_v M _ h1 f hM n 128 rfl
  have e2 := sl2_v M _ h2 f hM n 256 rfl
  have e3 := sl2_v M _ h3 f hM n 384 rfl
  unfold mrow
  generalize extractStridedSlice S1x128 ![n, 0] M h0 = a0 at e0 ⊢
  generalize extractStridedSlice S1x128 ![n, 128] M h1 = a1 at e1 ⊢
  generalize extractStridedSlice S1x128 ![n, 256] M h2 = a2 at e2 ⊢
  generalize extractStridedSlice S1x128 ![n, 384] M h3 = a3 at e3 ⊢
  pointwise
  fin_vals g with hk <;> simp [hk, e0, e1, e2, e3]

/-- Eight of them. -/
theorem cat32 (a0 a1 a2 a3 a4 a5 a6 a7 : FVec Ideal S4x128 .f32) (f : ℕ → ℕ → EReal)
    (h0 : ∀ (g : Fin 4) (d : Fin 128), a0 (ix2 g d) = f (0 + g) d)
    (h1 : ∀ (g : Fin 4) (d : Fin 128), a1 (ix2 g d) = f (4 + g) d)
    (h2 : ∀ (g : Fin 4) (d : Fin 128), a2 (ix2 g d) = f (8 + g) d)
    (h3 : ∀ (g : Fin 4) (d : Fin 128), a3 (ix2 g d) = f (12 + g) d)
    (h4 : ∀ (g : Fin 4) (d : Fin 128), a4 (ix2 g d) = f (16 + g) d)
    (h5 : ∀ (g : Fin 4) (d : Fin 128), a5 (ix2 g d) = f (20 + g) d)
    (h6 : ∀ (g : Fin 4) (d : Fin 128), a6 (ix2 g d) = f (24 + g) d)
    (h7 : ∀ (g : Fin 4) (d : Fin 128), a7 (ix2 g d) = f (28 + g) d)
    (h : Fin 32) (d : Fin 128) : k0_pay1711 a0 a1 a2 a3 a4 a5 a6 a7 (ix4 0 0 h d) = f h d := by
  pointwise [k0_pay1711]
  have hh := h.isLt
  split_ifs <;> (first | rw [h0] | rw [h1] | rw [h2] | rw [h3] | rw [h4] | rw [h5] | rw [h6] | rw [h7]) <;> (congr 1; simp; try omega)

variable (m : (ℓ : Loc nD τ sig) → Buf (Elt Ideal) ℓ)

theorem ix4_row (n : Fin 2) (h : Fin 32) (d : Fin 128) (k : ℕ) (o : Fin 4 → ℕ) (x : S1x1x32x128.Idx)
    (hx : ∀ e : Fin 4, ((ix4 0 n h d : S1x2x32x128.Idx) e : ℕ) = o e + (x e : ℕ)) (ho : o = ![0, k, 0, 0]) : x = ix4 0 0 h d ∧ n.val = k := by
  subst ho
  have h1 : (x 1).val < 1 := (x 1).isLt
  have e1 := hx 1
  constructor
  · funext e
    match e with
    | 0 => exact Subsingleton.elim (α := Fin 1) _ _
    | 1 => exact Subsingleton.elim (α := Fin 1) _ _
    | 2 => apply Fin.ext; have := hx 2; exact (Nat.zero_add _ ▸ this).symm
    | 3 => apply Fin.ext; have := hx 3; exact (Nat.zero_add _ ▸ this).symm
  · have e2 : ((ix4 0 n h d : S1x2x32x128.Idx) 1 : ℕ) = n.val := rfl
    rw [e2] at e1
    simp only [Matrix.cons_val_one, Matrix.cons_val_zero] at e1
    omega

/-- The means of the queries. -/
theorem out6 (c : Dev nD) (t : Fin cfg0.N) (y5 : Vec Ideal S1x2x64 .f32) (y8 : Vec Ideal S1x4x16 .f32) (n : Fin 2) (h : Fin 32) (d : Fin 128) :
    View.canon (pcs_6 m c t y5 y8) (ix4 0 n h d) = mqF (nat3 (iblk m c 0 t) 0) n (128 * h + d) := by
  refine View.canon_eq_of_allAt _ _ _ (cover_6 m c t y5 y8 _) ?_
  have hM0 := qM_v (qB0 c (ms0_0 t) (hs0_0 t) (iblk m c 0 t)) (nat3 (iblk m c 0 t) 0) 0 (qB0_v c (ms0_0 t) (hs0_0 t) (iblk m c 0 t))
  have hM1 := qM_v (qB1 c (ms0_0 t) (hs0_0 t) (iblk m c 0 t)) (nat3 (iblk m c 0 t) 0) 512 (qB1_v c (ms0_0 t) (hs0_0 t) (iblk m c 0 t))
  have hM2 := qM_v (qB2 c (ms0_0 t) (hs0_0 t) (iblk m c 0 t)) (nat3 (iblk m c 0 t) 0) 1024 (qB2_v c (ms0_0 t) (hs0_0 t) (iblk m c 0 t))
  have hM3 := qM_v (qB3 c (ms0_0 t) (hs0_0 t) (iblk m c 0 t)) (nat3 (iblk m c 0 t) 0) 1536 (qB3_v c (ms0_0 t) (hs0_0 t) (iblk m c 0 t))
  have hM4 := qM_v (qB4 c (ms0_0 t) (hs0_0 t) (iblk m c 0 t)) (nat3 (iblk m c 0 t) 0) 2048 (qB4_v c (ms0_0 t) (hs0_0 t) (iblk m c 0 t))
  have hM5 := qM_v (qB5 c (ms0_0 t) (hs0_0 t) (iblk m c 0 t)) (nat3 (iblk m c 0 t) 0) 2560 (qB5_v c (ms0_0 t) (hs0_0 t) (iblk m c 0 t))
  have hM6 := qM_v (qB6 c (ms0_0 t) (hs0_0 t) (iblk m c 0 t)) (nat3 (iblk m c 0 t) 0) 3072 (qB6_v c (ms0_0 t) (hs0_0 t) (iblk m c 0 t))
  have hM7 := qM_v (qB7 c (ms0_0 t) (hs0_0 t) (iblk m c 0 t)) (nat3 (iblk m c 0 t) 0) 3584 (qB7_v c (ms0_0 t) (hs0_0 t) (iblk m c 0 t))
  unfold pcs_6 runAt kernelRun0_A
  refine View.allAt_cons_unit _ _ _ _ _ (fun x hx => ?_) ?_
  · obtain ⟨rfl, hn⟩ := ix4_row n h d 1 _ x hx rfl
    rw [hn]
    refine cat32 (mrow 1 (by decide) (by decide) (by decide) (by decide) (qM (qB0 c (ms0_0 t) (hs0_0 t) (iblk m c 0 t)))) (mrow 1 (by decide) (by decide) (by decide) (by decide) (qM (qB1 c (ms0_0 t) (hs0_0 t) (iblk m c 0 t)))) (mrow 1 (by decide) (by decide) (by decide) (by decide) (qM (qB2 c (ms0_0 t) (hs0_0 t) (iblk m c 0 t)))) (mrow 1 (by decide) (by decide) (by decide) (by decide) (qM (qB3 c (ms0_0 t) (hs0_0 t) (iblk m c 0 t)))) (mrow 1 (by decide) (by decide) (by decide) (by decide) (qM (qB4 c (ms0_0 t) (hs0_0 t) (iblk m c 0 t)))) (mrow 1 (by decide) (by decide) (by decide) (by decide) (qM (qB5 c (ms0_0 t) (hs0_0 t) (iblk m c 0 t)))) (mrow 1 (by decide) (by decide) (by decide) (by decide) (qM (qB6 c (ms0_0 t) (hs0_0 t) (iblk m c 0 t)))) (mrow 1 (by decide) (by decide) (by decide) (by decide) (qM (qB7 c (ms0_0 t) (hs0_0 t) (iblk m c 0 t)))) (fun h d => mqF (nat3 (iblk m c 0 t) 0) 1 (128 * h + d)) ?_ ?_ ?_ ?_ ?_ ?_ ?_ ?_ h d
    · exact fun g d => (mrow_v 1 _ _ _ _ _ (fun n k => mqF (nat3 (iblk m c 0 t) 0) n (0 + k)) hM0 g d).trans (congrArg _ (by omega))
    · exact fun g d => (mrow_v 1 _ _ _ _ _ (fun n k => mqF (nat3 (iblk m c 0 t) 0) n (512 + k)) hM1 g d).trans (congrArg _ (by omega))
    · exact fun g d => (mrow_v 1 _ _ _ _ _ (fun n k => mqF (nat3 (iblk m c 0 t) 0) n (1024 + k)) hM2 g d).trans (congrArg _ (by omega))
    · exact fun g d => (mrow_v 1 _ _ _ _ _ (fun n k => mqF (nat3 (iblk m c 0 t) 0) n (1536 + k)) hM3 g d).trans (congrArg _ (by omega))
    · exact fun g d => (mrow_v 1 _ _ _ _ _ (fun n k => mqF (nat3 (iblk m c 0 t) 0) n (2048 + k)) hM4 g d).trans (congrArg _ (by omega))
    · exact fun g d => (mrow_v 1 _ _ _ _ _ (fun n k => mqF (nat3 (iblk m c 0 t) 0) n (2560 + k)) hM5 g d).trans (congrArg _ (by omega))
    · exact fun g d => (mrow_v 1 _ _ _ _ _ (fun n k => mqF (nat3 (iblk m c 0 t) 0) n (3072 + k)) hM6 g d).trans (congrArg _ (by omega))
    · exact fun g d => (mrow_v 1 _ _ _ _ _ (fun n k => mqF (nat3 (iblk m c 0 t) 0) n (3584 + k)) hM7 g d).trans (congrArg _ (by omega))
  refine View.allAt_cons_unit _ _ _ _ _ (fun x hx => ?_) ?_
  · obtain ⟨rfl, hn⟩ := ix4_row n h d 0 _ x hx rfl
    rw [hn]
    refine cat32 (mrow 0 (by decide) (by decide) (by decide) (by decide) (qM (qB0 c (ms0_0 t) (hs0_0 t) (iblk m c 0 t)))) (mrow 0 (by decide) (by decide) (by decide) (by decide) (qM (qB1 c (ms0_0 t) (hs0_0 t) (iblk m c 0 t)))) (mrow 0 (by decide) (by decide) (by decide) (by decide) (qM (qB2 c (ms0_0 t) (hs0_0 t) (iblk m c 0 t)))) (mrow 0 (by decide) (by decide) (by decide) (by decide) (qM (qB3 c (ms0_0 t) (hs0_0 t) (iblk m c 0 t)))) (mrow 0 (by decide) (by decide) (by decide) (by decide) (qM (qB4 c (ms0_0 t) (hs0_0 t) (iblk m c 0 t)))) (mrow 0 (by decide) (by decide) (by decide) (by decide) (qM (qB5 c (ms0_0 t) (hs0_0 t) (iblk m c 0 t)))) (mrow 0 (by decide) (by decide) (by decide) (by decide) (qM (qB6 c (ms0_0 t) (hs0_0 t) (iblk m c 0 t)))) (mrow 0 (by decide) (by decide) (by decide) (by decide) (qM (qB7 c (ms0_0 t) (hs0_0 t) (iblk m c 0 t)))) (fun h d => mqF (nat3 (iblk m c 0 t) 0) 0 (128 * h + d)) ?_ ?_ ?_ ?_ ?_ ?_ ?_ ?_ h d
    · exact fun g d => (mrow_v 0 _ _ _ _ _ (fun n k => mqF (nat3 (iblk m c 0 t) 0) n (0 + k)) hM0 g d).trans (congrArg _ (by omega))
    · exact fun g d => (mrow_v 0 _ _ _ _ _ (fun n k => mqF (nat3 (iblk m c 0 t) 0) n (512 + k)) hM1 g d).trans (congrArg _ (by omega))
    · exact fun g d => (mrow_v 0 _ _ _ _ _ (fun n k => mqF (nat3 (iblk m c 0 t) 0) n (1024 + k)) hM2 g d).trans (congrArg _ (by omega))
    · exact fun g d => (mrow_v 0 _ _ _ _ _ (fun n k => mqF (nat3 (iblk m c 0 t) 0) n (1536 + k)) hM3 g d).trans (congrArg _ (by omega))
    · exact fun g d => (mrow_v 0 _ _ _ _ _ (fun n k => mqF (nat3 (iblk m c 0 t) 0) n (2048 + k)) hM4 g d).trans (congrArg _ (by omega))
    · exact fun g d => (mrow_v 0 _ _ _ _ _ (fun n k => mqF (nat3 (iblk m c 0 t) 0) n (2560 + k)) hM5 g d).trans (congrArg _ (by omega))
    · exact fun g d => (mrow_v 0 _ _ _ _ _ (fun n k => mqF (nat3 (iblk m c 0 t) 0) n (3072 + k)) hM6 g d).trans (congrArg _ (by omega))
    · exact fun g d => (mrow_v 0 _ _ _ _ _ (fun n k => mqF (nat3 (iblk m c 0 t) 0) n (3584 + k)) hM7 g d).trans (congrArg _ (by omega))
  exact View.allAt_nil _ _
end Cert.KernelIdeal.Gen
-- ==== Proof.Arrays.lean ====
/- The output arrays from the blocks the body leaves: the means and the values' scales. -/
module

public import proofs.«01_k».proof.Proof.KVal
public import Idealize.ShloMosaic.Lib.Pipeline.ValueKit
public import Idealize.ShloMosaic.Lib.Pipeline.ArrRel

@[expose] public section

set_option maxRecDepth 16384
noncomputable section
namespace Cert.KernelIdeal.Gen
open Idealize.ShloMosaic Idealize.ShloMosaic.TcCoe Idealize.ShloMosaic.Tactic
open Idealize.ShloMosaic.Pipeline (Dat RDat Cfg Window)
open Cert.Sage
variable (m : (ℓ : Loc nD τ sig) → Buf (Elt Ideal) ℓ)

theorem idx_0 : ∀ t : Fin cfg0.N, win0_0.index t = ![t.val / 2, 0, t.val % 2] := (by decide +kernel : ∀ t : Fin grid0.N, _)
theorem idx_1 : ∀ t : Fin cfg0.N, win0_1.index t = ![t.val / 2, 0, t.val % 2] := (by decide +kernel : ∀ t : Fin grid0.N, _)
theorem idx_2 : ∀ t : Fin cfg0.N, win0_2.index t = ![t.val / 2, 0, t.val % 2] := (by decide +kernel : ∀ t : Fin grid0.N, _)
theorem idx_3 : ∀ t : Fin cfg0.N, win0_3.index t = ![t.val / 2, 0, t.val % 2] := (by decide +kernel : ∀ t : Fin grid0.N, _)
theorem idx_4 : ∀ t : Fin cfg0.N, win0_4.index t = ![t.val / 2, 0, t.val % 2, 0] := (by decide +kernel : ∀ t : Fin grid0.N, _)
theorem idx_5 : ∀ t : Fin cfg0.N, win0_5.index t = ![t.val / 2, 0, 0] := (by decide +kernel : ∀ t : Fin grid0.N, _)
theorem idx_6 : ∀ t : Fin cfg0.N, win0_6.index t = ![t.val / 2, 0, t.val % 2, 0] := (by decide +kernel : ∀ t : Fin grid0.N, _)
theorem idx_7 : ∀ t : Fin cfg0.N, win0_7.index t = ![t.val / 2, 0, t.val % 2, 0] := (by decide +kernel : ∀ t : Fin grid0.N, _)
theorem idx_8 : ∀ t : Fin cfg0.N, win0_8.index t = ![t.val / 2, 0, 0] := (by decide +kernel : ∀ t : Fin grid0.N, _)
theorem idx_9 : ∀ t : Fin cfg0.N, win0_9.index t = ![t.val / 2, t.val % 2, 0] := (by decide +kernel : ∀ t : Fin grid0.N, _)
theorem idx_10 : ∀ t : Fin cfg0.N, win0_10.index t = ![t.val / 2, 0, t.val % 2, 0] := (by decide +kernel : ∀ t : Fin grid0.N, _)
theorem idx_11 : ∀ t : Fin cfg0.N, win0_11.index t = ![t.val / 2, t.val % 2, 0] := (by decide +kernel : ∀ t : Fin grid0.N, _)
theorem idx_12 : ∀ t : Fin cfg0.N, win0_12.index t = ![t.val / 2, t.val % 2, 0] := (by decide +kernel : ∀ t : Fin grid0.N, _)

/-- A value head's column in a block is its column in the array. -/
theorem iblk2_v (c : Dev nD) (t : Fin cfg0.N) (s k : ℕ) (hs : s < 256) (hk : k < 1024) :
    nat3 (iblk m c 2 t) 0 s k = nat3 (m ((c.tc : Thread nD τ).loc main_arg2)) (t.val / 2) s (1024 * (t.val % 2) + k) := by
  have e := nat_eq (iblk m c 2 t) (ix3 (0 : Fin 1) (⟨s, hs⟩ : Fin 256) (⟨k, hk⟩ : Fin 1024)) (l3 0 s k) (by intro a; fin_cases a <;> rfl)
  unfold nat3
  rw [← e]
  unfold iblk
  refine nat_eq (m ((c.tc : Thread nD τ).loc main_arg2)) _ _ ?_
  intro a
  blk_simp [idx_2]
  fin_cases a <;> simp [l3, ix3] <;> omega
theorem iblk1_v (c : Dev nD) (t : Fin cfg0.N) (s k : ℕ) (hs : s < 256) (hk : k < 1024) :
    nat3 (iblk m c 1 t) 0 s k = nat3 (m ((c.tc : Thread nD τ).loc main_arg1)) (t.val / 2) s (1024 * (t.val % 2) + k) := by
  have e := nat_eq (iblk m c 1 t) (ix3 (0 : Fin 1) (⟨s, hs⟩ : Fin 256) (⟨k, hk⟩ : Fin 1024)) (l3 0 s k) (by intro a; fin_cases a <;> rfl)
  unfold nat3
  rw [← e]
  unfold iblk
  refine nat_eq (m ((c.tc : Thread nD τ).loc main_arg1)) _ _ ?_
  intro a
  blk_simp [idx_1]
  fin_cases a <;> simp [l3, ix3] <;> omega
theorem iblk0_v (c : Dev nD) (t : Fin cfg0.N) (s k : ℕ) (hs : s < 256) (hk : k < 4096) :
    nat3 (iblk m c 0 t) 0 s k = nat3 (m ((c.tc : Thread nD τ).loc main_arg0)) (t.val / 2) s (4096 * (t.val % 2) + k) := by
  have e := nat_eq (iblk m c 0 t) (ix3 (0 : Fin 1) (⟨s, hs⟩ : Fin 256) (⟨k, hk⟩ : Fin 4096)) (l3 0 s k) (by intro a; fin_cases a <;> rfl)
  unfold nat3
  rw [← e]
  unfold iblk
  refine nat_eq (m ((c.tc : Thread nD τ).loc main_arg0)) _ _ ?_
  intro a
  blk_simp [idx_0]
  fin_cases a <;> simp [l3, ix3] <;> omega

/-- An output's array from what the body may leave at each point. -/
theorem arr_gen {r : PUnit × MemSt nD τ sig (Elt Ideal)} (h : RDat.FramePost (cfgs 0) (rdat m) (V m) r) (c : Dev nD) (w : Fin cfg0.W)
    (G : Buf (Elt Ideal) ((cfg0.win w).arr.view.loc (c.tc : Thread nD τ))) (hcov : (cfg0.win w).Covers)
    (harr : (cfg0.win w).arr.IsWhole)
    (hG : ∀ t Y X, (cfg0.win w).flush t = true → (rdat m c).Finds w t Y → (rdat m c).after w t Y X → ∀ y : ((cfg0.win w).xblock (cfg0.grid.coords t)).Idx,
      _root_.cast (congrArg (Elt Ideal) ((cfg0.win w).blk t).view.elt_eq.symm) (X ((cfg0.win w).xinj (cfg0.grid.coords t) y))
        = G (((cfg0.win w).blk t).view.emb y)) :
    r.2.mem ((cfg0.spec w).arr.view.loc (c.tc : Thread nD τ)) = G := by
  obtain ⟨after, hl, he⟩ := RDat.FramePost.exists_exact h c
  rw [he w]
  refine Dat.arrAt_eq_of_covers _ w G hcov (fun t hf y => ?_) harr
  obtain ⟨Y, hY, hX⟩ := hl w t hf
  exact hG t Y _ hf hY hX y

theorem mvF_congr (V V' : ℕ → ℕ → EReal) (d d' : ℕ) (h : ∀ s, s < 256 → V s d = V' s d') : mvF V d = mvF V' d' := by
  unfold mvF
  rw [Finset.sum_congr rfl fun s hs => h s (Finset.mem_range.mp hs)]
theorem vaF_congr (V V' : ℕ → ℕ → EReal) (d d' : ℕ) (h : ∀ s, s < 256 → V s d = V' s d') : vaF V d = vaF V' d' := by
  unfold vaF
  rw [mvF_congr V V' d d' h]
  exact Finset.sup_congr rfl fun s hs => by rw [h s (Finset.mem_range.mp hs)]

theorem eta3 {b c : ℕ} (y : (⟨3, ![1, b, c]⟩ : Shape).Idx) : y = ix3 (0 : Fin 1) (y 1) (y 2) := by
  funext e
  fin_cases e
  · exact Fin.ext (Nat.lt_one_iff.mp (y 0).isLt)
  · rfl
  · rfl

theorem eta4 {b c d : ℕ} (y : (⟨4, ![1, b, c, d]⟩ : Shape).Idx) : y = ix4 (0 : Fin 1) (y 1) (y 2) (y 3) := by
  funext e
  fin_cases e
  · exact Fin.ext (Nat.lt_one_iff.mp (y 0).isLt)
  · rfl
  · rfl
  · rfl

/-- The values' means. -/
theorem arr_12 {r : PUnit × MemSt nD τ sig (Elt Ideal)} (h : RDat.FramePost (cfgs 0) (rdat m) (V m) r) (c : Dev nD) :
    r.2.mem ((c.tc : Thread nD τ).loc main_v0_9) = fun i => mvF (XH (m ((c.tc : Thread nD τ).loc main_arg2)) (i 0).val (i 1).val) (i 2).val := by
  refine arr_gen m h c 12 (fun i => mvF (XH (m ((c.tc : Thread nD τ).loc main_arg2)) (i 0).val (i 1).val) (i 2).val) (by decide +kernel) (Memref.isWhole_whole _) ?_
  rintro t Y X hf - ⟨y5, y8, rfl⟩ (y : S1x8x128.Idx)
  have h0 := (congrArg (View.canon (pcs_12 m c t y5 y8)) (eta3 (b := 8) (c := 128) y)).trans (out12 m c t y5 y8 (y 1) (y 2))
  generalize View.canon (pcs_12 m c t y5 y8) = X at h0 ⊢
  blk_simp [idx_12]
  refine h0.trans ?_
  idx_bounds y
  refine mvF_congr _ _ _ _ fun s hs => ?_
  unfold XH
  rw [iblk2_v m c t s _ hs (by omega)]
  congr 1 <;> simp <;> omega

/-- The keys' means. -/
theorem arr_9 {r : PUnit × MemSt nD τ sig (Elt Ideal)} (h : RDat.FramePost (cfgs 0) (rdat m) (V m) r) (c : Dev nD) :
    r.2.mem ((c.tc : Thread nD τ).loc main_v0_6) = fun i => mvF (XH (m ((c.tc : Thread nD τ).loc main_arg1)) (i 0).val (i 1).val) (i 2).val := by
  refine arr_gen m h c 9 (fun i => mvF (XH (m ((c.tc : Thread nD τ).loc main_arg1)) (i 0).val (i 1).val) (i 2).val) (by decide +kernel) (Memref.isWhole_whole _) ?_
  rintro t Y X hf - ⟨y5, y8, rfl⟩ (y : S1x8x128.Idx)
  have h0 := (congrArg (View.canon (pcs_9 m c t y5 y8)) (eta3 (b := 8) (c := 128) y)).trans (out9 m c t y5 y8 (y 1) (y 2))
  generalize View.canon (pcs_9 m c t y5 y8) = X at h0 ⊢
  blk_simp [idx_9]
  refine h0.trans ?_
  idx_bounds y
  refine mvF_congr _ _ _ _ fun s hs => ?_
  unfold XH
  rw [iblk1_v m c t s _ hs (by omega)]
  congr 1 <;> simp <;> omega

theorem ereal_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem mvF_real (V : ℕ → ℕ → EReal) (d : ℕ) (h : ∀ s, s < 256 → ∃ r : ℝ, V s d = r) : ∃ r : ℝ, mvF V d = r := by
  choose! f hf using h
  refine ⟨(∑ s ∈ Finset.range 256, f s) * (1 / 256), ?_⟩
  rw [mvF, Finset.sum_congr rfl fun s hs => hf s (Finset.mem_range.mp hs), ← mul_inv_256, ofBits_inv_256, EReal.coe_mul, ereal_sum]

/-- The values' scales. -/
theorem arr_11 {r : PUnit × MemSt nD τ sig (Elt Ideal)} (h : RDat.FramePost (cfgs 0) (rdat m) (V m) r) (c : Dev nD)
    (hr : ∀ i, ∃ r : ℝ, m ((c.tc : Thread nD τ).loc main_arg2) i = (r : EReal)) :
    r.2.mem ((c.tc : Thread nD τ).loc main_v0_8) = fun i => sc (vaF (XH (m ((c.tc : Thread nD τ).loc main_arg2)) (i 0).val (i 1).val) (i 2).val) := by
  refine arr_gen m h c 11 (fun i => sc (vaF (XH (m ((c.tc : Thread nD τ).loc main_arg2)) (i 0).val (i 1).val) (i 2).val)) (by decide +kernel) (Memref.isWhole_whole _) ?_
  rintro t Y X hf - ⟨y5, y8, rfl⟩ (y : S1x8x128.Idx)
  have h0 := (congrArg (View.canon (pcs_11 m c t y5 y8)) (eta3 (b := 8) (c := 128) y)).trans (out11 m c t y5 y8 (fun k => mvF_real _ _ fun s _ => nat_real _ (fun _ => hr _) _) (y 1) (y 2))
  generalize View.canon (pcs_11 m c t y5 y8) = X at h0 ⊢
  blk_simp [idx_11]
  refine h0.trans ?_
  idx_bounds y
  refine congrArg sc (vaF_congr _ _ _ _ fun s hs => ?_)
  unfold XH
  rw [iblk2_v m c t s _ hs (by omega)]
  congr 1 <;> simp <;> omega
-- ==== Proof.Arrays2.lean ====
/- The arrays of codes. -/
module
public import proofs.«01_k».proof.Proof.QCodes
public import proofs.«01_k».proof.Proof.Arrays
@[expose] public section
set_option maxRecDepth 16384
noncomputable section
namespace Cert.KernelIdeal.Gen
open Idealize.ShloMosaic Idealize.ShloMosaic.TcCoe Idealize.ShloMosaic.Tactic
open Idealize.ShloMosaic.Pipeline (Dat RDat Cfg Window)
open Cert.Sage
variable (m : (ℓ : Loc nD τ sig) → Buf (Elt Ideal) ℓ)

theorem cg4 {α : Type} (F : ℕ → ℕ → ℕ → ℕ → α) {a b c d a' b' c' d' : ℕ} (ha : a = a') (hb : b = b') (hc : c = c') (hd : d = d') : F a b c d = F a' b' c' d' := by
  subst ha hb hc hd; rfl

theorem vcF_congr (V V' : ℕ → ℕ → EReal) (s d : ℕ) (hs : s < 256) (hd : d < 128) (h : ∀ s d, s < 256 → d < 128 → V s d = V' s d) : vcF V s d = vcF V' s d := by
  unfold vcF
  rw [h s d hs hd, mvF_congr V V' d d fun s hs => h s d hs hd, vaF_congr V V' d d fun s hs => h s d hs hd]
theorem kaF_congr (V V' : ℕ → ℕ → EReal) (g : ℕ) (hg : g < 4) (h : ∀ s d, s < 256 → d < 128 → V s d = V' s d) : kaF V g = kaF V' g := by
  unfold kaF
  refine Finset.sup_congr rfl fun p hp => ?_
  have h1 := Finset.mem_range.mp (Finset.mem_product.mp hp).1
  have h2 := Finset.mem_range.mp (Finset.mem_product.mp hp).2
  rw [h _ _ (by omega) h2, mvF_congr V V' p.2 p.2 fun s hs => h s _ hs h2]
theorem kcF_congr (V V' : ℕ → ℕ → EReal) (s d : ℕ) (hs : s < 256) (hd : d < 128) (h : ∀ s d, s < 256 → d < 128 → V s d = V' s d) : kcF V s d = kcF V' s d := by
  unfold kcF
  rw [h s d hs hd, mvF_congr V V' d d fun s hs => h s d hs hd, kaF_congr V V' _ (by omega) h]
theorem mqF_congr (V V' : ℕ → ℕ → EReal) (n d d' : ℕ) (hn : n < 2) (h : ∀ s, s < 256 → V s d = V' s d') : mqF V n d = mqF V' n d' := by
  unfold mqF
  rw [Finset.sum_congr rfl fun s hs => h _ (by have := Finset.mem_range.mp hs; omega)]
theorem qaF_congr (V V' : ℕ → ℕ → EReal) (g : ℕ) (hg : g < 2) (h : ∀ s d, s < 256 → d < 128 → V s d = V' s d) : qaF V g = qaF V' g := by
  unfold qaF
  refine Finset.sup_congr rfl fun p hp => ?_
  have h1 := Finset.mem_range.mp (Finset.mem_product.mp hp).1
  have h2 := Finset.mem_range.mp (Finset.mem_product.mp hp).2
  rw [h _ _ (by omega) h2, mqF_congr V V' g p.2 p.2 hg fun s hs => h s _ hs h2]
theorem qcF_congr' (V V' : ℕ → ℕ → EReal) (s d : ℕ) (hs : s < 256) (hd : d < 128) (h : ∀ s d, s < 256 → d < 128 → V s d = V' s d) : qcF V s d = qcF V' s d := by
  unfold qcF
  rw [h s d hs hd, mqF_congr V V' _ d d (by omega) fun s hs => h s d hs hd, qaF_congr V V' _ (by omega) h]

theorem mqF_real (X : ℕ → ℕ → EReal) (n d : ℕ) (h : ∀ s, ∃ r : ℝ, X s d = r) : ∃ r : ℝ, mqF X n d = r := by
  choose f hf using h
  refine ⟨(∑ s ∈ Finset.range 128, f (128 * n + s)) * (1 / 128), ?_⟩
  rw [mqF, Finset.sum_congr rfl fun s _ => hf (128 * n + s), ← mul_inv_128, ofBits_inv_128, EReal.coe_mul, ereal_sum]

theorem iblk_real (c : Dev nD) (t : Fin cfg0.N) (hr : ∀ i, ∃ r : ℝ, m ((c.tc : Thread nD τ).loc main_arg0) i = (r : EReal)) (s k : ℕ) : ∃ r : ℝ, nat3 (iblk m c 0 t) 0 s k = r :=
  nat_real _ (fun _ => hr _) _

/-- The values' codes. -/
theorem arr_10 {r : PUnit × MemSt nD τ sig (Elt Ideal)} (h : RDat.FramePost (cfgs 0) (rdat m) (V m) r) (c : Dev nD)
    (hr : ∀ i, ∃ r : ℝ, m ((c.tc : Thread nD τ).loc main_arg2) i = (r : EReal)) :
    r.2.mem ((c.tc : Thread nD τ).loc main_v0_7) = fun i => vcF (XH (m ((c.tc : Thread nD τ).loc main_arg2)) (i 0).val (i 2).val) (i 1).val (i 3).val := by
  refine arr_gen m h c 10 (fun i => vcF (XH (m ((c.tc : Thread nD τ).loc main_arg2)) (i 0).val (i 2).val) (i 1).val (i 3).val) (by decide +kernel) (Memref.isWhole_whole _) ?_
  rintro t Y X hf - ⟨y5, y8, rfl⟩ (y : S1x256x8x128.Idx)
  have h0 := (congrArg (View.canon (pcs_10 m c t y5 y8)) (eta4 (b := 256) (c := 8) (d := 128) y)).trans (out10 m c t y5 y8 (fun k => mvF_real _ _ fun s _ => nat_real _ (fun _ => hr _) _) (y 1) (y 2) (y 3))
  generalize View.canon (pcs_10 m c t y5 y8) = X at h0 ⊢
  blk_simp [idx_10]
  refine h0.trans ?_
  idx_bounds y
  have b2 : (y 2).val < 8 := (y 2).isLt
  refine (vcF_congr _ (XH (m ((c.tc : Thread nD τ).loc main_arg2)) (t.val / 2) (8 * (t.val % 2) + (y 2).val)) _ _ (y 1).isLt (y 3).isLt fun s d hs hd => ?_).trans ?_
  · unfold XH
    rw [iblk2_v m c t s _ hs (by omega)]
    congr 1 <;> omega
  · refine cg4 (fun b h s d => vcF (XH (m ((c.tc : Thread nD τ).loc main_arg2)) b h) s d) ?_ ?_ ?_ ?_ <;> simp <;> omega
/-- The keys' codes. -/
theorem arr_7 {r : PUnit × MemSt nD τ sig (Elt Ideal)} (h : RDat.FramePost (cfgs 0) (rdat m) (V m) r) (c : Dev nD)
    (hr : ∀ i, ∃ r : ℝ, m ((c.tc : Thread nD τ).loc main_arg1) i = (r : EReal)) :
    r.2.mem ((c.tc : Thread nD τ).loc main_v0_4) = fun i => kcF (XH (m ((c.tc : Thread nD τ).loc main_arg1)) (i 0).val (i 2).val) (i 1).val (i 3).val := by
  refine arr_gen m h c 7 (fun i => kcF (XH (m ((c.tc : Thread nD τ).loc main_arg1)) (i 0).val (i 2).val) (i 1).val (i 3).val) (by decide +kernel) (Memref.isWhole_whole _) ?_
  rintro t Y X hf - ⟨y5, y8, rfl⟩ (y : S1x256x8x128.Idx)
  have h0 := (congrArg (View.canon (pcs_7 m c t y5 y8)) (eta4 (b := 256) (c := 8) (d := 128) y)).trans (out7 m c t y5 y8 (fun k => mvF_real _ _ fun s _ => nat_real _ (fun _ => hr _) _) (y 1) (y 2) (y 3))
  generalize View.canon (pcs_7 m c t y5 y8) = X at h0 ⊢
  blk_simp [idx_7]
  refine h0.trans ?_
  idx_bounds y
  have b2 : (y 2).val < 8 := (y 2).isLt
  refine (kcF_congr _ (XH (m ((c.tc : Thread nD τ).loc main_arg1)) (t.val / 2) (8 * (t.val % 2) + (y 2).val)) _ _ (y 1).isLt (y 3).isLt fun s d hs hd => ?_).trans ?_
  · unfold XH
    rw [iblk1_v m c t s _ hs (by omega)]
    congr 1 <;> omega
  · refine cg4 (fun b h s d => kcF (XH (m ((c.tc : Thread nD τ).loc main_arg1)) b h) s d) ?_ ?_ ?_ ?_ <;> simp <;> omega
/-- The queries' codes. -/
theorem arr_4 {r : PUnit × MemSt nD τ sig (Elt Ideal)} (h : RDat.FramePost (cfgs 0) (rdat m) (V m) r) (c : Dev nD)
    (hr : ∀ i, ∃ r : ℝ, m ((c.tc : Thread nD τ).loc main_arg0) i = (r : EReal)) :
    r.2.mem ((c.tc : Thread nD τ).loc main_v0_1) = fun i => qcF (XH (m ((c.tc : Thread nD τ).loc main_arg0)) (i 0).val (i 2).val) (i 1).val (i 3).val := by
  refine arr_gen m h c 4 (fun i => qcF (XH (m ((c.tc : Thread nD τ).loc main_arg0)) (i 0).val (i 2).val) (i 1).val (i 3).val) (by decide +kernel) (Memref.isWhole_whole _) ?_
  rintro t Y X hf - ⟨y5, y8, rfl⟩ (y : S1x256x32x128.Idx)
  have h0 := (congrArg (View.canon (pcs_4 m c t y5 y8)) (eta4 (b := 256) (c := 32) (d := 128) y)).trans (out4 m c t y5 y8 (fun n k => mqF_real _ _ _ fun s => nat_real _ (fun _ => hr _) _) (y 1) (y 2) (y 3))
  generalize View.canon (pcs_4 m c t y5 y8) = X at h0 ⊢
  blk_simp [idx_4]
  refine h0.trans ?_
  idx_bounds y
  have b2 : (y 2).val < 32 := (y 2).isLt
  refine (qcF_congr' _ (XH (m ((c.tc : Thread nD τ).loc main_arg0)) (t.val / 2) (32 * (t.val % 2) + (y 2).val)) _ _ (y 1).isLt (y 3).isLt fun s d hs hd => ?_).trans ?_
  · unfold XH
    rw [iblk0_v m c t s _ hs (by omega)]
    congr 1 <;> omega
  · refine cg4 (fun b h s d => qcF (XH (m ((c.tc : Thread nD τ).loc main_arg0)) b h) s d) ?_ ?_ ?_ ?_ <;> simp <;> omega
end Cert.KernelIdeal.Gen
-- ==== Proof.Arrays3.lean ====
/- The arrays of scales and of the queries' means. -/
module
public import proofs.«01_k».proof.Proof.Tables
public import proofs.«01_k».proof.Proof.QMeans
public import proofs.«01_k».proof.Proof.Arrays2
@[expose] public section
set_option maxRecDepth 16384
noncomputable section
namespace Cert.KernelIdeal.Gen
open Idealize.ShloMosaic Idealize.ShloMosaic.TcCoe Idealize.ShloMosaic.Tactic
open Idealize.ShloMosaic.Pipeline (Dat RDat Cfg Window)
open Cert.Sage
variable (m : (ℓ : Loc nD τ sig) → Buf (Elt Ideal) ℓ)

theorem cg3 {α : Type} (F : ℕ → ℕ → ℕ → α) {a b c a' b' c' : ℕ} (ha : a = a') (hb : b = b') (hc : c = c') : F a b c = F a' b' c' := by
  subst ha hb hc; rfl

/-- The queries' means. -/
theorem arr_6 {r : PUnit × MemSt nD τ sig (Elt Ideal)} (h : RDat.FramePost (cfgs 0) (rdat m) (V m) r) (c : Dev nD) :
    r.2.mem ((c.tc : Thread nD τ).loc main_v0_3) = fun i => mqF (XH (m ((c.tc : Thread nD τ).loc main_arg0)) (i 0).val (i 2).val) (i 1).val (i 3).val := by
  refine arr_gen m h c 6 (fun i => mqF (XH (m ((c.tc : Thread nD τ).loc main_arg0)) (i 0).val (i 2).val) (i 1).val (i 3).val) (by decide +kernel) (Memref.isWhole_whole _) ?_
  rintro t Y X hf - ⟨y5, y8, rfl⟩ (y : S1x2x32x128.Idx)
  have h0 := (congrArg (View.canon (pcs_6 m c t y5 y8)) (eta4 (b := 2) (c := 32) (d := 128) y)).trans (out6 m c t y5 y8 (y 1) (y 2) (y 3))
  generalize View.canon (pcs_6 m c t y5 y8) = X at h0 ⊢
  blk_simp [idx_6]
  refine h0.trans ?_
  idx_bounds y
  have b2 : (y 2).val < 32 := (y 2).isLt
  have b3 : (y 3).val < 128 := (y 3).isLt
  refine (mqF_congr _ (XH (m ((c.tc : Thread nD τ).loc main_arg0)) (t.val / 2) (32 * (t.val % 2) + (y 2).val)) _ _ (y 3).val (y 1).isLt fun s hs => ?_).trans ?_
  · unfold XH
    rw [iblk0_v m c t s _ hs (by omega)]
    congr 1; omega
  · refine cg4 (fun b h s d => mqF (XH (m ((c.tc : Thread nD τ).loc main_arg0)) b h) s d) ?_ ?_ ?_ ?_ <;> simp <;> omega

theorem fl_5 : ∀ t : Fin cfg0.N, (cfg0.win 5).flush t = decide (t.val % 2 = 1) := (by decide +kernel : ∀ t : Fin grid0.N, _)
theorem fe_5 : ∀ t : Fin cfg0.N, (cfg0.win 5).fetch t = false := (by decide +kernel : ∀ t : Fin grid0.N, _)
theorem fl_8 : ∀ t : Fin cfg0.N, (cfg0.win 8).flush t = decide (t.val % 2 = 1) := (by decide +kernel : ∀ t : Fin grid0.N, _)
theorem fe_8 : ∀ t : Fin cfg0.N, (cfg0.win 8).fetch t = false := (by decide +kernel : ∀ t : Fin grid0.N, _)

theorem qs_pt (c : Dev nD) (t : Fin cfg0.N) (n l b : ℕ) (hn : n < 2) (hl : l < 64) (hb : b = t.val / 2) (hj : l / 32 = t.val % 2) :
    sc (qaF (fun s d => nat3 (iblk m c 0 t) 0 s (128 * (l % 32) + d)) n) = sc (qaF (XH (m ((c.tc : Thread nD τ).loc main_arg0)) b l) n) := by
  subst hb
  refine congrArg sc (qaF_congr _ _ _ hn fun s d hs hd => ?_)
  unfold XH
  rw [iblk0_v m c t s _ hs (by omega)]
  congr 1; omega
theorem ks_pt (c : Dev nD) (t : Fin cfg0.N) (n l b : ℕ) (hn : n < 4) (hl : l < 16) (hb : b = t.val / 2) (hj : l / 8 = t.val % 2) :
    sc (kaF (fun s d => nat3 (iblk m c 1 t) 0 s (128 * (l % 8) + d)) n) = sc (kaF (XH (m ((c.tc : Thread nD τ).loc main_arg1)) b l) n) := by
  subst hb
  refine congrArg sc (kaF_congr _ _ _ hn fun s d hs hd => ?_)
  unfold XH
  rw [iblk1_v m c t s _ hs (by omega)]
  congr 1; omega

/-- The queries' scales. -/
theorem arr_5 {r : PUnit × MemSt nD τ sig (Elt Ideal)} (h : RDat.FramePost (cfgs 0) (rdat m) (V m) r) (c : Dev nD)
    (hr : ∀ i, ∃ r : ℝ, m ((c.tc : Thread nD τ).loc main_arg0) i = (r : EReal)) :
    r.2.mem ((c.tc : Thread nD τ).loc main_v0_2) = fun i => sc (qaF (XH (m ((c.tc : Thread nD τ).loc main_arg0)) (i 0).val (i 2).val) (i 1).val) := by
  have hm := fun t n k => mqF_real (nat3 (iblk m c 0 t) 0) n k fun s => nat_real _ (fun _ => hr _) _
  refine arr_gen m h c 5 (fun i => sc (qaF (XH (m ((c.tc : Thread nD τ).loc main_arg0)) (i 0).val (i 2).val) (i 1).val)) (by decide +kernel) (Memref.isWhole_whole _) ?_
  rintro t Y X hf hY ⟨y8, rfl⟩ (y : S1x2x64.Idx)
  have ht : t.val % 2 = 1 := by have := fl_5 t; rw [hf] at this; simpa using this.symm
  have hlt : t.val - 1 < cfg0.N := Nat.lt_of_le_of_lt (Nat.sub_le _ _) t.isLt
  have hL := ((rdat m c).finds_of_pos (fe_5 t) (by omega) Y).mp hY
  rw [fl_5] at hL
  have hp : (decide ((⟨t.val - 1, hlt⟩ : Fin cfg0.N).val % 2 = 1)) = false := by simp; omega
  rw [hp] at hL
  obtain ⟨Y', -, y8', rfl⟩ := hL.resolve_left (by simp)
  have h0 := (congrArg (View.canon (pcs_5 m c t (View.canon (pcs_5 m c ⟨t.val - 1, hlt⟩ Y' y8')) y8)) (eta3 (b := 2) (c := 64) y)).trans (out5 m c t _ y8 (hm t) (y 1) (y 2))
  rw [out5 m c ⟨t.val - 1, hlt⟩ Y' y8' (hm _) (y 1) (y 2)] at h0
  generalize View.canon (pcs_5 m c t (View.canon (pcs_5 m c ⟨t.val - 1, hlt⟩ Y' y8')) y8) = X at h0 ⊢
  have b1 : (y 1).val < 2 := (y 1).isLt
  have b2 : (y 2).val < 64 := (y 2).isLt
  have h1 : X (y : S1x2x64.Idx) = sc (qaF (XH (m ((c.tc : Thread nD τ).loc main_arg0)) (t.val / 2) (y 2).val) (y 1).val) := by
    rw [h0]
    by_cases hc : (y 2).val / 32 = t.val % 2
    · rw [if_pos hc]; exact qs_pt m c t _ _ _ b1 b2 rfl hc
    · have hc' : (y 2).val / 32 = (t.val - 1) % 2 := by omega
      rw [if_neg hc, if_pos hc']; exact qs_pt m c ⟨t.val - 1, hlt⟩ _ _ _ b1 b2 (by simp only; omega) hc'
  blk_simp [idx_5]
  refine h1.trans ?_
  idx_bounds y
  refine cg3 (fun b h s => sc (qaF (XH (m ((c.tc : Thread nD τ).loc main_arg0)) b h) s)) ?_ ?_ ?_ <;> simp <;> omega

/-- The keys' scales. -/
theorem arr_8 {r : PUnit × MemSt nD τ sig (Elt Ideal)} (h : RDat.FramePost (cfgs 0) (rdat m) (V m) r) (c : Dev nD)
    (hr : ∀ i, ∃ r : ℝ, m ((c.tc : Thread nD τ).loc main_arg1) i = (r : EReal)) :
    r.2.mem ((c.tc : Thread nD τ).loc main_v0_5) = fun i => sc (kaF (XH (m ((c.tc : Thread nD τ).loc main_arg1)) (i 0).val (i 2).val) (i 1).val) := by
  have hm := fun t k => mvF_real (nat3 (iblk m c 1 t) 0) k fun s _ => nat_real _ (fun _ => hr _) _
  refine arr_gen m h c 8 (fun i => sc (kaF (XH (m ((c.tc : Thread nD τ).loc main_arg1)) (i 0).val (i 2).val) (i 1).val)) (by decide +kernel) (Memref.isWhole_whole _) ?_
  rintro t Y X hf hY ⟨y5, rfl⟩ (y : S1x4x16.Idx)
  have ht : t.val % 2 = 1 := by have := fl_8 t; rw [hf] at this; simpa using this.symm
  have hlt : t.val - 1 < cfg0.N := Nat.lt_of_le_of_lt (Nat.sub_le _ _) t.isLt
  have hL := ((rdat m c).finds_of_pos (fe_8 t) (by omega) Y).mp hY
  rw [fl_8] at hL
  have hp : (decide ((⟨t.val - 1, hlt⟩ : Fin cfg0.N).val % 2 = 1)) = false := by simp; omega
  rw [hp] at hL
  obtain ⟨Y', -, y5', rfl⟩ := hL.resolve_left (by simp)
  have h0 := (congrArg (View.canon (pcs_8 m c t y5 (View.canon (pcs_8 m c ⟨t.val - 1, hlt⟩ y5' Y')))) (eta3 (b := 4) (c := 16) y)).trans (out8 m c t y5 _ (hm t) (y 1) (y 2))
  rw [out8 m c ⟨t.val - 1, hlt⟩ y5' Y' (hm _) (y 1) (y 2)] at h0
  generalize View.canon (pcs_8 m c t y5 (View.canon (pcs_8 m c ⟨t.val - 1, hlt⟩ y5' Y'))) = X at h0 ⊢
  have b1 : (y 1).val < 4 := (y 1).isLt
  have b2 : (y 2).val < 16 := (y 2).isLt
  have h1 : X (y : S1x4x16.Idx) = sc (kaF (XH (m ((c.tc : Thread nD τ).loc main_arg1)) (t.val / 2) (y 2).val) (y 1).val) := by
    rw [h0]
    by_cases hc : (y 2).val / 8 = t.val % 2
    · rw [if_pos hc]; exact ks_pt m c t _ _ _ b1 b2 rfl hc
    · have hc' : (y 2).val / 8 = (t.val - 1) % 2 := by omega
      rw [if_neg hc, if_pos hc']; exact ks_pt m c ⟨t.val - 1, hlt⟩ _ _ _ b1 b2 (by simp only; omega) hc'
  blk_simp [idx_8]
  refine h1.trans ?_
  idx_bounds y
  refine cg3 (fun b h s => sc (kaF (XH (m ((c.tc : Thread nD τ).loc main_arg1)) b h) s)) ?_ ?_ ?_ <;> simp <;> omega
end Cert.KernelIdeal.Gen
-- ==== Proof.RefRead.lean ====
/- What the reference's operations compute: its scales, codes and means as the problem's mathematics. -/
module

public import proofs.«01_k».proof.Proof.Gen.ReferenceIdeal.Read
public import proofs.«01_k».proof.Proof.Spec

@[expose] public section

set_option maxRecDepth 16384
noncomputable section
namespace Cert.ReferenceIdeal.Read
open Idealize.ShloMosaic Idealize.ShloMosaic.TcCoe Idealize.ShloMosaic.Tactic
open Cert.Sage

variable (x0 : (⟨S6x256x8192, .bf16⟩ : BufTy).Contents (Elt Ideal)) (x1 x2 : (⟨S6x256x2048, .bf16⟩ : BufTy).Contents (Elt Ideal))

theorem zero_f32 : (FloatOps.ofBits (F := Ideal) .f32 0x00000000#32) = (0 : EReal) := by
  show Ideal.ofBits .f32 0 = 0
  simp [Ideal.ofBits, Ideal.ieee]
theorem one_f32 : (FloatOps.ofBits (F := Ideal) .f32 0x3F800000#32) = (1 : EReal) := by
  show Ideal.ofBits .f32 0x3F800000#32 = 1
  rw [show (1 : EReal) = ((1 : ℝ) : EReal) by norm_cast]
  simp [Ideal.ofBits, Ideal.ieee, -EReal.coe_mul]; norm_num
theorem v0_r (i : S_.Idx) : val_main_v0 (F := Ideal) i = Ideal.log 2 := by
  rw [val_main_v0_apply, val_main_cst_apply]
  exact congrArg Ideal.log ofBits_two

/-- `select` on an equality test. -/
theorem sel_eq (a b x y : EReal) : Scalar.select (FloatOps.cmpf (F := Ideal) (φ := .f32) .oeq a b) x y = if a = b then x else y := by
  unfold Scalar.select
  by_cases h : a = b <;> simp [h, FloatOps.cmpf, Ideal.cmp]

theorem v73_r (i : S6x256x16x128.Idx) : val_main_v73 (F := Ideal) x2 i = XH x2 (i 0).val (i 2).val (i 1).val (i 3).val := by
  rw [val_main_v73_apply, val_main_v72_apply]
  refine nat_eq x2 _ _ ?_
  intro a
  have : (i 2).val < 16 := (i 2).isLt; have : (i 3).val < 128 := (i 3).isLt; have : (i 1).val < 256 := (i 1).isLt; have : (i 0).val < 6 := (i 0).isLt
  fin_cases a <;> simp [l3, idx_main_v72] <;> omega

theorem v77_r (i : S6x16x128.Idx) : val_main_v77 (F := Ideal) x2 i = mvF (XH x2 (i 0).val (i 1).val) (i 2).val := by
  rw [val_main_v77_apply, val_main_v76_apply, val_main_v75_apply, val_main_v74_apply, val_main_cst_18_apply, val_main_cst_19_apply, zero_f32, zero_add]
  simp only [v73_r]
  rw [mvF, Finset.sum_range]
  rfl

theorem v81_r (i : S6x256x16x128.Idx) : val_main_v81 (F := Ideal) x2 i
    = XH x2 (i 0).val (i 2).val (i 1).val (i 3).val - mvF (XH x2 (i 0).val (i 2).val) (i 3).val := by
  rw [val_main_v81_apply, v73_r, val_main_v80_apply, val_main_v79_apply, val_main_v78_apply, v77_r]
  rfl

theorem v83_r (j : S6x16x128.Idx) : val_main_v83 (F := Ideal) x2 j = vaF (XH x2 (j 0).val (j 1).val) (j 2).val := by
  unfold val_main_v83
  rw [Host.reduce_eq_fold]
  refine fold_max_eq_sup _ _ _ _ _ ofBits_neg_inf_f32 ?_ ?_
  · intro i hi
    have hi := (Finset.mem_filter.mp hi).2
    have h0 : (i 0).val = (j 0).val := congrArg (fun f : S6x16x128.Idx => (f 0).val) hi
    have h2 : (i 2).val = (j 1).val := congrArg (fun f : S6x16x128.Idx => (f 1).val) hi
    have h3 : (i 3).val = (j 2).val := congrArg (fun f : S6x16x128.Idx => (f 2).val) hi
    refine ⟨(i 1).val, Finset.mem_range.mpr (i 1).isLt, ?_⟩
    rw [val_main_v82_apply, v81_r, h0, h2, h3]
    rfl
  · intro k hk
    refine ⟨fun a => match a with | ⟨0, _⟩ => j 0 | ⟨1, _⟩ => ⟨k, Finset.mem_range.mp hk⟩ | ⟨2, _⟩ => j 1 | ⟨3, _⟩ => j 2, Finset.mem_filter.mpr ⟨Finset.mem_univ _, ?_⟩, ?_⟩
    · funext a; fin_cases a <;> rfl
    · rw [val_main_v82_apply, v81_r]
      rfl

theorem v95_r (i : S6x1x16x128.Idx) : val_main_v95 (F := Ideal) x2 i = ex (vaF (XH x2 (i 0).val (i 2).val) (i 3).val) := by
  rw [val_main_v95_apply, val_main_v94_apply, sel_eq, val_main_v84_apply, v83_r, val_main_v93_apply, val_main_cst_23_apply, val_main_call4_v1_apply,
    val_main_call4_v0_apply, val_main_cst_24_apply, val_main_v92_apply, val_main_v91_apply, val_main_v90_apply, val_main_v89_apply, val_main_v88_apply, val_main_v87_apply, val_main_v86_apply,
    val_main_v85_apply, val_main_v84_apply, v83_r, v0_r, zero_f32, val_main_cst_22_apply, one_f32]
  rfl

theorem v102_r (i : S6x256x16x128.Idx) : val_main_v102 (F := Ideal) x2 i = vcF (XH x2 (i 0).val (i 2).val) (i 1).val (i 3).val := by
  rw [val_main_v102_apply, val_main_call5_v4_apply, val_main_call5_v2_apply, val_main_call5_v1_apply, val_main_v101_apply, val_main_v100_apply, val_main_v99_apply,
    val_main_v98_apply, val_main_v97_apply, val_main_v96_apply, v95_r, v0_r, v81_r]
  unfold vcF code
  rw [max_comm, min_comm]
  rfl

theorem v106_r (i : S6x16x128.Idx) : val_main_v106 (F := Ideal) x2 i = sc (vaF (XH x2 (i 0).val (i 1).val) (i 2).val) := by
  rw [val_main_v106_apply, val_main_v105_apply, val_main_v104_apply, val_main_v103_apply, v95_r, v0_r]
  have h1 : (idx_main_v106 i 0).val = (i 0).val := by
    have : (i 2).val < 128 := (i 2).isLt; have : (i 1).val < 16 := (i 1).isLt; have : (i 0).val < 6 := (i 0).isLt
    simp [idx_main_v106] <;> omega
  have h2 : (idx_main_v106 i 2).val = (i 1).val := by
    have : (i 2).val < 128 := (i 2).isLt; have : (i 1).val < 16 := (i 1).isLt; have : (i 0).val < 6 := (i 0).isLt
    simp [idx_main_v106] <;> omega
  have h3 : (idx_main_v106 i 3).val = (i 2).val := by
    have : (i 2).val < 128 := (i 2).isLt; have : (i 1).val < 16 := (i 1).isLt; have : (i 0).val < 6 := (i 0).isLt
    simp [idx_main_v106] <;> omega
  rw [h1, h2, h3]
  rfl

theorem v37_r (i : S6x256x16x128.Idx) : val_main_v37 (F := Ideal) x1 i = XH x1 (i 0).val (i 2).val (i 1).val (i 3).val := by
  rw [val_main_v37_apply, val_main_v36_apply]
  refine nat_eq x1 _ _ ?_
  intro a
  have : (i 0).val < 6 := (i 0).isLt; have : (i 1).val < 256 := (i 1).isLt; have : (i 2).val < 16 := (i 2).isLt; have : (i 3).val < 128 := (i 3).isLt
  fin_cases a <;> simp [l3, idx_main_v36] <;> omega

theorem v41_r (i : S6x16x128.Idx) : val_main_v41 (F := Ideal) x1 i = mvF (XH x1 (i 0).val (i 1).val) (i 2).val := by
  rw [val_main_v41_apply, val_main_v40_apply, val_main_v39_apply, val_main_v38_apply, val_main_cst_9_apply, val_main_cst_10_apply, zero_f32, zero_add]
  simp only [v37_r]
  rw [mvF, Finset.sum_range]
  rfl

theorem v45_r (i : S6x256x16x128.Idx) : val_main_v45 (F := Ideal) x1 i
    = XH x1 (i 0).val (i 2).val (i 1).val (i 3).val - mvF (XH x1 (i 0).val (i 2).val) (i 3).val := by
  rw [val_main_v45_apply, v37_r, val_main_v44_apply, val_main_v43_apply, val_main_v42_apply, v41_r]
  rfl

theorem v46_r (i : S6x4x64x16x128.Idx) : val_main_v46 (F := Ideal) x1 i
    = XH x1 (i 0).val (i 3).val (64 * (i 1).val + (i 2).val) (i 4).val - mvF (XH x1 (i 0).val (i 3).val) (i 4).val := by
  rw [val_main_v46_apply, v45_r]
  have : (i 0).val < 6 := (i 0).isLt; have : (i 1).val < 4 := (i 1).isLt; have : (i 2).val < 64 := (i 2).isLt; have : (i 3).val < 16 := (i 3).isLt; have : (i 4).val < 128 := (i 4).isLt
  rw [show (idx_main_v46 i 0).val = (i 0).val by simp [idx_main_v46]; omega, show (idx_main_v46 i 1).val = 64 * (i 1).val + (i 2).val by simp [idx_main_v46]; omega,
    show (idx_main_v46 i 2).val = (i 3).val by simp [idx_main_v46]; omega, show (idx_main_v46 i 3).val = (i 4).val by simp [idx_main_v46]; omega]

theorem v48_r (j : S6x4x16.Idx) : val_main_v48 (F := Ideal) x1 j = kaF (XH x1 (j 0).val (j 2).val) (j 1).val := by
  unfold val_main_v48
  rw [Host.reduce_eq_fold]
  refine fold_max_eq_sup _ _ _ _ _ ofBits_neg_inf_f32 ?_ ?_
  · intro i hi
    have hi := (Finset.mem_filter.mp hi).2
    have h0 : (i 0).val = (j 0).val := congrArg (fun f : S6x4x16.Idx => (f 0).val) hi
    have h1 : (i 1).val = (j 1).val := congrArg (fun f : S6x4x16.Idx => (f 1).val) hi
    have h3 : (i 3).val = (j 2).val := congrArg (fun f : S6x4x16.Idx => (f 2).val) hi
    refine ⟨((i 2).val, (i 4).val), Finset.mem_product.mpr ⟨Finset.mem_range.mpr (i 2).isLt, Finset.mem_range.mpr (i 4).isLt⟩, ?_⟩
    rw [val_main_v47_apply, v46_r, h0, h1, h3]
    rfl
  · rintro ⟨p, d⟩ hk
    have hk := Finset.mem_product.mp hk
    refine ⟨fun a => match a with | ⟨0, _⟩ => j 0 | ⟨1, _⟩ => j 1 | ⟨2, _⟩ => ⟨p, Finset.mem_range.mp hk.1⟩ | ⟨3, _⟩ => j 2 | ⟨4, _⟩ => ⟨d, Finset.mem_range.mp hk.2⟩, Finset.mem_filter.mpr ⟨Finset.mem_univ _, ?_⟩, ?_⟩
    · funext a; fin_cases a <;> rfl
    · rw [val_main_v47_apply, v46_r]
      rfl

theorem v60_r (i : S6x4x1x16x1.Idx) : val_main_v60 (F := Ideal) x1 i = ex (kaF (XH x1 (i 0).val (i 3).val) (i 1).val) := by
  rw [val_main_v60_apply, val_main_v59_apply, sel_eq, val_main_v49_apply, v48_r, val_main_v58_apply, val_main_cst_14_apply, val_main_call2_v1_apply,
    val_main_call2_v0_apply, val_main_cst_15_apply, val_main_v57_apply, val_main_v56_apply, val_main_v55_apply, val_main_v54_apply, val_main_v53_apply, val_main_v52_apply, val_main_v51_apply,
    val_main_v50_apply, val_main_v49_apply, v48_r, v0_r, zero_f32, val_main_cst_13_apply, one_f32]
  rfl

theorem v67_r (i : S6x4x64x16x128.Idx) : val_main_v67 (F := Ideal) x1 i = kcF (XH x1 (i 0).val (i 3).val) (64 * (i 1).val + (i 2).val) (i 4).val := by
  rw [val_main_v67_apply, val_main_call3_v4_apply, val_main_call3_v2_apply, val_main_call3_v1_apply, val_main_v66_apply, val_main_v65_apply, val_main_v64_apply,
    val_main_v63_apply, val_main_v62_apply, val_main_v61_apply, v60_r, v0_r, v46_r]
  unfold kcF code
  have : (i 2).val < 64 := (i 2).isLt
  rw [show (64 * (i 1).val + (i 2).val) / 64 = (i 1).val by omega, max_comm, min_comm]
  rfl

theorem v71_r (i : S6x4x16.Idx) : val_main_v71 (F := Ideal) x1 i = sc (kaF (XH x1 (i 0).val (i 2).val) (i 1).val) := by
  rw [val_main_v71_apply, val_main_v70_apply, val_main_v69_apply, val_main_v68_apply, v60_r, v0_r]
  have : (i 0).val < 6 := (i 0).isLt; have : (i 1).val < 4 := (i 1).isLt; have : (i 2).val < 16 := (i 2).isLt
  rw [show (idx_main_v71 i 0).val = (i 0).val by simp [idx_main_v71]; omega, show (idx_main_v71 i 1).val = (i 1).val by simp [idx_main_v71]; omega,
    show (idx_main_v71 i 3).val = (i 2).val by simp [idx_main_v71]; omega]
  rfl

theorem v108_r (i : S6x256x16x128.Idx) : val_main_v108 (F := Ideal) x1 i = kcF (XH x1 (i 0).val (i 2).val) (i 1).val (i 3).val := by
  rw [val_main_v108_apply, v67_r]
  have : (i 0).val < 6 := (i 0).isLt; have : (i 1).val < 256 := (i 1).isLt; have : (i 2).val < 16 := (i 2).isLt; have : (i 3).val < 128 := (i 3).isLt
  rw [show (idx_main_v108 i 0).val = (i 0).val by simp [idx_main_v108]; omega, show (idx_main_v108 i 3).val = (i 2).val by simp [idx_main_v108]; omega,
    show (idx_main_v108 i 4).val = (i 3).val by simp [idx_main_v108]; omega,
    show 64 * (idx_main_v108 i 1).val + (idx_main_v108 i 2).val = (i 1).val by simp [idx_main_v108]; omega]

theorem v2_r (i : S6x2x128x64x128.Idx) : val_main_v2 (F := Ideal) x0 i = XH x0 (i 0).val (i 3).val (128 * (i 1).val + (i 2).val) (i 4).val := by
  rw [val_main_v2_apply, val_main_v1_apply]
  refine nat_eq x0 _ _ ?_
  intro a
  have : (i 0).val < 6 := (i 0).isLt; have : (i 1).val < 2 := (i 1).isLt; have : (i 2).val < 128 := (i 2).isLt; have : (i 3).val < 64 := (i 3).isLt; have : (i 4).val < 128 := (i 4).isLt
  fin_cases a <;> simp [l3, idx_main_v1] <;> omega

theorem v6_r (i : S6x2x64x128.Idx) : val_main_v6 (F := Ideal) x0 i = mqF (XH x0 (i 0).val (i 2).val) (i 1).val (i 3).val := by
  rw [val_main_v6_apply, val_main_v5_apply, val_main_v4_apply, val_main_v3_apply, val_main_cst_0_apply, val_main_cst_1_apply, zero_f32, zero_add]
  simp only [v2_r]
  rw [mqF, Finset.sum_range]
  rfl

theorem v10_r (i : S6x2x128x64x128.Idx) : val_main_v10 (F := Ideal) x0 i
    = XH x0 (i 0).val (i 3).val (128 * (i 1).val + (i 2).val) (i 4).val - mqF (XH x0 (i 0).val (i 3).val) (i 1).val (i 4).val := by
  rw [val_main_v10_apply, v2_r, val_main_v9_apply, val_main_v8_apply, val_main_v7_apply, v6_r]
  rfl

theorem v12_r (j : S6x2x64.Idx) : val_main_v12 (F := Ideal) x0 j = qaF (XH x0 (j 0).val (j 2).val) (j 1).val := by
  unfold val_main_v12
  rw [Host.reduce_eq_fold]
  refine fold_max_eq_sup _ _ _ _ _ ofBits_neg_inf_f32 ?_ ?_
  · intro i hi
    have hi := (Finset.mem_filter.mp hi).2
    have h0 : (i 0).val = (j 0).val := congrArg (fun f : S6x2x64.Idx => (f 0).val) hi
    have h1 : (i 1).val = (j 1).val := congrArg (fun f : S6x2x64.Idx => (f 1).val) hi
    have h3 : (i 3).val = (j 2).val := congrArg (fun f : S6x2x64.Idx => (f 2).val) hi
    refine ⟨((i 2).val, (i 4).val), Finset.mem_product.mpr ⟨Finset.mem_range.mpr (i 2).isLt, Finset.mem_range.mpr (i 4).isLt⟩, ?_⟩
    rw [val_main_v11_apply, v10_r, h0, h1, h3]
    rfl
  · rintro ⟨p, d⟩ hk
    have hk := Finset.mem_product.mp hk
    refine ⟨fun a => match a with | ⟨0, _⟩ => j 0 | ⟨1, _⟩ => j 1 | ⟨2, _⟩ => ⟨p, Finset.mem_range.mp hk.1⟩ | ⟨3, _⟩ => j 2 | ⟨4, _⟩ => ⟨d, Finset.mem_range.mp hk.2⟩, Finset.mem_filter.mpr ⟨Finset.mem_univ _, ?_⟩, ?_⟩
    · funext a; fin_cases a <;> rfl
    · rw [val_main_v11_apply, v10_r]
      rfl

theorem v24_r (i : S6x2x1x64x1.Idx) : val_main_v24 (F := Ideal) x0 i = ex (qaF (XH x0 (i 0).val (i 3).val) (i 1).val) := by
  rw [val_main_v24_apply, val_main_v23_apply, sel_eq, val_main_v13_apply, v12_r, val_main_v22_apply, val_main_cst_5_apply, val_main_call0_v1_apply,
    val_main_call0_v0_apply, val_main_cst_6_apply, val_main_v21_apply, val_main_v20_apply, val_main_v19_apply, val_main_v18_apply, val_main_v17_apply, val_main_v16_apply, val_main_v15_apply,
    val_main_v14_apply, val_main_v13_apply, v12_r, v0_r, zero_f32, val_main_cst_4_apply, one_f32]
  rfl

theorem v31_r (i : S6x2x128x64x128.Idx) : val_main_v31 (F := Ideal) x0 i = qcF (XH x0 (i 0).val (i 3).val) (128 * (i 1).val + (i 2).val) (i 4).val := by
  rw [val_main_v31_apply, val_main_call1_v4_apply, val_main_call1_v2_apply, val_main_call1_v1_apply, val_main_v30_apply, val_main_v29_apply, val_main_v28_apply,
    val_main_v27_apply, val_main_v26_apply, val_main_v25_apply, v24_r, v0_r, v10_r]
  unfold qcF code
  have : (i 2).val < 128 := (i 2).isLt
  rw [show (128 * (i 1).val + (i 2).val) / 128 = (i 1).val by omega, max_comm, min_comm]
  rfl

theorem v35_r (i : S6x2x64.Idx) : val_main_v35 (F := Ideal) x0 i = sc (qaF (XH x0 (i 0).val (i 2).val) (i 1).val) := by
  rw [val_main_v35_apply, val_main_v34_apply, val_main_v33_apply, val_main_v32_apply, v24_r, v0_r]
  have : (i 0).val < 6 := (i 0).isLt; have : (i 1).val < 2 := (i 1).isLt; have : (i 2).val < 64 := (i 2).isLt
  rw [show (idx_main_v35 i 0).val = (i 0).val by simp [idx_main_v35]; omega, show (idx_main_v35 i 1).val = (i 1).val by simp [idx_main_v35]; omega,
    show (idx_main_v35 i 3).val = (i 2).val by simp [idx_main_v35]; omega]
  rfl

theorem v107_r (i : S6x256x16x4x128.Idx) : val_main_v107 (F := Ideal) x0 i = qcF (XH x0 (i 0).val (4 * (i 2).val + (i 3).val)) (i 1).val (i 4).val := by
  rw [val_main_v107_apply, v31_r]
  have : (i 0).val < 6 := (i 0).isLt; have : (i 1).val < 256 := (i 1).isLt; have : (i 2).val < 16 := (i 2).isLt; have : (i 3).val < 4 := (i 3).isLt; have : (i 4).val < 128 := (i 4).isLt
  rw [show (idx_main_v107 i 0).val = (i 0).val by simp [idx_main_v107]; omega, show (idx_main_v107 i 3).val = 4 * (i 2).val + (i 3).val by simp [idx_main_v107]; omega,
    show (idx_main_v107 i 4).val = (i 4).val by simp [idx_main_v107]; omega,
    show 128 * (idx_main_v107 i 1).val + (idx_main_v107 i 2).val = (i 1).val by simp [idx_main_v107]; omega]

theorem v168_r (i : S6x256x64x128.Idx) : val_main_v168 (F := Ideal) x0 i = qcF (XH x0 (i 0).val (i 2).val) (i 1).val (i 3).val := by
  rw [val_main_v168_apply, val_main_v167_apply, v107_r]
  have : (i 0).val < 6 := (i 0).isLt; have : (i 1).val < 256 := (i 1).isLt; have : (i 2).val < 64 := (i 2).isLt; have : (i 3).val < 128 := (i 3).isLt
  rw [show (idx_main_v167 i 0).val = (i 0).val by simp [idx_main_v167]; omega, show 4 * (idx_main_v167 i 2).val + (idx_main_v167 i 3).val = (i 2).val by simp [idx_main_v167]; omega,
    show (idx_main_v167 i 4).val = (i 3).val by simp [idx_main_v167]; omega,
    show (idx_main_v167 i 1).val = (i 1).val by simp [idx_main_v167]; omega]
  rfl

theorem v169_r (i : S6x256x16x128.Idx) : val_main_v169 (F := Ideal) x1 i = kcF (XH x1 (i 0).val (i 2).val) (i 1).val (i 3).val := by
  rw [val_main_v169_apply, v108_r]
  rfl

theorem v170_r (i : S6x256x16x128.Idx) : val_main_v170 (F := Ideal) x2 i = vcF (XH x2 (i 0).val (i 2).val) (i 1).val (i 3).val := by
  rw [val_main_v170_apply, v102_r]
  rfl
-- ==== Proof.RefOut.lean ====
/- What the reference's attention computes, as the problem's mathematics. -/
module

public import proofs.«01_k».proof.Proof.RefRead

@[expose] public section

set_option maxRecDepth 16384
noncomputable section
namespace Cert.ReferenceIdeal.Read
open Idealize.ShloMosaic Idealize.ShloMosaic.TcCoe Idealize.ShloMosaic.Tactic
open Cert.Sage

variable (x0 : (⟨S6x256x8192, .bf16⟩ : BufTy).Contents (Elt Ideal)) (x1 x2 : (⟨S6x256x2048, .bf16⟩ : BufTy).Contents (Elt Ideal))

theorem v110_r (i : S6x16x4x256x256.Idx) : val_main_v110 (F := Ideal) x0 x1 i
    = ∑ d ∈ Finset.range 128, kcF (XH x1 (i 0).val (i 1).val) (i 4).val d * qcF (XH x0 (i 0).val (4 * (i 1).val + (i 2).val)) (i 3).val d := by
  rw [val_main_v110_apply, val_main_v109_apply, Finset.sum_range]
  simp only [v108_r, v107_r]

theorem v114_r (i : S6x256x16x4x128.Idx) : val_main_v114 (F := Ideal) x0 i = mqF (XH x0 (i 0).val (4 * (i 2).val + (i 3).val)) ((i 1).val / 128) (i 4).val := by
  rw [val_main_v114_apply, val_main_v113_apply, val_main_v112_apply, val_main_v111_apply, v6_r]
  have : (i 0).val < 6 := (i 0).isLt; have : (i 1).val < 256 := (i 1).isLt; have : (i 2).val < 16 := (i 2).isLt; have : (i 3).val < 4 := (i 3).isLt; have : (i 4).val < 128 := (i 4).isLt
  have e0 : (idx_main_v114 i 0).val = (i 0).val := by simp [idx_main_v114]; omega
  have e1 : (idx_main_v114 i 1).val = (i 1).val := by simp [idx_main_v114]; omega
  have e2 : (idx_main_v114 i 2).val = 4 * (i 2).val + (i 3).val := by simp [idx_main_v114]; omega
  have e3 : (idx_main_v114 i 3).val = (i 4).val := by simp [idx_main_v114]; omega
  generalize idx_main_v114 i = j at *
  have : (j 0).val < 6 := (j 0).isLt; have : (j 1).val < 256 := (j 1).isLt; have : (j 2).val < 64 := (j 2).isLt; have : (j 3).val < 128 := (j 3).isLt
  have f0 : (idx_main_v112 (idx_main_v113 j) 0).val = (j 0).val := by simp [idx_main_v113, idx_main_v112]; omega
  have f1 : (idx_main_v112 (idx_main_v113 j) 1).val = (j 1).val / 128 := by simp [idx_main_v113, idx_main_v112]; omega
  have f2 : (idx_main_v112 (idx_main_v113 j) 2).val = (j 2).val := by simp [idx_main_v113, idx_main_v112]; omega
  have f3 : (idx_main_v112 (idx_main_v113 j) 3).val = (j 3).val := by simp [idx_main_v113, idx_main_v112]; omega
  rw [f0, f1, f2, f3, e0, e1, e2, e3]
  rfl

theorem v116_r (i : S6x16x4x256x256.Idx) : val_main_v116 (F := Ideal) x0 x1 i
    = ∑ d ∈ Finset.range 128, kcF (XH x1 (i 0).val (i 1).val) (i 4).val d * mqF (XH x0 (i 0).val (4 * (i 1).val + (i 2).val)) ((i 3).val / 128) d := by
  rw [val_main_v116_apply, val_main_v115_apply, Finset.sum_range]
  simp only [v108_r, v114_r]

theorem v120_r (i : S6x16x4x256.Idx) : val_main_v120 (F := Ideal) x0 i = sc (qaF (XH x0 (i 0).val (4 * (i 1).val + (i 2).val)) ((i 3).val / 128)) := by
  rw [val_main_v120_apply, val_main_v119_apply, val_main_v118_apply, val_main_v117_apply, v35_r]
  have : (i 0).val < 6 := (i 0).isLt; have : (i 1).val < 16 := (i 1).isLt; have : (i 2).val < 4 := (i 2).isLt; have : (i 3).val < 256 := (i 3).isLt
  have e0 : (idx_main_v119 (idx_main_v120 i) 0).val = (i 0).val := by simp [idx_main_v119, idx_main_v120]; omega
  have e1 : (idx_main_v119 (idx_main_v120 i) 1).val = (i 3).val := by simp [idx_main_v119, idx_main_v120]; omega
  have e2 : (idx_main_v119 (idx_main_v120 i) 2).val = 4 * (i 1).val + (i 2).val := by simp [idx_main_v119, idx_main_v120]; omega
  generalize idx_main_v119 (idx_main_v120 i) = j at *
  have : (j 0).val < 6 := (j 0).isLt; have : (j 1).val < 256 := (j 1).isLt; have : (j 2).val < 64 := (j 2).isLt
  have f0 : (idx_main_v117 (idx_main_v118 j) 0).val = (j 0).val := by simp [idx_main_v117, idx_main_v118]; omega
  have f1 : (idx_main_v117 (idx_main_v118 j) 1).val = (j 1).val / 128 := by simp [idx_main_v117, idx_main_v118]; omega
  have f2 : (idx_main_v117 (idx_main_v118 j) 2).val = (j 2).val := by simp [idx_main_v117, idx_main_v118]; omega
  rw [f0, f1, f2, e0, e1, e2]

theorem v123_r (i : S6x16x256.Idx) : val_main_v123 (F := Ideal) x1 i = sc (kaF (XH x1 (i 0).val (i 1).val) ((i 2).val / 64)) := by
  rw [val_main_v123_apply, val_main_v122_apply, val_main_v121_apply, v71_r]
  have : (i 0).val < 6 := (i 0).isLt; have : (i 1).val < 16 := (i 1).isLt; have : (i 2).val < 256 := (i 2).isLt
  have f0 : (idx_main_v121 (idx_main_v122 (idx_main_v123 i)) 0).val = (i 0).val := by simp [idx_main_v121, idx_main_v122, idx_main_v123]; omega
  have f1 : (idx_main_v121 (idx_main_v122 (idx_main_v123 i)) 1).val = (i 2).val / 64 := by simp [idx_main_v121, idx_main_v122, idx_main_v123]; omega
  have f2 : (idx_main_v121 (idx_main_v122 (idx_main_v123 i)) 2).val = (i 1).val := by simp [idx_main_v121, idx_main_v122, idx_main_v123]; omega
  rw [f0, f1, f2]

theorem v133_r (i : S6x16x4x256x256.Idx) : val_main_v133 (F := Ideal) x0 x1 i
    = sF (XH x0 (i 0).val (4 * (i 1).val + (i 2).val)) (XH x1 (i 0).val (i 1).val) (i 3).val (i 4).val := by
  rw [val_main_v133_apply, val_main_v132_apply, val_main_v131_apply, val_main_cst_27_apply, val_main_v130_apply, val_main_v129_apply, val_main_v128_apply,
    val_main_v127_apply, val_main_v126_apply, val_main_v125_apply, val_main_v124_apply, v123_r, v120_r, v110_r, v116_r]
  rfl

theorem sle_small (a b : ℕ) (ha : a < 256) (hb : b < 256) : IntOp.cmpi .sle (BitVec.ofNat 32 a) (BitVec.ofNat 32 b) = if a ≤ b then 1#1 else 0#1 := by
  have e : ∀ n : ℕ, n < 256 → (BitVec.ofNat 32 n).toInt = (n : ℤ) := fun n hn => by
    rw [BitVec.toInt_eq_toNat_of_lt] <;> simp [BitVec.toNat_ofNat, Nat.mod_eq_of_lt (by omega : n < 4294967296)] ; omega
  by_cases h : a ≤ b <;> simp [IntOp.cmpi, BitVec.sle, e a ha, e b hb, h]

theorem v139_r (i : S256x256.Idx) : val_main_v139 (F := Ideal) i = if (i 1).val ≤ (i 0).val then 1#1 else 0#1 := by
  rw [val_main_v139_apply, val_main_v137_apply, val_main_v138_apply, val_main_v135_apply, val_main_v136_apply, val_main_v134_apply, val_main_v134_apply]
  exact sle_small _ _ (i 1).isLt (i 0).isLt

theorem v140_r (i : S6x16x4x256x256.Idx) : val_main_v140 (F := Ideal) x0 x1 i
    = smF (XH x0 (i 0).val (4 * (i 1).val + (i 2).val)) (XH x1 (i 0).val (i 1).val) (i 3).val (i 4).val := by
  rw [val_main_v140_apply, val_main_call6_v1_apply, v139_r, v133_r, val_main_call6_v2_apply, val_main_call6_v0_apply, val_main_cst_28_apply]
  unfold smF
  have e : (FloatOps.ofBits (F := Ideal) .f32 0xFF800000#32) = (⊥ : EReal) := ofBits_neg_inf_f32
  rw [e]
  show Scalar.select (if (i 4).val ≤ (i 3).val then 1#1 else 0#1) _ _ = _
  by_cases h : (i 4).val ≤ (i 3).val
  · rw [if_pos h, if_pos h]; rfl
  · rw [if_neg h, if_neg h]; rfl

theorem v141_r (j : S6x16x4x256.Idx) : val_main_v141 (F := Ideal) x0 x1 j
    = mxF (XH x0 (j 0).val (4 * (j 1).val + (j 2).val)) (XH x1 (j 0).val (j 1).val) (j 3).val := by
  unfold val_main_v141
  rw [Host.reduce_eq_fold]
  refine fold_max_eq_sup _ _ _ _ _ ofBits_neg_inf_f32 ?_ ?_
  · intro i hi
    have hi := (Finset.mem_filter.mp hi).2
    have h0 : (i 0).val = (j 0).val := congrArg (fun f : S6x16x4x256.Idx => (f 0).val) hi
    have h1 : (i 1).val = (j 1).val := congrArg (fun f : S6x16x4x256.Idx => (f 1).val) hi
    have h2 : (i 2).val = (j 2).val := congrArg (fun f : S6x16x4x256.Idx => (f 2).val) hi
    have h3 : (i 3).val = (j 3).val := congrArg (fun f : S6x16x4x256.Idx => (f 3).val) hi
    refine ⟨(i 4).val, Finset.mem_range.mpr (i 4).isLt, ?_⟩
    rw [v140_r, h0, h1, h2, h3]
  · intro k hk
    refine ⟨fun a => match a with | ⟨0, _⟩ => j 0 | ⟨1, _⟩ => j 1 | ⟨2, _⟩ => j 2 | ⟨3, _⟩ => j 3 | ⟨4, _⟩ => ⟨k, Finset.mem_range.mp hk⟩, Finset.mem_filter.mpr ⟨Finset.mem_univ _, ?_⟩, ?_⟩
    · funext a; fin_cases a <;> rfl
    · rw [v140_r]

theorem v145_r (i : S6x16x4x256x256.Idx) : val_main_v145 (F := Ideal) x0 x1 i
    = pF (XH x0 (i 0).val (4 * (i 1).val + (i 2).val)) (XH x1 (i 0).val (i 1).val) (i 3).val (i 4).val := by
  rw [val_main_v145_apply, val_main_v144_apply, v140_r, val_main_v143_apply, val_main_v142_apply, v141_r]
  rfl

theorem v146_r (i : S6x16x4x256.Idx) : val_main_v146 (F := Ideal) x0 x1 i
    = lF (XH x0 (i 0).val (4 * (i 1).val + (i 2).val)) (XH x1 (i 0).val (i 1).val) (i 3).val := by
  rw [val_main_v146_apply, val_main_cst_30_apply, zero_f32, zero_add, lF, Finset.sum_range]
  simp only [v145_r]

theorem v149_r (i : S6x16x4x256x256.Idx) : val_main_v149 (F := Ideal) x0 x1 i
    = pcF (XH x0 (i 0).val (4 * (i 1).val + (i 2).val)) (XH x1 (i 0).val (i 1).val) (i 3).val (i 4).val := by
  rw [val_main_v149_apply, val_main_call7_v4_apply, val_main_call7_v3_apply, val_main_call7_v2_apply, val_main_call7_v1_apply, val_main_call7_v0_apply, val_main_v148_apply, v145_r,
    val_main_v147_apply, val_main_cst_31_apply, val_main_cst_32_apply, val_main_cst_33_apply, zero_f32]
  unfold pcF
  rw [max_comm, min_comm]
  rfl

theorem v165_r (i : S6x256x16x4x128.Idx) : val_main_v165 (F := Ideal) x0 x1 x2 i
    = oF (XH x0 (i 0).val (4 * (i 2).val + (i 3).val)) (XH x1 (i 0).val (i 2).val) (XH x2 (i 0).val (i 2).val) (i 1).val (i 4).val := by
  rw [val_main_v165_apply, val_main_v164_apply, val_main_v163_apply, val_main_v162_apply, val_main_v161_apply, v77_r, val_main_v160_apply, val_main_v159_apply, val_main_v158_apply,
    val_main_v157_apply, v146_r, val_main_v156_apply, val_main_v155_apply, val_main_v154_apply, v106_r, val_main_v153_apply, val_main_v152_apply, val_main_cst_34_apply, val_main_v151_apply,
    val_main_v150_apply]
  simp only [v102_r, v149_r]
  unfold oF
  rw [Finset.sum_range]
  rfl

theorem v166_r (i : S6x256x8192.Idx) : val_main_v166 (F := Ideal) x0 x1 x2 i
    = oF (XH x0 (i 0).val ((i 2).val / 128)) (XH x1 (i 0).val ((i 2).val / 512)) (XH x2 (i 0).val ((i 2).val / 512)) (i 1).val ((i 2).val % 128) := by
  rw [val_main_v166_apply, v165_r]
  have : (i 0).val < 6 := (i 0).isLt; have : (i 1).val < 256 := (i 1).isLt; have : (i 2).val < 8192 := (i 2).isLt
  have e0 : (idx_main_v166 i 0).val = (i 0).val := by simp [idx_main_v166]; omega
  have e1 : (idx_main_v166 i 1).val = (i 1).val := by simp [idx_main_v166]; omega
  have e2 : (idx_main_v166 i 2).val = (i 2).val / 512 := by simp [idx_main_v166]; omega
  have e3 : 4 * ((i 2).val / 512) + (idx_main_v166 i 3).val = (i 2).val / 128 := by simp [idx_main_v166]; omega
  have e4 : (idx_main_v166 i 4).val = (i 2).val % 128 := by simp [idx_main_v166]; omega
  rw [e0, e1, e2, e3, e4]
-- ==== Proof.AttMath.lean ====
/- The attention over the reals: the order of operations of the kernel against that of the reference. -/
module
public import proofs.«01_k».proof.Proof.Arrays2
@[expose] public section
noncomputable section
namespace Cert.Sage
open Idealize.ShloMosaic

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem ab_real (x : ℝ) : ab (x : EReal) = ((|x| : ℝ) : EReal) := by
  unfold ab
  rw [← EReal.coe_neg, ← coe_max']; rfl

/-- A maximum over a nonempty finite set of sizes of reals is a real, not negative. -/
theorem sup_ab_real {ι : Type} (s : Finset ι) (hs : s.Nonempty) (f : ι → EReal) (h : ∀ i, ∃ r : ℝ, f i = r) :
    ∃ r : ℝ, 0 ≤ r ∧ s.sup (fun i => ab (f i)) = r := by
  obtain ⟨i, _, e⟩ := Finset.exists_mem_eq_sup s hs (fun i => ab (f i))
  obtain ⟨r, hr⟩ := h i
  exact ⟨|r|, abs_nonneg r, by rw [e, hr, ab_real]⟩

theorem code_real (u i : ℝ) : ∃ r : ℝ, code (u : EReal) (i : EReal) = r := by
  unfold code
  rw [ofBits_neg_448, ofBits_448, ← EReal.coe_mul, ← coe_max', ← coe_min']
  exact ⟨_, rfl⟩

section
variable (X K V : ℕ → ℕ → EReal) (hX : ∀ s d, ∃ r : ℝ, X s d = r) (hK : ∀ s d, ∃ r : ℝ, K s d = r) (hV : ∀ s d, ∃ r : ℝ, V s d = r)

include hV in
theorem sub_mv_real (s d : ℕ) : ∃ r : ℝ, V s d - mvF V d = r := by
  obtain ⟨a, ha⟩ := hV s d
  obtain ⟨b, hb⟩ := Cert.KernelIdeal.Gen.mvF_real V d fun s _ => hV s d
  exact ⟨a - b, by rw [ha, hb, EReal.coe_sub]⟩
include hX in
theorem sub_mq_real (n s d : ℕ) : ∃ r : ℝ, X s d - mqF X n d = r := by
  obtain ⟨a, ha⟩ := hX s d
  obtain ⟨b, hb⟩ := Cert.KernelIdeal.Gen.mqF_real X n d fun s => hX s d
  exact ⟨a - b, by rw [ha, hb, EReal.coe_sub]⟩
include hV in
theorem va_real (d : ℕ) : ∃ r : ℝ, 0 < r ∧ sc (vaF V d) = r ∧ sinv (vaF V d) = ((r⁻¹ : ℝ) : EReal) := by
  obtain ⟨r, h0, e⟩ := sup_ab_real (Finset.range 256) ⟨0, by simp⟩ (fun s => V s d - mvF V d) fun s => sub_mv_real V hV s d
  have e' : vaF V d = r := e
  rw [e']; exact sc_real r h0
include hK in
theorem ka_real (g : ℕ) : ∃ r : ℝ, 0 < r ∧ sc (kaF K g) = r ∧ sinv (kaF K g) = ((r⁻¹ : ℝ) : EReal) := by
  obtain ⟨r, h0, e⟩ := sup_ab_real (Finset.range 64 ×ˢ Finset.range 128) ⟨(0, 0), by simp⟩ (fun p => K (64 * g + p.1) p.2 - mvF K p.2) fun p => sub_mv_real K hK _ _
  have e' : kaF K g = r := e
  rw [e']; exact sc_real r h0
include hX in
theorem qa_real (n : ℕ) : ∃ r : ℝ, 0 < r ∧ sc (qaF X n) = r ∧ sinv (qaF X n) = ((r⁻¹ : ℝ) : EReal) := by
  obtain ⟨r, h0, e⟩ := sup_ab_real (Finset.range 128 ×ˢ Finset.range 128) ⟨(0, 0), by simp⟩ (fun p => X (128 * n + p.1) p.2 - mqF X n p.2) fun p => sub_mq_real X hX _ _ _
  have e' : qaF X n = r := e
  rw [e']; exact sc_real r h0
include hV in
theorem vc_real (s d : ℕ) : ∃ r : ℝ, vcF V s d = r := by
  obtain ⟨a, ha⟩ := sub_mv_real V hV s d
  obtain ⟨r, _, _, e⟩ := va_real V hV d
  unfold vcF; rw [ha, e]; exact code_real _ _
include hK in
theorem kc_real (s d : ℕ) : ∃ r : ℝ, kcF K s d = r := by
  obtain ⟨a, ha⟩ := sub_mv_real K hK s d
  obtain ⟨r, _, _, e⟩ := ka_real K hK (s / 64)
  unfold kcF; rw [ha, e]; exact code_real _ _
include hX in
theorem qc_real (s d : ℕ) : ∃ r : ℝ, qcF X s d = r := by
  obtain ⟨a, ha⟩ := sub_mq_real X hX (s / 128) s d
  obtain ⟨r, _, _, e⟩ := qa_real X hX (s / 128)
  unfold qcF; rw [ha, e]; exact code_real _ _
end

theorem coe_sum' (s : Finset ℕ) (f : ℕ → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- A masked maximum, and the same maximum of the scaled values over fewer keys. -/
theorem masked_max (s : ℕ → ℝ) (L : ℝ) (hL : 0 < L) (q n : ℕ) (hq : q < n) (hn : n ≤ 256) : ∃ μ : ℝ,
    (Finset.range 256).sup (fun j => if j ≤ q then (s j : EReal) else ⊥) = μ
    ∧ (Finset.range n).sup (fun j => if j ≤ q then ((s j * L : ℝ) : EReal) else ⊥) = ((μ * L : ℝ) : EReal) := by
  obtain ⟨i, hi, hm⟩ := Finset.exists_max_image (Finset.range (q + 1)) s ⟨0, by simp⟩
  have hi' : i ≤ q := by simpa [Nat.lt_succ_iff] using hi
  refine ⟨s i, le_antisymm (Finset.sup_le fun j _ => ?_) ?_, le_antisymm (Finset.sup_le fun j _ => ?_) ?_⟩
  · split
    · rename_i h; exact EReal.coe_le_coe_iff.mpr (hm j (by simpa [Nat.lt_succ_iff] using h))
    · exact bot_le
  · refine le_trans ?_ (Finset.le_sup (f := fun j => if j ≤ q then (s j : EReal) else ⊥) (Finset.mem_range.mpr (show i < 256 by omega)))
    simp only [if_pos hi']; exact le_refl _
  · split
    · rename_i h; exact EReal.coe_le_coe_iff.mpr (mul_le_mul_of_nonneg_right (hm j (by simpa [Nat.lt_succ_iff] using h)) hL.le)
    · exact bot_le
  · refine le_trans ?_ (Finset.le_sup (f := fun j => if j ≤ q then ((s j * L : ℝ) : EReal) else ⊥) (Finset.mem_range.mpr (show i < n by omega)))
    simp only [if_pos hi']; exact le_refl _

/-- The weights with base e, and 256 times as large with base two. -/
theorem weight_e (s μ : ℝ) (p : Prop) [Decidable p] : Ideal.exp ((if p then (s : EReal) else ⊥) - (μ : EReal)) = ((if p then Real.exp (s - μ) else 0 : ℝ) : EReal) := by
  split
  · rw [← EReal.coe_sub]; rfl
  · rw [EReal.bot_sub]; rfl
theorem weight_two (s μ : ℝ) (p : Prop) [Decidable p] : Ideal.exp2 ((if p then ((s * (Real.log 2)⁻¹ : ℝ) : EReal) else ⊥) - (((μ * (Real.log 2)⁻¹ : ℝ) : EReal) - ((8 : ℝ) : EReal)))
    = ((256 * (if p then Real.exp (s - μ) else 0) : ℝ) : EReal) := by
  split
  · rw [← EReal.coe_sub, ← EReal.coe_sub]
    show ((Real.rpow 2 _ : ℝ) : EReal) = _
    congr 1
    rw [show Real.rpow 2 (s * (Real.log 2)⁻¹ - (μ * (Real.log 2)⁻¹ - 8)) = (2 : ℝ) ^ (s * (Real.log 2)⁻¹ - (μ * (Real.log 2)⁻¹ - 8)) from rfl]
    have h2 := log2_pos
    have h256 : (256 : ℝ) = Real.exp (8 * Real.log 2) := by
      rw [mul_comm, Real.exp_mul, Real.exp_log (by norm_num)]; norm_num
    rw [Real.rpow_def_of_pos (by norm_num), h256, ← Real.exp_add]
    congr 1
    field_simp
    ring
  · rw [← EReal.coe_sub, EReal.bot_sub]; show (0 : EReal) = _; simp

theorem div_pos_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- One output: the kernel's order of operations and the reference's. -/
theorem core (s vc : ℕ → ℝ) (sv mv : ℝ) (q n k : ℕ) (hq : q < n) (hn : n ≤ k) (hk : k ≤ 256) :
    (∑ j ∈ Finset.range k, (vc j : EReal) * (if j < n then min (max (Ideal.exp2 ((if j ≤ q then ((s j * (Real.log 2)⁻¹ : ℝ) : EReal) else ⊥)
        - ((Finset.range n).sup (fun j => if j ≤ q then ((s j * (Real.log 2)⁻¹ : ℝ) : EReal) else ⊥) - ((8 : ℝ) : EReal)))) 0) ((448 : ℝ) : EReal) else 0))
      * Ideal.div 1 (∑ j ∈ Finset.range n, Ideal.exp2 ((if j ≤ q then ((s j * (Real.log 2)⁻¹ : ℝ) : EReal) else ⊥)
        - ((Finset.range n).sup (fun j => if j ≤ q then ((s j * (Real.log 2)⁻¹ : ℝ) : EReal) else ⊥) - ((8 : ℝ) : EReal)))) * (sv : EReal) + (mv : EReal)
    = Ideal.div ((∑ j ∈ Finset.range 256, (vc j : EReal) * min (max (Ideal.exp ((if j ≤ q then (s j : EReal) else ⊥)
          - (Finset.range 256).sup (fun j => if j ≤ q then (s j : EReal) else ⊥)) * ((256 : ℝ) : EReal)) 0) ((448 : ℝ) : EReal)) * ((1 / 256 : ℝ) : EReal) * (sv : EReal))
        (∑ j ∈ Finset.range 256, Ideal.exp ((if j ≤ q then (s j : EReal) else ⊥) - (Finset.range 256).sup (fun j => if j ≤ q then (s j : EReal) else ⊥))) + (mv : EReal) := by
  obtain ⟨μ, h1, h2⟩ := masked_max s (Real.log 2)⁻¹ (inv_pos.mpr log2_pos) q n hq (hn.trans hk)
  rw [h1, h2]
  simp only [weight_e, weight_two]
  set w : ℕ → ℝ := fun j => if j ≤ q then Real.exp (s j - μ) else 0 with hw
  have hw0 : ∀ j, n ≤ j → w j = 0 := fun j hj => by simp only [hw]; rw [if_neg (by omega)]
  have hext : ∀ f : ℕ → ℝ, (∀ j, n ≤ j → f j = 0) → ∀ a, n ≤ a → ∑ j ∈ Finset.range a, f j = ∑ j ∈ Finset.range n, f j := fun f hf a ha =>
    (Finset.sum_subset (Finset.range_mono ha) fun j _ hj => hf j (by simpa using hj)).symm
  have hW : 0 < ∑ j ∈ Finset.range n, w j := by
    refine Finset.sum_pos' (fun j _ => ?_) ⟨0, by simp; omega, ?_⟩
    · simp only [hw]; split; exacts [(Real.exp_pos _).le, le_refl _]
    · simp only [hw]; rw [if_pos (Nat.zero_le _)]; exact Real.exp_pos _
  have c0 : (0 : EReal) = ((0 : ℝ) : EReal) := rfl
  have c1 : (1 : EReal) = ((1 : ℝ) : EReal) := rfl
  have e1 : ∀ j, (if j < n then min (max (((256 * (if j ≤ q then Real.exp (s j - μ) else 0) : ℝ) : EReal)) 0) ((448 : ℝ) : EReal) else 0)
      = ((min (max (256 * w j) 0) 448 : ℝ) : EReal) := fun j => by
    split
    · rw [c0, ← coe_max', ← coe_min']
    · rw [hw0 j (by omega)]; norm_num
  have e2 : ∀ j, min (max (((if j ≤ q then Real.exp (s j - μ) else 0 : ℝ) : EReal) * ((256 : ℝ) : EReal)) 0) ((448 : ℝ) : EReal)
      = ((min (max (256 * w j) 0) 448 : ℝ) : EReal) := fun j => by
    rw [c0, ← EReal.coe_mul, ← coe_max', ← coe_min', mul_comm]
  have e3 : ∀ j, ((if j ≤ q then Real.exp (s j - μ) else 0 : ℝ) : EReal) = ((w j : ℝ) : EReal) := fun j => rfl
  have e4 : ∀ j, ((256 * (if j ≤ q then Real.exp (s j - μ) else 0) : ℝ) : EReal) = ((256 * w j : ℝ) : EReal) := fun j => rfl
  simp only [e1, e2]
  simp only [e3, e4, ← EReal.coe_mul, ← coe_sum']
  rw [c1, hext w hw0 256 (hn.trans hk), hext (fun j => vc j * min (max (256 * w j) 0) 448) (fun j hj => by rw [hw0 j hj]; norm_num) k hn,
    hext (fun j => vc j * min (max (256 * w j) 0) 448) (fun j hj => by rw [hw0 j hj]; norm_num) 256 (hn.trans hk), ← Finset.mul_sum,
    div_pos_real _ _ (mul_pos (by norm_num) hW), div_pos_real _ _ hW, ← EReal.coe_mul, ← EReal.coe_mul]
  congr 2
  field_simp
end Cert.Sage
end
-- ==== Proof.AttBlocks.lean ====
/- The attention, block by block: the windows of 64 queries in two halves of 32. -/
module
public import proofs.«01_k».proof.Proof.Arrays2
@[expose] public section
set_option maxRecDepth 16384
noncomputable section
namespace Cert.KernelIdeal.Gen
open Idealize.ShloMosaic Idealize.ShloMosaic.TcCoe Idealize.ShloMosaic.Tactic
open Cert.Sage

/-- Which keys of a diagonal square a query sees. -/
noncomputable def msk : IVec S32x128 1 := cmpi .sle kernelRun0_A.sl.v1522 kernelRun0_A.sl.v1547
theorem msk_i : ∀ k : Fin 32, ∀ r : Fin 128, (msk (ix2 k r) == 1#1) = decide (k.val ≤ r.val / 4) := by decide +kernel

theorem sel_mask (w : BitVec 1) (P : Prop) [Decidable P] (h : (w == 1#1) = decide P) (x : EReal) : Scalar.select w x (Ideal.ofBits .f32 0xFF800000#32) = if P then x else ⊥ := by
  rw [ofBits_neg_inf_f32]
  by_cases hp : P
  · simp [hp] at h; simp [h, hp, Scalar.select]
  · simp [hp] at h; simp [h, hp, Scalar.select]

/-- The scores times the scale, as the kernel has them before the mask. -/
def vf (uf : ℕ → ℕ → EReal) (bf : ℕ → ℕ → EReal) (q l r j : ℕ) : EReal := if j ≤ q then uf j l * bf (j / 64) r else ⊥

/-- The dot products of keys and queries of window 0. -/
def uu0 (KC : FVec Ideal S256x128 .fp8e4m3) (QC : FVec Ideal S1024x128 .fp8e4m3) (MQ : FVec Ideal S256x128 .bf16) : FVec Ideal S64x256 .f32 :=
  addf (matmul dot_S64x128_S256x128_S64x256_1_1_0_0_n_n none (extractStridedSlice S64x128 ![0, 0] KC (by decide)) (extractStridedSlice S256x128 ![0, 0] QC (by decide)) (constant S64x256 .f32 0#32))
    (matmul dot_S64x128_S256x128_S64x256_1_1_0_0_n_n none (extractStridedSlice S64x128 ![0, 0] (extf .bf16 KC bitsLt_fp8e4m3_bf16) (by decide)) MQ (constant S64x256 .f32 0#32))
theorem uu0_v (KC QC MQ) (kc qc mq : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (s : Fin 64) (l : Fin 256) :
    uu0 KC QC MQ (ix2 s l) = (∑ d ∈ Finset.range 128, kc s d * qc (0 + l) d) + ∑ d ∈ Finset.range 128, kc s d * mq l d := by
  pointwise [uu0]
  simp only [hk, hq, hm, Finset.sum_range]
  try simp

def vr00 (U : FVec Ideal S64x256 .f32) (b0 : FVec Ideal S1x128 .f32) : FVec Ideal S32x128 .f32 :=
  mulf (extractStridedSlice S32x128 ![0, 0] U (by decide)) (broadcastTo S32x128 b0 broadcasts_S1x128_S32x128)
theorem vr00_v (U b0) (uf : ℕ → ℕ → EReal) (bf : ℕ → ℕ → EReal) (hu : ∀ (s : Fin 64) (l : Fin 256), U (ix2 s l) = uf s l)
    (h0 : ∀ r : Fin 128, b0 (ix2 0 r) = bf 0 r) (j : Fin 32) (r : Fin 128) :
    vr00 U b0 (ix2 j r) = uf j (0 + r) * bf (j / 64) r := by
  have hj := j.isLt
  have e0 : ∀ (p q), b0 (ix2 p q) = bf 0 q.val := fun p q => by rw [Subsingleton.elim p 0, h0]
  pointwise [vr00]
  rw [hu, e0, show j.val / 64 = 0 by omega]
  try simp

def vm00 (X : FVec Ideal S32x128 .f32) : FVec Ideal S32x128 .f32 :=
  select msk X (broadcast S32x128 (Scalar.ofBits .f32 0xFF800000#32))
theorem vm00_v (X) (xf : ℕ → ℕ → EReal) (hx : ∀ (j : Fin 32) (r : Fin 128), X (ix2 j r) = xf j r) (j : Fin 32) (r : Fin 128) :
    vm00 X (ix2 j r) = if j.val ≤ 0 + r.val / 4 then xf j r else ⊥ := by
  have hm := msk_i
  have hj := j.isLt
  have hr := r.isLt
  unfold vm00
  generalize msk = M at hm ⊢
  pointwise
  rw [hx]
  exact (sel_mask _ _ (hm j r) _).trans (if_congr (by omega) rfl rfl)

def pp00 (V : FVec Ideal S32x128 .f32) : FVec Ideal S32x128 .f32 :=
  exp2 (subf V (broadcastTo S32x128 (subf (shapeCast S1x128 (multiReduction .maximumf [0] S128 V 0xFF800000#32 reduces_S32x128_S128 (.inl rfl) rfl) shapeCasts_S128_S1x128) (broadcast S1x128 (Scalar.ofBits .f32 0x41000000#32))) broadcasts_S1x128_S32x128))
theorem pp00_v (V) (vf : ℕ → ℕ → EReal) (hv : ∀ (j : Fin 32) (r : Fin 128), V (ix2 j r) = vf j r) (j : Fin 32) (r : Fin 128) :
    pp00 V (ix2 j r) = Ideal.exp2 (vf j r - ((Finset.range 32).sup (fun j => vf j r) - ((8 : ℝ) : EReal))) := by
  pointwise [pp00]
  rw [fold_max_range 32 _ ofBits_neg_inf_f32 (fun j => vf j r) _ (fun x => hv x r), hv, ofBits_8]
  rfl
def rl00 (P : FVec Ideal S32x128 .f32) : FVec Ideal S1x128 .f32 :=
  divf (broadcast S1x128 (Scalar.ofBits .f32 0x3F800000#32)) (shapeCast S1x128 (multiReduction .add [0] S128 P 0#32 reduces_S32x128_S128 (.inl rfl) rfl) shapeCasts_S128_S1x128)
theorem rl00_v (P) (pf : ℕ → ℕ → EReal) (hp : ∀ (j : Fin 32) (r : Fin 128), P (ix2 j r) = pf j r) (r : Fin 128) :
    rl00 P (ix2 0 r) = Ideal.div 1 (∑ j ∈ Finset.range 32, pf j r) := by
  pointwise [rl00]
  rw [Finset.sum_range]
  simp only [hp]

def pc00 (P : FVec Ideal S32x128 .f32) : FVec Ideal S64x128 .fp8e4m3 := truncf .fp8e4m3 (concatenate S64x128 0 [⟨S32x128, minimumf (maximumf P (broadcast S32x128 (Scalar.ofBits .f32 0x00000000#32))) (broadcast S32x128 (Scalar.ofBits .f32 0x43E00000#32))⟩, ⟨S32x128, broadcast S32x128 (Scalar.ofBits .f32 0x00000000#32)⟩] concatenates_S32x128_S32x128_S64x128_d0) bitsLt_fp8e4m3_f32
theorem pc00_v (P) (pf : ℕ → ℕ → EReal) (hp : ∀ (j : Fin 32) (r : Fin 128), P (ix2 j r) = pf j r) (j : Fin 64) (r : Fin 128) :
    pc00 P (ix2 j r) = if j.val < 32 then min (max (pf j r) 0) ((448 : ℝ) : EReal) else 0 := by
  have hj := j.isLt
  pointwise [pc00]
  split_ifs with h
  · rw [hp, ofBits_448]
  · simp

def vr01 (U : FVec Ideal S64x256 .f32) (b0 : FVec Ideal S1x128 .f32) : FVec Ideal S64x128 .f32 :=
  mulf (extractStridedSlice S64x128 ![0, 128] U (by decide)) (broadcastTo S64x128 b0 broadcasts_S1x128_S64x128)
theorem vr01_v (U b0) (uf : ℕ → ℕ → EReal) (bf : ℕ → ℕ → EReal) (hu : ∀ (s : Fin 64) (l : Fin 256), U (ix2 s l) = uf s l)
    (h0 : ∀ r : Fin 128, b0 (ix2 0 r) = bf 0 r) (j : Fin 64) (r : Fin 128) :
    vr01 U b0 (ix2 j r) = uf j (128 + r) * bf (j / 64) r := by
  have hj := j.isLt
  have e0 : ∀ (p q), b0 (ix2 p q) = bf 0 q.val := fun p q => by rw [Subsingleton.elim p 0, h0]
  pointwise [vr01]
  rw [hu, e0, show j.val / 64 = 0 by omega]
  try simp

def vm01 (X : FVec Ideal S64x128 .f32) : FVec Ideal S64x128 .f32 :=
  concatenate S64x128 0 [⟨S32x128, extractStridedSlice S32x128 ![0, 0] X (by decide)⟩, ⟨S32x128, select msk (extractStridedSlice S32x128 ![32, 0] X (by decide)) (broadcast S32x128 (Scalar.ofBits .f32 0xFF800000#32))⟩] concatenates_S32x128_S32x128_S64x128_d0
theorem vm01_v (X) (xf : ℕ → ℕ → EReal) (hx : ∀ (j : Fin 64) (r : Fin 128), X (ix2 j r) = xf j r) (j : Fin 64) (r : Fin 128) :
    vm01 X (ix2 j r) = if j.val ≤ 32 + r.val / 4 then xf j r else ⊥ := by
  have hm := msk_i
  have hj := j.isLt
  have hr := r.isLt
  unfold vm01
  generalize msk = M at hm ⊢
  pointwise
  have hj' : 32 + (j.val - 32) = j.val ∨ j.val < 32 := by omega
  split_ifs with h1 h2 h2
  · rw [hx]
  · simp at *; omega
  · rw [hx]
    have hj' : 32 + (j.val - 32) = j.val := by omega
    refine Eq.trans (congrArg (fun n => Scalar.select _ (xf n _) _) hj') ?_
    refine (sel_mask _ _ (hm ⟨j.val - 32, by omega⟩ r) _).trans (if_congr ?_ rfl rfl)
    show j.val - 32 ≤ _ ↔ _
    omega
  · exact absurd rfl h2

def pp01 (V : FVec Ideal S64x128 .f32) : FVec Ideal S64x128 .f32 :=
  exp2 (subf V (broadcastTo S64x128 (subf (shapeCast S1x128 (multiReduction .maximumf [0] S128 V 0xFF800000#32 reduces_S64x128_S128 (.inl rfl) rfl) shapeCasts_S128_S1x128) (broadcast S1x128 (Scalar.ofBits .f32 0x41000000#32))) broadcasts_S1x128_S64x128))
theorem pp01_v (V) (vf : ℕ → ℕ → EReal) (hv : ∀ (j : Fin 64) (r : Fin 128), V (ix2 j r) = vf j r) (j : Fin 64) (r : Fin 128) :
    pp01 V (ix2 j r) = Ideal.exp2 (vf j r - ((Finset.range 64).sup (fun j => vf j r) - ((8 : ℝ) : EReal))) := by
  pointwise [pp01]
  rw [fold_max_range 64 _ ofBits_neg_inf_f32 (fun j => vf j r) _ (fun x => hv x r), hv, ofBits_8]
  rfl
def rl01 (P : FVec Ideal S64x128 .f32) : FVec Ideal S1x128 .f32 :=
  divf (broadcast S1x128 (Scalar.ofBits .f32 0x3F800000#32)) (shapeCast S1x128 (multiReduction .add [0] S128 P 0#32 reduces_S64x128_S128 (.inl rfl) rfl) shapeCasts_S128_S1x128)
theorem rl01_v (P) (pf : ℕ → ℕ → EReal) (hp : ∀ (j : Fin 64) (r : Fin 128), P (ix2 j r) = pf j r) (r : Fin 128) :
    rl01 P (ix2 0 r) = Ideal.div 1 (∑ j ∈ Finset.range 64, pf j r) := by
  pointwise [rl01]
  rw [Finset.sum_range]
  simp only [hp]

def pc01 (P : FVec Ideal S64x128 .f32) : FVec Ideal S64x128 .fp8e4m3 := truncf .fp8e4m3 (minimumf (maximumf P (broadcast S64x128 (Scalar.ofBits .f32 0x00000000#32))) (broadcast S64x128 (Scalar.ofBits .f32 0x43E00000#32))) bitsLt_fp8e4m3_f32
theorem pc01_v (P) (pf : ℕ → ℕ → EReal) (hp : ∀ (j : Fin 64) (r : Fin 128), P (ix2 j r) = pf j r) (j : Fin 64) (r : Fin 128) :
    pc01 P (ix2 j r) = if j.val < 64 then min (max (pf j r) 0) ((448 : ℝ) : EReal) else 0 := by
  have hj := j.isLt
  pointwise [pc01]
  rw [hp, ofBits_448]

def ot0 (VC : FVec Ideal S256x128 .fp8e4m3) (A B : FVec Ideal S64x128 .fp8e4m3) : FVec Ideal S128x256 .f32 :=
  matmul dot_S64x128_S64x256_S128x256_0_0_1_1_n_n none (extractStridedSlice S64x128 ![0, 0] VC (by decide)) (concatenate S64x256 1 [⟨S64x128, A⟩, ⟨S64x128, B⟩] concatenates_S64x128_S64x128_S64x256_d1) (constant S128x256 .f32 0#32)
theorem ot0_v (VC A B) (vc : ℕ → ℕ → EReal) (f : ℕ → ℕ → ℕ → EReal) (hv : ∀ (s : Fin 256) (d : Fin 128), VC (ix2 s d) = vc s d)
    (ha : ∀ (s : Fin 64) (r : Fin 128), A (ix2 s r) = f 0 s r) (hb : ∀ (s : Fin 64) (r : Fin 128), B (ix2 s r) = f 1 s r) (d : Fin 128) (l : Fin 256) :
    ot0 VC A B (ix2 d l) = ∑ j ∈ Finset.range 64, vc j d * f (l / 128) j (l % 128) := by
  have hl := l.isLt
  pointwise [ot0]
  rw [Finset.sum_range]
  have hv' : ∀ (p) (q), VC (ix2 p q) = vc p.val q.val := fun p q => hv p q
  by_cases h : l.val < 128
  · simp [h, ha, hv', show l.val / 128 = 0 by omega, show l.val % 128 = l.val by omega]
  · simp [h, hb, hv', show l.val / 128 = 1 by omega, show l.val % 128 = l.val - 128 by omega]

/-- The dot products of keys and queries of window 1. -/
def uu1 (KC : FVec Ideal S256x128 .fp8e4m3) (QC : FVec Ideal S1024x128 .fp8e4m3) (MQ : FVec Ideal S256x128 .bf16) : FVec Ideal S128x256 .f32 :=
  addf (matmul dot_S128x128_S256x128_S128x256_1_1_0_0_n_n none (extractStridedSlice S128x128 ![0, 0] KC (by decide)) (extractStridedSlice S256x128 ![256, 0] QC (by decide)) (constant S128x256 .f32 0#32))
    (matmul dot_S128x128_S256x128_S128x256_1_1_0_0_n_n none (extractStridedSlice S128x128 ![0, 0] (extf .bf16 KC bitsLt_fp8e4m3_bf16) (by decide)) MQ (constant S128x256 .f32 0#32))
theorem uu1_v (KC QC MQ) (kc qc mq : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (s : Fin 128) (l : Fin 256) :
    uu1 KC QC MQ (ix2 s l) = (∑ d ∈ Finset.range 128, kc s d * qc (256 + l) d) + ∑ d ∈ Finset.range 128, kc s d * mq l d := by
  pointwise [uu1]
  simp only [hk, hq, hm, Finset.sum_range]
  try simp

def vr10 (U : FVec Ideal S128x256 .f32) (b0 b1 : FVec Ideal S1x128 .f32) : FVec Ideal S96x128 .f32 :=
  concatenate S96x128 0 [⟨S64x128, mulf (extractStridedSlice S64x128 ![0, 0] (extractStridedSlice S96x128 ![0, 0] U (by decide)) (by decide)) (broadcastTo S64x128 b0 broadcasts_S1x128_S64x128)⟩, ⟨S32x128, mulf (extractStridedSlice S32x128 ![64, 0] (extractStridedSlice S96x128 ![0, 0] U (by decide)) (by decide)) (broadcastTo S32x128 b1 broadcasts_S1x128_S32x128)⟩] concatenates_S64x128_S32x128_S96x128_d0
theorem vr10_v (U b0 b1) (uf : ℕ → ℕ → EReal) (bf : ℕ → ℕ → EReal) (hu : ∀ (s : Fin 128) (l : Fin 256), U (ix2 s l) = uf s l)
    (h0 : ∀ r : Fin 128, b0 (ix2 0 r) = bf 0 r) (h1 : ∀ r : Fin 128, b1 (ix2 0 r) = bf 1 r) (j : Fin 96) (r : Fin 128) :
    vr10 U b0 b1 (ix2 j r) = uf j (0 + r) * bf (j / 64) r := by
  have hj := j.isLt
  have e0 : ∀ (p q), b0 (ix2 p q) = bf 0 q.val := fun p q => by rw [Subsingleton.elim p 0, h0]
  have e1 : ∀ (p q), b1 (ix2 p q) = bf 1 q.val := fun p q => by rw [Subsingleton.elim p 0, h1]
  pointwise [vr10]
  split_ifs <;> rw [hu] <;> (first | rw [e0] | rw [e1]) <;> refine cg4 (fun a b c d => uf a b * bf c d) ?_ ?_ ?_ ?_ <;> (try simp) <;> (try omega)

def vm10 (X : FVec Ideal S96x128 .f32) : FVec Ideal S96x128 .f32 :=
  concatenate S96x128 0 [⟨S64x128, extractStridedSlice S64x128 ![0, 0] X (by decide)⟩, ⟨S32x128, select msk (extractStridedSlice S32x128 ![64, 0] X (by decide)) (broadcast S32x128 (Scalar.ofBits .f32 0xFF800000#32))⟩] concatenates_S64x128_S32x128_S96x128_d0
theorem vm10_v (X) (xf : ℕ → ℕ → EReal) (hx : ∀ (j : Fin 96) (r : Fin 128), X (ix2 j r) = xf j r) (j : Fin 96) (r : Fin 128) :
    vm10 X (ix2 j r) = if j.val ≤ 64 + r.val / 4 then xf j r else ⊥ := by
  have hm := msk_i
  have hj := j.isLt
  have hr := r.isLt
  unfold vm10
  generalize msk = M at hm ⊢
  pointwise
  have hj' : 64 + (j.val - 64) = j.val ∨ j.val < 64 := by omega
  split_ifs with h1 h2 h2
  · rw [hx]
  · simp at *; omega
  · rw [hx]
    have hj' : 64 + (j.val - 64) = j.val := by omega
    refine Eq.trans (congrArg (fun n => Scalar.select _ (xf n _) _) hj') ?_
    refine (sel_mask _ _ (hm ⟨j.val - 64, by omega⟩ r) _).trans (if_congr ?_ rfl rfl)
    show j.val - 64 ≤ _ ↔ _
    omega
  · exact absurd rfl h2

def pp10 (V : FVec Ideal S96x128 .f32) : FVec Ideal S96x128 .f32 :=
  exp2 (subf V (broadcastTo S96x128 (subf (shapeCast S1x128 (multiReduction .maximumf [0] S128 V 0xFF800000#32 reduces_S96x128_S128 (.inl rfl) rfl) shapeCasts_S128_S1x128) (broadcast S1x128 (Scalar.ofBits .f32 0x41000000#32))) broadcasts_S1x128_S96x128))
theorem pp10_v (V) (vf : ℕ → ℕ → EReal) (hv : ∀ (j : Fin 96) (r : Fin 128), V (ix2 j r) = vf j r) (j : Fin 96) (r : Fin 128) :
    pp10 V (ix2 j r) = Ideal.exp2 (vf j r - ((Finset.range 96).sup (fun j => vf j r) - ((8 : ℝ) : EReal))) := by
  pointwise [pp10]
  rw [fold_max_range 96 _ ofBits_neg_inf_f32 (fun j => vf j r) _ (fun x => hv x r), hv, ofBits_8]
  rfl
def rl10 (P : FVec Ideal S96x128 .f32) : FVec Ideal S1x128 .f32 :=
  divf (broadcast S1x128 (Scalar.ofBits .f32 0x3F800000#32)) (shapeCast S1x128 (multiReduction .add [0] S128 P 0#32 reduces_S96x128_S128 (.inl rfl) rfl) shapeCasts_S128_S1x128)
theorem rl10_v (P) (pf : ℕ → ℕ → EReal) (hp : ∀ (j : Fin 96) (r : Fin 128), P (ix2 j r) = pf j r) (r : Fin 128) :
    rl10 P (ix2 0 r) = Ideal.div 1 (∑ j ∈ Finset.range 96, pf j r) := by
  pointwise [rl10]
  rw [Finset.sum_range]
  simp only [hp]

def pc10 (P : FVec Ideal S96x128 .f32) : FVec Ideal S128x128 .fp8e4m3 := truncf .fp8e4m3 (concatenate S128x128 0 [⟨S96x128, minimumf (maximumf P (broadcast S96x128 (Scalar.ofBits .f32 0x00000000#32))) (broadcast S96x128 (Scalar.ofBits .f32 0x43E00000#32))⟩, ⟨S32x128, broadcast S32x128 (Scalar.ofBits .f32 0x00000000#32)⟩] concatenates_S96x128_S32x128_S128x128_d0) bitsLt_fp8e4m3_f32
theorem pc10_v (P) (pf : ℕ → ℕ → EReal) (hp : ∀ (j : Fin 96) (r : Fin 128), P (ix2 j r) = pf j r) (j : Fin 128) (r : Fin 128) :
    pc10 P (ix2 j r) = if j.val < 96 then min (max (pf j r) 0) ((448 : ℝ) : EReal) else 0 := by
  have hj := j.isLt
  pointwise [pc10]
  split_ifs with h
  · rw [hp, ofBits_448]
  · simp

def vr11 (U : FVec Ideal S128x256 .f32) (b0 b1 : FVec Ideal S1x128 .f32) : FVec Ideal S128x128 .f32 :=
  concatenate S128x128 0 [⟨S64x128, mulf (extractStridedSlice S64x128 ![0, 0] (extractStridedSlice S128x128 ![0, 128] U (by decide)) (by decide)) (broadcastTo S64x128 b0 broadcasts_S1x128_S64x128)⟩, ⟨S64x128, mulf (extractStridedSlice S64x128 ![64, 0] (extractStridedSlice S128x128 ![0, 128] U (by decide)) (by decide)) (broadcastTo S64x128 b1 broadcasts_S1x128_S64x128)⟩] concatenates_S64x128_S64x128_S128x128_d0
theorem vr11_v (U b0 b1) (uf : ℕ → ℕ → EReal) (bf : ℕ → ℕ → EReal) (hu : ∀ (s : Fin 128) (l : Fin 256), U (ix2 s l) = uf s l)
    (h0 : ∀ r : Fin 128, b0 (ix2 0 r) = bf 0 r) (h1 : ∀ r : Fin 128, b1 (ix2 0 r) = bf 1 r) (j : Fin 128) (r : Fin 128) :
    vr11 U b0 b1 (ix2 j r) = uf j (128 + r) * bf (j / 64) r := by
  have hj := j.isLt
  have e0 : ∀ (p q), b0 (ix2 p q) = bf 0 q.val := fun p q => by rw [Subsingleton.elim p 0, h0]
  have e1 : ∀ (p q), b1 (ix2 p q) = bf 1 q.val := fun p q => by rw [Subsingleton.elim p 0, h1]
  pointwise [vr11]
  split_ifs <;> rw [hu] <;> (first | rw [e0] | rw [e1]) <;> refine cg4 (fun a b c d => uf a b * bf c d) ?_ ?_ ?_ ?_ <;> (try simp) <;> (try omega)

def vm11 (X : FVec Ideal S128x128 .f32) : FVec Ideal S128x128 .f32 :=
  concatenate S128x128 0 [⟨S96x128, extractStridedSlice S96x128 ![0, 0] X (by decide)⟩, ⟨S32x128, select msk (extractStridedSlice S32x128 ![96, 0] X (by decide)) (broadcast S32x128 (Scalar.ofBits .f32 0xFF800000#32))⟩] concatenates_S96x128_S32x128_S128x128_d0
theorem vm11_v (X) (xf : ℕ → ℕ → EReal) (hx : ∀ (j : Fin 128) (r : Fin 128), X (ix2 j r) = xf j r) (j : Fin 128) (r : Fin 128) :
    vm11 X (ix2 j r) = if j.val ≤ 96 + r.val / 4 then xf j r else ⊥ := by
  have hm := msk_i
  have hj := j.isLt
  have hr := r.isLt
  unfold vm11
  generalize msk = M at hm ⊢
  pointwise
  have hj' : 96 + (j.val - 96) = j.val ∨ j.val < 96 := by omega
  split_ifs with h1 h2 h2
  · rw [hx]
  · simp at *; omega
  · rw [hx]
    have hj' : 96 + (j.val - 96) = j.val := by omega
    refine Eq.trans (congrArg (fun n => Scalar.select _ (xf n _) _) hj') ?_
    refine (sel_mask _ _ (hm ⟨j.val - 96, by omega⟩ r) _).trans (if_congr ?_ rfl rfl)
    show j.val - 96 ≤ _ ↔ _
    omega
  · exact absurd rfl h2

def pp11 (V : FVec Ideal S128x128 .f32) : FVec Ideal S128x128 .f32 :=
  exp2 (subf V (broadcastTo S128x128 (subf (shapeCast S1x128 (multiReduction .maximumf [0] S128 V 0xFF800000#32 reduces_S128x128_S128 (.inl rfl) rfl) shapeCasts_S128_S1x128) (broadcast S1x128 (Scalar.ofBits .f32 0x41000000#32))) broadcasts_S1x128_S128x128))
theorem pp11_v (V) (vf : ℕ → ℕ → EReal) (hv : ∀ (j : Fin 128) (r : Fin 128), V (ix2 j r) = vf j r) (j : Fin 128) (r : Fin 128) :
    pp11 V (ix2 j r) = Ideal.exp2 (vf j r - ((Finset.range 128).sup (fun j => vf j r) - ((8 : ℝ) : EReal))) := by
  pointwise [pp11]
  rw [fold_max_range 128 _ ofBits_neg_inf_f32 (fun j => vf j r) _ (fun x => hv x r), hv, ofBits_8]
  rfl
def rl11 (P : FVec Ideal S128x128 .f32) : FVec Ideal S1x128 .f32 :=
  divf (broadcast S1x128 (Scalar.ofBits .f32 0x3F800000#32)) (shapeCast S1x128 (multiReduction .add [0] S128 P 0#32 reduces_S128x128_S128 (.inl rfl) rfl) shapeCasts_S128_S1x128)
theorem rl11_v (P) (pf : ℕ → ℕ → EReal) (hp : ∀ (j : Fin 128) (r : Fin 128), P (ix2 j r) = pf j r) (r : Fin 128) :
    rl11 P (ix2 0 r) = Ideal.div 1 (∑ j ∈ Finset.range 128, pf j r) := by
  pointwise [rl11]
  rw [Finset.sum_range]
  simp only [hp]

def pc11 (P : FVec Ideal S128x128 .f32) : FVec Ideal S128x128 .fp8e4m3 := truncf .fp8e4m3 (minimumf (maximumf P (broadcast S128x128 (Scalar.ofBits .f32 0x00000000#32))) (broadcast S128x128 (Scalar.ofBits .f32 0x43E00000#32))) bitsLt_fp8e4m3_f32
theorem pc11_v (P) (pf : ℕ → ℕ → EReal) (hp : ∀ (j : Fin 128) (r : Fin 128), P (ix2 j r) = pf j r) (j : Fin 128) (r : Fin 128) :
    pc11 P (ix2 j r) = if j.val < 128 then min (max (pf j r) 0) ((448 : ℝ) : EReal) else 0 := by
  have hj := j.isLt
  pointwise [pc11]
  rw [hp, ofBits_448]

def ot1 (VC : FVec Ideal S256x128 .fp8e4m3) (A B : FVec Ideal S128x128 .fp8e4m3) : FVec Ideal S128x256 .f32 :=
  matmul dot_S128x128_S128x256_S128x256_0_0_1_1_n_n none (extractStridedSlice S128x128 ![0, 0] VC (by decide)) (concatenate S128x256 1 [⟨S128x128, A⟩, ⟨S128x128, B⟩] concatenates_S128x128_S128x128_S128x256_d1) (constant S128x256 .f32 0#32)
theorem ot1_v (VC A B) (vc : ℕ → ℕ → EReal) (f : ℕ → ℕ → ℕ → EReal) (hv : ∀ (s : Fin 256) (d : Fin 128), VC (ix2 s d) = vc s d)
    (ha : ∀ (s : Fin 128) (r : Fin 128), A (ix2 s r) = f 0 s r) (hb : ∀ (s : Fin 128) (r : Fin 128), B (ix2 s r) = f 1 s r) (d : Fin 128) (l : Fin 256) :
    ot1 VC A B (ix2 d l) = ∑ j ∈ Finset.range 128, vc j d * f (l / 128) j (l % 128) := by
  have hl := l.isLt
  pointwise [ot1]
  rw [Finset.sum_range]
  have hv' : ∀ (p) (q), VC (ix2 p q) = vc p.val q.val := fun p q => hv p q
  by_cases h : l.val < 128
  · simp [h, ha, hv', show l.val / 128 = 0 by omega, show l.val % 128 = l.val by omega]
  · simp [h, hb, hv', show l.val / 128 = 1 by omega, show l.val % 128 = l.val - 128 by omega]

/-- The dot products of keys and queries of window 2. -/
def uu2 (KC : FVec Ideal S256x128 .fp8e4m3) (QC : FVec Ideal S1024x128 .fp8e4m3) (MQ : FVec Ideal S256x128 .bf16) : FVec Ideal S192x256 .f32 :=
  addf (matmul dot_S192x128_S256x128_S192x256_1_1_0_0_n_n none (extractStridedSlice S192x128 ![0, 0] KC (by decide)) (extractStridedSlice S256x128 ![512, 0] QC (by decide)) (constant S192x256 .f32 0#32))
    (matmul dot_S192x128_S256x128_S192x256_1_1_0_0_n_n none (extractStridedSlice S192x128 ![0, 0] (extf .bf16 KC bitsLt_fp8e4m3_bf16) (by decide)) MQ (constant S192x256 .f32 0#32))
theorem uu2_v (KC QC MQ) (kc qc mq : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (s : Fin 192) (l : Fin 256) :
    uu2 KC QC MQ (ix2 s l) = (∑ d ∈ Finset.range 128, kc s d * qc (512 + l) d) + ∑ d ∈ Finset.range 128, kc s d * mq l d := by
  pointwise [uu2]
  simp only [hk, hq, hm, Finset.sum_range]
  try simp

def vr20 (U : FVec Ideal S192x256 .f32) (b0 b1 b2 : FVec Ideal S1x128 .f32) : FVec Ideal S160x128 .f32 :=
  concatenate S160x128 0 [⟨S64x128, mulf (extractStridedSlice S64x128 ![0, 0] (extractStridedSlice S160x128 ![0, 0] U (by decide)) (by decide)) (broadcastTo S64x128 b0 broadcasts_S1x128_S64x128)⟩, ⟨S64x128, mulf (extractStridedSlice S64x128 ![64, 0] (extractStridedSlice S160x128 ![0, 0] U (by decide)) (by decide)) (broadcastTo S64x128 b1 broadcasts_S1x128_S64x128)⟩, ⟨S32x128, mulf (extractStridedSlice S32x128 ![128, 0] (extractStridedSlice S160x128 ![0, 0] U (by decide)) (by decide)) (broadcastTo S32x128 b2 broadcasts_S1x128_S32x128)⟩] concatenates_S64x128_S64x128_S32x128_S160x128_d0
theorem vr20_v (U b0 b1 b2) (uf : ℕ → ℕ → EReal) (bf : ℕ → ℕ → EReal) (hu : ∀ (s : Fin 192) (l : Fin 256), U (ix2 s l) = uf s l)
    (h0 : ∀ r : Fin 128, b0 (ix2 0 r) = bf 0 r) (h1 : ∀ r : Fin 128, b1 (ix2 0 r) = bf 1 r) (h2 : ∀ r : Fin 128, b2 (ix2 0 r) = bf 2 r) (j : Fin 160) (r : Fin 128) :
    vr20 U b0 b1 b2 (ix2 j r) = uf j (0 + r) * bf (j / 64) r := by
  have hj := j.isLt
  have e0 : ∀ (p q), b0 (ix2 p q) = bf 0 q.val := fun p q => by rw [Subsingleton.elim p 0, h0]
  have e1 : ∀ (p q), b1 (ix2 p q) = bf 1 q.val := fun p q => by rw [Subsingleton.elim p 0, h1]
  have e2 : ∀ (p q), b2 (ix2 p q) = bf 2 q.val := fun p q => by rw [Subsingleton.elim p 0, h2]
  pointwise [vr20]
  split_ifs <;> rw [hu] <;> (first | rw [e0] | rw [e1] | rw [e2]) <;> refine cg4 (fun a b c d => uf a b * bf c d) ?_ ?_ ?_ ?_ <;> (try simp) <;> (try omega)

def vm20 (X : FVec Ideal S160x128 .f32) : FVec Ideal S160x128 .f32 :=
  concatenate S160x128 0 [⟨S128x128, extractStridedSlice S128x128 ![0, 0] X (by decide)⟩, ⟨S32x128, select msk (extractStridedSlice S32x128 ![128, 0] X (by decide)) (broadcast S32x128 (Scalar.ofBits .f32 0xFF800000#32))⟩] concatenates_S128x128_S32x128_S160x128_d0
theorem vm20_v (X) (xf : ℕ → ℕ → EReal) (hx : ∀ (j : Fin 160) (r : Fin 128), X (ix2 j r) = xf j r) (j : Fin 160) (r : Fin 128) :
    vm20 X (ix2 j r) = if j.val ≤ 128 + r.val / 4 then xf j r else ⊥ := by
  have hm := msk_i
  have hj := j.isLt
  have hr := r.isLt
  unfold vm20
  generalize msk = M at hm ⊢
  pointwise
  have hj' : 128 + (j.val - 128) = j.val ∨ j.val < 128 := by omega
  split_ifs with h1 h2 h2
  · rw [hx]
  · simp at *; omega
  · rw [hx]
    have hj' : 128 + (j.val - 128) = j.val := by omega
    refine Eq.trans (congrArg (fun n => Scalar.select _ (xf n _) _) hj') ?_
    refine (sel_mask _ _ (hm ⟨j.val - 128, by omega⟩ r) _).trans (if_congr ?_ rfl rfl)
    show j.val - 128 ≤ _ ↔ _
    omega
  · exact absurd rfl h2

def pp20 (V : FVec Ideal S160x128 .f32) : FVec Ideal S160x128 .f32 :=
  exp2 (subf V (broadcastTo S160x128 (subf (shapeCast S1x128 (multiReduction .maximumf [0] S128 V 0xFF800000#32 reduces_S160x128_S128 (.inl rfl) rfl) shapeCasts_S128_S1x128) (broadcast S1x128 (Scalar.ofBits .f32 0x41000000#32))) broadcasts_S1x128_S160x128))
theorem pp20_v (V) (vf : ℕ → ℕ → EReal) (hv : ∀ (j : Fin 160) (r : Fin 128), V (ix2 j r) = vf j r) (j : Fin 160) (r : Fin 128) :
    pp20 V (ix2 j r) = Ideal.exp2 (vf j r - ((Finset.range 160).sup (fun j => vf j r) - ((8 : ℝ) : EReal))) := by
  pointwise [pp20]
  rw [fold_max_range 160 _ ofBits_neg_inf_f32 (fun j => vf j r) _ (fun x => hv x r), hv, ofBits_8]
  rfl
def rl20 (P : FVec Ideal S160x128 .f32) : FVec Ideal S1x128 .f32 :=
  divf (broadcast S1x128 (Scalar.ofBits .f32 0x3F800000#32)) (shapeCast S1x128 (multiReduction .add [0] S128 P 0#32 reduces_S160x128_S128 (.inl rfl) rfl) shapeCasts_S128_S1x128)
theorem rl20_v (P) (pf : ℕ → ℕ → EReal) (hp : ∀ (j : Fin 160) (r : Fin 128), P (ix2 j r) = pf j r) (r : Fin 128) :
    rl20 P (ix2 0 r) = Ideal.div 1 (∑ j ∈ Finset.range 160, pf j r) := by
  pointwise [rl20]
  rw [Finset.sum_range]
  simp only [hp]

def pc20 (P : FVec Ideal S160x128 .f32) : FVec Ideal S192x128 .fp8e4m3 := truncf .fp8e4m3 (concatenate S192x128 0 [⟨S160x128, minimumf (maximumf P (broadcast S160x128 (Scalar.ofBits .f32 0x00000000#32))) (broadcast S160x128 (Scalar.ofBits .f32 0x43E00000#32))⟩, ⟨S32x128, broadcast S32x128 (Scalar.ofBits .f32 0x00000000#32)⟩] concatenates_S160x128_S32x128_S192x128_d0) bitsLt_fp8e4m3_f32
theorem pc20_v (P) (pf : ℕ → ℕ → EReal) (hp : ∀ (j : Fin 160) (r : Fin 128), P (ix2 j r) = pf j r) (j : Fin 192) (r : Fin 128) :
    pc20 P (ix2 j r) = if j.val < 160 then min (max (pf j r) 0) ((448 : ℝ) : EReal) else 0 := by
  have hj := j.isLt
  pointwise [pc20]
  split_ifs with h
  · rw [hp, ofBits_448]
  · simp

def vr21 (U : FVec Ideal S192x256 .f32) (b0 b1 b2 : FVec Ideal S1x128 .f32) : FVec Ideal S192x128 .f32 :=
  concatenate S192x128 0 [⟨S64x128, mulf (extractStridedSlice S64x128 ![0, 0] (extractStridedSlice S192x128 ![0, 128] U (by decide)) (by decide)) (broadcastTo S64x128 b0 broadcasts_S1x128_S64x128)⟩, ⟨S64x128, mulf (extractStridedSlice S64x128 ![64, 0] (extractStridedSlice S192x128 ![0, 128] U (by decide)) (by decide)) (broadcastTo S64x128 b1 broadcasts_S1x128_S64x128)⟩, ⟨S64x128, mulf (extractStridedSlice S64x128 ![128, 0] (extractStridedSlice S192x128 ![0, 128] U (by decide)) (by decide)) (broadcastTo S64x128 b2 broadcasts_S1x128_S64x128)⟩] concatenates_S64x128_S64x128_S64x128_S192x128_d0
theorem vr21_v (U b0 b1 b2) (uf : ℕ → ℕ → EReal) (bf : ℕ → ℕ → EReal) (hu : ∀ (s : Fin 192) (l : Fin 256), U (ix2 s l) = uf s l)
    (h0 : ∀ r : Fin 128, b0 (ix2 0 r) = bf 0 r) (h1 : ∀ r : Fin 128, b1 (ix2 0 r) = bf 1 r) (h2 : ∀ r : Fin 128, b2 (ix2 0 r) = bf 2 r) (j : Fin 192) (r : Fin 128) :
    vr21 U b0 b1 b2 (ix2 j r) = uf j (128 + r) * bf (j / 64) r := by
  have hj := j.isLt
  have e0 : ∀ (p q), b0 (ix2 p q) = bf 0 q.val := fun p q => by rw [Subsingleton.elim p 0, h0]
  have e1 : ∀ (p q), b1 (ix2 p q) = bf 1 q.val := fun p q => by rw [Subsingleton.elim p 0, h1]
  have e2 : ∀ (p q), b2 (ix2 p q) = bf 2 q.val := fun p q => by rw [Subsingleton.elim p 0, h2]
  pointwise [vr21]
  split_ifs <;> rw [hu] <;> (first | rw [e0] | rw [e1] | rw [e2]) <;> refine cg4 (fun a b c d => uf a b * bf c d) ?_ ?_ ?_ ?_ <;> (try simp) <;> (try omega)

def vm21 (X : FVec Ideal S192x128 .f32) : FVec Ideal S192x128 .f32 :=
  concatenate S192x128 0 [⟨S160x128, extractStridedSlice S160x128 ![0, 0] X (by decide)⟩, ⟨S32x128, select msk (extractStridedSlice S32x128 ![160, 0] X (by decide)) (broadcast S32x128 (Scalar.ofBits .f32 0xFF800000#32))⟩] concatenates_S160x128_S32x128_S192x128_d0
theorem vm21_v (X) (xf : ℕ → ℕ → EReal) (hx : ∀ (j : Fin 192) (r : Fin 128), X (ix2 j r) = xf j r) (j : Fin 192) (r : Fin 128) :
    vm21 X (ix2 j r) = if j.val ≤ 160 + r.val / 4 then xf j r else ⊥ := by
  have hm := msk_i
  have hj := j.isLt
  have hr := r.isLt
  unfold vm21
  generalize msk = M at hm ⊢
  pointwise
  have hj' : 160 + (j.val - 160) = j.val ∨ j.val < 160 := by omega
  split_ifs with h1 h2 h2
  · rw [hx]
  · simp at *; omega
  · rw [hx]
    have hj' : 160 + (j.val - 160) = j.val := by omega
    refine Eq.trans (congrArg (fun n => Scalar.select _ (xf n _) _) hj') ?_
    refine (sel_mask _ _ (hm ⟨j.val - 160, by omega⟩ r) _).trans (if_congr ?_ rfl rfl)
    show j.val - 160 ≤ _ ↔ _
    omega
  · exact absurd rfl h2

def pp21 (V : FVec Ideal S192x128 .f32) : FVec Ideal S192x128 .f32 :=
  exp2 (subf V (broadcastTo S192x128 (subf (shapeCast S1x128 (multiReduction .maximumf [0] S128 V 0xFF800000#32 reduces_S192x128_S128 (.inl rfl) rfl) shapeCasts_S128_S1x128) (broadcast S1x128 (Scalar.ofBits .f32 0x41000000#32))) broadcasts_S1x128_S192x128))
theorem pp21_v (V) (vf : ℕ → ℕ → EReal) (hv : ∀ (j : Fin 192) (r : Fin 128), V (ix2 j r) = vf j r) (j : Fin 192) (r : Fin 128) :
    pp21 V (ix2 j r) = Ideal.exp2 (vf j r - ((Finset.range 192).sup (fun j => vf j r) - ((8 : ℝ) : EReal))) := by
  pointwise [pp21]
  rw [fold_max_range 192 _ ofBits_neg_inf_f32 (fun j => vf j r) _ (fun x => hv x r), hv, ofBits_8]
  rfl
def rl21 (P : FVec Ideal S192x128 .f32) : FVec Ideal S1x128 .f32 :=
  divf (broadcast S1x128 (Scalar.ofBits .f32 0x3F800000#32)) (shapeCast S1x128 (multiReduction .add [0] S128 P 0#32 reduces_S192x128_S128 (.inl rfl) rfl) shapeCasts_S128_S1x128)
theorem rl21_v (P) (pf : ℕ → ℕ → EReal) (hp : ∀ (j : Fin 192) (r : Fin 128), P (ix2 j r) = pf j r) (r : Fin 128) :
    rl21 P (ix2 0 r) = Ideal.div 1 (∑ j ∈ Finset.range 192, pf j r) := by
  pointwise [rl21]
  rw [Finset.sum_range]
  simp only [hp]

def pc21 (P : FVec Ideal S192x128 .f32) : FVec Ideal S192x128 .fp8e4m3 := truncf .fp8e4m3 (minimumf (maximumf P (broadcast S192x128 (Scalar.ofBits .f32 0x00000000#32))) (broadcast S192x128 (Scalar.ofBits .f32 0x43E00000#32))) bitsLt_fp8e4m3_f32
theorem pc21_v (P) (pf : ℕ → ℕ → EReal) (hp : ∀ (j : Fin 192) (r : Fin 128), P (ix2 j r) = pf j r) (j : Fin 192) (r : Fin 128) :
    pc21 P (ix2 j r) = if j.val < 192 then min (max (pf j r) 0) ((448 : ℝ) : EReal) else 0 := by
  have hj := j.isLt
  pointwise [pc21]
  rw [hp, ofBits_448]

def ot2 (VC : FVec Ideal S256x128 .fp8e4m3) (A B : FVec Ideal S192x128 .fp8e4m3) : FVec Ideal S128x256 .f32 :=
  matmul dot_S192x128_S192x256_S128x256_0_0_1_1_n_n none (extractStridedSlice S192x128 ![0, 0] VC (by decide)) (concatenate S192x256 1 [⟨S192x128, A⟩, ⟨S192x128, B⟩] concatenates_S192x128_S192x128_S192x256_d1) (constant S128x256 .f32 0#32)
theorem ot2_v (VC A B) (vc : ℕ → ℕ → EReal) (f : ℕ → ℕ → ℕ → EReal) (hv : ∀ (s : Fin 256) (d : Fin 128), VC (ix2 s d) = vc s d)
    (ha : ∀ (s : Fin 192) (r : Fin 128), A (ix2 s r) = f 0 s r) (hb : ∀ (s : Fin 192) (r : Fin 128), B (ix2 s r) = f 1 s r) (d : Fin 128) (l : Fin 256) :
    ot2 VC A B (ix2 d l) = ∑ j ∈ Finset.range 192, vc j d * f (l / 128) j (l % 128) := by
  have hl := l.isLt
  pointwise [ot2]
  rw [Finset.sum_range]
  have hv' : ∀ (p) (q), VC (ix2 p q) = vc p.val q.val := fun p q => hv p q
  by_cases h : l.val < 128
  · simp [h, ha, hv', show l.val / 128 = 0 by omega, show l.val % 128 = l.val by omega]
  · simp [h, hb, hv', show l.val / 128 = 1 by omega, show l.val % 128 = l.val - 128 by omega]

/-- The dot products of keys and queries of window 3. -/
def uu3 (KC : FVec Ideal S256x128 .fp8e4m3) (QC : FVec Ideal S1024x128 .fp8e4m3) (MQ : FVec Ideal S256x128 .bf16) : FVec Ideal S256x256 .f32 :=
  addf (matmul dot_S256x128_S256x128_S256x256_1_1_0_0_n_n none KC (extractStridedSlice S256x128 ![768, 0] QC (by decide)) (constant S256x256 .f32 0#32))
    (matmul dot_S256x128_S256x128_S256x256_1_1_0_0_n_n none (extf .bf16 KC bitsLt_fp8e4m3_bf16) MQ (constant S256x256 .f32 0#32))
theorem uu3_v (KC QC MQ) (kc qc mq : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (s : Fin 256) (l : Fin 256) :
    uu3 KC QC MQ (ix2 s l) = (∑ d ∈ Finset.range 128, kc s d * qc (768 + l) d) + ∑ d ∈ Finset.range 128, kc s d * mq l d := by
  pointwise [uu3]
  simp only [hk, hq, hm, Finset.sum_range]
  try simp

def vr30 (U : FVec Ideal S256x256 .f32) (b0 b1 b2 b3 : FVec Ideal S1x128 .f32) : FVec Ideal S224x128 .f32 :=
  concatenate S224x128 0 [⟨S64x128, mulf (extractStridedSlice S64x128 ![0, 0] (extractStridedSlice S224x128 ![0, 0] U (by decide)) (by decide)) (broadcastTo S64x128 b0 broadcasts_S1x128_S64x128)⟩, ⟨S64x128, mulf (extractStridedSlice S64x128 ![64, 0] (extractStridedSlice S224x128 ![0, 0] U (by decide)) (by decide)) (broadcastTo S64x128 b1 broadcasts_S1x128_S64x128)⟩, ⟨S64x128, mulf (extractStridedSlice S64x128 ![128, 0] (extractStridedSlice S224x128 ![0, 0] U (by decide)) (by decide)) (broadcastTo S64x128 b2 broadcasts_S1x128_S64x128)⟩, ⟨S32x128, mulf (extractStridedSlice S32x128 ![192, 0] (extractStridedSlice S224x128 ![0, 0] U (by decide)) (by decide)) (broadcastTo S32x128 b3 broadcasts_S1x128_S32x128)⟩] concatenates_S64x128_S64x128_S64x128_S32x128_S224x128_d0
theorem vr30_v (U b0 b1 b2 b3) (uf : ℕ → ℕ → EReal) (bf : ℕ → ℕ → EReal) (hu : ∀ (s : Fin 256) (l : Fin 256), U (ix2 s l) = uf s l)
    (h0 : ∀ r : Fin 128, b0 (ix2 0 r) = bf 0 r) (h1 : ∀ r : Fin 128, b1 (ix2 0 r) = bf 1 r) (h2 : ∀ r : Fin 128, b2 (ix2 0 r) = bf 2 r) (h3 : ∀ r : Fin 128, b3 (ix2 0 r) = bf 3 r) (j : Fin 224) (r : Fin 128) :
    vr30 U b0 b1 b2 b3 (ix2 j r) = uf j (0 + r) * bf (j / 64) r := by
  have hj := j.isLt
  have e0 : ∀ (p q), b0 (ix2 p q) = bf 0 q.val := fun p q => by rw [Subsingleton.elim p 0, h0]
  have e1 : ∀ (p q), b1 (ix2 p q) = bf 1 q.val := fun p q => by rw [Subsingleton.elim p 0, h1]
  have e2 : ∀ (p q), b2 (ix2 p q) = bf 2 q.val := fun p q => by rw [Subsingleton.elim p 0, h2]
  have e3 : ∀ (p q), b3 (ix2 p q) = bf 3 q.val := fun p q => by rw [Subsingleton.elim p 0, h3]
  pointwise [vr30]
  split_ifs <;> rw [hu] <;> (first | rw [e0] | rw [e1] | rw [e2] | rw [e3]) <;> refine cg4 (fun a b c d => uf a b * bf c d) ?_ ?_ ?_ ?_ <;> (try simp) <;> (try omega)

def vm30 (X : FVec Ideal S224x128 .f32) : FVec Ideal S224x128 .f32 :=
  concatenate S224x128 0 [⟨S192x128, extractStridedSlice S192x128 ![0, 0] X (by decide)⟩, ⟨S32x128, select msk (extractStridedSlice S32x128 ![192, 0] X (by decide)) (broadcast S32x128 (Scalar.ofBits .f32 0xFF800000#32))⟩] concatenates_S192x128_S32x128_S224x128_d0
theorem vm30_v (X) (xf : ℕ → ℕ → EReal) (hx : ∀ (j : Fin 224) (r : Fin 128), X (ix2 j r) = xf j r) (j : Fin 224) (r : Fin 128) :
    vm30 X (ix2 j r) = if j.val ≤ 192 + r.val / 4 then xf j r else ⊥ := by
  have hm := msk_i
  have hj := j.isLt
  have hr := r.isLt
  unfold vm30
  generalize msk = M at hm ⊢
  pointwise
  have hj' : 192 + (j.val - 192) = j.val ∨ j.val < 192 := by omega
  split_ifs with h1 h2 h2
  · rw [hx]
  · simp at *; omega
  · rw [hx]
    have hj' : 192 + (j.val - 192) = j.val := by omega
    refine Eq.trans (congrArg (fun n => Scalar.select _ (xf n _) _) hj') ?_
    refine (sel_mask _ _ (hm ⟨j.val - 192, by omega⟩ r) _).trans (if_congr ?_ rfl rfl)
    show j.val - 192 ≤ _ ↔ _
    omega
  · exact absurd rfl h2

def pp30 (V : FVec Ideal S224x128 .f32) : FVec Ideal S224x128 .f32 :=
  exp2 (subf V (broadcastTo S224x128 (subf (shapeCast S1x128 (multiReduction .maximumf [0] S128 V 0xFF800000#32 reduces_S224x128_S128 (.inl rfl) rfl) shapeCasts_S128_S1x128) (broadcast S1x128 (Scalar.ofBits .f32 0x41000000#32))) broadcasts_S1x128_S224x128))
theorem pp30_v (V) (vf : ℕ → ℕ → EReal) (hv : ∀ (j : Fin 224) (r : Fin 128), V (ix2 j r) = vf j r) (j : Fin 224) (r : Fin 128) :
    pp30 V (ix2 j r) = Ideal.exp2 (vf j r - ((Finset.range 224).sup (fun j => vf j r) - ((8 : ℝ) : EReal))) := by
  pointwise [pp30]
  rw [fold_max_range 224 _ ofBits_neg_inf_f32 (fun j => vf j r) _ (fun x => hv x r), hv, ofBits_8]
  rfl
def rl30 (P : FVec Ideal S224x128 .f32) : FVec Ideal S1x128 .f32 :=
  divf (broadcast S1x128 (Scalar.ofBits .f32 0x3F800000#32)) (shapeCast S1x128 (multiReduction .add [0] S128 P 0#32 reduces_S224x128_S128 (.inl rfl) rfl) shapeCasts_S128_S1x128)
theorem rl30_v (P) (pf : ℕ → ℕ → EReal) (hp : ∀ (j : Fin 224) (r : Fin 128), P (ix2 j r) = pf j r) (r : Fin 128) :
    rl30 P (ix2 0 r) = Ideal.div 1 (∑ j ∈ Finset.range 224, pf j r) := by
  pointwise [rl30]
  rw [Finset.sum_range]
  simp only [hp]

def pc30 (P : FVec Ideal S224x128 .f32) : FVec Ideal S256x128 .fp8e4m3 := truncf .fp8e4m3 (concatenate S256x128 0 [⟨S224x128, minimumf (maximumf P (broadcast S224x128 (Scalar.ofBits .f32 0x00000000#32))) (broadcast S224x128 (Scalar.ofBits .f32 0x43E00000#32))⟩, ⟨S32x128, broadcast S32x128 (Scalar.ofBits .f32 0x00000000#32)⟩] concatenates_S224x128_S32x128_S256x128_d0) bitsLt_fp8e4m3_f32
theorem pc30_v (P) (pf : ℕ → ℕ → EReal) (hp : ∀ (j : Fin 224) (r : Fin 128), P (ix2 j r) = pf j r) (j : Fin 256) (r : Fin 128) :
    pc30 P (ix2 j r) = if j.val < 224 then min (max (pf j r) 0) ((448 : ℝ) : EReal) else 0 := by
  have hj := j.isLt
  pointwise [pc30]
  split_ifs with h
  · rw [hp, ofBits_448]
  · simp

def vr31 (U : FVec Ideal S256x256 .f32) (b0 b1 b2 b3 : FVec Ideal S1x128 .f32) : FVec Ideal S256x128 .f32 :=
  concatenate S256x128 0 [⟨S64x128, mulf (extractStridedSlice S64x128 ![0, 0] (extractStridedSlice S256x128 ![0, 128] U (by decide)) (by decide)) (broadcastTo S64x128 b0 broadcasts_S1x128_S64x128)⟩, ⟨S64x128, mulf (extractStridedSlice S64x128 ![64, 0] (extractStridedSlice S256x128 ![0, 128] U (by decide)) (by decide)) (broadcastTo S64x128 b1 broadcasts_S1x128_S64x128)⟩, ⟨S64x128, mulf (extractStridedSlice S64x128 ![128, 0] (extractStridedSlice S256x128 ![0, 128] U (by decide)) (by decide)) (broadcastTo S64x128 b2 broadcasts_S1x128_S64x128)⟩, ⟨S64x128, mulf (extractStridedSlice S64x128 ![192, 0] (extractStridedSlice S256x128 ![0, 128] U (by decide)) (by decide)) (broadcastTo S64x128 b3 broadcasts_S1x128_S64x128)⟩] concatenates_S64x128_S64x128_S64x128_S64x128_S256x128_d0
theorem vr31_v (U b0 b1 b2 b3) (uf : ℕ → ℕ → EReal) (bf : ℕ → ℕ → EReal) (hu : ∀ (s : Fin 256) (l : Fin 256), U (ix2 s l) = uf s l)
    (h0 : ∀ r : Fin 128, b0 (ix2 0 r) = bf 0 r) (h1 : ∀ r : Fin 128, b1 (ix2 0 r) = bf 1 r) (h2 : ∀ r : Fin 128, b2 (ix2 0 r) = bf 2 r) (h3 : ∀ r : Fin 128, b3 (ix2 0 r) = bf 3 r) (j : Fin 256) (r : Fin 128) :
    vr31 U b0 b1 b2 b3 (ix2 j r) = uf j (128 + r) * bf (j / 64) r := by
  have hj := j.isLt
  have e0 : ∀ (p q), b0 (ix2 p q) = bf 0 q.val := fun p q => by rw [Subsingleton.elim p 0, h0]
  have e1 : ∀ (p q), b1 (ix2 p q) = bf 1 q.val := fun p q => by rw [Subsingleton.elim p 0, h1]
  have e2 : ∀ (p q), b2 (ix2 p q) = bf 2 q.val := fun p q => by rw [Subsingleton.elim p 0, h2]
  have e3 : ∀ (p q), b3 (ix2 p q) = bf 3 q.val := fun p q => by rw [Subsingleton.elim p 0, h3]
  pointwise [vr31]
  split_ifs <;> rw [hu] <;> (first | rw [e0] | rw [e1] | rw [e2] | rw [e3]) <;> refine cg4 (fun a b c d => uf a b * bf c d) ?_ ?_ ?_ ?_ <;> (try simp) <;> (try omega)

def vm31 (X : FVec Ideal S256x128 .f32) : FVec Ideal S256x128 .f32 :=
  concatenate S256x128 0 [⟨S224x128, extractStridedSlice S224x128 ![0, 0] X (by decide)⟩, ⟨S32x128, select msk (extractStridedSlice S32x128 ![224, 0] X (by decide)) (broadcast S32x128 (Scalar.ofBits .f32 0xFF800000#32))⟩] concatenates_S224x128_S32x128_S256x128_d0
theorem vm31_v (X) (xf : ℕ → ℕ → EReal) (hx : ∀ (j : Fin 256) (r : Fin 128), X (ix2 j r) = xf j r) (j : Fin 256) (r : Fin 128) :
    vm31 X (ix2 j r) = if j.val ≤ 224 + r.val / 4 then xf j r else ⊥ := by
  have hm := msk_i
  have hj := j.isLt
  have hr := r.isLt
  unfold vm31
  generalize msk = M at hm ⊢
  pointwise
  have hj' : 224 + (j.val - 224) = j.val ∨ j.val < 224 := by omega
  split_ifs with h1 h2 h2
  · rw [hx]
  · simp at *; omega
  · rw [hx]
    have hj' : 224 + (j.val - 224) = j.val := by omega
    refine Eq.trans (congrArg (fun n => Scalar.select _ (xf n _) _) hj') ?_
    refine (sel_mask _ _ (hm ⟨j.val - 224, by omega⟩ r) _).trans (if_congr ?_ rfl rfl)
    show j.val - 224 ≤ _ ↔ _
    omega
  · exact absurd rfl h2

def pp31 (V : FVec Ideal S256x128 .f32) : FVec Ideal S256x128 .f32 :=
  exp2 (subf V (broadcastTo S256x128 (subf (shapeCast S1x128 (multiReduction .maximumf [0] S128 V 0xFF800000#32 reduces_S256x128_S128 (.inl rfl) rfl) shapeCasts_S128_S1x128) (broadcast S1x128 (Scalar.ofBits .f32 0x41000000#32))) broadcasts_S1x128_S256x128))
theorem pp31_v (V) (vf : ℕ → ℕ → EReal) (hv : ∀ (j : Fin 256) (r : Fin 128), V (ix2 j r) = vf j r) (j : Fin 256) (r : Fin 128) :
    pp31 V (ix2 j r) = Ideal.exp2 (vf j r - ((Finset.range 256).sup (fun j => vf j r) - ((8 : ℝ) : EReal))) := by
  pointwise [pp31]
  rw [fold_max_range 256 _ ofBits_neg_inf_f32 (fun j => vf j r) _ (fun x => hv x r), hv, ofBits_8]
  rfl
def rl31 (P : FVec Ideal S256x128 .f32) : FVec Ideal S1x128 .f32 :=
  divf (broadcast S1x128 (Scalar.ofBits .f32 0x3F800000#32)) (shapeCast S1x128 (multiReduction .add [0] S128 P 0#32 reduces_S256x128_S128 (.inl rfl) rfl) shapeCasts_S128_S1x128)
theorem rl31_v (P) (pf : ℕ → ℕ → EReal) (hp : ∀ (j : Fin 256) (r : Fin 128), P (ix2 j r) = pf j r) (r : Fin 128) :
    rl31 P (ix2 0 r) = Ideal.div 1 (∑ j ∈ Finset.range 256, pf j r) := by
  pointwise [rl31]
  rw [Finset.sum_range]
  simp only [hp]

def pc31 (P : FVec Ideal S256x128 .f32) : FVec Ideal S256x128 .fp8e4m3 := truncf .fp8e4m3 (minimumf (maximumf P (broadcast S256x128 (Scalar.ofBits .f32 0x00000000#32))) (broadcast S256x128 (Scalar.ofBits .f32 0x43E00000#32))) bitsLt_fp8e4m3_f32
theorem pc31_v (P) (pf : ℕ → ℕ → EReal) (hp : ∀ (j : Fin 256) (r : Fin 128), P (ix2 j r) = pf j r) (j : Fin 256) (r : Fin 128) :
    pc31 P (ix2 j r) = if j.val < 256 then min (max (pf j r) 0) ((448 : ℝ) : EReal) else 0 := by
  have hj := j.isLt
  pointwise [pc31]
  rw [hp, ofBits_448]

def ot3 (VC : FVec Ideal S256x128 .fp8e4m3) (A B : FVec Ideal S256x128 .fp8e4m3) : FVec Ideal S128x256 .f32 :=
  matmul dot_S256x128_S256x256_S128x256_0_0_1_1_n_n none VC (concatenate S256x256 1 [⟨S256x128, A⟩, ⟨S256x128, B⟩] concatenates_S256x128_S256x128_S256x256_d1) (constant S128x256 .f32 0#32)
theorem ot3_v (VC A B) (vc : ℕ → ℕ → EReal) (f : ℕ → ℕ → ℕ → EReal) (hv : ∀ (s : Fin 256) (d : Fin 128), VC (ix2 s d) = vc s d)
    (ha : ∀ (s : Fin 256) (r : Fin 128), A (ix2 s r) = f 0 s r) (hb : ∀ (s : Fin 256) (r : Fin 128), B (ix2 s r) = f 1 s r) (d : Fin 128) (l : Fin 256) :
    ot3 VC A B (ix2 d l) = ∑ j ∈ Finset.range 256, vc j d * f (l / 128) j (l % 128) := by
  have hl := l.isLt
  pointwise [ot3]
  rw [Finset.sum_range]
  have hv' : ∀ (p) (q), VC (ix2 p q) = vc p.val q.val := fun p q => hv p q
  by_cases h : l.val < 128
  · simp [h, ha, hv', show l.val / 128 = 0 by omega, show l.val % 128 = l.val by omega]
  · simp [h, hb, hv', show l.val / 128 = 1 by omega, show l.val % 128 = l.val - 128 by omega]

/-- A window's half: the sums of the values' codes divided, scaled, and the mean added. -/
def ob (o : Fin 2 → ℕ) (ho : S128x256.Slices o S128x128) (O : FVec Ideal S128x256 .f32) (rl vs mv : FVec Ideal S1x128 .f32) : FVec Ideal S128x128 .f32 :=
  shapeCast S128x128 (addf (mulf (transpose S128x128 [1, 0] (mulf (extractStridedSlice S128x128 o O ho) (broadcastTo S128x128 rl broadcasts_S1x128_S128x128)) transposes_S128x128_p1_0_S128x128) (broadcastTo S128x128 vs broadcasts_S1x128_S128x128)) (broadcastTo S128x128 mv broadcasts_S1x128_S128x128)) shapeCasts_S128x128_S128x128
theorem ob_v (a : ℕ) (o ho O rl vs mv) (h0 : o = ![0, 128 * a]) (of : ℕ → ℕ → EReal) (rf vsf mvf : ℕ → EReal) (hO : ∀ (d : Fin 128) (l : Fin 256), O (ix2 d l) = of d l)
    (hr : ∀ r : Fin 128, rl (ix2 0 r) = rf r) (hvs : ∀ r : Fin 128, vs (ix2 0 r) = vsf r) (hmv : ∀ r : Fin 128, mv (ix2 0 r) = mvf r) (r d : Fin 128) :
    ob o ho O rl vs mv (ix2 r d) = of d (128 * a + r) * rf r * vsf d + mvf d := by
  subst h0
  have e0 : ∀ (p q), rl (ix2 p q) = rf q.val := fun p q => by rw [Subsingleton.elim p 0, hr]
  have e1 : ∀ (p q), vs (ix2 p q) = vsf q.val := fun p q => by rw [Subsingleton.elim p 0, hvs]
  have e2 : ∀ (p q), mv (ix2 p q) = mvf q.val := fun p q => by rw [Subsingleton.elim p 0, hmv]
  have e3 : ∀ (p q), O (ix2 p q) = of p.val q.val := fun p q => hO p q
  pointwise [ob]
  rw [e0, e1, e2, e3]

end Cert.KernelIdeal.Gen
end
-- ==== Proof.AttHead.lean ====
/- The attention of one head: what a window's half holds is the reference's output. -/
module
public import proofs.«01_k».proof.Proof.AttMath
public import proofs.«01_k».proof.Proof.AttBlocks
@[expose] public section
set_option maxRecDepth 16384
noncomputable section
namespace Cert.KernelIdeal.Gen
open Idealize.ShloMosaic Idealize.ShloMosaic.TcCoe Idealize.ShloMosaic.Tactic
open Cert.Sage

/-- The constant of the scores: over the square root of 128, for base two. -/
def LK : ℝ := (Real.sqrt 128)⁻¹ * (Real.log 2)⁻¹
theorem named_sm : (Named.named (F := Ideal) κ "sm_log2e" 0x3E0293EE#32 : Ideal .f32) = ((LK : ℝ) : EReal) := rfl

/-- The kernel's score is the reference's, for base two. -/
theorem score (X K : ℕ → ℕ → EReal) (hX : ∀ s d, ∃ r : ℝ, X s d = r) (hK : ∀ s d, ∃ r : ℝ, K s d = r) (q n : ℕ) (hn : n = q / 128) : ∃ s : ℕ → ℝ,
    (∀ j, sF X K q j = s j) ∧ ∀ j, ((∑ d ∈ Finset.range 128, kcF K j d * qcF X q d) + ∑ d ∈ Finset.range 128, kcF K j d * (mqF X n d * sinv (qaF X n)))
      * (sc (qaF X n) * sc (kaF K (j / 64)) * ((LK : ℝ) : EReal)) = ((s j * (Real.log 2)⁻¹ : ℝ) : EReal) := by
  subst hn
  choose kc hkc using kc_real K hK
  choose qc hqc using qc_real X hX
  choose mq hmq using fun d => Cert.KernelIdeal.Gen.mqF_real X (q / 128) d fun s => hX s d
  obtain ⟨a, ha, e1, e2⟩ := qa_real X hX (q / 128)
  choose b hb e3 e4 using ka_real K hK
  have hs : Ideal.sqrt (Ideal.ofBits .f32 0x43000000#32) = ((Real.sqrt 128 : ℝ) : EReal) := by rw [ofBits_128]; show (if (128 : ℝ) < 0 then ⊥ else ((Real.sqrt 128 : ℝ) : EReal)) = _; rw [if_neg (by norm_num)]
  have h128 : 0 < Real.sqrt 128 := Real.sqrt_pos.mpr (by norm_num)
  refine ⟨fun j => (b (j / 64) * (a * (∑ d ∈ Finset.range 128, kc j d * qc q d) + ∑ d ∈ Finset.range 128, kc j d * mq d)) / Real.sqrt 128, fun j => ?_, fun j => ?_⟩
  · unfold sF
    rw [hs, e1, e3]
    simp only [hkc, hqc, hmq, ← EReal.coe_mul, ← coe_sum', ← EReal.coe_add]
    rw [div_pos_real _ _ h128]
  · rw [e1, e2, e3]
    simp only [hkc, hqc, hmq, ← EReal.coe_mul, ← coe_sum', ← EReal.coe_add]
    congr 1
    have : ∀ d, kc j d * (mq d * a⁻¹) = (kc j d * mq d) * a⁻¹ := fun d => by ring
    simp only [this, ← Finset.sum_mul]
    unfold LK
    field_simp

theorem c448' : Ideal.ofBits .f32 0x43E00000#32 = ((448 : ℝ) : EReal) := ofBits_448

/-- One output of a head. -/
theorem head_out (X K V : ℕ → ℕ → EReal) (hX : ∀ s d, ∃ r : ℝ, X s d = r) (hK : ∀ s d, ∃ r : ℝ, K s d = r) (hV : ∀ s d, ∃ r : ℝ, V s d = r)
    (q nb n k d : ℕ) (hnb : nb = q / 128) (hq : q < n) (hn : n ≤ k) (hk : k ≤ 256) (vf : ℕ → EReal)
    (hvf : ∀ j, vf j = if j ≤ q then ((∑ d ∈ Finset.range 128, kcF K j d * qcF X q d) + ∑ d ∈ Finset.range 128, kcF K j d * (mqF X nb d * sinv (qaF X nb)))
      * (sc (qaF X nb) * sc (kaF K (j / 64)) * ((LK : ℝ) : EReal)) else ⊥) :
    (∑ j ∈ Finset.range k, vcF V j d * (if j < n then min (max (Ideal.exp2 (vf j - ((Finset.range n).sup (fun j => vf j) - ((8 : ℝ) : EReal)))) 0) ((448 : ℝ) : EReal) else 0))
      * Ideal.div 1 (∑ j ∈ Finset.range n, Ideal.exp2 (vf j - ((Finset.range n).sup (fun j => vf j) - ((8 : ℝ) : EReal)))) * sc (vaF V d) + mvF V d
    = oF X K V q d := by
  obtain ⟨s, hs, hs'⟩ := score X K hX hK q nb hnb
  obtain ⟨a, ha, e1, -⟩ := va_real V hV d
  obtain ⟨μ, hμ⟩ := mvF_real V d fun s _ => hV s d
  choose vc hvc using fun j => vc_real V hV j d
  have hvf' : ∀ j, vf j = if j ≤ q then ((s j * (Real.log 2)⁻¹ : ℝ) : EReal) else ⊥ := fun j => by rw [hvf, hs']
  simp only [hvf', hvc, e1, hμ]
  refine (core s vc a μ q n k hq hn hk).trans ?_
  unfold oF lF pcF pF mxF smF
  simp only [hvc, e1, hμ, hs, ofBits_256, ofBits_448, ofBits_inv_256]

/-- The weights of a window's half, from the scores. -/
def wf (tok n qo lo : ℕ) (kc qc mq bf : ℕ → ℕ → EReal) (j r : ℕ) : EReal :=
  Ideal.exp2 ((if j ≤ tok + r / 4 then ((∑ d ∈ Finset.range 128, kc j d * qc (qo + (lo + r)) d) + ∑ d ∈ Finset.range 128, kc j d * mq (lo + r) d) * bf (j / 64) r else ⊥)
    - ((Finset.range n).sup (fun j => if j ≤ tok + r / 4 then ((∑ d ∈ Finset.range 128, kc j d * qc (qo + (lo + r)) d) + ∑ d ∈ Finset.range 128, kc j d * mq (lo + r) d) * bf (j / 64) r else ⊥) - ((8 : ℝ) : EReal)))

/-- The weights of half 0 of window 0. -/
def wp00 (KC : FVec Ideal S256x128 .fp8e4m3) (QC : FVec Ideal S1024x128 .fp8e4m3) (MQ : FVec Ideal S256x128 .bf16) (b0 : FVec Ideal S1x128 .f32) := pp00 (vm00 (vr00 (uu0 KC QC MQ) b0))
theorem wp00_v (KC QC MQ b0) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (j : Fin 32) (r : Fin 128) :
    wp00 KC QC MQ b0 (ix2 j r) = wf 0 32 0 0 kc qc mq bf j r :=
  pp00_v _ (fun j r => if j ≤ 0 + r / 4 then ((∑ d ∈ Finset.range 128, kc j d * qc (0 + (0 + r)) d) + ∑ d ∈ Finset.range 128, kc j d * mq (0 + r) d) * bf (j / 64) r else ⊥)
    (fun j r => vm00_v _ (fun j r => ((∑ d ∈ Finset.range 128, kc j d * qc (0 + (0 + r)) d) + ∑ d ∈ Finset.range 128, kc j d * mq (0 + r) d) * bf (j / 64) r)
      (fun j r => vr00_v _ _ (fun j l => (∑ d ∈ Finset.range 128, kc j d * qc (0 + l) d) + ∑ d ∈ Finset.range 128, kc j d * mq l d) bf
        (fun s l => uu0_v _ _ _ kc qc mq hk hq hm s l) h0 j r) j r) j r

/-- The weights of half 1 of window 0. -/
def wp01 (KC : FVec Ideal S256x128 .fp8e4m3) (QC : FVec Ideal S1024x128 .fp8e4m3) (MQ : FVec Ideal S256x128 .bf16) (b0 : FVec Ideal S1x128 .f32) := pp01 (vm01 (vr01 (uu0 KC QC MQ) b0))
theorem wp01_v (KC QC MQ b0) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (j : Fin 64) (r : Fin 128) :
    wp01 KC QC MQ b0 (ix2 j r) = wf 32 64 0 128 kc qc mq bf j r :=
  pp01_v _ (fun j r => if j ≤ 32 + r / 4 then ((∑ d ∈ Finset.range 128, kc j d * qc (0 + (128 + r)) d) + ∑ d ∈ Finset.range 128, kc j d * mq (128 + r) d) * bf (j / 64) r else ⊥)
    (fun j r => vm01_v _ (fun j r => ((∑ d ∈ Finset.range 128, kc j d * qc (0 + (128 + r)) d) + ∑ d ∈ Finset.range 128, kc j d * mq (128 + r) d) * bf (j / 64) r)
      (fun j r => vr01_v _ _ (fun j l => (∑ d ∈ Finset.range 128, kc j d * qc (0 + l) d) + ∑ d ∈ Finset.range 128, kc j d * mq l d) bf
        (fun s l => uu0_v _ _ _ kc qc mq hk hq hm s l) h0 j r) j r) j r

/-- Half 0 of window 0. -/
def bk00 (KC : FVec Ideal S256x128 .fp8e4m3) (QC : FVec Ideal S1024x128 .fp8e4m3) (MQ : FVec Ideal S256x128 .bf16) (b0 : FVec Ideal S1x128 .f32) (VC : FVec Ideal S256x128 .fp8e4m3) (vs mv : FVec Ideal S1x128 .f32) : FVec Ideal S128x128 .f32 :=
  ob ![0, 0] (by decide) (ot0 VC (pc00 (wp00 KC QC MQ b0)) (pc01 (wp01 KC QC MQ b0))) (rl00 (wp00 KC QC MQ b0)) vs mv
theorem bk00_v (KC QC MQ b0 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 0 d * sinv (qaF (X (s.val % 4)) 0))
    (h0 : ∀ r : Fin 128, b0 (ix2 0 r) = sc (qaF (X (r.val % 4)) 0) * sc (kaF K 0) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk00 KC QC MQ b0 VC vs mv (ix2 r d) = oF (X (r.val % 4)) K V (0 + r.val / 4) d := by
  have hr := r.isLt
  have w0 := wp00_v KC QC MQ b0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0
  have w1 := wp01_v KC QC MQ b0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0
  have c0 := pc00_v _ _ w0
  have c1 := pc01_v _ _ w1
  have o := ob_v 0 ![0, 0] (by decide) (ot0 VC (pc00 (wp00 KC QC MQ b0)) (pc01 (wp01 KC QC MQ b0))) (rl00 (wp00 KC QC MQ b0)) vs mv rfl
    (fun d l => ∑ j ∈ Finset.range 64, vcF V j d * (fun h j r => if h = 0 then (if j < 32 then min (max (wf 0 32 0 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 64 then min (max (wf 32 64 0 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) : ℕ → ℕ → ℕ → EReal) (l / 128) j (l % 128))
    (fun r => Ideal.div 1 (∑ j ∈ Finset.range 32, wf 0 32 0 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r)) (fun d => sc (vaF V d)) (mvF V)
    (ot0_v VC _ _ (vcF V) (fun h j r => if h = 0 then (if j < 32 then min (max (wf 0 32 0 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 64 then min (max (wf 32 64 0 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0)) hvc (fun j r => (c0 j r).trans (if_pos rfl).symm) (fun j r => (c1 j r).trans (if_neg (by decide)).symm)) (rl00_v _ _ w0) hvs hmv r d
  refine o.trans (Eq.trans ?_ (head_out (X (r.val % 4)) K V (hX _) hK hV (0 + r.val / 4) 0 32 64 d (by omega) (by omega) (by omega) (by omega) _ (fun j => rfl)))
  simp only [show (128 * 0 + r.val) / 128 = 0 by omega, show (128 * 0 + r.val) % 128 = r.val by omega, wf,
    show (0 + r.val) % 4 = r.val % 4 by omega, show (0 + (0 + r.val)) % 4 = r.val % 4 by omega, show (0 + (0 + r.val)) / 4 = 0 + r.val / 4 by omega, if_true]

/-- Half 1 of window 0. -/
def bk01 (KC : FVec Ideal S256x128 .fp8e4m3) (QC : FVec Ideal S1024x128 .fp8e4m3) (MQ : FVec Ideal S256x128 .bf16) (b0 : FVec Ideal S1x128 .f32) (VC : FVec Ideal S256x128 .fp8e4m3) (vs mv : FVec Ideal S1x128 .f32) : FVec Ideal S128x128 .f32 :=
  ob ![0, 128] (by decide) (ot0 VC (pc00 (wp00 KC QC MQ b0)) (pc01 (wp01 KC QC MQ b0))) (rl01 (wp01 KC QC MQ b0)) vs mv
theorem bk01_v (KC QC MQ b0 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 0 d * sinv (qaF (X (s.val % 4)) 0))
    (h0 : ∀ r : Fin 128, b0 (ix2 0 r) = sc (qaF (X (r.val % 4)) 0) * sc (kaF K 0) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk01 KC QC MQ b0 VC vs mv (ix2 r d) = oF (X (r.val % 4)) K V (32 + r.val / 4) d := by
  have hr := r.isLt
  have w0 := wp00_v KC QC MQ b0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0
  have w1 := wp01_v KC QC MQ b0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0
  have c0 := pc00_v _ _ w0
  have c1 := pc01_v _ _ w1
  have o := ob_v 1 ![0, 128] (by decide) (ot0 VC (pc00 (wp00 KC QC MQ b0)) (pc01 (wp01 KC QC MQ b0))) (rl01 (wp01 KC QC MQ b0)) vs mv rfl
    (fun d l => ∑ j ∈ Finset.range 64, vcF V j d * (fun h j r => if h = 0 then (if j < 32 then min (max (wf 0 32 0 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 64 then min (max (wf 32 64 0 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) : ℕ → ℕ → ℕ → EReal) (l / 128) j (l % 128))
    (fun r => Ideal.div 1 (∑ j ∈ Finset.range 64, wf 32 64 0 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r)) (fun d => sc (vaF V d)) (mvF V)
    (ot0_v VC _ _ (vcF V) (fun h j r => if h = 0 then (if j < 32 then min (max (wf 0 32 0 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 64 then min (max (wf 32 64 0 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0)) hvc (fun j r => (c0 j r).trans (if_pos rfl).symm) (fun j r => (c1 j r).trans (if_neg (by decide)).symm)) (rl01_v _ _ w1) hvs hmv r d
  refine o.trans (Eq.trans ?_ (head_out (X (r.val % 4)) K V (hX _) hK hV (32 + r.val / 4) 0 64 64 d (by omega) (by omega) (by omega) (by omega) _ (fun j => rfl)))
  simp only [show (128 * 1 + r.val) / 128 = 1 by omega, show (128 * 1 + r.val) % 128 = r.val by omega, wf,
    show (128 + r.val) % 4 = r.val % 4 by omega, show (0 + (128 + r.val)) % 4 = r.val % 4 by omega, show (0 + (128 + r.val)) / 4 = 32 + r.val / 4 by omega, one_ne_zero, if_false]

/-- The weights of half 0 of window 1. -/
def wp10 (KC : FVec Ideal S256x128 .fp8e4m3) (QC : FVec Ideal S1024x128 .fp8e4m3) (MQ : FVec Ideal S256x128 .bf16) (b0 b1 : FVec Ideal S1x128 .f32) := pp10 (vm10 (vr10 (uu1 KC QC MQ) b0 b1))
theorem wp10_v (KC QC MQ b0 b1) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (h1 : ∀ r : Fin 128, b1 (ix2 0 r) = bf 1 r) (j : Fin 96) (r : Fin 128) :
    wp10 KC QC MQ b0 b1 (ix2 j r) = wf 64 96 256 0 kc qc mq bf j r :=
  pp10_v _ (fun j r => if j ≤ 64 + r / 4 then ((∑ d ∈ Finset.range 128, kc j d * qc (256 + (0 + r)) d) + ∑ d ∈ Finset.range 128, kc j d * mq (0 + r) d) * bf (j / 64) r else ⊥)
    (fun j r => vm10_v _ (fun j r => ((∑ d ∈ Finset.range 128, kc j d * qc (256 + (0 + r)) d) + ∑ d ∈ Finset.range 128, kc j d * mq (0 + r) d) * bf (j / 64) r)
      (fun j r => vr10_v _ _ _ (fun j l => (∑ d ∈ Finset.range 128, kc j d * qc (256 + l) d) + ∑ d ∈ Finset.range 128, kc j d * mq l d) bf
        (fun s l => uu1_v _ _ _ kc qc mq hk hq hm s l) h0 h1 j r) j r) j r

/-- The weights of half 1 of window 1. -/
def wp11 (KC : FVec Ideal S256x128 .fp8e4m3) (QC : FVec Ideal S1024x128 .fp8e4m3) (MQ : FVec Ideal S256x128 .bf16) (b0 b1 : FVec Ideal S1x128 .f32) := pp11 (vm11 (vr11 (uu1 KC QC MQ) b0 b1))
theorem wp11_v (KC QC MQ b0 b1) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (h1 : ∀ r : Fin 128, b1 (ix2 0 r) = bf 1 r) (j : Fin 128) (r : Fin 128) :
    wp11 KC QC MQ b0 b1 (ix2 j r) = wf 96 128 256 128 kc qc mq bf j r :=
  pp11_v _ (fun j r => if j ≤ 96 + r / 4 then ((∑ d ∈ Finset.range 128, kc j d * qc (256 + (128 + r)) d) + ∑ d ∈ Finset.range 128, kc j d * mq (128 + r) d) * bf (j / 64) r else ⊥)
    (fun j r => vm11_v _ (fun j r => ((∑ d ∈ Finset.range 128, kc j d * qc (256 + (128 + r)) d) + ∑ d ∈ Finset.range 128, kc j d * mq (128 + r) d) * bf (j / 64) r)
      (fun j r => vr11_v _ _ _ (fun j l => (∑ d ∈ Finset.range 128, kc j d * qc (256 + l) d) + ∑ d ∈ Finset.range 128, kc j d * mq l d) bf
        (fun s l => uu1_v _ _ _ kc qc mq hk hq hm s l) h0 h1 j r) j r) j r

/-- Half 0 of window 1. -/
def bk10 (KC : FVec Ideal S256x128 .fp8e4m3) (QC : FVec Ideal S1024x128 .fp8e4m3) (MQ : FVec Ideal S256x128 .bf16) (b0 b1 : FVec Ideal S1x128 .f32) (VC : FVec Ideal S256x128 .fp8e4m3) (vs mv : FVec Ideal S1x128 .f32) : FVec Ideal S128x128 .f32 :=
  ob ![0, 0] (by decide) (ot1 VC (pc10 (wp10 KC QC MQ b0 b1)) (pc11 (wp11 KC QC MQ b0 b1))) (rl10 (wp10 KC QC MQ b0 b1)) vs mv
theorem bk10_v (KC QC MQ b0 b1 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 0 d * sinv (qaF (X (s.val % 4)) 0))
    (h0 : ∀ r : Fin 128, b0 (ix2 0 r) = sc (qaF (X (r.val % 4)) 0) * sc (kaF K 0) * ((LK : ℝ) : EReal)) (h1 : ∀ r : Fin 128, b1 (ix2 0 r) = sc (qaF (X (r.val % 4)) 0) * sc (kaF K 1) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk10 KC QC MQ b0 b1 VC vs mv (ix2 r d) = oF (X (r.val % 4)) K V (64 + r.val / 4) d := by
  have hr := r.isLt
  have w0 := wp10_v KC QC MQ b0 b1 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0 h1
  have w1 := wp11_v KC QC MQ b0 b1 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0 h1
  have c0 := pc10_v _ _ w0
  have c1 := pc11_v _ _ w1
  have o := ob_v 0 ![0, 0] (by decide) (ot1 VC (pc10 (wp10 KC QC MQ b0 b1)) (pc11 (wp11 KC QC MQ b0 b1))) (rl10 (wp10 KC QC MQ b0 b1)) vs mv rfl
    (fun d l => ∑ j ∈ Finset.range 128, vcF V j d * (fun h j r => if h = 0 then (if j < 96 then min (max (wf 64 96 256 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 128 then min (max (wf 96 128 256 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) : ℕ → ℕ → ℕ → EReal) (l / 128) j (l % 128))
    (fun r => Ideal.div 1 (∑ j ∈ Finset.range 96, wf 64 96 256 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r)) (fun d => sc (vaF V d)) (mvF V)
    (ot1_v VC _ _ (vcF V) (fun h j r => if h = 0 then (if j < 96 then min (max (wf 64 96 256 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 128 then min (max (wf 96 128 256 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0)) hvc (fun j r => (c0 j r).trans (if_pos rfl).symm) (fun j r => (c1 j r).trans (if_neg (by decide)).symm)) (rl10_v _ _ w0) hvs hmv r d
  refine o.trans (Eq.trans ?_ (head_out (X (r.val % 4)) K V (hX _) hK hV (64 + r.val / 4) 0 96 128 d (by omega) (by omega) (by omega) (by omega) _ (fun j => rfl)))
  simp only [show (128 * 0 + r.val) / 128 = 0 by omega, show (128 * 0 + r.val) % 128 = r.val by omega, wf,
    show (0 + r.val) % 4 = r.val % 4 by omega, show (256 + (0 + r.val)) % 4 = r.val % 4 by omega, show (256 + (0 + r.val)) / 4 = 64 + r.val / 4 by omega, if_true]

/-- Half 1 of window 1. -/
def bk11 (KC : FVec Ideal S256x128 .fp8e4m3) (QC : FVec Ideal S1024x128 .fp8e4m3) (MQ : FVec Ideal S256x128 .bf16) (b0 b1 : FVec Ideal S1x128 .f32) (VC : FVec Ideal S256x128 .fp8e4m3) (vs mv : FVec Ideal S1x128 .f32) : FVec Ideal S128x128 .f32 :=
  ob ![0, 128] (by decide) (ot1 VC (pc10 (wp10 KC QC MQ b0 b1)) (pc11 (wp11 KC QC MQ b0 b1))) (rl11 (wp11 KC QC MQ b0 b1)) vs mv
theorem bk11_v (KC QC MQ b0 b1 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 0 d * sinv (qaF (X (s.val % 4)) 0))
    (h0 : ∀ r : Fin 128, b0 (ix2 0 r) = sc (qaF (X (r.val % 4)) 0) * sc (kaF K 0) * ((LK : ℝ) : EReal)) (h1 : ∀ r : Fin 128, b1 (ix2 0 r) = sc (qaF (X (r.val % 4)) 0) * sc (kaF K 1) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk11 KC QC MQ b0 b1 VC vs mv (ix2 r d) = oF (X (r.val % 4)) K V (96 + r.val / 4) d := by
  have hr := r.isLt
  have w0 := wp10_v KC QC MQ b0 b1 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0 h1
  have w1 := wp11_v KC QC MQ b0 b1 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) hk hq hm h0 h1
  have c0 := pc10_v _ _ w0
  have c1 := pc11_v _ _ w1
  have o := ob_v 1 ![0, 128] (by decide) (ot1 VC (pc10 (wp10 KC QC MQ b0 b1)) (pc11 (wp11 KC QC MQ b0 b1))) (rl11 (wp11 KC QC MQ b0 b1)) vs mv rfl
    (fun d l => ∑ j ∈ Finset.range 128, vcF V j d * (fun h j r => if h = 0 then (if j < 96 then min (max (wf 64 96 256 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 128 then min (max (wf 96 128 256 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) : ℕ → ℕ → ℕ → EReal) (l / 128) j (l % 128))
    (fun r => Ideal.div 1 (∑ j ∈ Finset.range 128, wf 96 128 256 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r)) (fun d => sc (vaF V d)) (mvF V)
    (ot1_v VC _ _ (vcF V) (fun h j r => if h = 0 then (if j < 96 then min (max (wf 64 96 256 0 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0) else (if j < 128 then min (max (wf 96 128 256 128 (kcF K) (fun s d => qcF (X (s % 4)) (s / 4) d) (fun l d => mqF (X (l % 4)) 0 d * sinv (qaF (X (l % 4)) 0)) (fun g r => sc (qaF (X (r % 4)) 0) * sc (kaF K g) * ((LK : ℝ) : EReal)) j r) 0) ((448 : ℝ) : EReal) else 0)) hvc (fun j r => (c0 j r).trans (if_pos rfl).symm) (fun j r => (c1 j r).trans (if_neg (by decide)).symm)) (rl11_v _ _ w1) hvs hmv r d
  refine o.trans (Eq.trans ?_ (head_out (X (r.val % 4)) K V (hX _) hK hV (96 + r.val / 4) 0 128 128 d (by omega) (by omega) (by omega) (by omega) _ (fun j => rfl)))
  simp only [show (128 * 1 + r.val) / 128 = 1 by omega, show (128 * 1 + r.val) % 128 = r.val by omega, wf,
    show (128 + r.val) % 4 = r.val % 4 by omega, show (256 + (128 + r.val)) % 4 = r.val % 4 by omega, show (256 + (128 + r.val)) / 4 = 96 + r.val / 4 by omega, one_ne_zero, if_false]

/-- The weights of half 0 of window 2. -/
def wp20 (KC : FVec Ideal S256x128 .fp8e4m3) (QC : FVec Ideal S1024x128 .fp8e4m3) (MQ : FVec Ideal S256x128 .bf16) (b0 b1 b2 : FVec Ideal S1x128 .f32) := pp20 (vm20 (vr20 (uu2 KC QC MQ) b0 b1 b2))
theorem wp20_v (KC QC MQ b0 b1 b2) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (h1 : ∀ r : Fin 128, b1 (ix2 0 r) = bf 1 r) (h2 : ∀ r : Fin 128, b2 (ix2 0 r) = bf 2 r) (j : Fin 160) (r : Fin 128) :
    wp20 KC QC MQ b0 b1 b2 (ix2 j r) = wf 128 160 512 0 kc qc mq bf j r :=
  pp20_v _ (fun j r => if j ≤ 128 + r / 4 then ((∑ d ∈ Finset.range 128, kc j d * qc (512 + (0 + r)) d) + ∑ d ∈ Finset.range 128, kc j d * mq (0 + r) d) * bf (j / 64) r else ⊥)
    (fun j r => vm20_v _ (fun j r => ((∑ d ∈ Finset.range 128, kc j d * qc (512 + (0 + r)) d) + ∑ d ∈ Finset.range 128, kc j d * mq (0 + r) d) * bf (j / 64) r)
      (fun j r => vr20_v _ _ _ _ (fun j l => (∑ d ∈ Finset.range 128, kc j d * qc (512 + l) d) + ∑ d ∈ Finset.range 128, kc j d * mq l d) bf
        (fun s l => uu2_v _ _ _ kc qc mq hk hq hm s l) h0 h1 h2 j r) j r) j r

/-- The weights of half 1 of window 2. -/
def wp21 (KC : FVec Ideal S256x128 .fp8e4m3) (QC : FVec Ideal S1024x128 .fp8e4m3) (MQ : FVec Ideal S256x128 .bf16) (b0 b1 b2 : FVec Ideal S1x128 .f32) := pp21 (vm21 (vr21 (uu2 KC QC MQ) b0 b1 b2))
theorem wp21_v (KC QC MQ b0 b1 b2) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (h1 : ∀ r : Fin 128, b1 (ix2 0 r) = bf 1 r) (h2 : ∀ r : Fin 128, b2 (ix2 0 r) = bf 2 r) (j : Fin 192) (r : Fin 128) :
    wp21 KC QC MQ b0 b1 b2 (ix2 j r) = wf 160 192 512 128 kc qc mq bf j r :=
  pp21_v _ (fun j r => if j ≤ 160 + r / 4 then ((∑ d ∈ Finset.range 128, kc j d * qc (512 + (128 + r)) d) + ∑ d ∈ Finset.range 128, kc j d * mq (128 + r) d) * bf (j / 64) r else ⊥)
    (fun j r => vm21_v _ (fun j r => ((∑ d ∈ Finset.range 128, kc j d * qc (512 + (128 + r)) d) + ∑ d ∈ Finset.range 128, kc j d * mq (128 + r) d) * bf (j / 64) r)
      (fun j r => vr21_v _ _ _ _ (fun j l => (∑ d ∈ Finset.range 128, kc j d * qc (512 + l) d) + ∑ d ∈ Finset.range 128, kc j d * mq l d) bf
        (fun s l => uu2_v _ _ _ kc qc mq hk hq hm s l) h0 h1 h2 j r) j r) j r

/-- Half 0 of window 2. -/
def bk20 (KC : FVec Ideal S256x128 .fp8e4m3) (QC : FVec Ideal S1024x128 .fp8e4m3) (MQ : FVec Ideal S256x128 .bf16) (b0 b1 b2 : FVec Ideal S1x128 .f32) (VC : FVec Ideal S256x128 .fp8e4m3) (vs mv : FVec Ideal S1x128 .f32) : FVec Ideal S128x128 .f32 :=
  ob ![0, 0] (by decide) (ot2 VC (pc20 (wp20 KC QC MQ b0 b1 b2)) (pc21 (wp21 KC QC MQ b0 b1 b2))) (rl20 (wp20 KC QC MQ b0 b1 b2)) vs mv
theorem bk20_v (KC QC MQ b0 b1 b2 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 1 d * sinv (qaF (X (s.val % 4)) 1))
    (h0 : ∀ r : Fin 128, b0 (ix2 0 r) = sc (qaF (X (r.val % 4)) 1) * sc (kaF K 0) * ((LK : ℝ) : EReal)) (h1 : ∀ r : Fin 128, b1 (ix2 0 r) = sc (qaF (X (r.val % 4)) 1) * sc (kaF K 1) * ((LK : ℝ) : EReal)) (h2 : ∀ r : Fin 128, b2 (ix2 0 r) = sc (qaF (X (r.val % 4)) 1) * sc (kaF K 2) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk20 KC QC MQ b0 b1 b2 VC vs mv (ix2 r d) = oF (X (r.val % 4)) K V (128 + r.val / 4) d := by
  have hr := r.isLt
  have w0 := wp20_v KC QC MQ b0 b1 b2 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2
  have w1 := wp21_v KC QC MQ b0 b1 b2 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2
  have c0 := pc20_v _ _ w0
  have c1 := pc21_v _ _ w1
  have o := ob_v 0 ![0, 0] (by decide) (ot2 VC (pc20 (wp20 KC QC MQ b0 b1 b2)) (pc21 (wp21 KC QC MQ b0 b1 b2))) (rl20 (wp20 KC QC MQ b0 b1 b2)) vs mv rfl
    (fun d l => ∑ j ∈ Finset.range 192, vcF V j d * (fun h j r => if h = 0 then (if j < 160 then min (max (wf 128 160 512 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 192 then min (max (wf 160 192 512 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) : ℕ → ℕ → ℕ → EReal) (l / 128) j (l % 128))
    (fun r => Ideal.div 1 (∑ j ∈ Finset.range 160, wf 128 160 512 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r)) (fun d => sc (vaF V d)) (mvF V)
    (ot2_v VC _ _ (vcF V) (fun h j r => if h = 0 then (if j < 160 then min (max (wf 128 160 512 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 192 then min (max (wf 160 192 512 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0)) hvc (fun j r => (c0 j r).trans (if_pos rfl).symm) (fun j r => (c1 j r).trans (if_neg (by decide)).symm)) (rl20_v _ _ w0) hvs hmv r d
  refine o.trans (Eq.trans ?_ (head_out (X (r.val % 4)) K V (hX _) hK hV (128 + r.val / 4) 1 160 192 d (by omega) (by omega) (by omega) (by omega) _ (fun j => rfl)))
  simp only [show (128 * 0 + r.val) / 128 = 0 by omega, show (128 * 0 + r.val) % 128 = r.val by omega, wf,
    show (0 + r.val) % 4 = r.val % 4 by omega, show (512 + (0 + r.val)) % 4 = r.val % 4 by omega, show (512 + (0 + r.val)) / 4 = 128 + r.val / 4 by omega, if_true]

/-- Half 1 of window 2. -/
def bk21 (KC : FVec Ideal S256x128 .fp8e4m3) (QC : FVec Ideal S1024x128 .fp8e4m3) (MQ : FVec Ideal S256x128 .bf16) (b0 b1 b2 : FVec Ideal S1x128 .f32) (VC : FVec Ideal S256x128 .fp8e4m3) (vs mv : FVec Ideal S1x128 .f32) : FVec Ideal S128x128 .f32 :=
  ob ![0, 128] (by decide) (ot2 VC (pc20 (wp20 KC QC MQ b0 b1 b2)) (pc21 (wp21 KC QC MQ b0 b1 b2))) (rl21 (wp21 KC QC MQ b0 b1 b2)) vs mv
theorem bk21_v (KC QC MQ b0 b1 b2 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 1 d * sinv (qaF (X (s.val % 4)) 1))
    (h0 : ∀ r : Fin 128, b0 (ix2 0 r) = sc (qaF (X (r.val % 4)) 1) * sc (kaF K 0) * ((LK : ℝ) : EReal)) (h1 : ∀ r : Fin 128, b1 (ix2 0 r) = sc (qaF (X (r.val % 4)) 1) * sc (kaF K 1) * ((LK : ℝ) : EReal)) (h2 : ∀ r : Fin 128, b2 (ix2 0 r) = sc (qaF (X (r.val % 4)) 1) * sc (kaF K 2) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk21 KC QC MQ b0 b1 b2 VC vs mv (ix2 r d) = oF (X (r.val % 4)) K V (160 + r.val / 4) d := by
  have hr := r.isLt
  have w0 := wp20_v KC QC MQ b0 b1 b2 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2
  have w1 := wp21_v KC QC MQ b0 b1 b2 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2
  have c0 := pc20_v _ _ w0
  have c1 := pc21_v _ _ w1
  have o := ob_v 1 ![0, 128] (by decide) (ot2 VC (pc20 (wp20 KC QC MQ b0 b1 b2)) (pc21 (wp21 KC QC MQ b0 b1 b2))) (rl21 (wp21 KC QC MQ b0 b1 b2)) vs mv rfl
    (fun d l => ∑ j ∈ Finset.range 192, vcF V j d * (fun h j r => if h = 0 then (if j < 160 then min (max (wf 128 160 512 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 192 then min (max (wf 160 192 512 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) : ℕ → ℕ → ℕ → EReal) (l / 128) j (l % 128))
    (fun r => Ideal.div 1 (∑ j ∈ Finset.range 192, wf 160 192 512 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r)) (fun d => sc (vaF V d)) (mvF V)
    (ot2_v VC _ _ (vcF V) (fun h j r => if h = 0 then (if j < 160 then min (max (wf 128 160 512 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 192 then min (max (wf 160 192 512 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0)) hvc (fun j r => (c0 j r).trans (if_pos rfl).symm) (fun j r => (c1 j r).trans (if_neg (by decide)).symm)) (rl21_v _ _ w1) hvs hmv r d
  refine o.trans (Eq.trans ?_ (head_out (X (r.val % 4)) K V (hX _) hK hV (160 + r.val / 4) 1 192 192 d (by omega) (by omega) (by omega) (by omega) _ (fun j => rfl)))
  simp only [show (128 * 1 + r.val) / 128 = 1 by omega, show (128 * 1 + r.val) % 128 = r.val by omega, wf,
    show (128 + r.val) % 4 = r.val % 4 by omega, show (512 + (128 + r.val)) % 4 = r.val % 4 by omega, show (512 + (128 + r.val)) / 4 = 160 + r.val / 4 by omega, one_ne_zero, if_false]

/-- The weights of half 0 of window 3. -/
def wp30 (KC : FVec Ideal S256x128 .fp8e4m3) (QC : FVec Ideal S1024x128 .fp8e4m3) (MQ : FVec Ideal S256x128 .bf16) (b0 b1 b2 b3 : FVec Ideal S1x128 .f32) := pp30 (vm30 (vr30 (uu3 KC QC MQ) b0 b1 b2 b3))
theorem wp30_v (KC QC MQ b0 b1 b2 b3) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (h1 : ∀ r : Fin 128, b1 (ix2 0 r) = bf 1 r) (h2 : ∀ r : Fin 128, b2 (ix2 0 r) = bf 2 r) (h3 : ∀ r : Fin 128, b3 (ix2 0 r) = bf 3 r) (j : Fin 224) (r : Fin 128) :
    wp30 KC QC MQ b0 b1 b2 b3 (ix2 j r) = wf 192 224 768 0 kc qc mq bf j r :=
  pp30_v _ (fun j r => if j ≤ 192 + r / 4 then ((∑ d ∈ Finset.range 128, kc j d * qc (768 + (0 + r)) d) + ∑ d ∈ Finset.range 128, kc j d * mq (0 + r) d) * bf (j / 64) r else ⊥)
    (fun j r => vm30_v _ (fun j r => ((∑ d ∈ Finset.range 128, kc j d * qc (768 + (0 + r)) d) + ∑ d ∈ Finset.range 128, kc j d * mq (0 + r) d) * bf (j / 64) r)
      (fun j r => vr30_v _ _ _ _ _ (fun j l => (∑ d ∈ Finset.range 128, kc j d * qc (768 + l) d) + ∑ d ∈ Finset.range 128, kc j d * mq l d) bf
        (fun s l => uu3_v _ _ _ kc qc mq hk hq hm s l) h0 h1 h2 h3 j r) j r) j r

/-- The weights of half 1 of window 3. -/
def wp31 (KC : FVec Ideal S256x128 .fp8e4m3) (QC : FVec Ideal S1024x128 .fp8e4m3) (MQ : FVec Ideal S256x128 .bf16) (b0 b1 b2 b3 : FVec Ideal S1x128 .f32) := pp31 (vm31 (vr31 (uu3 KC QC MQ) b0 b1 b2 b3))
theorem wp31_v (KC QC MQ b0 b1 b2 b3) (kc qc mq bf : ℕ → ℕ → EReal) (hk : ∀ (s : Fin 256) (d : Fin 128), KC (ix2 s d) = kc s d) (hq : ∀ (s : Fin 1024) (d : Fin 128), QC (ix2 s d) = qc s d)
    (hm : ∀ (s : Fin 256) (d : Fin 128), MQ (ix2 s d) = mq s d) (h0 : ∀ r : Fin 128, b0 (ix2 0 r) = bf 0 r) (h1 : ∀ r : Fin 128, b1 (ix2 0 r) = bf 1 r) (h2 : ∀ r : Fin 128, b2 (ix2 0 r) = bf 2 r) (h3 : ∀ r : Fin 128, b3 (ix2 0 r) = bf 3 r) (j : Fin 256) (r : Fin 128) :
    wp31 KC QC MQ b0 b1 b2 b3 (ix2 j r) = wf 224 256 768 128 kc qc mq bf j r :=
  pp31_v _ (fun j r => if j ≤ 224 + r / 4 then ((∑ d ∈ Finset.range 128, kc j d * qc (768 + (128 + r)) d) + ∑ d ∈ Finset.range 128, kc j d * mq (128 + r) d) * bf (j / 64) r else ⊥)
    (fun j r => vm31_v _ (fun j r => ((∑ d ∈ Finset.range 128, kc j d * qc (768 + (128 + r)) d) + ∑ d ∈ Finset.range 128, kc j d * mq (128 + r) d) * bf (j / 64) r)
      (fun j r => vr31_v _ _ _ _ _ (fun j l => (∑ d ∈ Finset.range 128, kc j d * qc (768 + l) d) + ∑ d ∈ Finset.range 128, kc j d * mq l d) bf
        (fun s l => uu3_v _ _ _ kc qc mq hk hq hm s l) h0 h1 h2 h3 j r) j r) j r

/-- Half 0 of window 3. -/
def bk30 (KC : FVec Ideal S256x128 .fp8e4m3) (QC : FVec Ideal S1024x128 .fp8e4m3) (MQ : FVec Ideal S256x128 .bf16) (b0 b1 b2 b3 : FVec Ideal S1x128 .f32) (VC : FVec Ideal S256x128 .fp8e4m3) (vs mv : FVec Ideal S1x128 .f32) : FVec Ideal S128x128 .f32 :=
  ob ![0, 0] (by decide) (ot3 VC (pc30 (wp30 KC QC MQ b0 b1 b2 b3)) (pc31 (wp31 KC QC MQ b0 b1 b2 b3))) (rl30 (wp30 KC QC MQ b0 b1 b2 b3)) vs mv
theorem bk30_v (KC QC MQ b0 b1 b2 b3 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 1 d * sinv (qaF (X (s.val % 4)) 1))
    (h0 : ∀ r : Fin 128, b0 (ix2 0 r) = sc (qaF (X (r.val % 4)) 1) * sc (kaF K 0) * ((LK : ℝ) : EReal)) (h1 : ∀ r : Fin 128, b1 (ix2 0 r) = sc (qaF (X (r.val % 4)) 1) * sc (kaF K 1) * ((LK : ℝ) : EReal)) (h2 : ∀ r : Fin 128, b2 (ix2 0 r) = sc (qaF (X (r.val % 4)) 1) * sc (kaF K 2) * ((LK : ℝ) : EReal)) (h3 : ∀ r : Fin 128, b3 (ix2 0 r) = sc (qaF (X (r.val % 4)) 1) * sc (kaF K 3) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk30 KC QC MQ b0 b1 b2 b3 VC vs mv (ix2 r d) = oF (X (r.val % 4)) K V (192 + r.val / 4) d := by
  have hr := r.isLt
  have w0 := wp30_v KC QC MQ b0 b1 b2 b3 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2 h3
  have w1 := wp31_v KC QC MQ b0 b1 b2 b3 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2 h3
  have c0 := pc30_v _ _ w0
  have c1 := pc31_v _ _ w1
  have o := ob_v 0 ![0, 0] (by decide) (ot3 VC (pc30 (wp30 KC QC MQ b0 b1 b2 b3)) (pc31 (wp31 KC QC MQ b0 b1 b2 b3))) (rl30 (wp30 KC QC MQ b0 b1 b2 b3)) vs mv rfl
    (fun d l => ∑ j ∈ Finset.range 256, vcF V j d * (fun h j r => if h = 0 then (if j < 224 then min (max (wf 192 224 768 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 256 then min (max (wf 224 256 768 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) : ℕ → ℕ → ℕ → EReal) (l / 128) j (l % 128))
    (fun r => Ideal.div 1 (∑ j ∈ Finset.range 224, wf 192 224 768 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r)) (fun d => sc (vaF V d)) (mvF V)
    (ot3_v VC _ _ (vcF V) (fun h j r => if h = 0 then (if j < 224 then min (max (wf 192 224 768 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 256 then min (max (wf 224 256 768 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0)) hvc (fun j r => (c0 j r).trans (if_pos rfl).symm) (fun j r => (c1 j r).trans (if_neg (by decide)).symm)) (rl30_v _ _ w0) hvs hmv r d
  refine o.trans (Eq.trans ?_ (head_out (X (r.val % 4)) K V (hX _) hK hV (192 + r.val / 4) 1 224 256 d (by omega) (by omega) (by omega) (by omega) _ (fun j => rfl)))
  simp only [show (128 * 0 + r.val) / 128 = 0 by omega, show (128 * 0 + r.val) % 128 = r.val by omega, wf,
    show (0 + r.val) % 4 = r.val % 4 by omega, show (768 + (0 + r.val)) % 4 = r.val % 4 by omega, show (768 + (0 + r.val)) / 4 = 192 + r.val / 4 by omega, if_true]

/-- Half 1 of window 3. -/
def bk31 (KC : FVec Ideal S256x128 .fp8e4m3) (QC : FVec Ideal S1024x128 .fp8e4m3) (MQ : FVec Ideal S256x128 .bf16) (b0 b1 b2 b3 : FVec Ideal S1x128 .f32) (VC : FVec Ideal S256x128 .fp8e4m3) (vs mv : FVec Ideal S1x128 .f32) : FVec Ideal S128x128 .f32 :=
  ob ![0, 128] (by decide) (ot3 VC (pc30 (wp30 KC QC MQ b0 b1 b2 b3)) (pc31 (wp31 KC QC MQ b0 b1 b2 b3))) (rl31 (wp31 KC QC MQ b0 b1 b2 b3)) vs mv
theorem bk31_v (KC QC MQ b0 b1 b2 b3 VC vs mv) (X : ℕ → ℕ → ℕ → EReal) (K V : ℕ → ℕ → EReal) (hX : ∀ g s d, ∃ r : ℝ, X g s d = r) (hK : ∀ s d, ∃ r : ℝ, K s d = r) (hV : ∀ s d, ∃ r : ℝ, V s d = r)
    (hk : ∀ (s : Fin 256) (d : Fin 128), KC (ix2 s d) = kcF K s d) (hq : ∀ (s : Fin 1024) (d : Fin 128), QC (ix2 s d) = qcF (X (s.val % 4)) (s.val / 4) d)
    (hm : ∀ (s : Fin 256) (d : Fin 128), MQ (ix2 s d) = mqF (X (s.val % 4)) 1 d * sinv (qaF (X (s.val % 4)) 1))
    (h0 : ∀ r : Fin 128, b0 (ix2 0 r) = sc (qaF (X (r.val % 4)) 1) * sc (kaF K 0) * ((LK : ℝ) : EReal)) (h1 : ∀ r : Fin 128, b1 (ix2 0 r) = sc (qaF (X (r.val % 4)) 1) * sc (kaF K 1) * ((LK : ℝ) : EReal)) (h2 : ∀ r : Fin 128, b2 (ix2 0 r) = sc (qaF (X (r.val % 4)) 1) * sc (kaF K 2) * ((LK : ℝ) : EReal)) (h3 : ∀ r : Fin 128, b3 (ix2 0 r) = sc (qaF (X (r.val % 4)) 1) * sc (kaF K 3) * ((LK : ℝ) : EReal))
    (hvc : ∀ (s : Fin 256) (d : Fin 128), VC (ix2 s d) = vcF V s d) (hvs : ∀ d : Fin 128, vs (ix2 0 d) = sc (vaF V d)) (hmv : ∀ d : Fin 128, mv (ix2 0 d) = mvF V d) (r d : Fin 128) :
    bk31 KC QC MQ b0 b1 b2 b3 VC vs mv (ix2 r d) = oF (X (r.val % 4)) K V (224 + r.val / 4) d := by
  have hr := r.isLt
  have w0 := wp30_v KC QC MQ b0 b1 b2 b3 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2 h3
  have w1 := wp31_v KC QC MQ b0 b1 b2 b3 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) hk hq hm h0 h1 h2 h3
  have c0 := pc30_v _ _ w0
  have c1 := pc31_v _ _ w1
  have o := ob_v 1 ![0, 128] (by decide) (ot3 VC (pc30 (wp30 KC QC MQ b0 b1 b2 b3)) (pc31 (wp31 KC QC MQ b0 b1 b2 b3))) (rl31 (wp31 KC QC MQ b0 b1 b2 b3)) vs mv rfl
    (fun d l => ∑ j ∈ Finset.range 256, vcF V j d * (fun h j r => if h = 0 then (if j < 224 then min (max (wf 192 224 768 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 256 then min (max (wf 224 256 768 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) : ℕ → ℕ → ℕ → EReal) (l / 128) j (l % 128))
    (fun r => Ideal.div 1 (∑ j ∈ Finset.range 256, wf 224 256 768 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r)) (fun d => sc (vaF V d)) (mvF V)
    (ot3_v VC _ _ (vcF V) (fun h j r => if h = 0 then (if j < 224 then min (max (wf 192 224 768 0 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0) else (if j < 256 then min (max (wf 224 256 768 128 (kcF K) (fun s d => qcF (X (s % 4)) (s / 4) d) (fun l d => mqF (X (l % 4)) 1 d * sinv (qaF (X (l % 4)) 1)) (fun g r => sc (qaF (X (r % 4)) 1) * sc (kaF K g) * ((LK : ℝ) : EReal)) j r) 0) ((448 : ℝ) : EReal) else 0)) hvc (fun j r => (c0 j r).trans (if_pos rfl).symm) (fun j r => (c1 j r).trans (if_neg (by decide)).symm)) (rl31_v _ _ w1) hvs hmv r d
  refine o.trans (Eq.trans ?_ (head_out (X (r.val % 4)) K V (hX _) hK hV (224 + r.val / 4) 1 256 256 d (by omega) (by omega) (by omega) (by omega) _ (fun j => rfl)))
  simp only [show (128 * 1 + r.val) / 128 = 1 by omega, show (128 * 1 + r.val) % 128 = r.val by omega, wf,
    show (128 + r.val) % 4 = r.val % 4 by omega, show (768 + (128 + r.val)) % 4 = r.val % 4 by omega, show (768 + (128 + r.val)) / 4 = 224 + r.val / 4 by omega, one_ne_zero, if_false]

end Cert.KernelIdeal.Gen
end
-- ==== Proof.AttIn.lean ====
/- What the windows read: the scales by lane, the means by row, the interleaved codes. -/
module
public import proofs.«01_k».proof.Proof.QMeans
@[expose] public section
set_option maxRecDepth 16384
noncomputable section
namespace Cert.KernelIdeal.Gen
open Idealize.ShloMosaic Idealize.ShloMosaic.TcCoe Idealize.ShloMosaic.Tactic
open Cert.Sage
noncomputable def lm : IVec S1x128 32 := andi kernelRun0_A.sl.v34 kernelRun0_A.sl.v35
noncomputable def lmq1 : IVec S1x128 1 := cmpi .eq lm (broadcast S1x128 1#32)
noncomputable def lmq2 : IVec S1x128 1 := cmpi .eq lm (broadcast S1x128 2#32)
noncomputable def lmq3 : IVec S1x128 1 := cmpi .eq lm (broadcast S1x128 3#32)
theorem lmq1_i : ∀ r : Fin 128, (lmq1 (ix2 0 r) == 1#1) = decide (r.val % 4 = 1) := by decide +kernel
theorem lmq2_i : ∀ r : Fin 128, (lmq2 (ix2 0 r) == 1#1) = decide (r.val % 4 = 2) := by decide +kernel
theorem lmq3_i : ∀ r : Fin 128, (lmq3 (ix2 0 r) == 1#1) = decide (r.val % 4 = 3) := by decide +kernel
theorem sel_i (w : BitVec 1) (P : Prop) [Decidable P] (h : (w == 1#1) = decide P) (x y : EReal) : Scalar.select w x y = if P then x else y := by
  unfold Scalar.select
  by_cases hp : P <;> simp_all

/-- One row of the scales, over all lanes. -/
def bcr (o : Fin 2 → ℕ) (ho : S8x1.Slices o S1x1) (QS : FVec Ideal S8x1 .f32) : FVec Ideal S1x128 .f32 :=
  broadcastTo S1x128 (shapeCast S1x1 (extractStridedSlice S1x1 o QS ho) shapeCasts_S1x1_S1x1) broadcasts_S1x1_S1x128
theorem bcr_v (k : Fin 8) (o : Fin 2 → ℕ) (ho QS) (f : ℕ → EReal) (hf : ∀ g : Fin 8, QS (ix2 g 0) = f g) (h : o = ![k.val, 0]) (r : Fin 128) : bcr o ho QS (ix2 0 r) = f k := by
  subst h
  pointwise [bcr]
  rw [← hf]
/-- The scales of a block's four heads, by lane. -/
def sqm (o0 o1 o2 o3 : Fin 2 → ℕ) (h0 : S8x1.Slices o0 S1x1) (h1 : S8x1.Slices o1 S1x1) (h2 : S8x1.Slices o2 S1x1) (h3 : S8x1.Slices o3 S1x1) (QS : FVec Ideal S8x1 .f32) : FVec Ideal S1x128 .f32 :=
  select lmq3 (bcr o3 h3 QS) (select lmq2 (bcr o2 h2 QS) (select lmq1 (bcr o1 h1 QS) (bcr o0 h0 QS)))
theorem sqm_v (n : ℕ) (hn : n < 2) (o0 o1 o2 o3 h0 h1 h2 h3 QS) (f : ℕ → EReal) (hf : ∀ g : Fin 8, QS (ix2 g 0) = f g)
    (e0 : o0 = ![4 * n, 0]) (e1 : o1 = ![4 * n + 1, 0]) (e2 : o2 = ![4 * n + 2, 0]) (e3 : o3 = ![4 * n + 3, 0]) (r : Fin 128) :
    sqm o0 o1 o2 o3 h0 h1 h2 h3 QS (ix2 0 r) = f (4 * n + r.val % 4) := by
  have b0 := bcr_v ⟨4 * n, by omega⟩ o0 h0 QS f hf e0 r
  have b1 := bcr_v ⟨4 * n + 1, by omega⟩ o1 h1 QS f hf e1 r
  have b2 := bcr_v ⟨4 * n + 2, by omega⟩ o2 h2 QS f hf e2 r
  have b3 := bcr_v ⟨4 * n + 3, by omega⟩ o3 h3 QS f hf e3 r
  have m1 := lmq1_i r
  have m2 := lmq2_i r
  have m3 := lmq3_i r
  unfold sqm
  generalize lmq1 = M1 at m1 ⊢
  generalize lmq2 = M2 at m2 ⊢
  generalize lmq3 = M3 at m3 ⊢
  show Scalar.select (M3 (ix2 0 r)) (bcr o3 h3 QS (ix2 0 r)) (Scalar.select (M2 (ix2 0 r)) (bcr o2 h2 QS (ix2 0 r)) (Scalar.select (M1 (ix2 0 r)) (bcr o1 h1 QS (ix2 0 r)) (bcr o0 h0 QS (ix2 0 r)))) = _
  rw [sel_i _ _ m3, sel_i _ _ m2, sel_i _ _ m1, b0, b1, b2, b3]
  have : r.val % 4 < 4 := Nat.mod_lt _ (by omega)
  split
  · rename_i h; rw [h]
  split
  · rename_i h; rw [h]
  split
  · rename_i h; rw [h]
  · rw [show r.val % 4 = 0 by omega]; rfl

/-- The factor of a block's scores: the queries' scale, the keys' and the constant. -/
def bta (SQ : FVec Ideal S1x128 .f32) (o : Fin 2 → ℕ) (ho : S4x1.Slices o S1x1) (KS : FVec Ideal S4x1 .f32) : FVec Ideal S1x128 .f32 :=
  mulf (mulf SQ (broadcastTo S1x128 (extractStridedSlice S1x1 o KS ho) broadcasts_S1x1_S1x128)) (broadcast S1x128 (Named.named κ "sm_log2e" 0x3E0293EE#32))
theorem bta_v (k : Fin 4) (SQ o ho KS) (sf kf : ℕ → EReal) (hs : ∀ r : Fin 128, SQ (ix2 0 r) = sf r) (hk : ∀ g : Fin 4, KS (ix2 g 0) = kf g) (h : o = ![k.val, 0]) (r : Fin 128) :
    bta SQ o ho KS (ix2 0 r) = sf r * kf k * (Named.named (F := Ideal) κ "sm_log2e" 0x3E0293EE#32 : Ideal .f32) := by
  subst h
  have e : ∀ (p q), SQ (ix2 p q) = sf q.val := fun p q => by rw [Subsingleton.elim p 0, hs]
  pointwise [bta]
  rw [e, ← hk]
  try rfl

/-- The means of a block's four heads over their scales, by row. -/
def mqm (o : Fin 2 → ℕ) (ho : S8x1.Slices o S4x1) (M4 : FVec Ideal S4x128 .f32) (QI : FVec Ideal S8x1 .f32) : FVec Ideal S4x128 .f32 :=
  mulf M4 (broadcastTo S4x128 (extractStridedSlice S4x1 o QI ho) broadcasts_S4x1_S4x128)
def mq16 (A : FVec Ideal S4x128 .f32) : FVec Ideal S16x128 .bf16 :=
  truncf .bf16 (concatenate S16x128 0 [⟨S4x128, A⟩, ⟨S4x128, A⟩, ⟨S4x128, A⟩, ⟨S4x128, A⟩] concatenates_S4x128_S4x128_S4x128_S4x128_S16x128_d0) bitsLt_bf16_f32
def mq256 (A : FVec Ideal S16x128 .bf16) : FVec Ideal S256x128 .bf16 :=
  concatenate S256x128 0 [⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩, ⟨S16x128, A⟩] concatenates_S16x128_S16x128_S16x128_S16x128_S16x128_S16x128_S16x128_S16x128_S16x128_S16x128_S16x128_S16x128_S16x128_S16x128_S16x128_S16x128_S256x128_d0
theorem mqm_v (n : ℕ) (hn : n < 2) (o ho M4 QI) (f : ℕ → ℕ → EReal) (qf : ℕ → EReal) (hm : ∀ (g : Fin 4) (d : Fin 128), M4 (ix2 g d) = f g d) (hq : ∀ g : Fin 8, QI (ix2 g 0) = qf g) (h : o = ![4 * n, 0]) (g : Fin 4) (d : Fin 128) :
    mqm o ho M4 QI (ix2 g d) = f g d * qf (4 * n + g) := by
  subst h
  pointwise [mqm]
  rw [hm, ← hq ⟨4 * n + g, by omega⟩]
  try rfl
theorem mq16_v (A) (f : ℕ → ℕ → EReal) (hm : ∀ (g : Fin 4) (d : Fin 128), A (ix2 g d) = f g d) (s : Fin 16) (d : Fin 128) : mq16 A (ix2 s d) = f (s.val % 4) d := by
  rw [← hm ⟨s.val % 4, Nat.mod_lt _ (by omega)⟩ d]
  exact concatenate_replicate_apply (t := S16x128) (s₁ := S4x128) 0 4 A concatenates_S4x128_S4x128_S4x128_S4x128_S16x128_d0 rfl (ix2 s d) (ix2 ⟨s.val % 4, Nat.mod_lt _ (by omega)⟩ d) rfl
    (fun b hb => by fin_cases b <;> first | rfl | exact absurd rfl hb)
theorem mq256_v (A) (f : ℕ → ℕ → EReal) (hm : ∀ (g : Fin 16) (d : Fin 128), A (ix2 g d) = f g d) (s : Fin 256) (d : Fin 128) : mq256 A (ix2 s d) = f (s.val % 16) d := by
  rw [← hm ⟨s.val % 16, Nat.mod_lt _ (by omega)⟩ d]
  exact concatenate_replicate_apply (t := S256x128) (s₁ := S16x128) 0 16 A concatenates_S16x128_S16x128_S16x128_S16x128_S16x128_S16x128_S16x128_S16x128_S16x128_S16x128_S16x128_S16x128_S16x128_S16x128_S16x128_S16x128_S256x128_d0 rfl (ix2 s d) (ix2 ⟨s.val % 16, Nat.mod_lt _ (by omega)⟩ d) rfl
    (fun b hb => by fin_cases b <;> first | rfl | exact absurd rfl hb)

/-- The factors of the means: a block's rows, repeated. -/
def mqa (o : Fin 2 → ℕ) (ho : S8x1.Slices o S4x1) (M4 : FVec Ideal S4x128 .f32) (QI : FVec Ideal S8x1 .f32) : FVec Ideal S256x128 .bf16 := mq256 (mq16 (mqm o ho M4 QI))
theorem mqa_v (n : ℕ) (hn : n < 2) (o ho M4 QI) (f : ℕ → ℕ → EReal) (qf : ℕ → EReal) (hm : ∀ (g : Fin 4) (d : Fin 128), M4 (ix2 g d) = f g d) (hq : ∀ g : Fin 8, QI (ix2 g 0) = qf g) (h : o = ![4 * n, 0]) (l : Fin 256) (d : Fin 128) :
    mqa o ho M4 QI (ix2 l d) = f (l.val % 4) d * qf (4 * n + l.val % 4) := by
  refine (mq256_v _ (fun g d => f (g % 4) d * qf (4 * n + g % 4)) (mq16_v _ (fun g d => f g d * qf (4 * n + g)) (mqm_v n hn o ho M4 QI f qf hm hq h)) l d).trans ?_
  rw [show l.val % 16 % 4 = l.val % 4 by omega]

theorem inb32 (n : Fin 32) : ∀ a, (![32 * n.val, 0] : Fin 2 → ℕ) a + S32x128.size a ≤ S1024x128.size a := by
  intro a; have := n.isLt; fin_cases a <;> simp <;> omega
theorem cat_q (a : Fin 32 → FVec Ideal S32x128 .fp8e4m3) : Shape.Concatenates ((List.ofFn fun n : Fin 32 => (⟨S32x128, a n⟩ : (s : Shape) × (s.Idx → Ideal .fp8e4m3))).map (·.1)) S1024x128 0 :=
  concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S1024x128_d0
/-- The interleaved buffer, read 32 rows at a time. -/
def qcm {sig : RefSig} {κ : Kind} {sp : Space} (v : View sig κ sp S1024x128 .f32) (L : List (View.Piece (Elt Ideal) S1024x128 .f32)) : FVec Ideal S1024x128 .fp8e4m3 :=
  concatenate S1024x128 0 (List.ofFn fun n : Fin 32 => (⟨S32x128, truncf (F := Ideal) (φ := .f32) .fp8e4m3 (v.readCov (Val := Elt Ideal) L (Rect.unit (s := S1024x128) ![32 * n.val, 0] S32x128.size (inb32 n)).toLoadRect : FVec Ideal S32x128 .f32) bitsLt_fp8e4m3_f32⟩ : (s : Shape) × (s.Idx → Ideal .fp8e4m3)))
    (cat_q _)
theorem qcm_v {sig : RefSig} {κ : Kind} {sp : Space} (v : View sig κ sp S1024x128 .f32) (L : List (View.Piece (Elt Ideal) S1024x128 .f32)) (R : Fin 1024) (d : Fin 128) :
    qcm v L (ix2 R d) = View.canon (Val := Elt Ideal) L (ix2 R d) := by
  have hR := R.isLt
  refine (concatenate_ofFn_apply (t := S1024x128) (s₁ := S32x128) 0 _ (cat_q _) rfl 32 rfl (ix2 R d) ⟨R.val / 32, by omega⟩ rfl (ix2 ⟨R.val % 32, Nat.mod_lt _ (by omega)⟩ d) rfl
    (fun b hb => by fin_cases b <;> first | rfl | exact absurd rfl hb)).trans ?_
  show v.readCov (Val := Elt Ideal) L (Rect.unit (s := S1024x128) ![32 * (R.val / 32), 0] S32x128.size (inb32 ⟨R.val / 32, by omega⟩)).toLoadRect (ix2 ⟨R.val % 32, Nat.mod_lt _ (by omega)⟩ d) = _
  rw [View.readCov_eq_canon']
  refine congrArg (View.canon (Val := Elt Ideal) L) ?_
  funext a
  refine Fin.ext ?_
  fin_cases a
  · simp [LoadRect.idx, ix2]; omega
  · simp [LoadRect.idx, ix2]
end Cert.KernelIdeal.Gen
end
-- ==== Proof.AttHd.lean ====
/- What one head's windows read, and the rows they store. -/
module
public import proofs.«01_k».proof.Proof.AttHead
public import proofs.«01_k».proof.Proof.AttIn
public import proofs.«01_k».proof.Proof.Arrays2
@[expose] public section
set_option maxRecDepth 16384
noncomputable section
namespace Cert.KernelIdeal.Gen
open Idealize.ShloMosaic Idealize.ShloMosaic.TcCoe Idealize.ShloMosaic.Tactic
open Cert.Sage

theorem mq_hd (A : ℕ → ℕ → EReal) (o g n d : ℕ) : mqF A n (o + (128 * g + d)) = mqF (fun s d => A s (o + 128 * g + d)) n d := by
  unfold mqF; simp only [Nat.add_assoc]
theorem named_sm' : (Named.named (F := Ideal) κ "sm_log2e" 0x3E0293EE#32 : Ideal .f32) = ((LK : ℝ) : EReal) := rfl
section
variable (B : FVec Ideal S256x512 .bf16) (A : ℕ → ℕ → EReal) (o : ℕ) (hB : ∀ (s : Fin 256) (c : Fin 512), B (ix2 s c) = A s (o + c)) (hr : ∀ n c, ∃ r : ℝ, mqF A n c = r)
include hB hr
theorem mq_in (n : ℕ) (hn : n < 2) (om : Fin 2 → ℕ) (ho h0 h1 h2 h3) (e : om = ![4 * n, 0]) (l : Fin 256) (d : Fin 128) :
    mqa om ho (mrow n h0 h1 h2 h3 (qM B)) (qinv (qP B)) (ix2 l d) = mqF (fun s d => A s (o + 128 * (l.val % 4) + d)) n d * sinv (qaF (fun s d => A s (o + 128 * (l.val % 4) + d)) n) := by
  refine (mqa_v n hn om ho _ _ (fun g d => mqF A n (o + (128 * g + d))) (fun g => sinv (qaF (fun s d => A s (o + 128 * (g % 4) + d)) (g / 4)))
    (fun g d => mrow_v n h0 h1 h2 h3 _ (fun n k => mqF A n (o + k)) (qM_v B A o hB) g d) (fun g => qinv_v _ g _ (qP_v B A o hB hr g)) e l d).trans ?_
  show mqF A n (o + (128 * (l.val % 4) + d)) * sinv (qaF (fun s d => A s (o + 128 * ((4 * n + l.val % 4) % 4) + d)) ((4 * n + l.val % 4) / 4)) = _
  rw [mq_hd, show (4 * n + l.val % 4) % 4 = l.val % 4 by omega, show (4 * n + l.val % 4) / 4 = n by omega]
theorem bt_in (n : ℕ) (hn : n < 2) (o0 o1 o2 o3 h0 h1 h2 h3) (e0 : o0 = ![4 * n, 0]) (e1 : o1 = ![4 * n + 1, 0]) (e2 : o2 = ![4 * n + 2, 0]) (e3 : o3 = ![4 * n + 3, 0])
    (k : Fin 4) (ok ho KS) (kf : ℕ → EReal) (hk : ∀ g : Fin 4, KS (ix2 g 0) = kf g) (h : ok = ![k.val, 0]) (r : Fin 128) :
    bta (sqm o0 o1 o2 o3 h0 h1 h2 h3 (qsc (qP B))) ok ho KS (ix2 0 r) = sc (qaF (fun s d => A s (o + 128 * (r.val % 4) + d)) n) * kf k * ((LK : ℝ) : EReal) := by
  refine (bta_v k _ ok ho KS (fun r => sc (qaF (fun s d => A s (o + 128 * ((4 * n + r % 4) % 4) + d)) ((4 * n + r % 4) / 4))) kf
    (fun r => sqm_v n hn o0 o1 o2 o3 h0 h1 h2 h3 _ (fun g => sc (qaF (fun s d => A s (o + 128 * (g % 4) + d)) (g / 4))) (fun g => qsc_v _ g _ (qP_v B A o hB hr g)) e0 e1 e2 e3 r) hk h r).trans ?_
  rw [named_sm', show (4 * n + r.val % 4) % 4 = r.val % 4 by omega, show (4 * n + r.val % 4) / 4 = n by omega]
end

/-- A store of 128 rows, read. -/
theorem os_step (o : ℕ) (inb) (w : FVec Ideal S128x128 .f32) (L : List (View.Piece (Elt Ideal) S1024x128 .f32)) (f : ℕ → ℕ → EReal) (R : Fin 1024) (d : Fin 128)
    (hw : ∀ r d : Fin 128, w (ix2 r d) = f (o + r.val) d) (hL : ¬ (o ≤ R.val ∧ R.val < o + 128) → View.canon L (ix2 R d) = f R.val d) :
    View.canon (Val := Elt Ideal) (e := .f32) (⟨Rect.unit (s := S1024x128) ![o, 0] S128x128.size inb, w⟩ :: L) (ix2 R d) = f R.val d := by
  by_cases h : o ≤ R.val ∧ R.val < o + 128
  · have e : R.val = o + (⟨R.val - o, by omega⟩ : Fin 128).val := by show R.val = o + (R.val - o); omega
    rw [e, ← hw, ← View.canon_cons_emb (Val := Elt Ideal) (e := .f32) (Rect.unit (s := S1024x128) ![o, 0] S128x128.size inb) w L (ix2 (⟨R.val - o, by omega⟩ : Fin 128) d)]
    refine congrArg (View.canon (Val := Elt Ideal) _) ?_
    funext a
    refine Fin.ext ?_
    rw [Rect.emb_apply]
    fin_cases a
    · show R.val = o + 1 * (R.val - o); omega
    · show d.val = 0 + 1 * d.val; omega
  · rw [View.canon_cons_of_not_mem]
    · exact hL h
    · rw [LoadRect.mem_set]
      intro h'
      obtain ⟨k, hk, e⟩ := h' (0 : Fin 2)
      have hk' : k < 128 := hk
      have e' : R.val = o + 1 * k := e
      omega

/-- Eight such stores, one below the other. -/
theorem os_eight (w0 w1 w2 w3 w4 w5 w6 w7 : FVec Ideal S128x128 .f32) (L : List (View.Piece (Elt Ideal) S1024x128 .f32)) (i0 i1 i2 i3 i4 i5 i6 i7) (F : ℕ → ℕ → ℕ → EReal)
    (h0 : ∀ r d : Fin 128, w0 (ix2 r d) = F (r.val % 4) (0 + r.val / 4) d) (h1 : ∀ r d : Fin 128, w1 (ix2 r d) = F (r.val % 4) (32 + r.val / 4) d)
    (h2 : ∀ r d : Fin 128, w2 (ix2 r d) = F (r.val % 4) (64 + r.val / 4) d) (h3 : ∀ r d : Fin 128, w3 (ix2 r d) = F (r.val % 4) (96 + r.val / 4) d)
    (h4 : ∀ r d : Fin 128, w4 (ix2 r d) = F (r.val % 4) (128 + r.val / 4) d) (h5 : ∀ r d : Fin 128, w5 (ix2 r d) = F (r.val % 4) (160 + r.val / 4) d)
    (h6 : ∀ r d : Fin 128, w6 (ix2 r d) = F (r.val % 4) (192 + r.val / 4) d) (h7 : ∀ r d : Fin 128, w7 (ix2 r d) = F (r.val % 4) (224 + r.val / 4) d) (R : Fin 1024) (d : Fin 128) :
    View.canon (Val := Elt Ideal) (e := .f32) (⟨Rect.unit (s := S1024x128) ![896, 0] S128x128.size i7, w7⟩ :: ⟨Rect.unit (s := S1024x128) ![768, 0] S128x128.size i6, w6⟩ :: ⟨Rect.unit (s := S1024x128) ![640, 0] S128x128.size i5, w5⟩ ::
      ⟨Rect.unit (s := S1024x128) ![512, 0] S128x128.size i4, w4⟩ :: ⟨Rect.unit (s := S1024x128) ![384, 0] S128x128.size i3, w3⟩ :: ⟨Rect.unit (s := S1024x128) ![256, 0] S128x128.size i2, w2⟩ ::
      ⟨Rect.unit (s := S1024x128) ![128, 0] S128x128.size i1, w1⟩ :: ⟨Rect.unit (s := S1024x128) ![0, 0] S128x128.size i0, w0⟩ :: L) (ix2 R d) = F (R.val % 4) (R.val / 4) d := by
  have hR := R.isLt
  have A : ∀ (o t : ℕ) (w : FVec Ideal S128x128 .f32), (∀ r d : Fin 128, w (ix2 r d) = F (r.val % 4) (t + r.val / 4) d) → o = 4 * t → ∀ r d : Fin 128, w (ix2 r d) = (fun R d => F (R % 4) (R / 4) d) (o + r.val) d := by
    intro o t w h e r d
    rw [h]
    show _ = F ((o + r.val) % 4) ((o + r.val) / 4) d
    rw [show (o + r.val) % 4 = r.val % 4 by omega, show (o + r.val) / 4 = t + r.val / 4 by omega]
  refine os_step 896 _ _ _ (fun R d => F (R % 4) (R / 4) d) R d (A _ _ _ h7 rfl) fun n7 => ?_
  refine os_step 768 _ _ _ (fun R d => F (R % 4) (R / 4) d) R d (A _ _ _ h6 rfl) fun n6 => ?_
  refine os_step 640 _ _ _ (fun R d => F (R % 4) (R / 4) d) R d (A _ _ _ h5 rfl) fun n5 => ?_
  refine os_step 512 _ _ _ (fun R d => F (R % 4) (R / 4) d) R d (A _ _ _ h4 rfl) fun n4 => ?_
  refine os_step 384 _ _ _ (fun R d => F (R % 4) (R / 4) d) R d (A _ _ _ h3 rfl) fun n3 => ?_
  refine os_step 256 _ _ _ (fun R d => F (R % 4) (R / 4) d) R d (A _ _ _ h2 rfl) fun n2 => ?_
  refine os_step 128 _ _ _ (fun R d => F (R % 4) (R / 4) d) R d (A _ _ _ h1 rfl) fun n1 => ?_
  refine os_step 0 _ _ _ (fun R d => F (R % 4) (R / 4) d) R d (A _ _ _ h0 rfl) fun n0 => ?_
  omega

/-- Every fourth row, rounded and stored: one query head's output. -/
theorem out_piece {sig : RefSig} {κ : Kind} {sp : Space} (v : View sig κ sp S1024x128 .f32) (L : List (View.Piece (Elt Ideal) S1024x128 .f32)) (g h qo ko : ℕ) (inb) (h1 h2)
    (X K V : ℕ → ℕ → EReal) (hg : g < 4) (hq : qo = 512 * h) (hk : ko = 128 * h)
    (hL : ∀ (R : Fin 1024) (d : Fin 128), View.canon L (ix2 R d) = oF (fun s d => X s (qo + 128 * (R.val % 4) + d)) (fun s d => K s (ko + d)) (fun s d => V s (ko + d)) (R.val / 4) d)
    (s : Fin 256) (d : Fin 128) (k : Fin 4096) (e : k.val = qo + 128 * g + d.val) :
    shapeCast S1x256x128 (truncf (F := Ideal) (φ := .f32) .bf16 (v.readCov (Val := Elt Ideal) L { off := ![g, 0], size := S256x128.size, stride := ![4, 1], inb := inb } : FVec Ideal S256x128 .f32) h1) h2 (ix3 0 s d)
      = oF (fun s d => X s (128 * (k.val / 128) + d)) (fun s d => K s (128 * (k.val / 512) + d)) (fun s d => V s (128 * (k.val / 512) + d)) s (k.val % 128) := by
  have hd := d.isLt
  have hs := s.isLt
  have c : ∀ w : FVec Ideal S256x128 .f32, shapeCast S1x256x128 (truncf (F := Ideal) (φ := .f32) .bf16 w h1) h2 (ix3 0 s d) = w (ix2 s d) := by
    intro w
    pointwise
  rw [c, View.readCov_eq_canon']
  have hy : LoadRect.idx (s := S1024x128) { off := ![g, 0], size := S256x128.size, stride := ![4, 1], inb := inb } (ix2 s d) = (ix2 (⟨g + 4 * s.val, by omega⟩ : Fin 1024) d : S1024x128.Idx) := by
    funext a
    refine Fin.ext ?_
    fin_cases a
    · rfl
    · show 0 + 1 * d.val = d.val; omega
  refine (congrArg (View.canon (Val := Elt Ideal) L) hy).trans ((hL _ d).trans ?_)
  show oF (fun a b => X a (qo + 128 * ((g + 4 * s.val) % 4) + b)) (fun a b => K a (ko + b)) (fun a b => V a (ko + b)) ((g + 4 * s.val) / 4) d = _
  rw [show (g + 4 * s.val) % 4 = g by omega, show (g + 4 * s.val) / 4 = s.val by omega, show k.val % 128 = d.val by omega, show 128 * (k.val / 128) = qo + 128 * g by omega, show 128 * (k.val / 512) = ko by omega]

/-- The queries are real numbers, their means are, -/
abbrev RE {a b c : ℕ} (x : FVec Ideal (⟨3, ![a, b, c]⟩ : Shape) .bf16) : Prop := ∀ s d, ∃ r : ℝ, nat3 x 0 s d = r
abbrev RQ {a b c : ℕ} (x : FVec Ideal (⟨3, ![a, b, c]⟩ : Shape) .bf16) : Prop := ∀ n k, ∃ r : ℝ, mqF (nat3 x 0) n k = r
/-- and the keys' and the values' means. -/
abbrev RM {a b c : ℕ} (x : FVec Ideal (⟨3, ![a, b, c]⟩ : Shape) .bf16) : Prop := ∀ k, ∃ r : ℝ, mvF (nat3 x 0) k = r
theorem rq {a b c : ℕ} {x : FVec Ideal (⟨3, ![a, b, c]⟩ : Shape) .bf16} (h : RE x) : RQ x := fun n k => mqF_real (nat3 x 0) n k fun s => h s k
theorem rm {a b c : ℕ} {x : FVec Ideal (⟨3, ![a, b, c]⟩ : Shape) .bf16} (h : RE x) : RM x := fun k => mvF_real (nat3 x 0) k fun s _ => h s k

end Cert.KernelIdeal.Gen
end
-- ==== Proof.AttHeads0.lean ====
/- Head by head: what the windows read, and the outputs they store. -/
module
public import proofs.«01_k».proof.Proof.AttHd
@[expose] public section
set_option maxRecDepth 16384
noncomputable section
namespace Cert.KernelIdeal.Gen
open Idealize.ShloMosaic Idealize.ShloMosaic.TcCoe Idealize.ShloMosaic.Tactic
open Cert.Sage kernelRun0_A
section
variable (c : Dev nD) (a2 : Memref sig .tc .vmem S1x256x4096 .bf16) (p2 : a2.IsWhole) (a3 a4 : Memref sig .tc .vmem S1x256x1024 .bf16) (p3 : a3.IsWhole) (p4 : a4.IsWhole)
  (z : Memref sig .tc .vmem S1024x128 .f32) (x0 : Vec Ideal S1x256x4096 .bf16) (x1 x2 : Vec Ideal S1x256x1024 .bf16)
/-! ## The first head -/
theorem i_kc0 : (sl.v480 c a3 p3 x1) = truncf .fp8e4m3 (kC 0 (by decide) (by decide) (by decide) (by decide) (by decide) (kB0 c a3 p3 x1) (kM0 c a3 p3 x1)) bitsLt_fp8e4m3_f32 := rfl
theorem i_qc0 : (sl.v1366 c a2 p2 a3 p3 a4 p4 z x0 x1 x2) = qcm z.view (sl.HS0_16 c a2 p2 a3 p3 a4 p4 x0 x1 x2) := rfl
theorem i_m00 : (sl.v1377 c a2 p2 x0) = mqa ![0, 0] (by decide) (mrow 0 (by decide) (by decide) (by decide) (by decide) (qM (qB0 c a2 p2 x0))) (qinv (qP (qB0 c a2 p2 x0))) := rfl
theorem i_m01 : (sl.v1419 c a2 p2 x0) = mqa ![4, 0] (by decide) (mrow 1 (by decide) (by decide) (by decide) (by decide) (qM (qB0 c a2 p2 x0))) (qinv (qP (qB0 c a2 p2 x0))) := rfl
theorem i_vc0 : (sl.v94 c a4 p4 x2) = truncf .fp8e4m3 (vC 0 (by decide) (by decide) (vB0 a4 p4 x2)) bitsLt_fp8e4m3_f32 := rfl
theorem i_b000 : (sl.v1403 c a2 p2 a3 p3 x0 x1) = bta (sqm ![0, 0] ![1, 0] ![2, 0] ![3, 0] (by decide) (by decide) (by decide) (by decide) (qsc (qP (qB0 c a2 p2 x0)))) ![0, 0] (by decide) (ksc (kP 0 (by decide) (kB0 c a3 p3 x1) (kM0 c a3 p3 x1))) := rfl
theorem i_b001 : (sl.v1408 c a2 p2 a3 p3 x0 x1) = bta (sqm ![0, 0] ![1, 0] ![2, 0] ![3, 0] (by decide) (by decide) (by decide) (by decide) (qsc (qP (qB0 c a2 p2 x0)))) ![1, 0] (by decide) (ksc (kP 0 (by decide) (kB0 c a3 p3 x1) (kM0 c a3 p3 x1))) := rfl
theorem i_b010 : (sl.v1445 c a2 p2 a3 p3 x0 x1) = bta (sqm ![4, 0] ![5, 0] ![6, 0] ![7, 0] (by decide) (by decide) (by decide) (by decide) (qsc (qP (qB0 c a2 p2 x0)))) ![0, 0] (by decide) (ksc (kP 0 (by decide) (kB0 c a3 p3 x1) (kM0 c a3 p3 x1))) := rfl
theorem i_b011 : (sl.v1450 c a2 p2 a3 p3 x0 x1) = bta (sqm ![4, 0] ![5, 0] ![6, 0] ![7, 0] (by decide) (by decide) (by decide) (by decide) (qsc (qP (qB0 c a2 p2 x0)))) ![1, 0] (by decide) (ksc (kP 0 (by decide) (kB0 c a3 p3 x1) (kM0 c a3 p3 x1))) := rfl
theorem i_b012 : (sl.v1455 c a2 p2 a3 p3 x0 x1) = bta (sqm ![4, 0] ![5, 0] ![6, 0] ![7, 0] (by decide) (by decide) (by decide) (by decide) (qsc (qP (qB0 c a2 p2 x0)))) ![2, 0] (by decide) (ksc (kP 0 (by decide) (kB0 c a3 p3 x1) (kM0 c a3 p3 x1))) := rfl
theorem i_b013 : (sl.v1460 c a2 p2 a3 p3 x0 x1) = bta (sqm ![4, 0] ![5, 0] ![6, 0] ![7, 0] (by decide) (by decide) (by decide) (by decide) (qsc (qP (qB0 c a2 p2 x0)))) ![3, 0] (by decide) (ksc (kP 0 (by decide) (kB0 c a3 p3 x1) (kM0 c a3 p3 x1))) := rfl

theorem w_kc0 (hk : RM x1) (s : Fin 256) (d : Fin 128) : (sl.v480 c a3 p3 x1) (ix2 s d) = kcF (fun s d => nat3 x1 0 s (0 + d)) s d := by
  rw [i_kc0]
  exact kC_v 0 _ _ _ _ _ _ _ (nat3 x1 0) 0 (kB0_v c a3 p3 x1) (v350_v c a3 p3 x1) hk 0 rfl s d
theorem w_ks0 (hk : RM x1) (g : Fin 4) : (ksc (kP 0 (by decide) (kB0 c a3 p3 x1) (kM0 c a3 p3 x1))) (ix2 g 0) = sc (kaF (fun s d => nat3 x1 0 s (0 + d)) g) :=
  ksc_v _ g _ (kP_v 0 _ _ _ (nat3 x1 0) 0 (kB0_v c a3 p3 x1) (v350_v c a3 p3 x1) hk 0 rfl g)
theorem w_qc0 (hq : RQ x0) (r : Fin 1024) (d : Fin 128) : (sl.v1366 c a2 p2 a3 p3 a4 p4 z x0 x1 x2) (ix2 r d) = qcF ((fun g s d => nat3 x0 0 s (0 + 128 * g + d)) (r.val % 4)) (r.val / 4) d := by
  rw [i_qc0]
  exact (qcm_v _ _ r d).trans (il_q0 c a2 p2 a3 a4 p3 p4 x0 x1 x2 hq r d)
theorem w_vc0 (hv : RM x2) (s : Fin 256) (d : Fin 128) : (sl.v94 c a4 p4 x2) (ix2 s d) = vcF (fun s d => nat3 x2 0 s (0 + d)) s d := by
  rw [i_vc0]
  exact vC_v 0 _ _ _ (nat3 x2 0) 0 (ld_0 a4 p4 x2) hv 0 rfl s d
theorem w_vs0 (hv : RM x2) (d : Fin 128) : (extractStridedSlice S1x128 ![0, 0] (sl.v73 c a4 p4 x2) (by decide)) (ix2 0 d) = sc (vaF (fun s d => nat3 x2 0 s (0 + d)) d) :=
  sl_v _ _ _ (fun j => sc (vaF (nat3 x2 0) j)) 0 (v73_v c a4 p4 x2 hv) 0 rfl d
theorem w_mv0 (d : Fin 128) : (extractStridedSlice S1x128 ![0, 0] (sl.v48 c a4 p4 x2) (by decide)) (ix2 0 d) = mvF (fun s d => nat3 x2 0 s (0 + d)) d :=
  sl_v _ _ _ (mvF (nat3 x2 0)) 0 (v48_v c a4 p4 x2) 0 rfl d
theorem w_m00 (hq : RQ x0) (l : Fin 256) (d : Fin 128) : (sl.v1377 c a2 p2 x0) (ix2 l d) = mqF ((fun g s d => nat3 x0 0 s (0 + 128 * g + d)) (l.val % 4)) 0 d * sinv (qaF ((fun g s d => nat3 x0 0 s (0 + 128 * g + d)) (l.val % 4)) 0) := by
  rw [i_m00]
  exact mq_in _ (nat3 x0 0) 0 (qB0_v c a2 p2 x0) hq 0 (by decide) _ _ _ _ _ _ rfl l d
theorem w_m01 (hq : RQ x0) (l : Fin 256) (d : Fin 128) : (sl.v1419 c a2 p2 x0) (ix2 l d) = mqF ((fun g s d => nat3 x0 0 s (0 + 128 * g + d)) (l.val % 4)) 1 d * sinv (qaF ((fun g s d => nat3 x0 0 s (0 + 128 * g + d)) (l.val % 4)) 1) := by
  rw [i_m01]
  exact mq_in _ (nat3 x0 0) 0 (qB0_v c a2 p2 x0) hq 1 (by decide) _ _ _ _ _ _ rfl l d
theorem w_b000 (hq : RQ x0) (hk : RM x1) (r : Fin 128) :
    (sl.v1403 c a2 p2 a3 p3 x0 x1) (ix2 0 r) = sc (qaF ((fun g s d => nat3 x0 0 s (0 + 128 * g + d)) (r.val % 4)) 0) * sc (kaF (fun s d => nat3 x1 0 s (0 + d)) 0) * ((LK : ℝ) : EReal) := by
  rw [i_b000]
  exact bt_in _ (nat3 x0 0) 0 (qB0_v c a2 p2 x0) hq 0 (by decide) _ _ _ _ _ _ _ _ rfl rfl rfl rfl 0 _ _ _ (fun g => sc (kaF (fun s d => nat3 x1 0 s (0 + d)) g)) (w_ks0 c a3 p3 x1 hk) rfl r
theorem w_b001 (hq : RQ x0) (hk : RM x1) (r : Fin 128) :
    (sl.v1408 c a2 p2 a3 p3 x0 x1) (ix2 0 r) = sc (qaF ((fun g s d => nat3 x0 0 s (0 + 128 * g + d)) (r.val % 4)) 0) * sc (kaF (fun s d => nat3 x1 0 s (0 + d)) 1) * ((LK : ℝ) : EReal) := by
  rw [i_b001]
  exact bt_in _ (nat3 x0 0) 0 (qB0_v c a2 p2 x0) hq 0 (by decide) _ _ _ _ _ _ _ _ rfl rfl rfl rfl 1 _ _ _ (fun g => sc (kaF (fun s d => nat3 x1 0 s (0 + d)) g)) (w_ks0 c a3 p3 x1 hk) rfl r
theorem w_b010 (hq : RQ x0) (hk : RM x1) (r : Fin 128) :
    (sl.v1445 c a2 p2 a3 p3 x0 x1) (ix2 0 r) = sc (qaF ((fun g s d => nat3 x0 0 s (0 + 128 * g + d)) (r.val % 4)) 1) * sc (kaF (fun s d => nat3 x1 0 s (0 + d)) 0) * ((LK : ℝ) : EReal) := by
  rw [i_b010]
  exact bt_in _ (nat3 x0 0) 0 (qB0_v c a2 p2 x0) hq 1 (by decide) _ _ _ _ _ _ _ _ rfl rfl rfl rfl 0 _ _ _ (fun g => sc (kaF (fun s d => nat3 x1 0 s (0 + d)) g)) (w_ks0 c a3 p3 x1 hk) rfl r
theorem w_b011 (hq : RQ x0) (hk : RM x1) (r : Fin 128) :
    (sl.v1450 c a2 p2 a3 p3 x0 x1) (ix2 0 r) = sc (qaF ((fun g s d => nat3 x0 0 s (0 + 128 * g + d)) (r.val % 4)) 1) * sc (kaF (fun s d => nat3 x1 0 s (0 + d)) 1) * ((LK : ℝ) : EReal) := by
  rw [i_b011]
  exact bt_in _ (nat3 x0 0) 0 (qB0_v c a2 p2 x0) hq 1 (by decide) _ _ _ _ _ _ _ _ rfl rfl rfl rfl 1 _ _ _ (fun g => sc (kaF (fun s d => nat3 x1 0 s (0 + d)) g)) (w_ks0 c a3 p3 x1 hk) rfl r
theorem w_b012 (hq : RQ x0) (hk : RM x1) (r : Fin 128) :
    (sl.v1455 c a2 p2 a3 p3 x0 x1) (ix2 0 r) = sc (qaF ((fun g s d => nat3 x0 0 s (0 + 128 * g + d)) (r.val % 4)) 1) * sc (kaF (fun s d => nat3 x1 0 s (0 + d)) 2) * ((LK : ℝ) : EReal) := by
  rw [i_b012]
  exact bt_in _ (nat3 x0 0) 0 (qB0_v c a2 p2 x0) hq 1 (by decide) _ _ _ _ _ _ _ _ rfl rfl rfl rfl 2 _ _ _ (fun g => sc (kaF (fun s d => nat3 x1 0 s (0 + d)) g)) (w_ks0 c a3 p3 x1 hk) rfl r
theorem w_b013 (hq : RQ x0) (hk : RM x1) (r : Fin 128) :
    (sl.v1460 c a2 p2 a3 p3 x0 x1) (ix2 0 r) = sc (qaF ((fun g s d => nat3 x0 0 s (0 + 128 * g + d)) (r.val % 4)) 1) * sc (kaF (fun s d => nat3 x1 0 s (0 + d)) 3) * ((LK : ℝ) : EReal) := by
  rw [i_b013]
  exact bt_in _ (nat3 x0 0) 0 (qB0_v c a2 p2 x0) hq 1 (by decide) _ _ _ _ _ _ _ _ rfl rfl rfl rfl 3 _ _ _ (fun g => sc (kaF (fun s d => nat3 x1 0 s (0 + d)) g)) (w_ks0 c a3 p3 x1 hk) rfl r
theorem e0_00 : (sl.v1584 c a2 p2 a3 p3 a4 p4 z x0 x1 x2) = bk00 (sl.v480 c a3 p3 x1) (sl.v1366 c a2 p2 a3 p3 a4 p4 z x0 x1 x2) (sl.v1377 c a2 p2 x0) (sl.v1403 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_01 : (sl.v1597 c a2 p2 a3 p3 a4 p4 z x0 x1 x2) = bk01 (sl.v480 c a3 p3 x1) (sl.v1366 c a2 p2 a3 p3 a4 p4 z x0 x1 x2) (sl.v1377 c a2 p2 x0) (sl.v1403 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_10 : (sl.v1733 c a2 p2 a3 p3 a4 p4 z x0 x1 x2) = bk10 (sl.v480 c a3 p3 x1) (sl.v1366 c a2 p2 a3 p3 a4 p4 z x0 x1 x2) (sl.v1377 c a2 p2 x0) (sl.v1403 c a2 p2 a3 p3 x0 x1) (sl.v1408 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_11 : (sl.v1746 c a2 p2 a3 p3 a4 p4 z x0 x1 x2) = bk11 (sl.v480 c a3 p3 x1) (sl.v1366 c a2 p2 a3 p3 a4 p4 z x0 x1 x2) (sl.v1377 c a2 p2 x0) (sl.v1403 c a2 p2 a3 p3 x0 x1) (sl.v1408 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_20 : (sl.v1888 c a2 p2 a3 p3 a4 p4 z x0 x1 x2) = bk20 (sl.v480 c a3 p3 x1) (sl.v1366 c a2 p2 a3 p3 a4 p4 z x0 x1 x2) (sl.v1419 c a2 p2 x0) (sl.v1445 c a2 p2 a3 p3 x0 x1) (sl.v1450 c a2 p2 a3 p3 x0 x1) (sl.v1455 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_21 : (sl.v1901 c a2 p2 a3 p3 a4 p4 z x0 x1 x2) = bk21 (sl.v480 c a3 p3 x1) (sl.v1366 c a2 p2 a3 p3 a4 p4 z x0 x1 x2) (sl.v1419 c a2 p2 x0) (sl.v1445 c a2 p2 a3 p3 x0 x1) (sl.v1450 c a2 p2 a3 p3 x0 x1) (sl.v1455 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_30 : (sl.v2046 c a2 p2 a3 p3 a4 p4 z x0 x1 x2) = bk30 (sl.v480 c a3 p3 x1) (sl.v1366 c a2 p2 a3 p3 a4 p4 z x0 x1 x2) (sl.v1419 c a2 p2 x0) (sl.v1445 c a2 p2 a3 p3 x0 x1) (sl.v1450 c a2 p2 a3 p3 x0 x1) (sl.v1455 c a2 p2 a3 p3 x0 x1) (sl.v1460 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
theorem e0_31 : (sl.v2059 c a2 p2 a3 p3 a4 p4 z x0 x1 x2) = bk31 (sl.v480 c a3 p3 x1) (sl.v1366 c a2 p2 a3 p3 a4 p4 z x0 x1 x2) (sl.v1419 c a2 p2 x0) (sl.v1445 c a2 p2 a3 p3 x0 x1) (sl.v1450 c a2 p2 a3 p3 x0 x1) (sl.v1455 c a2 p2 a3 p3 x0 x1) (sl.v1460 c a2 p2 a3 p3 x0 x1) (sl.v94 c a4 p4 x2) (extractStridedSlice S1x128 ![0, 0] (sl.v73 c a4 p4 x2) (by decide)) (extractStridedSlice S1x128 ![0, 0] (sl.v48 c a4 p4 x2) (by decide)) := rfl
/-- The first head of a block: the attention's output, the four query heads' rows interleaved. -/
theorem os_h0 (h0 : RE x0) (h1 : RE x1) (h2 : RE x2) (R : Fin 1024) (d : Fin 128) :
    View.canon (sl.HS1_8 c a2 p2 a3 p3 a4 p4 z x0 x1 x2) (ix2 R d) = oF (fun s d => nat3 x0 0 s (0 + 128 * (R.val % 4) + d)) (fun s d => nat3 x1 0 s (0 + d)) (fun s d => nat3 x2 0 s (0 + d)) (R.val / 4) d := by
  refine os_eight _ _ _ _ _ _ _ _ _ _ _ _ _ _ _ _ _ (fun j => oF ((fun g s d => nat3 x0 0 s (0 + 128 * g + d)) j) (fun s d => nat3 x1 0 s (0 + d)) (fun s d => nat3 x2 0 s (0 + d))) ?_ ?_ ?_ ?_ ?_ ?_ ?_ ?_ R d
  · rw [e0_00 c a2 p2 a3 a4 p3 p4 z x0 x1 x2]
    exact bk00_v _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m00 c a2 p2 x0 (rq h0)) (w_b000 c a2 p2 a3 p3 x0 x1 (rq h0) (rm h1)) (w_vc0 c a4 p4 x2 (rm h2)) (w_vs0 c a4 p4 x2 (rm h2)) (w_mv0 c a4 p4 x2)
  · rw [e0_01 c a2 p2 a3 a4 p3 p4 z x0 x1 x2]
    exact bk01_v _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m00 c a2 p2 x0 (rq h0)) (w_b000 c a2 p2 a3 p3 x0 x1 (rq h0) (rm h1)) (w_vc0 c a4 p4 x2 (rm h2)) (w_vs0 c a4 p4 x2 (rm h2)) (w_mv0 c a4 p4 x2)
  · rw [e0_10 c a2 p2 a3 a4 p3 p4 z x0 x1 x2]
    exact bk10_v _ _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m00 c a2 p2 x0 (rq h0)) (w_b000 c a2 p2 a3 p3 x0 x1 (rq h0) (rm h1)) (w_b001 c a2 p2 a3 p3 x0 x1 (rq h0) (rm h1)) (w_vc0 c a4 p4 x2 (rm h2)) (w_vs0 c a4 p4 x2 (rm h2)) (w_mv0 c a4 p4 x2)
  · rw [e0_11 c a2 p2 a3 a4 p3 p4 z x0 x1 x2]
    exact bk11_v _ _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m00 c a2 p2 x0 (rq h0)) (w_b000 c a2 p2 a3 p3 x0 x1 (rq h0) (rm h1)) (w_b001 c a2 p2 a3 p3 x0 x1 (rq h0) (rm h1)) (w_vc0 c a4 p4 x2 (rm h2)) (w_vs0 c a4 p4 x2 (rm h2)) (w_mv0 c a4 p4 x2)
  · rw [e0_20 c a2 p2 a3 a4 p3 p4 z x0 x1 x2]
    exact bk20_v _ _ _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m01 c a2 p2 x0 (rq h0)) (w_b010 c a2 p2 a3 p3 x0 x1 (rq h0) (rm h1)) (w_b011 c a2 p2 a3 p3 x0 x1 (rq h0) (rm h1)) (w_b012 c a2 p2 a3 p3 x0 x1 (rq h0) (rm h1)) (w_vc0 c a4 p4 x2 (rm h2)) (w_vs0 c a4 p4 x2 (rm h2)) (w_mv0 c a4 p4 x2)
  · rw [e0_21 c a2 p2 a3 a4 p3 p4 z x0 x1 x2]
    exact bk21_v _ _ _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m01 c a2 p2 x0 (rq h0)) (w_b010 c a2 p2 a3 p3 x0 x1 (rq h0) (rm h1)) (w_b011 c a2 p2 a3 p3 x0 x1 (rq h0) (rm h1)) (w_b012 c a2 p2 a3 p3 x0 x1 (rq h0) (rm h1)) (w_vc0 c a4 p4 x2 (rm h2)) (w_vs0 c a4 p4 x2 (rm h2)) (w_mv0 c a4 p4 x2)
  · rw [e0_30 c a2 p2 a3 a4 p3 p4 z x0 x1 x2]
    exact bk30_v _ _ _ _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m01 c a2 p2 x0 (rq h0)) (w_b010 c a2 p2 a3 p3 x0 x1 (rq h0) (rm h1)) (w_b011 c a2 p2 a3 p3 x0 x1 (rq h0) (rm h1)) (w_b012 c a2 p2 a3 p3 x0 x1 (rq h0) (rm h1)) (w_b013 c a2 p2 a3 p3 x0 x1 (rq h0) (rm h1)) (w_vc0 c a4 p4 x2 (rm h2)) (w_vs0 c a4 p4 x2 (rm h2)) (w_mv0 c a4 p4 x2)
  · rw [e0_31 c a2 p2 a3 a4 p3 p4 z x0 x1 x2]
    exact bk31_v _ _ _ _ _ _ _ _ _ _ (fun g s d => nat3 x0 0 s (0 + 128 * g + d)) (fun s d => nat3 x1 0 s (0 + d)) (fun s d => nat3 x2 0 s (0 + d)) (fun g s d => h0 _ _) (fun s d => h1 _ _) (fun s d => h2 _ _) (w_kc0 c a3 p3 x1 (rm h1)) (w_qc0 c a2 p2 a3 a4 p3 p4 z x0 x1 x2 (rq h0)) (w_m01 c a2 p2 x0 (rq h0)) (w_b010 c a2 p2 a3 p3 x0 x1 (rq h0) (rm h1)) (w_b011 c a2 p2 a3 p3 x0 x1 (rq h0) (rm h1)) (w_b012 c a2 p2 a3 p3 x0 x1 (rq h0) (rm h1)) (w_b013 c a2 p2 a3 p3 x0 x1 (rq h0) (rm h1)) (w_vc0 c a4 p4 x2 (rm h2)) (w_vs0 c a4 p4 x2 (rm h2)) (w_mv0 c a4 p4 x2)
/-! ## The second head -/
theorem i_kc1 : (sl.v567 c a3 p3 x1) = truncf .fp8e4m3 (kC 128 (by decide) (by decide) (by decide) (by decide) (by decide) (kB0 c a3 p3 x1) (kM0 c a3 p3 x1)) bitsLt_fp8e4m3_f32 := rfl
theorem i_qc1 : (sl.v2503 c a2 p2 a3 p3 a4 p4 z x0 x1 x2) = qcm z.view (sl.HS0_24 c a2 p2 a3 p3 a4 p4 x0 x1 x2) := rfl
theorem i_m10 : (sl.v2514 c a2 p2 x0) = mqa ![0, 0] (by decide) (mrow 0 (by decide) (by decide) (by decide) (by decide) (qM (qB1 c a2 p2 x0))) (qinv (qP (qB1 c a2 p2 x0))) := rfl
theorem i_m11 : (sl.v2556 c a2 p2 x0) = mqa ![4, 0] (by decide) (mrow 1 (by decide) (by decide) (by decide) (by decide) (qM (qB1 c a2 p2 x0))) (qinv (qP (qB1 c a2 p2 x0))) := rfl
theorem i_vc1 : (sl.v112 c a4 p4 x2) = truncf .fp8e4m3 (vC 128 (by decide) (by decide) (vB0 a4 p4 x2)) bitsLt_fp8e4m3_f32 := rfl
theorem i_b100 : (sl.v2540 c a2 p2 a3 p3 x0 x1) = bta (sqm ![0, 0] ![1, 0] ![2, 0] ![3, 0] (by decide) (by decide) (by decide) (by decide) (qsc (qP (qB1 c a2 p2 x0)))) ![0, 0] (by decide) (ksc (kP 128 (by decide) (kB0 c a3 p3 x1) (kM0 c a3 p3 x1))) := rfl
theorem i_b101 : (sl.v2545 c a2 p2 a3 p3 x0 x1) = bta (sqm ![0, 0] ![1, 0] ![2, 0] ![3, 0] (by decide) (by decide) (by decide) (by decide) (qsc (qP (qB1 c a2 p2 x0)))) ![1, 0] (by decide) (ksc (kP 128 (by decide) (kB0 c a3 p3 x1) (kM0 c a3 p3 x1))) := rfl
theorem i_b110 : (sl.v2582 c a2 p2 a3 p3 x0 x1) = bta (sqm ![4, 0] ![5, 0] ![6, 0] ![7, 0] (by decide) (by decide) (by decide) (by decide) (qsc (qP (qB1 c a2 p2 x0)))) ![0, 0] (by decide) (ksc (kP 128 (by decide) (kB0 c a3 p3 x1) (kM0 c a3 p3 x1))) := rfl
theorem i_b111 : (sl.v2587 c a2 p2 a3 p3 x0 x1) = bta (sqm ![4, 0] ![5, 0] ![6, 0] ![7, 0] (by decide) (by decide) (by decide) (by decide) (qsc (qP (qB1 c a2 p2 x0)))) ![1, 0] (by decide) (ksc (kP 128 (by decide) (kB0 c a3 p3 x1) (kM0 c a3 p3 x1))) := rfl
theorem i_b112 : (sl.v2592 c a2 p2 a3 p3 x0 x1) = bta (sqm ![4, 0] ![5, 0] ![6, 0] ![7, 0] (by decide) (by decide) (by decide) (by decide) (qsc (qP (qB1 c a2 p2 x0)))) ![2, 0] (by decide) (ksc (kP 128 (by decide) (kB0 c a3 p3 x1) (kM0 c a3 p3 x1))) := rfl
theorem i_b113 : (sl.v2597 c a2 p2 a3 p3 x0 x1) = bta (sqm ![4, 0] ![5, 0] ![6, 0] ![7, 0] (by decide) (by decide) (by decide) (by decide) (qsc (qP (qB1 c a2 p2 x0)))) ![3, 0] (by decide) (ksc (kP 128 (by decide) (kB0 c a3 p3 x1) (kM0 c a3 p3 x1))) := rfl

theorem w_kc1 (hk : RM x1) (s : Fin 256) (d : Fin 128) : (sl.v567 c a3 p3 x1) (ix2 s d) = kcF (fun s d => nat3 x1 0 s (128 + d)) s d := by
  rw [i_kc1]
  exact kC_v 128 _ _ _ _ _ _ _ (nat3 x1 0) 0 (kB0_v c a3 p3 x1) (v350_v c a3 p3 x1) hk 128 rfl s d
theorem w_ks1 (hk : RM x1) (g : Fin 4) : (ksc (kP 128 (by decide) (kB0 c a3 p3 x1) (kM0 c a3 p3 x1))) (ix2 g 0) = sc (kaF (fun s d => nat3 x1 0 s (128 + d)) g) :=
  ksc_v _ g _ (kP_v 128 _ _ _ (nat3 x1 0) 0 (kB0_v c a3 p3 x1) (v350_v c a3 p3 x1) hk 128 rfl g)
theorem w_qc1 (hq : RQ x0) (r : Fin 1024) (d : Fin 128) : (sl.v2503 c a2 p2 a3 p3 a4 p4 z x0 x1 x2) (ix2 r d) = qcF ((fun g s d => nat3 x0 0 s (512 + 128 * g + d)) (r.val % 4)) (r.val / 4) d := by
  rw [i_qc1]
  exact (qcm_v _ _ r d).trans (il_q1 c a2 p2 a3 a4 p3 p4 x0 x1 x2 hq r d)
theorem w_vc1 (hv : RM x2) (s : Fin 256) (d : Fin 128) : (sl.v112 c a4 p4 x2) (ix2 s d) = vcF (fun s d => nat3 x2 0 s (128 + d)) s d := by
  rw [i_vc1]
  exact vC_v 128 _ _ _ (nat3 x2 0) 0 (ld_0 a4 p4 x2) hv 128 rfl s d
theorem w_vs1 (hv : RM x2) (d : Fin 128) : (extractStridedSlice S1x128 ![0, 128] (sl.v73 c a4 p4 x2) (by decide)) (ix2 0 d) = sc (vaF (fun s d => nat3 x2 0 s (128 + d)) d) :=
  sl_v _ _ _ (fun j => sc (vaF (nat3 x2 0) j)) 0 (v73_v c a4 p4 x2 hv) 128 rfl d
theorem w_mv1 (d : Fin 128) : (extractStridedSlice S1x128 ![0, 128] (sl.v48 c a4 p4 x2) (by decide)) (ix2 0 d) = mvF (fun s d => nat3 x2 0 s (128 + d)) d :=
  sl_v _ _ _ (mvF (nat3 x2 0)) 0 (v48_v c a4 p4 x2) 128 rfl d
theorem w_m10 (hq : RQ x0) (l : Fin 256) (d : Fin 128) : (sl.v2514 c a2 p2 x0) (ix2 l d) = mqF ((fun g s d => nat3 x0 0 s (512 + 128 * g + d)) (l.val % 4)) 0 d * sinv (qaF ((fun g s d => nat3 x0 0 s (512 + 128 * g + d)) (l.val % 4)) 0) := by
  rw [i_m10]
  exact mq_in _ (nat3 x0 0) 512 (qB1_v c a2 p2 x0) hq 0 (by decide) _ _ _ _ _ _ rfl l d
theorem w_m11 (hq : RQ x0) (l : Fin 256) (d : Fin 128) : (sl.v2556 c a2 p2 x0) (ix2 l d) = mqF ((fun g s d => nat3 x0 0 s (512 + 128 * g + d)) (l.val % 4)) 1 d * sinv (qaF ((fun g s d => nat3 x0 0 s (512 + 128 * g + d)) (l.val % 4)) 1) := by
  rw [i_m11]
  exact mq_in _ (nat3 x0 0) 512 (qB1_v c a2 p2 x0) hq 1 (by decide) _ _ _ _ _ _ rfl l d
theorem w_b100 (hq : RQ x0) (hk : RM x1) (r : Fin 128) :
    (sl.v2540 c a2 p2 a3 p3 x0 x1) (ix2 0 r) = sc (qaF ((fun g s d => nat3 x0 0 s (512 + 128 * g + d)) (r.val % 4)) 0) * sc (kaF (fun s d => nat3 x1 0 s (128 + d)) 0) * ((LK : ℝ) : EReal) := by
  rw [i_b100]
  exact bt_in _ (nat3 x0 0) 512 (qB1_v c a2 p2 x0) hq 0 (by decide) _ _ _ _ _ _ _ _ rfl rfl rfl rfl 0 _ _ _ (fun g => sc (kaF (fun s d => nat3 x1 0 s (128 + d)) g)) (w_ks1 c a3 p3 x1 hk) rfl r
theorem w_b101 (hq : RQ x0) (hk : RM x1) (r : Fin 128) :
    (sl.v2545 c a2 p2 a3 p3 x0 x1) (ix2 0 r) = sc (qaF ((fun g s d => nat3 x0 0 s (512 + 128 * g + d)) (r.val % 4)) 0) * sc (kaF (fun s d => nat3 x1 0 s (128 + d)) 1) * ((LK : ℝ) : EReal) := by
  rw [i_b101]
  exact bt_in _ (nat3 x0 0) 512 (qB1_v c a2 p2 x0) hq 0 (by decide) _ _ _ _ _ _ _ _ rfl rfl rfl rfl 1 _ _ _ (fun g => sc (kaF (fun s d => nat3 x1 0 s (128 + d)) g)) (w_ks1 c a3 p3 x1 hk) rfl r
theorem w_b110 (hq : RQ x0) (hk : RM x1) (r : Fin 128) :
    (sl.v2582 c a2 p2 a3 p3 x0 x1) (ix2 0 r) = sc (qaF ((fun g s d => nat3 x0 0 s (512 + 128 * g + d)) (r.val % 4)) 1) * sc (kaF (fun s d => nat3 x1 0 s (128 + d)) 0) * ((LK : ℝ) : EReal) := by
  rw [i_b110]
  exact bt_in _ (nat3 x0 0) 512 (qB1_v c a2 p2 x0) hq 1 (by decide) _ _ _ _ _ _ _ _ rfl rfl rfl rfl 0 _ _ _ (fun g => sc (kaF (fun s d => nat3 x1 0 s (128 + d)) g)) (w_ks1 c a3 p3 x1 hk) rfl r
theorem w_b111 (hq : RQ x0) (hk : RM x1) (r : Fin 128) :
    (sl.v2587 c a2 p2 a3 p3 x0 x1) (ix2 0 r) = sc (qaF ((fun g s d => nat3 x0 0 s (512 + 128 * g + d)) (r.val % 4)) 1) * sc (kaF (fun s d => nat3 x1 0 s (128 + d)) 1) * ((LK : ℝ) : EReal) := by
  rw [i_b111]
  exact bt_in _ (nat3 x0 0) 512 (qB1_v c a2 p2 x0) hq 1 (by decide) _ _ _ _ _ _ _ _ rfl rfl rfl rfl 1 _ _ _ (fun g => sc (kaF (fun s d => nat3 x1 0 s (128 + d)) g)) (w_ks1 c a3 p3 x1 hk) rfl r
theorem w_b112 (hq : RQ x0) (hk : RM x1) (r : Fin 128) :
    (sl.v2592 c a2 p2 a3 p3 x0 x1) (ix2 0 r) = sc (qaF ((fun g s d => nat3 x0 0 s (512 + 128 * g + d)) (r.val % 4)) 1) * sc (kaF (fun s d => nat3 x1 0 s (128 + d)) 2) * ((LK : ℝ) : EReal) := by
  rw [i_b112]
  exact bt_in _ (nat3 x0 0) 512 (qB1_v c a2 p2 x0) hq 1 (by decide) _ _ _ _ _ _ _ _ rfl rfl rfl rfl 2 _ _ _ (fun g => sc (kaF (fun s d => nat3 x1 0 s (128 + d)) g)) (w_ks1 c a3 p3 x1 hk) rfl r
theorem w_b113 (hq : RQ x0) (hk : RM x1) (r : Fin 128) :
    (sl.v2597 c a2 p2 a3 p3 x0 x1) (ix2 0 r) = sc (qaF ((fun g s d => nat3 x0 0 s (512 + 128 * g + d)) (r.val % 4)) 1) * sc (kaF (fun s d => nat3 x1 0 s (128 + d)) 3) * ((LK : ℝ) : EReal) := by
  rw [i_b113]
  exact bt_in _ (nat3 x0 0) 512 (qB1_v c a2 p2 x0) hq 1 (by decide) _ _ _ _ _ _ _ _ rfl rfl rfl rfl 3 _ _ _ (fun g => sc (kaF (fun s d => nat3 x1 0 s (128 + d)) g)) (w_ks1 c a3 p3 x1 hk) rfl r
theorem e1_00 : (sl.v2721 c a2 p2 a3 p3 a4 p4 z x0 x1 x2) = bk00 (sl.v567 c a3 p3 x1) (sl.v2503 c a2 p2 a3 p3 a4 p4 z x0 x1 x2) (sl.v2514 c a2 p2 x0) (sl.v2540 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_01 : (sl.v2734 c a2 p2 a3 p3 a4 p4 z x0 x1 x2) = bk01 (sl.v567 c a3 p3 x1) (sl.v2503 c a2 p2 a3 p3 a4 p4 z x0 x1 x2) (sl.v2514 c a2 p2 x0) (sl.v2540 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_10 : (sl.v2870 c a2 p2 a3 p3 a4 p4 z x0 x1 x2) = bk10 (sl.v567 c a3 p3 x1) (sl.v2503 c a2 p2 a3 p3 a4 p4 z x0 x1 x2) (sl.v2514 c a2 p2 x0) (sl.v2540 c a2 p2 a3 p3 x0 x1) (sl.v2545 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_11 : (sl.v2883 c a2 p2 a3 p3 a4 p4 z x0 x1 x2) = bk11 (sl.v567 c a3 p3 x1) (sl.v2503 c a2 p2 a3 p3 a4 p4 z x0 x1 x2) (sl.v2514 c a2 p2 x0) (sl.v2540 c a2 p2 a3 p3 x0 x1) (sl.v2545 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_20 : (sl.v3025 c a2 p2 a3 p3 a4 p4 z x0 x1 x2) = bk20 (sl.v567 c a3 p3 x1) (sl.v2503 c a2 p2 a3 p3 a4 p4 z x0 x1 x2) (sl.v2556 c a2 p2 x0) (sl.v2582 c a2 p2 a3 p3 x0 x1) (sl.v2587 c a2 p2 a3 p3 x0 x1) (sl.v2592 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_21 : (sl.v3038 c a2 p2 a3 p3 a4 p4 z x0 x1 x2) = bk21 (sl.v567 c a3 p3 x1) (sl.v2503 c a2 p2 a3 p3 a4 p4 z x0 x1 x2) (sl.v2556 c a2 p2 x0) (sl.v2582 c a2 p2 a3 p3 x0 x1) (sl.v2587 c a2 p2 a3 p3 x0 x1) (sl.v2592 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_30 : (sl.v3183 c a2 p2 a3 p3 a4 p4 z x0 x1 x2) = bk30 (sl.v567 c a3 p3 x1) (sl.v2503 c a2 p2 a3 p3 a4 p4 z x0 x1 x2) (sl.v2556 c a2 p2 x0) (sl.v2582 c a2 p2 a3 p3 x0 x1) (sl.v2587 c a2 p2 a3 p3 x0 x1) (sl.v2592 c a2 p2 a3 p3 x0 x1) (sl.v2597 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
theorem e1_31 : (sl.v3196 c a2 p2 a3 p3 a4 p4 z x0 x1 x2) = bk31 (sl.v567 c a3 p3 x1) (sl.v2503 c a2 p2 a3 p3 a4 p4 z x0 x1 x2) (sl.v2556 c a2 p2 x0) (sl.v2582 c a2 p2 a3 p3 x0 x1) (sl.v2587 c a2 p2 a3 p3 x0 x1) (sl.v2592 c a2 p2 a3 p3 x0 x1) (sl.v2597 c a2 p2 a3 p3 x0 x1) (sl.v112 c a4 p4 x2) (extractStridedSlice S1x128 ![0, 128] (sl.v73 c a4 p4 x2) (by decide)) (extractStridedSlice S1x128 ![0, 128] (sl.v48 c a4 p4 x2) (by decide)) := rfl
/-- The second head of a block: the attention's output, the four query heads' rows interleaved. -/
theorem os_h1 (h0 : RE x0) (h1 : RE x1) (h2 : RE x2) (R : Fin 1024) (d : Fin 128) :
    View.canon (sl.HS1_16 c a2 p2 a3 p3 a4 p4 z x0 x1 x2) (ix2 R d) = oF (fun s d => nat3 x0 0 s (512 + 128 * (R.val % 4) + d)) (fun s d => nat3 x1 0 s (128 + d)) (fun s d => nat3 x2 0 s (128 + d)) (R.val / 4) d := by
  refine os_eight _ _ _ _ _ _ _ _ _ _ _ _ _ _ _ _ _ (fun j => oF ((fun g s d => nat3 x0 0 s (512 + 128 * g + d)) j) (fun s d => nat3 x1 0 s (128 + d)) (fun s d => nat3 x2 0 s (128 + d))) ?_ ?_ ?_ ?_ ?_ ?_ ?_ ?_ R d
  · rw [e1_00 c a2 p2 a3 a4 p3 p4 z x0 x1 x2]
    exact bk00_v _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m10 c a2 p2 x0 (rq h0)) (w_b100 c a2 p2 a3 p3 x0 x1 (rq h0) (rm h1)) (w_vc1 c a4 p4 x2 (rm h2)) (w_vs1 c a4 p4 x2 (rm h2)) (w_mv1 c a4 p4 x2)
  · rw [e1_01 c a2 p2 a3 a4 p3 p4 z x0 x1 x2]
    exact bk01_v _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m10 c a2 p2 x0 (rq h0)) (w_b100 c a2 p2 a3 p3 x0 x1 (rq h0) (rm h1)) (w_vc1 c a4 p4 x2 (rm h2)) (w_vs1 c a4 p4 x2 (rm h2)) (w_mv1 c a4 p4 x2)
  · rw [e1_10 c a2 p2 a3 a4 p3 p4 z x0 x1 x2]
    exact bk10_v _ _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m10 c a2 p2 x0 (rq h0)) (w_b100 c a2 p2 a3 p3 x0 x1 (rq h0) (rm h1)) (w_b101 c a2 p2 a3 p3 x0 x1 (rq h0) (rm h1)) (w_vc1 c a4 p4 x2 (rm h2)) (w_vs1 c a4 p4 x2 (rm h2)) (w_mv1 c a4 p4 x2)
  · rw [e1_11 c a2 p2 a3 a4 p3 p4 z x0 x1 x2]
    exact bk11_v _ _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m10 c a2 p2 x0 (rq h0)) (w_b100 c a2 p2 a3 p3 x0 x1 (rq h0) (rm h1)) (w_b101 c a2 p2 a3 p3 x0 x1 (rq h0) (rm h1)) (w_vc1 c a4 p4 x2 (rm h2)) (w_vs1 c a4 p4 x2 (rm h2)) (w_mv1 c a4 p4 x2)
  · rw [e1_20 c a2 p2 a3 a4 p3 p4 z x0 x1 x2]
    exact bk20_v _ _ _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m11 c a2 p2 x0 (rq h0)) (w_b110 c a2 p2 a3 p3 x0 x1 (rq h0) (rm h1)) (w_b111 c a2 p2 a3 p3 x0 x1 (rq h0) (rm h1)) (w_b112 c a2 p2 a3 p3 x0 x1 (rq h0) (rm h1)) (w_vc1 c a4 p4 x2 (rm h2)) (w_vs1 c a4 p4 x2 (rm h2)) (w_mv1 c a4 p4 x2)
  · rw [e1_21 c a2 p2 a3 a4 p3 p4 z x0 x1 x2]
    exact bk21_v _ _ _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m11 c a2 p2 x0 (rq h0)) (w_b110 c a2 p2 a3 p3 x0 x1 (rq h0) (rm h1)) (w_b111 c a2 p2 a3 p3 x0 x1 (rq h0) (rm h1)) (w_b112 c a2 p2 a3 p3 x0 x1 (rq h0) (rm h1)) (w_vc1 c a4 p4 x2 (rm h2)) (w_vs1 c a4 p4 x2 (rm h2)) (w_mv1 c a4 p4 x2)
  · rw [e1_30 c a2 p2 a3 a4 p3 p4 z x0 x1 x2]
    exact bk30_v _ _ _ _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m11 c a2 p2 x0 (rq h0)) (w_b110 c a2 p2 a3 p3 x0 x1 (rq h0) (rm h1)) (w_b111 c a2 p2 a3 p3 x0 x1 (rq h0) (rm h1)) (w_b112 c a2 p2 a3 p3 x0 x1 (rq h0) (rm h1)) (w_b113 c a2 p2 a3 p3 x0 x1 (rq h0) (rm h1)) (w_vc1 c a4 p4 x2 (rm h2)) (w_vs1 c a4 p4 x2 (rm h2)) (w_mv1 c a4 p4 x2)
  · rw [e1_31 c a2 p2 a3 a4 p3 p4 z x0 x1 x2]
    exact bk31_v _ _ _ _ _ _ _ _ _ _ (fun g s d => nat3 x0 0 s (512 + 128 * g + d)) (fun s d => nat3 x1 0 s (128 + d)) (fun s d => nat3 x2 0 s (128 + d)) (fun g s d => h0 _ _) (fun s d => h1 _ _) (fun s d => h2 _ _) (w_kc1 c a3 p3 x1 (rm h1)) (w_qc1 c a2 p2 a3 a4 p3 p4 z x0 x1 x2 (rq h0)) (w_m11 c a2 p2 x0 (rq h0)) (w_b110 c a2 p2 a3 p3 x0 x1 (rq h0) (rm h1)) (w_b111 c a2 p2 a3 p3 x0 x1 (rq h0) (rm h1)) (w_b112 c a2 p2 a3 p3 x0 x1 (rq h0) (rm h1)) (w_b113 c a2 p2 a3 p3 x0 x1 (rq h0) (rm h1)) (w_vc1 c a4 p4 x2 (rm h2)) (w_vs1 c a4 p4 x2 (rm h2)) (w_mv1 c a4 p4 x2)
/-! ## The third head -/
theorem i_kc2 : (sl.v654 c a3 p3 x1) = truncf .fp8e4m3 (kC 256 (by decide) (by decide) (by decide) (by decide) (by decide) (kB0 c a3 p3 x1) (kM0 c a3 p3 x1)) bitsLt_fp8e4m3_f32 := rfl
theorem i_qc2 : (sl.v3640 c a2 p2 a3 p3 a4 p4 z x0 x1 x2) = qcm z.view (sl.HS0_32 c a2 p2 a3 p3 a4 p4 x0 x1 x2) := rfl
theorem i_m20 : (sl.v3651 c a2 p2 x0) = mqa ![0, 0] (by decide) (mrow 0 (by decide) (by decide) (by decide) (by decide) (qM (qB2 c a2 p2 x0))) (qinv (qP (qB2 c a2 p2 x0))) := rfl
theorem i_m21 : (sl.v3693 c a2 p2 x0) = mqa ![4, 0] (by decide) (mrow 1 (by decide) (by decide) (by decide) (by decide) (qM (qB2 c a2 p2 x0))) (qinv (qP (qB2 c a2 p2 x0))) := rfl
theorem i_vc2 : (sl.v130 c a4 p4 x2) = truncf .fp8e4m3 (vC 256 (by decide) (by decide) (vB0 a4 p4 x2)) bitsLt_fp8e4m3_f32 := rfl
theorem i_b200 : (sl.v3677 c a2 p2 a3 p3 x0 x1) = bta (sqm ![0, 0] ![1, 0] ![2, 0] ![3, 0] (by decide) (by decide) (by decide) (by decide) (qsc (qP (qB2 c a2 p2 x0)))) ![0, 0] (by decide) (ksc (kP 256 (by decide) (kB0 c a3 p3 x1) (kM0 c a3 p3 x1))) := rfl
theorem i_b201 : (sl.v3682 c a2 p2 a3 p3 x0 x1) = bta (sqm ![0, 0] ![1, 0] ![2, 0] ![3, 0] (by decide) (by decide) (by decide) (by decide) (qsc (qP (qB2 c a2 p2 x0)))) ![1, 0] (by decide) (ksc (kP 256 (by decide) (kB0 c a3 p3 x1) (kM0 c a3 p3 x1))) := rfl
theorem i_b210 : (sl.v3719 c a2 p2 a3 p3 x0 x1) = bta (sqm ![4, 0] ![5, 0] ![6, 0] ![7, 0] (by decide) (by decide) (by decide) (by decide) (qsc (qP (qB2 c a2 p2 x0)))) ![0, 0] (by decide) (ksc (kP 256 (by decide) (kB0 c a3 p3 x1) (kM0 c a3 p3 x1))) := rfl
theorem i_b211 : (sl.v3724 c a2 p2 a3 p3 x0 x1) = bta (sqm ![4, 0] ![5, 0] ![6, 0] ![7, 0] (by decide) (by decide) (by decide) (by decide) (qsc (qP (qB2 c a2 p2 x0)))) ![1, 0] (by decide) (ksc (kP 256 (by decide) (kB0 c a3 p3 x1) (kM0 c a3 p3 x1))) := rfl
theorem i_b212 : (sl.v3729 c a2 p2 a3 p3 x0 x1) = bta (sqm ![4, 0] ![5, 0] ![6, 0] ![7, 0] (by decide) (by decide) (by decide) (by decide) (qsc (qP (qB2 c a2 p2 x0)))) ![2, 0] (by decide) (ksc (kP 256 (by decide) (kB0 c a3 p3 x1) (kM0 c a3 p3 x1))) := rfl
theorem i_b213 : (sl.v3734 c a2 p2 a3 p3 x0 x1) = bta (sqm ![4, 0] ![5, 0] ![6, 0] ![7, 0] (by decide) (by decide) (by decide) (by decide) (qsc (qP (qB2 c a2 p2 x0)))) ![3, 0] (by decide) (ksc (kP 256 (by decide) (kB0 c a3 p3 x1) (kM0 c a3 p3 x1))) := rfl

theorem w_kc2 (hk : RM x1) (s : Fin 256) (d : Fin 128) : (sl.v654 c a3 p3 x1) (ix2 s d) = kcF (fun s d => nat3 x1 0 s (256 + d)) s d := by
  rw [i_kc2]
  exact kC_v 256 _ _ _ _ _ _ _ (nat3 x1 0) 0 (kB0_v c a3 p3 x1) (v350_v c a3 p3 x1) hk 256 rfl s d
theorem w_ks2 (hk : RM x1) (g : Fin 4) : (ksc (kP 256 (by decide) (kB0 c a3 p3 x1) (kM0 c a3 p3 x1))) (ix2 g 0) = sc (kaF (fun s d => nat3 x1 0 s (256 + d)) g) :=
  ksc_v _ g _ (kP_v 256 _ _ _ (nat3 x1 0) 0 (kB0_v c a3 p3 x1) (v350_v c a3 p3 x1) hk 256 rfl g)
theorem w_qc2 (hq : RQ x0) (r : Fin 1024) (d : Fin 128) : (sl.v3640 c a2 p2 a3 p3 a4 p4 z x0 x1 x2) (ix2 r d) = qcF ((fun g s d => nat3 x0 0 s (1024 + 128 * g + d)) (r.val % 4)) (r.val / 4) d := by
  rw [i_qc2]
  exact (qcm_v _ _ r d).trans (il_q2 c a2 p2 a3 a4 p3 p4 x0 x1 x2 hq r d)
theorem w_vc2 (hv : RM x2) (s : Fin 256) (d : Fin 128) : (sl.v130 c a4 p4 x2) (ix2 s d) = vcF (fun s d => nat3 x2 0 s (256 + d)) s d := by
  rw [i_vc2]
  exact vC_v 256 _ _ _ (nat3 x2 0) 0 (ld_0 a4 p4 x2) hv 256 rfl s d
theorem w_vs2 (hv : RM x2) (d : Fin 128) : (extractStridedSlice S1x128 ![0, 256] (sl.v73 c a4 p4 x2) (by decide)) (ix2 0 d) = sc (vaF (fun s d => nat3 x2 0 s (256 + d)) d) :=
  sl_v _ _ _ (fun j => sc (vaF (nat3 x2 0) j)) 0 (v73_v c a4 p4 x2 hv) 256 rfl d
theorem w_mv2 (d : Fin 128) : (extractStridedSlice S1x128 ![0, 256] (sl.v48 c a4 p4 x2) (by decide)) (ix2 0 d) = mvF (fun s d => nat3 x2 0 s (256 + d)) d :=
  sl_v _ _ _ (mvF (nat3 x2 0)) 0 (v48_v c a4 p4 x2) 256 rfl d
theorem w_m20 (hq : RQ x0) (l : Fin 256) (d : Fin 128) : (sl.v3651 c a2 p2 x0) (ix2 l d) = mqF ((fun g s d => nat3 x0 0 s (1024 + 128 * g + d)) (l.val % 4)) 0 d * sinv (qaF ((fun g s d => nat3 x0 0 s (1024 + 128 * g + d)) (l.val % 4)) 0) := by
  rw [i_m20]
  exact mq_in _ (nat3 x0 0) 1024 (qB2_v c a2 p2 x0) hq 0 (by decide) _ _ _ _ _ _ rfl l d
theorem w_m21 (hq : RQ x0) (l : Fin 256) (d : Fin 128) : (sl.v3693 c a2 p2 x0) (ix2 l d) = mqF ((fun g s d => nat3 x0 0 s (1024 + 128 * g + d)) (l.val % 4)) 1 d * sinv (qaF ((fun g s d => nat3 x0 0 s (1024 + 128 * g + d)) (l.val % 4)) 1) := by
  rw [i_m21]
  exact mq_in _ (nat3 x0 0) 1024 (qB2_v c a2 p2 x0) hq 1 (by decide) _ _ _ _ _ _ rfl l d
theorem w_b200 (hq : RQ x0) (hk : RM x1) (r : Fin 128) :
    (sl.v3677 c a2 p2 a3 p3 x0 x1) (ix2 0 r) = sc (qaF ((fun g s d => nat3 x0 0 s (1024 + 128 * g + d)) (r.val % 4)) 0) * sc (kaF (fun s d => nat3 x1 0 s (256 + d)) 0) * ((LK : ℝ) : EReal) := by
  rw [i_b200]
  exact bt_in _ (nat3 x0 0) 1024 (qB2_v c a2 p2 x0) hq 0 (by decide) _ _ _ _ _ _ _ _ rfl rfl rfl rfl 0 _ _ _ (fun g => sc (kaF (fun s d => nat3 x1 0 s (256 + d)) g)) (w_ks2 c a3 p3 x1 hk) rfl r
theorem w_b201 (hq : RQ x0) (hk : RM x1) (r : Fin 128) :
    (sl.v3682 c a2 p2 a3 p3 x0 x1) (ix2 0 r) = sc (qaF ((fun g s d => nat3 x0 0 s (1024 + 128 * g + d)) (r.val % 4)) 0) * sc (kaF (fun s d => nat3 x1 0 s (256 + d)) 1) * ((LK : ℝ) : EReal) := by
  rw [i_b201]
  exact bt_in _ (nat3 x0 0) 1024 (qB2_v c a2 p2 x0) hq 0 (by decide) _ _ _ _ _ _ _ _ rfl rfl rfl rfl 1 _ _ _ (fun g => sc (kaF (fun s d => nat3 x1 0 s (256 + d)) g)) (w_ks2 c a3 p3 x1 hk) rfl r
theorem w_b210 (hq : RQ x0) (hk : RM x1) (r : Fin 128) :
    (sl.v3719 c a2 p2 a3 p3 x0 x1) (ix2 0 r) = sc (qaF ((fun g s d => nat3 x0 0 s (1024 + 128 * g + d)) (r.val % 4)) 1) * sc (kaF (fun s d => nat3 x1 0 s (256 + d)) 0) * ((LK : ℝ) : EReal) := by
  rw [i_b210]
  exact bt_in _ (nat3 x0 0) 1024 (qB2_v c a2 p2 x0) hq 1 (by decide) _ _ _ _ _ _ _ _ rfl rfl rfl rfl 0 _ _ _ (fun g => sc (kaF (fun s d => nat3 x1 0 s (256 + d)) g)) (w_ks2 c a3 p3 x1 hk) rfl r
theorem w_b211 (hq : RQ x0) (hk : RM x1) (r : Fin 128) :
    (sl.v3724 c a2 p2 a3 p3 x0 x1) (ix2 0 r) = sc (qaF ((fun g s d => nat3 x0 0 s (1024 + 128 * g + d)) (r.val % 4)) 1) * sc (kaF (fun s d => nat3 x1 0 s (256 + d)) 1) * ((LK : ℝ) : EReal) := by
  rw [i_b211]
  exact bt_in _ (nat3 x0 0) 1024 (qB2_v c a2 p2 x0) hq 1 (by decide) _ _ _ _ _ _ _ _ rfl rfl rfl rfl 1 _ _ _ (fun g => sc (kaF (fun s d => nat3 x1 0 s (256 + d)) g)) (w_ks2 c a3 p3 x1 hk) rfl r
theorem w_b212 (hq : RQ x0) (hk : RM x1) (r : Fin 128) :
    (sl.v3729 c a2 p2 a3 p3 x0 x1) (ix2 0 r) = sc (qaF ((fun g s d => nat3 x0 0 s (1024 + 128 * g + d)) (r.val % 4)) 1) * sc (kaF (fun s d => nat3 x1 0 s (256 + d)) 2) * ((LK : ℝ) : EReal) := by
  rw [i_b212]
  exact bt_in _ (nat3 x0 0) 1024 (qB2_v c a2 p2 x0) hq 1 (by decide) _ _ _ _ _ _ _ _ rfl rfl rfl rfl 2 _ _ _ (fun g => sc (kaF (fun s d => nat3 x1 0 s (256 + d)) g)) (w_ks2 c a3 p3 x1 hk) rfl r
theorem w_b213 (hq : RQ x0) (hk : RM x1) (r : Fin 128) :
    (sl.v3734 c a2 p2 a3 p3 x0 x1) (ix2 0 r) = sc (qaF ((fun g s d => nat3 x0 0 s (1024 + 128 * g + d)) (r.val % 4)) 1) * sc (kaF (fun s d => nat3 x1 0 s (256 + d)) 3) * ((LK : ℝ) : EReal) := by
  rw [i_b213]
  exact bt_in _ (nat3 x0 0) 1024 (qB2_v c a2 p2 x0) hq 1 (by decide) _ _ _ _ _ _ _ _ rfl rfl rfl rfl 3 _ _ _ (fun g => sc (kaF (fun s d => nat3 x1 0 s (256 + d)) g)) (w_ks2 c a3 p3 x1 hk) rfl r
theorem e2_00 : (sl.v3858 c a2 p2 a3 p3 a4 p4 z x0 x1 x2) = bk00 (sl.v654 c a3 p3 x1) (sl.v3640 c a2 p2 a3 p3 a4 p4 z x0 x1 x2) (sl.v3651 c a2 p2 x0) (sl.v3677 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_01 : (sl.v3871 c a2 p2 a3 p3 a4 p4 z x0 x1 x2) = bk01 (sl.v654 c a3 p3 x1) (sl.v3640 c a2 p2 a3 p3 a4 p4 z x0 x1 x2) (sl.v3651 c a2 p2 x0) (sl.v3677 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_10 : (sl.v4007 c a2 p2 a3 p3 a4 p4 z x0 x1 x2) = bk10 (sl.v654 c a3 p3 x1) (sl.v3640 c a2 p2 a3 p3 a4 p4 z x0 x1 x2) (sl.v3651 c a2 p2 x0) (sl.v3677 c a2 p2 a3 p3 x0 x1) (sl.v3682 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_11 : (sl.v4020 c a2 p2 a3 p3 a4 p4 z x0 x1 x2) = bk11 (sl.v654 c a3 p3 x1) (sl.v3640 c a2 p2 a3 p3 a4 p4 z x0 x1 x2) (sl.v3651 c a2 p2 x0) (sl.v3677 c a2 p2 a3 p3 x0 x1) (sl.v3682 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_20 : (sl.v4162 c a2 p2 a3 p3 a4 p4 z x0 x1 x2) = bk20 (sl.v654 c a3 p3 x1) (sl.v3640 c a2 p2 a3 p3 a4 p4 z x0 x1 x2) (sl.v3693 c a2 p2 x0) (sl.v3719 c a2 p2 a3 p3 x0 x1) (sl.v3724 c a2 p2 a3 p3 x0 x1) (sl.v3729 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_21 : (sl.v4175 c a2 p2 a3 p3 a4 p4 z x0 x1 x2) = bk21 (sl.v654 c a3 p3 x1) (sl.v3640 c a2 p2 a3 p3 a4 p4 z x0 x1 x2) (sl.v3693 c a2 p2 x0) (sl.v3719 c a2 p2 a3 p3 x0 x1) (sl.v3724 c a2 p2 a3 p3 x0 x1) (sl.v3729 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_30 : (sl.v4320 c a2 p2 a3 p3 a4 p4 z x0 x1 x2) = bk30 (sl.v654 c a3 p3 x1) (sl.v3640 c a2 p2 a3 p3 a4 p4 z x0 x1 x2) (sl.v3693 c a2 p2 x0) (sl.v3719 c a2 p2 a3 p3 x0 x1) (sl.v3724 c a2 p2 a3 p3 x0 x1) (sl.v3729 c a2 p2 a3 p3 x0 x1) (sl.v3734 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
theorem e2_31 : (sl.v4333 c a2 p2 a3 p3 a4 p4 z x0 x1 x2) = bk31 (sl.v654 c a3 p3 x1) (sl.v3640 c a2 p2 a3 p3 a4 p4 z x0 x1 x2) (sl.v3693 c a2 p2 x0) (sl.v3719 c a2 p2 a3 p3 x0 x1) (sl.v3724 c a2 p2 a3 p3 x0 x1) (sl.v3729 c a2 p2 a3 p3 x0 x1) (sl.v3734 c a2 p2 a3 p3 x0 x1) (sl.v130 c a4 p4 x2) (extractStridedSlice S1x128 ![0, 256] (sl.v73 c a4 p4 x2) (by decide)) (extractStridedSlice S1x128 ![0, 256] (sl.v48 c a4 p4 x2) (by decide)) := rfl
/-- The third head of a block: the attention's output, the four query heads' rows interleaved. -/
theorem os_h2 (h0 : RE x0) (h1 : RE x1) (h2 : RE x2) (R : Fin 1024) (d : Fin 128) :
    View.canon (sl.HS1_24 c a2 p2 a3 p3 a4 p4 z x0 x1 x2) (ix2 R d) = oF (fun s d => nat3 x0 0 s (1024 + 128 * (R.val % 4) + d)) (fun s d => nat3 x1 0 s (256 + d)) (fun s d => nat3 x2 0 s (256 + d)) (R.val / 4) d := by
  refine os_eight _ _ _ _ _ _ _ _ _ _ _ _ _ _ _ _ _ (fun j => oF ((fun g s d => nat3 x0 0 s (1024 + 128 * g + d)) j) (fun s d => nat3 x1 0 s (256 + d)) (fun s d => nat3 x2 0 s (256 + d))) ?_ ?_ ?_ ?_ ?_ ?_ ?_ ?_ R d
  · rw [e2_00 c a2 p2 a3 a4 p3 p4 z x0 x1 x2]
    exact bk00_v _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m20 c a2 p2 x0 (rq h0)) (w_b200 c a2 p2 a3 p3 x0 x1 (rq h0) (rm h1)) (w_vc2 c a4 p4 x2 (rm h2)) (w_vs2 c a4 p4 x2 (rm h2)) (w_mv2 c a4 p4 x2)
  · rw [e2_01 c a2 p2 a3 a4 p3 p4 z x0 x1 x2]
    exact bk01_v _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m20 c a2 p2 x0 (rq h0)) (w_b200 c a2 p2 a3 p3 x0 x1 (rq h0) (rm h1)) (w_vc2 c a4 p4 x2 (rm h2)) (w_vs2 c a4 p4 x2 (rm h2)) (w_mv2 c a4 p4 x2)
  · rw [e2_10 c a2 p2 a3 a4 p3 p4 z x0 x1 x2]
    exact bk10_v _ _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m20 c a2 p2 x0 (rq h0)) (w_b200 c a2 p2 a3 p3 x0 x1 (rq h0) (rm h1)) (w_b201 c a2 p2 a3 p3 x0 x1 (rq h0) (rm h1)) (w_vc2 c a4 p4 x2 (rm h2)) (w_vs2 c a4 p4 x2 (rm h2)) (w_mv2 c a4 p4 x2)
  · rw [e2_11 c a2 p2 a3 a4 p3 p4 z x0 x1 x2]
    exact bk11_v _ _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m20 c a2 p2 x0 (rq h0)) (w_b200 c a2 p2 a3 p3 x0 x1 (rq h0) (rm h1)) (w_b201 c a2 p2 a3 p3 x0 x1 (rq h0) (rm h1)) (w_vc2 c a4 p4 x2 (rm h2)) (w_vs2 c a4 p4 x2 (rm h2)) (w_mv2 c a4 p4 x2)
  · rw [e2_20 c a2 p2 a3 a4 p3 p4 z x0 x1 x2]
    exact bk20_v _ _ _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m21 c a2 p2 x0 (rq h0)) (w_b210 c a2 p2 a3 p3 x0 x1 (rq h0) (rm h1)) (w_b211 c a2 p2 a3 p3 x0 x1 (rq h0) (rm h1)) (w_b212 c a2 p2 a3 p3 x0 x1 (rq h0) (rm h1)) (w_vc2 c a4 p4 x2 (rm h2)) (w_vs2 c a4 p4 x2 (rm h2)) (w_mv2 c a4 p4 x2)
  · rw [e2_21 c a2 p2 a3 a4 p3 p4 z x0 x1 x2]
    exact bk21_v _ _ _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m21 c a2 p2 x0 (rq h0)) (w_b210 c a2 p2 a3 p3 x0 x1 (rq h0) (rm h1)) (w_b211 c a2 p2 a3 p3 x0 x1 (rq h0) (rm h1)) (w_b212 c a2 p2 a3 p3 x0 x1 (rq h0) (rm h1)) (w_vc2 c a4 p4 x2 (rm h2)) (w_vs2 c a4 p4 x2 (rm h2)) (w_mv2 c a4 p4 x2)
  · rw [e2_30 c a2 p2 a3 a4 p3 p4 z x0 x1 x2]
    exact bk30_v _ _ _ _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m21 c a2 p2 x0 (rq h0)) (w_b210 c a2 p2 a3 p3 x0 x1 (rq h0) (rm h1)) (w_b211 c a2 p2 a3 p3 x0 x1 (rq h0) (rm h1)) (w_b212 c a2 p2 a3 p3 x0 x1 (rq h0) (rm h1)) (w_b213 c a2 p2 a3 p3 x0 x1 (rq h0) (rm h1)) (w_vc2 c a4 p4 x2 (rm h2)) (w_vs2 c a4 p4 x2 (rm h2)) (w_mv2 c a4 p4 x2)
  · rw [e2_31 c a2 p2 a3 a4 p3 p4 z x0 x1 x2]
    exact bk31_v _ _ _ _ _ _ _ _ _ _ (fun g s d => nat3 x0 0 s (1024 + 128 * g + d)) (fun s d => nat3 x1 0 s (256 + d)) (fun s d => nat3 x2 0 s (256 + d)) (fun g s d => h0 _ _) (fun s d => h1 _ _) (fun s d => h2 _ _) (w_kc2 c a3 p3 x1 (rm h1)) (w_qc2 c a2 p2 a3 a4 p3 p4 z x0 x1 x2 (rq h0)) (w_m21 c a2 p2 x0 (rq h0)) (w_b210 c a2 p2 a3 p3 x0 x1 (rq h0) (rm h1)) (w_b211 c a2 p2 a3 p3 x0 x1 (rq h0) (rm h1)) (w_b212 c a2 p2 a3 p3 x0 x1 (rq h0) (rm h1)) (w_b213 c a2 p2 a3 p3 x0 x1 (rq h0) (rm h1)) (w_vc2 c a4 p4 x2 (rm h2)) (w_vs2 c a4 p4 x2 (rm h2)) (w_mv2 c a4 p4 x2)
/-! ## The fourth head -/
theorem i_kc3 : (sl.v741 c a3 p3 x1) = truncf .fp8e4m3 (kC 384 (by decide) (by decide) (by decide) (by decide) (by decide) (kB0 c a3 p3 x1) (kM0 c a3 p3 x1)) bitsLt_fp8e4m3_f32 := rfl
theorem i_qc3 : (sl.v4777 c a2 p2 a3 p3 a4 p4 z x0 x1 x2) = qcm z.view (sl.HS0_40 c a2 p2 a3 p3 a4 p4 x0 x1 x2) := rfl
theorem i_m30 : (sl.v4788 c a2 p2 x0) = mqa ![0, 0] (by decide) (mrow 0 (by decide) (by decide) (by decide) (by decide) (qM (qB3 c a2 p2 x0))) (qinv (qP (qB3 c a2 p2 x0))) := rfl
theorem i_m31 : (sl.v4830 c a2 p2 x0) = mqa ![4, 0] (by decide) (mrow 1 (by decide) (by decide) (by decide) (by decide) (qM (qB3 c a2 p2 x0))) (qinv (qP (qB3 c a2 p2 x0))) := rfl
theorem i_vc3 : (sl.v148 c a4 p4 x2) = truncf .fp8e4m3 (vC 384 (by decide) (by decide) (vB0 a4 p4 x2)) bitsLt_fp8e4m3_f32 := rfl
theorem i_b300 : (sl.v4814 c a2 p2 a3 p3 x0 x1) = bta (sqm ![0, 0] ![1, 0] ![2, 0] ![3, 0] (by decide) (by decide) (by decide) (by decide) (qsc (qP (qB3 c a2 p2 x0)))) ![0, 0] (by decide) (ksc (kP 384 (by decide) (kB0 c a3 p3 x1) (kM0 c a3 p3 x1))) := rfl
theorem i_b301 : (sl.v4819 c a2 p2 a3 p3 x0 x1) = bta (sqm ![0, 0] ![1, 0] ![2, 0] ![3, 0] (by decide) (by decide) (by decide) (by decide) (qsc (qP (qB3 c a2 p2 x0)))) ![1, 0] (by decide) (ksc (kP 384 (by decide) (kB0 c a3 p3 x1) (kM0 c a3 p3 x1))) := rfl
theorem i_b310 : (sl.v4856 c a2 p2 a3 p3 x0 x1) = bta (sqm ![4, 0] ![5, 0] ![6, 0] ![7, 0] (by decide) (by decide) (by decide) (by decide) (qsc (qP (qB3 c a2 p2 x0)))) ![0, 0] (by decide) (ksc (kP 384 (by decide) (kB0 c a3 p3 x1) (kM0 c a3 p3 x1))) := rfl
theorem i_b311 : (sl.v4861 c a2 p2 a3 p3 x0 x1) = bta (sqm ![4, 0] ![5, 0] ![6, 0] ![7, 0] (by decide) (by decide) (by decide) (by decide) (qsc (qP (qB3 c a2 p2 x0)))) ![1, 0] (by decide) (ksc (kP 384 (by decide) (kB0 c a3 p3 x1) (kM0 c a3 p3 x1))) := rfl
theorem i_b312 : (sl.v4866 c a2 p2 a3 p3 x0 x1) = bta (sqm ![4, 0] ![5, 0] ![6, 0] ![7, 0] (by decide) (by decide) (by decide) (by decide) (qsc (qP (qB3 c a2 p2 x0)))) ![2, 0] (by decide) (ksc (kP 384 (by decide) (kB0 c a3 p3 x1) (kM0 c a3 p3 x1))) := rfl
theorem i_b313 : (sl.v4871 c a2 p2 a3 p3 x0 x1) = bta (sqm ![4, 0] ![5, 0] ![6, 0] ![7, 0] (by decide) (by decide) (by decide) (by decide) (qsc (qP (qB3 c a2 p2 x0)))) ![3, 0] (by decide) (ksc (kP 384 (by decide) (kB0 c a3 p3 x1) (kM0 c a3 p3 x1))) := rfl

theorem w_kc3 (hk : RM x1) (s : Fin 256) (d : Fin 128) : (sl.v741 c a3 p3 x1) (ix2 s d) = kcF (fun s d => nat3 x1 0 s (384 + d)) s d := by
  rw [i_kc3]
  exact kC_v 384 _ _ _ _ _ _ _ (nat3 x1 0) 0 (kB0_v c a3 p3 x1) (v350_v c a3 p3 x1) hk 384 rfl s d
theorem w_ks3 (hk : RM x1) (g : Fin 4) : (ksc (kP 384 (by decide) (kB0 c a3 p3 x1) (kM0 c a3 p3 x1))) (ix2 g 0) = sc (kaF (fun s d => nat3 x1 0 s (384 + d)) g) :=
  ksc_v _ g _ (kP_v 384 _ _ _ (nat3 x1 0) 0 (kB0_v c a3 p3 x1) (v350_v c a3 p3 x1) hk 384 rfl g)
theorem w_qc3 (hq : RQ x0) (r : Fin 1024) (d : Fin 128) : (sl.v4777 c a2 p2 a3 p3 a4 p4 z x0 x1 x2) (ix2 r d) = qcF ((fun g s d => nat3 x0 0 s (1536 + 128 * g + d)) (r.val % 4)) (r.val / 4) d := by
  rw [i_qc3]
  exact (qcm_v _ _ r d).trans (il_q3 c a2 p2 a3 a4 p3 p4 x0 x1 x2 hq r d)
theorem w_vc3 (hv : RM x2) (s : Fin 256) (d : Fin 128) : (sl.v148 c a4 p4 x2) (ix2 s d) = vcF (fun s d => nat3 x2 0 s (384 + d)) s d := by
  rw [i_vc3]
  exact vC_v 384 _ _ _ (nat3 x2 0) 0 (ld_0 a4 p4 x2) hv 384 rfl s d
theorem w_vs3 (hv : RM x2) (d : Fin 128) : (extractStridedSlice S1x128 ![0, 384] (sl.v73 c a4 p4 x2) (by decide)) (ix2 0 d) = sc (vaF (fun s d => nat3 x2 0 s (384 + d)) d) :=
  sl_v _ _ _ (fun j => sc (vaF (nat3 x2 0) j)) 0 (v73_v c a4 p4 x2 hv) 384 rfl d
theorem w_mv3 (d : Fin 128) : (extractStridedSlice S1x128 ![0, 384] (sl.v48 c a4 p4 x2) (by decide)) (ix2 0 d) = mvF (fun s d => nat3 x2 0 s (384 + d)) d :=
  sl_v _ _ _ (mvF (nat3 x2 0)) 0 (v48_v c a4 p4 x2) 384 rfl d
theorem w_m30 (hq : RQ x0) (l : Fin 256) (d : Fin 128) : (sl.v4788 c a2 p2 x0) (ix2 l d) = mqF ((fun g s d => nat3 x0 0 s (1536 + 128 * g + d)) (l.val % 4)) 0 d * sinv (qaF ((fun g s d => nat3 x0 0 s (1536 + 128 * g + d)) (l.val % 4)) 0) := by
  rw [i_m30]
  exact mq_in _ (nat3 x0 0) 1536 (qB3_v c a2 p2 x0) hq 0 (by decide) _ _ _ _ _ _ rfl l d
theorem w_m31 (hq : RQ x0) (l : Fin 256) (d : Fin 128) : (sl.v4830 c a2 p2 x0) (ix2 l d) = mqF ((fun g s d => nat3 x0 0 s (1536 + 128 * g + d)) (l.val % 4)) 1 d * sinv (qaF ((fun g s d => nat3 x0 0 s (1536 + 128 * g + d)) (l.val % 4)) 1) := by
  rw [i_m31]
  exact mq_in _ (nat3 x0 0) 1536 (qB3_v c a2 p2 x0) hq 1 (by decide) _ _ _ _ _ _ rfl l d
theorem w_b300 (hq : RQ x0) (hk : RM x1) (r : Fin 128) :
    (sl.v4814 c a2 p2 a3 p3 x0 x1) (ix2 0 r) = sc (qaF ((fun g s d => nat3 x0 0 s (1536 + 128 * g + d)) (r.val % 4)) 0) * sc (kaF (fun s d => nat3 x1 0 s (384 + d)) 0) * ((LK : ℝ) : EReal) := by
  rw [i_b300]
  exact bt_in _ (nat3 x0 0) 1536 (qB3_v c a2 p2 x0) hq 0 (by decide) _ _ _ _ _ _ _ _ rfl rfl rfl rfl 0 _ _ _ (fun g => sc (kaF (fun s d => nat3 x1 0 s (384 + d)) g)) (w_ks3 c a3 p3 x1 hk) rfl r
theorem w_b301 (hq : RQ x0) (hk : RM x1) (r : Fin 128) :
    (sl.v4819 c a2 p2 a3 p3 x0 x1) (ix2 0 r) = sc (qaF ((fun g s d => nat3 x0 0 s (1536 + 128 * g + d)) (r.val % 4)) 0) * sc (kaF (fun s d => nat3 x1 0 s (384 + d)) 1) * ((LK : ℝ) : EReal) := by
  rw [i_b301]
  exact bt_in _ (nat3 x0 0) 1536 (qB3_v c a2 p2 x0) hq 0 (by decide) _ _ _ _ _ _ _ _ rfl rfl rfl rfl 1 _ _ _ (fun g => sc (kaF (fun s d => nat3 x1 0 s (384 + d)) g)) (w_ks3 c a3 p3 x1 hk) rfl r
theorem w_b310 (hq : RQ x0) (hk : RM x1) (r : Fin 128) :
    (sl.v4856 c a2 p2 a3 p3 x0 x1) (ix2 0 r) = sc (qaF ((fun g s d => nat3 x0 0 s (1536 + 128 * g + d)) (r.val % 4)) 1) * sc (kaF (fun s d => nat3 x1 0 s (384 + d)) 0) * ((LK : ℝ) : EReal) := by
  rw [i_b310]
  exact bt_in _ (nat3 x0 0) 1536 (qB3_v c a2 p2 x0) hq 1 (by decide) _ _ _ _ _ _ _ _ rfl rfl rfl rfl 0 _ _ _ (fun g => sc (kaF (fun s d => nat3 x1 0 s (384 + d)) g)) (w_ks3 c a3 p3 x1 hk) rfl r
theorem w_b311 (hq : RQ x0) (hk : RM x1) (r : Fin 128) :
    (sl.v4861 c a2 p2 a3 p3 x0 x1) (ix2 0 r) = sc (qaF ((fun g s d => nat3 x0 0 s (1536 + 128 * g + d)) (r.val % 4)) 1) * sc (kaF (fun s d => nat3 x1 0 s (384 + d)) 1) * ((LK : ℝ) : EReal) := by
  rw [i_b311]
  exact bt_in _ (nat3 x0 0) 1536 (qB3_v c a2 p2 x0) hq 1 (by decide) _ _ _ _ _ _ _ _ rfl rfl rfl rfl 1 _ _ _ (fun g => sc (kaF (fun s d => nat3 x1 0 s (384 + d)) g)) (w_ks3 c a3 p3 x1 hk) rfl r
theorem w_b312 (hq : RQ x0) (hk : RM x1) (r : Fin 128) :
    (sl.v4866 c a2 p2 a3 p3 x0 x1) (ix2 0 r) = sc (qaF ((fun g s d => nat3 x0 0 s (1536 + 128 * g + d)) (r.val % 4)) 1) * sc (kaF (fun s d => nat3 x1 0 s (384 + d)) 2) * ((LK : ℝ) : EReal) := by
  rw [i_b312]
  exact bt_in _ (nat3 x0 0) 1536 (qB3_v c a2 p2 x0) hq 1 (by decide) _ _ _ _ _ _ _ _ rfl rfl rfl rfl 2 _ _ _ (fun g => sc (kaF (fun s d => nat3 x1 0 s (384 + d)) g)) (w_ks3 c a3 p3 x1 hk) rfl r
theorem w_b313 (hq : RQ x0) (hk : RM x1) (r : Fin 128) :
    (sl.v4871 c a2 p2 a3 p3 x0 x1) (ix2 0 r) = sc (qaF ((fun g s d => nat3 x0 0 s (1536 + 128 * g + d)) (r.val % 4)) 1) * sc (kaF (fun s d => nat3 x1 0 s (384 + d)) 3) * ((LK : ℝ) : EReal) := by
  rw [i_b313]
  exact bt_in _ (nat3 x0 0) 1536 (qB3_v c a2 p2 x0) hq 1 (by decide) _ _ _ _ _ _ _ _ rfl rfl rfl rfl 3 _ _ _ (fun g => sc (kaF (fun s d => nat3 x1 0 s (384 + d)) g)) (w_ks3 c a3 p3 x1 hk) rfl r
theorem e3_00 : (sl.v4995 c a2 p2 a3 p3 a4 p4 z x0 x1 x2) = bk00 (sl.v741 c a3 p3 x1) (sl.v4777 c a2 p2 a3 p3 a4 p4 z x0 x1 x2) (sl.v4788 c a2 p2 x0) (sl.v4814 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_01 : (sl.v5008 c a2 p2 a3 p3 a4 p4 z x0 x1 x2) = bk01 (sl.v741 c a3 p3 x1) (sl.v4777 c a2 p2 a3 p3 a4 p4 z x0 x1 x2) (sl.v4788 c a2 p2 x0) (sl.v4814 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_10 : (sl.v5144 c a2 p2 a3 p3 a4 p4 z x0 x1 x2) = bk10 (sl.v741 c a3 p3 x1) (sl.v4777 c a2 p2 a3 p3 a4 p4 z x0 x1 x2) (sl.v4788 c a2 p2 x0) (sl.v4814 c a2 p2 a3 p3 x0 x1) (sl.v4819 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_11 : (sl.v5157 c a2 p2 a3 p3 a4 p4 z x0 x1 x2) = bk11 (sl.v741 c a3 p3 x1) (sl.v4777 c a2 p2 a3 p3 a4 p4 z x0 x1 x2) (sl.v4788 c a2 p2 x0) (sl.v4814 c a2 p2 a3 p3 x0 x1) (sl.v4819 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_20 : (sl.v5299 c a2 p2 a3 p3 a4 p4 z x0 x1 x2) = bk20 (sl.v741 c a3 p3 x1) (sl.v4777 c a2 p2 a3 p3 a4 p4 z x0 x1 x2) (sl.v4830 c a2 p2 x0) (sl.v4856 c a2 p2 a3 p3 x0 x1) (sl.v4861 c a2 p2 a3 p3 x0 x1) (sl.v4866 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_21 : (sl.v5312 c a2 p2 a3 p3 a4 p4 z x0 x1 x2) = bk21 (sl.v741 c a3 p3 x1) (sl.v4777 c a2 p2 a3 p3 a4 p4 z x0 x1 x2) (sl.v4830 c a2 p2 x0) (sl.v4856 c a2 p2 a3 p3 x0 x1) (sl.v4861 c a2 p2 a3 p3 x0 x1) (sl.v4866 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_30 : (sl.v5457 c a2 p2 a3 p3 a4 p4 z x0 x1 x2) = bk30 (sl.v741 c a3 p3 x1) (sl.v4777 c a2 p2 a3 p3 a4 p4 z x0 x1 x2) (sl.v4830 c a2 p2 x0) (sl.v4856 c a2 p2 a3 p3 x0 x1) (sl.v4861 c a2 p2 a3 p3 x0 x1) (sl.v4866 c a2 p2 a3 p3 x0 x1) (sl.v4871 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
theorem e3_31 : (sl.v5470 c a2 p2 a3 p3 a4 p4 z x0 x1 x2) = bk31 (sl.v741 c a3 p3 x1) (sl.v4777 c a2 p2 a3 p3 a4 p4 z x0 x1 x2) (sl.v4830 c a2 p2 x0) (sl.v4856 c a2 p2 a3 p3 x0 x1) (sl.v4861 c a2 p2 a3 p3 x0 x1) (sl.v4866 c a2 p2 a3 p3 x0 x1) (sl.v4871 c a2 p2 a3 p3 x0 x1) (sl.v148 c a4 p4 x2) (extractStridedSlice S1x128 ![0, 384] (sl.v73 c a4 p4 x2) (by decide)) (extractStridedSlice S1x128 ![0, 384] (sl.v48 c a4 p4 x2) (by decide)) := rfl
/-- The fourth head of a block: the attention's output, the four query heads' rows interleaved. -/
theorem os_h3 (h0 : RE x0) (h1 : RE x1) (h2 : RE x2) (R : Fin 1024) (d : Fin 128) :
    View.canon (sl.HS1_32 c a2 p2 a3 p3 a4 p4 z x0 x1 x2) (ix2 R d) = oF (fun s d => nat3 x0 0 s (1536 + 128 * (R.val % 4) + d)) (fun s d => nat3 x1 0 s (384 + d)) (fun s d => nat3 x2 0 s (384 + d)) (R.val / 4) d := by
  refine os_eight _ _ _ _ _ _ _ _ _ _ _ _ _ _ _ _ _ (fun j => oF ((fun g s d => nat3 x0 0 s (1536 + 128 * g + d)) j) (fun s d => nat3 x1 0 s (384 + d)) (fun s d => nat3 x2 0 s (384 + d))) ?_ ?_ ?_ ?_ ?_ ?_ ?_ ?_ R d
  · rw [e3_00 c a2 p2 a3 a4 p3 p4 z x0 x1 x2]
    exact bk00_v _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m30 c a2 p2 x0 (rq h0)) (w_b300 c a2 p2 a3 p3 x0 x1 (rq h0) (rm h1)) (w_vc3 c a4 p4 x2 (rm h2)) (w_vs3 c a4 p4 x2 (rm h2)) (w_mv3 c a4 p4 x2)
  · rw [e3_01 c a2 p2 a3 a4 p3 p4 z x0 x1 x2]
    exact bk01_v _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m30 c a2 p2 x0 (rq h0)) (w_b300 c a2 p2 a3 p3 x0 x1 (rq h0) (rm h1)) (w_vc3 c a4 p4 x2 (rm h2)) (w_vs3 c a4 p4 x2 (rm h2)) (w_mv3 c a4 p4 x2)
  · rw [e3_10 c a2 p2 a3 a4 p3 p4 z x0 x1 x2]
    exact bk10_v _ _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m30 c a2 p2 x0 (rq h0)) (w_b300 c a2 p2 a3 p3 x0 x1 (rq h0) (rm h1)) (w_b301 c a2 p2 a3 p3 x0 x1 (rq h0) (rm h1)) (w_vc3 c a4 p4 x2 (rm h2)) (w_vs3 c a4 p4 x2 (rm h2)) (w_mv3 c a4 p4 x2)
  · rw [e3_11 c a2 p2 a3 a4 p3 p4 z x0 x1 x2]
    exact bk11_v _ _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m30 c a2 p2 x0 (rq h0)) (w_b300 c a2 p2 a3 p3 x0 x1 (rq h0) (rm h1)) (w_b301 c a2 p2 a3 p3 x0 x1 (rq h0) (rm h1)) (w_vc3 c a4 p4 x2 (rm h2)) (w_vs3 c a4 p4 x2 (rm h2)) (w_mv3 c a4 p4 x2)
  · rw [e3_20 c a2 p2 a3 a4 p3 p4 z x0 x1 x2]
    exact bk20_v _ _ _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m31 c a2 p2 x0 (rq h0)) (w_b310 c a2 p2 a3 p3 x0 x1 (rq h0) (rm h1)) (w_b311 c a2 p2 a3 p3 x0 x1 (rq h0) (rm h1)) (w_b312 c a2 p2 a3 p3 x0 x1 (rq h0) (rm h1)) (w_vc3 c a4 p4 x2 (rm h2)) (w_vs3 c a4 p4 x2 (rm h2)) (w_mv3 c a4 p4 x2)
  · rw [e3_21 c a2 p2 a3 a4 p3 p4 z x0 x1 x2]
    exact bk21_v _ _ _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m31 c a2 p2 x0 (rq h0)) (w_b310 c a2 p2 a3 p3 x0 x1 (rq h0) (rm h1)) (w_b311 c a2 p2 a3 p3 x0 x1 (rq h0) (rm h1)) (w_b312 c a2 p2 a3 p3 x0 x1 (rq h0) (rm h1)) (w_vc3 c a4 p4 x2 (rm h2)) (w_vs3 c a4 p4 x2 (rm h2)) (w_mv3 c a4 p4 x2)
  · rw [e3_30 c a2 p2 a3 a4 p3 p4 z x0 x1 x2]
    exact bk30_v _ _ _ _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m31 c a2 p2 x0 (rq h0)) (w_b310 c a2 p2 a3 p3 x0 x1 (rq h0) (rm h1)) (w_b311 c a2 p2 a3 p3 x0 x1 (rq h0) (rm h1)) (w_b312 c a2 p2 a3 p3 x0 x1 (rq h0) (rm h1)) (w_b313 c a2 p2 a3 p3 x0 x1 (rq h0) (rm h1)) (w_vc3 c a4 p4 x2 (rm h2)) (w_vs3 c a4 p4 x2 (rm h2)) (w_mv3 c a4 p4 x2)
  · rw [e3_31 c a2 p2 a3 a4 p3 p4 z x0 x1 x2]
    exact bk31_v _ _ _ _ _ _ _ _ _ _ (fun g s d => nat3 x0 0 s (1536 + 128 * g + d)) (fun s d => nat3 x1 0 s (384 + d)) (fun s d => nat3 x2 0 s (384 + d)) (fun g s d => h0 _ _) (fun s d => h1 _ _) (fun s d => h2 _ _) (w_kc3 c a3 p3 x1 (rm h1)) (w_qc3 c a2 p2 a3 a4 p3 p4 z x0 x1 x2 (rq h0)) (w_m31 c a2 p2 x0 (rq h0)) (w_b310 c a2 p2 a3 p3 x0 x1 (rq h0) (rm h1)) (w_b311 c a2 p2 a3 p3 x0 x1 (rq h0) (rm h1)) (w_b312 c a2 p2 a3 p3 x0 x1 (rq h0) (rm h1)) (w_b313 c a2 p2 a3 p3 x0 x1 (rq h0) (rm h1)) (w_vc3 c a4 p4 x2 (rm h2)) (w_vs3 c a4 p4 x2 (rm h2)) (w_mv3 c a4 p4 x2)
end
end Cert.KernelIdeal.Gen
end
-- ==== Proof.AttHeads1.lean ====
/- Head by head: what the windows read, and the outputs they store. -/
module
public import proofs.«01_k».proof.Proof.AttHd
@[expose] public section
set_option maxRecDepth 16384
noncomputable section
namespace Cert.KernelIdeal.Gen
open Idealize.ShloMosaic Idealize.ShloMosaic.TcCoe Idealize.ShloMosaic.Tactic
open Cert.Sage kernelRun0_A
section
variable (c : Dev nD) (a2 : Memref sig .tc .vmem S1x256x4096 .bf16) (p2 : a2.IsWhole) (a3 a4 : Memref sig .tc .vmem S1x256x1024 .bf16) (p3 : a3.IsWhole) (p4 : a4.IsWhole)
  (z : Memref sig .tc .vmem S1024x128 .f32) (x0 : Vec Ideal S1x256x4096 .bf16) (x1 x2 : Vec Ideal S1x256x1024 .bf16)
/-! ## The fifth head -/
theorem i_kc4 : (sl.v5930 c a3 p3 x1) = truncf .fp8e4m3 (kC 0 (by decide) (by decide) (by decide) (by decide) (by decide) (kB1 c a3 p3 x1) (kM1 c a3 p3 x1)) bitsLt_fp8e4m3_f32 := rfl
theorem i_qc4 : (sl.v6816 c a2 p2 a3 p3 a4 p4 z x0 x1 x2) = qcm z.view (sl.HS0_56 c a2 p2 a3 p3 a4 p4 x0 x1 x2) := rfl
theorem i_m40 : (sl.v6827 c a2 p2 x0) = mqa ![0, 0] (by decide) (mrow 0 (by decide) (by decide) (by decide) (by decide) (qM (qB4 c a2 p2 x0))) (qinv (qP (qB4 c a2 p2 x0))) := rfl
theorem i_m41 : (sl.v6869 c a2 p2 x0) = mqa ![4, 0] (by decide) (mrow 1 (by decide) (by decide) (by decide) (by decide) (qM (qB4 c a2 p2 x0))) (qinv (qP (qB4 c a2 p2 x0))) := rfl
theorem i_vc4 : (sl.v5544 c a4 p4 x2) = truncf .fp8e4m3 (vC 0 (by decide) (by decide) (vB1 a4 p4 x2)) bitsLt_fp8e4m3_f32 := rfl
theorem i_b400 : (sl.v6853 c a2 p2 a3 p3 x0 x1) = bta (sqm ![0, 0] ![1, 0] ![2, 0] ![3, 0] (by decide) (by decide) (by decide) (by decide) (qsc (qP (qB4 c a2 p2 x0)))) ![0, 0] (by decide) (ksc (kP 0 (by decide) (kB1 c a3 p3 x1) (kM1 c a3 p3 x1))) := rfl
theorem i_b401 : (sl.v6858 c a2 p2 a3 p3 x0 x1) = bta (sqm ![0, 0] ![1, 0] ![2, 0] ![3, 0] (by decide) (by decide) (by decide) (by decide) (qsc (qP (qB4 c a2 p2 x0)))) ![1, 0] (by decide) (ksc (kP 0 (by decide) (kB1 c a3 p3 x1) (kM1 c a3 p3 x1))) := rfl
theorem i_b410 : (sl.v6895 c a2 p2 a3 p3 x0 x1) = bta (sqm ![4, 0] ![5, 0] ![6, 0] ![7, 0] (by decide) (by decide) (by decide) (by decide) (qsc (qP (qB4 c a2 p2 x0)))) ![0, 0] (by decide) (ksc (kP 0 (by decide) (kB1 c a3 p3 x1) (kM1 c a3 p3 x1))) := rfl
theorem i_b411 : (sl.v6900 c a2 p2 a3 p3 x0 x1) = bta (sqm ![4, 0] ![5, 0] ![6, 0] ![7, 0] (by decide) (by decide) (by decide) (by decide) (qsc (qP (qB4 c a2 p2 x0)))) ![1, 0] (by decide) (ksc (kP 0 (by decide) (kB1 c a3 p3 x1) (kM1 c a3 p3 x1))) := rfl
theorem i_b412 : (sl.v6905 c a2 p2 a3 p3 x0 x1) = bta (sqm ![4, 0] ![5, 0] ![6, 0] ![7, 0] (by decide) (by decide) (by decide) (by decide) (qsc (qP (qB4 c a2 p2 x0)))) ![2, 0] (by decide) (ksc (kP 0 (by decide) (kB1 c a3 p3 x1) (kM1 c a3 p3 x1))) := rfl
theorem i_b413 : (sl.v6910 c a2 p2 a3 p3 x0 x1) = bta (sqm ![4, 0] ![5, 0] ![6, 0] ![7, 0] (by decide) (by decide) (by decide) (by decide) (qsc (qP (qB4 c a2 p2 x0)))) ![3, 0] (by decide) (ksc (kP 0 (by decide) (kB1 c a3 p3 x1) (kM1 c a3 p3 x1))) := rfl

theorem w_kc4 (hk : RM x1) (s : Fin 256) (d : Fin 128) : (sl.v5930 c a3 p3 x1) (ix2 s d) = kcF (fun s d => nat3 x1 0 s (512 + d)) s d := by
  rw [i_kc4]
  exact kC_v 0 _ _ _ _ _ _ _ (nat3 x1 0) 512 (kB1_v c a3 p3 x1) (v5800_v c a3 p3 x1) hk 512 rfl s d
theorem w_ks4 (hk : RM x1) (g : Fin 4) : (ksc (kP 0 (by decide) (kB1 c a3 p3 x1) (kM1 c a3 p3 x1))) (ix2 g 0) = sc (kaF (fun s d => nat3 x1 0 s (512 + d)) g) :=
  ksc_v _ g _ (kP_v 0 _ _ _ (nat3 x1 0) 512 (kB1_v c a3 p3 x1) (v5800_v c a3 p3 x1) hk 512 rfl g)
theorem w_qc4 (hq : RQ x0) (r : Fin 1024) (d : Fin 128) : (sl.v6816 c a2 p2 a3 p3 a4 p4 z x0 x1 x2) (ix2 r d) = qcF ((fun g s d => nat3 x0 0 s (2048 + 128 * g + d)) (r.val % 4)) (r.val / 4) d := by
  rw [i_qc4]
  exact (qcm_v _ _ r d).trans (il_q4 c a2 p2 a3 a4 p3 p4 x0 x1 x2 hq r d)
theorem w_vc4 (hv : RM x2) (s : Fin 256) (d : Fin 128) : (sl.v5544 c a4 p4 x2) (ix2 s d) = vcF (fun s d => nat3 x2 0 s (512 + d)) s d := by
  rw [i_vc4]
  exact vC_v 0 _ _ _ (nat3 x2 0) 512 (ld_512 a4 p4 x2) hv 512 rfl s d
theorem w_vs4 (hv : RM x2) (d : Fin 128) : (extractStridedSlice S1x128 ![0, 0] (sl.v5523 c a4 p4 x2) (by decide)) (ix2 0 d) = sc (vaF (fun s d => nat3 x2 0 s (512 + d)) d) :=
  sl_v _ _ _ (fun j => sc (vaF (nat3 x2 0) j)) 512 (v5523_v c a4 p4 x2 hv) 512 rfl d
theorem w_mv4 (d : Fin 128) : (extractStridedSlice S1x128 ![0, 0] (sl.v5498 c a4 p4 x2) (by decide)) (ix2 0 d) = mvF (fun s d => nat3 x2 0 s (512 + d)) d :=
  sl_v _ _ _ (mvF (nat3 x2 0)) 512 (v5498_v c a4 p4 x2) 512 rfl d
theorem w_m40 (hq : RQ x0) (l : Fin 256) (d : Fin 128) : (sl.v6827 c a2 p2 x0) (ix2 l d) = mqF ((fun g s d => nat3 x0 0 s (2048 + 128 * g + d)) (l.val % 4)) 0 d * sinv (qaF ((fun g s d => nat3 x0 0 s (2048 + 128 * g + d)) (l.val % 4)) 0) := by
  rw [i_m40]
  exact mq_in _ (nat3 x0 0) 2048 (qB4_v c a2 p2 x0) hq 0 (by decide) _ _ _ _ _ _ rfl l d
theorem w_m41 (hq : RQ x0) (l : Fin 256) (d : Fin 128) : (sl.v6869 c a2 p2 x0) (ix2 l d) = mqF ((fun g s d => nat3 x0 0 s (2048 + 128 * g + d)) (l.val % 4)) 1 d * sinv (qaF ((fun g s d => nat3 x0 0 s (2048 + 128 * g + d)) (l.val % 4)) 1) := by
  rw [i_m41]
  exact mq_in _ (nat3 x0 0) 2048 (qB4_v c a2 p2 x0) hq 1 (by decide) _ _ _ _ _ _ rfl l d
theorem w_b400 (hq : RQ x0) (hk : RM x1) (r : Fin 128) :
    (sl.v6853 c a2 p2 a3 p3 x0 x1) (ix2 0 r) = sc (qaF ((fun g s d => nat3 x0 0 s (2048 + 128 * g + d)) (r.val % 4)) 0) * sc (kaF (fun s d => nat3 x1 0 s (512 + d)) 0) * ((LK : ℝ) : EReal) := by
  rw [i_b400]
  exact bt_in _ (nat3 x0 0) 2048 (qB4_v c a2 p2 x0) hq 0 (by decide) _ _ _ _ _ _ _ _ rfl rfl rfl rfl 0 _ _ _ (fun g => sc (kaF (fun s d => nat3 x1 0 s (512 + d)) g)) (w_ks4 c a3 p3 x1 hk) rfl r
theorem w_b401 (hq : RQ x0) (hk : RM x1) (r : Fin 128) :
    (sl.v6858 c a2 p2 a3 p3 x0 x1) (ix2 0 r) = sc (qaF ((fun g s d => nat3 x0 0 s (2048 + 128 * g + d)) (r.val % 4)) 0) * sc (kaF (fun s d => nat3 x1 0 s (512 + d)) 1) * ((LK : ℝ) : EReal) := by
  rw [i_b401]
  exact bt_in _ (nat3 x0 0) 2048 (qB4_v c a2 p2 x0) hq 0 (by decide) _ _ _ _ _ _ _ _ rfl rfl rfl rfl 1 _ _ _ (fun g => sc (kaF (fun s d => nat3 x1 0 s (512 + d)) g)) (w_ks4 c a3 p3 x1 hk) rfl r
theorem w_b410 (hq : RQ x0) (hk : RM x1) (r : Fin 128) :
    (sl.v6895 c a2 p2 a3 p3 x0 x1) (ix2 0 r) = sc (qaF ((fun g s d => nat3 x0 0 s (2048 + 128 * g + d)) (r.val % 4)) 1) * sc (kaF (fun s d => nat3 x1 0 s (512 + d)) 0) * ((LK : ℝ) : EReal) := by
  rw [i_b410]
  exact bt_in _ (nat3 x0 0) 2048 (qB4_v c a2 p2 x0) hq 1 (by decide) _ _ _ _ _ _ _ _ rfl rfl rfl rfl 0 _ _ _ (fun g => sc (kaF (fun s d => nat3 x1 0 s (512 + d)) g)) (w_ks4 c a3 p3 x1 hk) rfl r
theorem w_b411 (hq : RQ x0) (hk : RM x1) (r : Fin 128) :
    (sl.v6900 c a2 p2 a3 p3 x0 x1) (ix2 0 r) = sc (qaF ((fun g s d => nat3 x0 0 s (2048 + 128 * g + d)) (r.val % 4)) 1) * sc (kaF (fun s d => nat3 x1 0 s (512 + d)) 1) * ((LK : ℝ) : EReal) := by
  rw [i_b411]
  exact bt_in _ (nat3 x0 0) 2048 (qB4_v c a2 p2 x0) hq 1 (by decide) _ _ _ _ _ _ _ _ rfl rfl rfl rfl 1 _ _ _ (fun g => sc (kaF (fun s d => nat3 x1 0 s (512 + d)) g)) (w_ks4 c a3 p3 x1 hk) rfl r
theorem w_b412 (hq : RQ x0) (hk : RM x1) (r : Fin 128) :
    (sl.v6905 c a2 p2 a3 p3 x0 x1) (ix2 0 r) = sc (qaF ((fun g s d => nat3 x0 0 s (2048 + 128 * g + d)) (r.val % 4)) 1) * sc (kaF (fun s d => nat3 x1 0 s (512 + d)) 2) * ((LK : ℝ) : EReal) := by
  rw [i_b412]
  exact bt_in _ (nat3 x0 0) 2048 (qB4_v c a2 p2 x0) hq 1 (by decide) _ _ _ _ _ _ _ _ rfl rfl rfl rfl 2 _ _ _ (fun g => sc (kaF (fun s d => nat3 x1 0 s (512 + d)) g)) (w_ks4 c a3 p3 x1 hk) rfl r
theorem w_b413 (hq : RQ x0) (hk : RM x1) (r : Fin 128) :
    (sl.v6910 c a2 p2 a3 p3 x0 x1) (ix2 0 r) = sc (qaF ((fun g s d => nat3 x0 0 s (2048 + 128 * g + d)) (r.val % 4)) 1) * sc (kaF (fun s d => nat3 x1 0 s (512 + d)) 3) * ((LK : ℝ) : EReal) := by
  rw [i_b413]
  exact bt_in _ (nat3 x0 0) 2048 (qB4_v c a2 p2 x0) hq 1 (by decide) _ _ _ _ _ _ _ _ rfl rfl rfl rfl 3 _ _ _ (fun g => sc (kaF (fun s d => nat3 x1 0 s (512 + d)) g)) (w_ks4 c a3 p3 x1 hk) rfl r
theorem e4_00 : (sl.v7034 c a2 p2 a3 p3 a4 p4 z x0 x1 x2) = bk00 (sl.v5930 c a3 p3 x1) (sl.v6816 c a2 p2 a3 p3 a4 p4 z x0 x1 x2) (sl.v6827 c a2 p2 x0) (sl.v6853 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_01 : (sl.v7047 c a2 p2 a3 p3 a4 p4 z x0 x1 x2) = bk01 (sl.v5930 c a3 p3 x1) (sl.v6816 c a2 p2 a3 p3 a4 p4 z x0 x1 x2) (sl.v6827 c a2 p2 x0) (sl.v6853 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_10 : (sl.v7183 c a2 p2 a3 p3 a4 p4 z x0 x1 x2) = bk10 (sl.v5930 c a3 p3 x1) (sl.v6816 c a2 p2 a3 p3 a4 p4 z x0 x1 x2) (sl.v6827 c a2 p2 x0) (sl.v6853 c a2 p2 a3 p3 x0 x1) (sl.v6858 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_11 : (sl.v7196 c a2 p2 a3 p3 a4 p4 z x0 x1 x2) = bk11 (sl.v5930 c a3 p3 x1) (sl.v6816 c a2 p2 a3 p3 a4 p4 z x0 x1 x2) (sl.v6827 c a2 p2 x0) (sl.v6853 c a2 p2 a3 p3 x0 x1) (sl.v6858 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_20 : (sl.v7338 c a2 p2 a3 p3 a4 p4 z x0 x1 x2) = bk20 (sl.v5930 c a3 p3 x1) (sl.v6816 c a2 p2 a3 p3 a4 p4 z x0 x1 x2) (sl.v6869 c a2 p2 x0) (sl.v6895 c a2 p2 a3 p3 x0 x1) (sl.v6900 c a2 p2 a3 p3 x0 x1) (sl.v6905 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_21 : (sl.v7351 c a2 p2 a3 p3 a4 p4 z x0 x1 x2) = bk21 (sl.v5930 c a3 p3 x1) (sl.v6816 c a2 p2 a3 p3 a4 p4 z x0 x1 x2) (sl.v6869 c a2 p2 x0) (sl.v6895 c a2 p2 a3 p3 x0 x1) (sl.v6900 c a2 p2 a3 p3 x0 x1) (sl.v6905 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_30 : (sl.v7496 c a2 p2 a3 p3 a4 p4 z x0 x1 x2) = bk30 (sl.v5930 c a3 p3 x1) (sl.v6816 c a2 p2 a3 p3 a4 p4 z x0 x1 x2) (sl.v6869 c a2 p2 x0) (sl.v6895 c a2 p2 a3 p3 x0 x1) (sl.v6900 c a2 p2 a3 p3 x0 x1) (sl.v6905 c a2 p2 a3 p3 x0 x1) (sl.v6910 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
theorem e4_31 : (sl.v7509 c a2 p2 a3 p3 a4 p4 z x0 x1 x2) = bk31 (sl.v5930 c a3 p3 x1) (sl.v6816 c a2 p2 a3 p3 a4 p4 z x0 x1 x2) (sl.v6869 c a2 p2 x0) (sl.v6895 c a2 p2 a3 p3 x0 x1) (sl.v6900 c a2 p2 a3 p3 x0 x1) (sl.v6905 c a2 p2 a3 p3 x0 x1) (sl.v6910 c a2 p2 a3 p3 x0 x1) (sl.v5544 c a4 p4 x2) (extractStridedSlice S1x128 ![0, 0] (sl.v5523 c a4 p4 x2) (by decide)) (extractStridedSlice S1x128 ![0, 0] (sl.v5498 c a4 p4 x2) (by decide)) := rfl
/-- The fifth head of a block: the attention's output, the four query heads' rows interleaved. -/
theorem os_h4 (h0 : RE x0) (h1 : RE x1) (h2 : RE x2) (R : Fin 1024) (d : Fin 128) :
    View.canon (sl.HS1_40 c a2 p2 a3 p3 a4 p4 z x0 x1 x2) (ix2 R d) = oF (fun s d => nat3 x0 0 s (2048 + 128 * (R.val % 4) + d)) (fun s d => nat3 x1 0 s (512 + d)) (fun s d => nat3 x2 0 s (512 + d)) (R.val / 4) d := by
  refine os_eight _ _ _ _ _ _ _ _ _ _ _ _ _ _ _ _ _ (fun j => oF ((fun g s d => nat3 x0 0 s (2048 + 128 * g + d)) j) (fun s d => nat3 x1 0 s (512 + d)) (fun s d => nat3 x2 0 s (512 + d))) ?_ ?_ ?_ ?_ ?_ ?_ ?_ ?_ R d
  · rw [e4_00 c a2 p2 a3 a4 p3 p4 z x0 x1 x2]
    exact bk00_v _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m40 c a2 p2 x0 (rq h0)) (w_b400 c a2 p2 a3 p3 x0 x1 (rq h0) (rm h1)) (w_vc4 c a4 p4 x2 (rm h2)) (w_vs4 c a4 p4 x2 (rm h2)) (w_mv4 c a4 p4 x2)
  · rw [e4_01 c a2 p2 a3 a4 p3 p4 z x0 x1 x2]
    exact bk01_v _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m40 c a2 p2 x0 (rq h0)) (w_b400 c a2 p2 a3 p3 x0 x1 (rq h0) (rm h1)) (w_vc4 c a4 p4 x2 (rm h2)) (w_vs4 c a4 p4 x2 (rm h2)) (w_mv4 c a4 p4 x2)
  · rw [e4_10 c a2 p2 a3 a4 p3 p4 z x0 x1 x2]
    exact bk10_v _ _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m40 c a2 p2 x0 (rq h0)) (w_b400 c a2 p2 a3 p3 x0 x1 (rq h0) (rm h1)) (w_b401 c a2 p2 a3 p3 x0 x1 (rq h0) (rm h1)) (w_vc4 c a4 p4 x2 (rm h2)) (w_vs4 c a4 p4 x2 (rm h2)) (w_mv4 c a4 p4 x2)
  · rw [e4_11 c a2 p2 a3 a4 p3 p4 z x0 x1 x2]
    exact bk11_v _ _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m40 c a2 p2 x0 (rq h0)) (w_b400 c a2 p2 a3 p3 x0 x1 (rq h0) (rm h1)) (w_b401 c a2 p2 a3 p3 x0 x1 (rq h0) (rm h1)) (w_vc4 c a4 p4 x2 (rm h2)) (w_vs4 c a4 p4 x2 (rm h2)) (w_mv4 c a4 p4 x2)
  · rw [e4_20 c a2 p2 a3 a4 p3 p4 z x0 x1 x2]
    exact bk20_v _ _ _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m41 c a2 p2 x0 (rq h0)) (w_b410 c a2 p2 a3 p3 x0 x1 (rq h0) (rm h1)) (w_b411 c a2 p2 a3 p3 x0 x1 (rq h0) (rm h1)) (w_b412 c a2 p2 a3 p3 x0 x1 (rq h0) (rm h1)) (w_vc4 c a4 p4 x2 (rm h2)) (w_vs4 c a4 p4 x2 (rm h2)) (w_mv4 c a4 p4 x2)
  · rw [e4_21 c a2 p2 a3 a4 p3 p4 z x0 x1 x2]
    exact bk21_v _ _ _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m41 c a2 p2 x0 (rq h0)) (w_b410 c a2 p2 a3 p3 x0 x1 (rq h0) (rm h1)) (w_b411 c a2 p2 a3 p3 x0 x1 (rq h0) (rm h1)) (w_b412 c a2 p2 a3 p3 x0 x1 (rq h0) (rm h1)) (w_vc4 c a4 p4 x2 (rm h2)) (w_vs4 c a4 p4 x2 (rm h2)) (w_mv4 c a4 p4 x2)
  · rw [e4_30 c a2 p2 a3 a4 p3 p4 z x0 x1 x2]
    exact bk30_v _ _ _ _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m41 c a2 p2 x0 (rq h0)) (w_b410 c a2 p2 a3 p3 x0 x1 (rq h0) (rm h1)) (w_b411 c a2 p2 a3 p3 x0 x1 (rq h0) (rm h1)) (w_b412 c a2 p2 a3 p3 x0 x1 (rq h0) (rm h1)) (w_b413 c a2 p2 a3 p3 x0 x1 (rq h0) (rm h1)) (w_vc4 c a4 p4 x2 (rm h2)) (w_vs4 c a4 p4 x2 (rm h2)) (w_mv4 c a4 p4 x2)
  · rw [e4_31 c a2 p2 a3 a4 p3 p4 z x0 x1 x2]
    exact bk31_v _ _ _ _ _ _ _ _ _ _ (fun g s d => nat3 x0 0 s (2048 + 128 * g + d)) (fun s d => nat3 x1 0 s (512 + d)) (fun s d => nat3 x2 0 s (512 + d)) (fun g s d => h0 _ _) (fun s d => h1 _ _) (fun s d => h2 _ _) (w_kc4 c a3 p3 x1 (rm h1)) (w_qc4 c a2 p2 a3 a4 p3 p4 z x0 x1 x2 (rq h0)) (w_m41 c a2 p2 x0 (rq h0)) (w_b410 c a2 p2 a3 p3 x0 x1 (rq h0) (rm h1)) (w_b411 c a2 p2 a3 p3 x0 x1 (rq h0) (rm h1)) (w_b412 c a2 p2 a3 p3 x0 x1 (rq h0) (rm h1)) (w_b413 c a2 p2 a3 p3 x0 x1 (rq h0) (rm h1)) (w_vc4 c a4 p4 x2 (rm h2)) (w_vs4 c a4 p4 x2 (rm h2)) (w_mv4 c a4 p4 x2)
/-! ## The sixth head -/
theorem i_kc5 : (sl.v6017 c a3 p3 x1) = truncf .fp8e4m3 (kC 128 (by decide) (by decide) (by decide) (by decide) (by decide) (kB1 c a3 p3 x1) (kM1 c a3 p3 x1)) bitsLt_fp8e4m3_f32 := rfl
theorem i_qc5 : (sl.v7953 c a2 p2 a3 p3 a4 p4 z x0 x1 x2) = qcm z.view (sl.HS0_64 c a2 p2 a3 p3 a4 p4 x0 x1 x2) := rfl
theorem i_m50 : (sl.v7964 c a2 p2 x0) = mqa ![0, 0] (by decide) (mrow 0 (by decide) (by decide) (by decide) (by decide) (qM (qB5 c a2 p2 x0))) (qinv (qP (qB5 c a2 p2 x0))) := rfl
theorem i_m51 : (sl.v8006 c a2 p2 x0) = mqa ![4, 0] (by decide) (mrow 1 (by decide) (by decide) (by decide) (by decide) (qM (qB5 c a2 p2 x0))) (qinv (qP (qB5 c a2 p2 x0))) := rfl
theorem i_vc5 : (sl.v5562 c a4 p4 x2) = truncf .fp8e4m3 (vC 128 (by decide) (by decide) (vB1 a4 p4 x2)) bitsLt_fp8e4m3_f32 := rfl
theorem i_b500 : (sl.v7990 c a2 p2 a3 p3 x0 x1) = bta (sqm ![0, 0] ![1, 0] ![2, 0] ![3, 0] (by decide) (by decide) (by decide) (by decide) (qsc (qP (qB5 c a2 p2 x0)))) ![0, 0] (by decide) (ksc (kP 128 (by decide) (kB1 c a3 p3 x1) (kM1 c a3 p3 x1))) := rfl
theorem i_b501 : (sl.v7995 c a2 p2 a3 p3 x0 x1) = bta (sqm ![0, 0] ![1, 0] ![2, 0] ![3, 0] (by decide) (by decide) (by decide) (by decide) (qsc (qP (qB5 c a2 p2 x0)))) ![1, 0] (by decide) (ksc (kP 128 (by decide) (kB1 c a3 p3 x1) (kM1 c a3 p3 x1))) := rfl
theorem i_b510 : (sl.v8032 c a2 p2 a3 p3 x0 x1) = bta (sqm ![4, 0] ![5, 0] ![6, 0] ![7, 0] (by decide) (by decide) (by decide) (by decide) (qsc (qP (qB5 c a2 p2 x0)))) ![0, 0] (by decide) (ksc (kP 128 (by decide) (kB1 c a3 p3 x1) (kM1 c a3 p3 x1))) := rfl
theorem i_b511 : (sl.v8037 c a2 p2 a3 p3 x0 x1) = bta (sqm ![4, 0] ![5, 0] ![6, 0] ![7, 0] (by decide) (by decide) (by decide) (by decide) (qsc (qP (qB5 c a2 p2 x0)))) ![1, 0] (by decide) (ksc (kP 128 (by decide) (kB1 c a3 p3 x1) (kM1 c a3 p3 x1))) := rfl
theorem i_b512 : (sl.v8042 c a2 p2 a3 p3 x0 x1) = bta (sqm ![4, 0] ![5, 0] ![6, 0] ![7, 0] (by decide) (by decide) (by decide) (by decide) (qsc (qP (qB5 c a2 p2 x0)))) ![2, 0] (by decide) (ksc (kP 128 (by decide) (kB1 c a3 p3 x1) (kM1 c a3 p3 x1))) := rfl
theorem i_b513 : (sl.v8047 c a2 p2 a3 p3 x0 x1) = bta (sqm ![4, 0] ![5, 0] ![6, 0] ![7, 0] (by decide) (by decide) (by decide) (by decide) (qsc (qP (qB5 c a2 p2 x0)))) ![3, 0] (by decide) (ksc (kP 128 (by decide) (kB1 c a3 p3 x1) (kM1 c a3 p3 x1))) := rfl

theorem w_kc5 (hk : RM x1) (s : Fin 256) (d : Fin 128) : (sl.v6017 c a3 p3 x1) (ix2 s d) = kcF (fun s d => nat3 x1 0 s (640 + d)) s d := by
  rw [i_kc5]
  exact kC_v 128 _ _ _ _ _ _ _ (nat3 x1 0) 512 (kB1_v c a3 p3 x1) (v5800_v c a3 p3 x1) hk 640 rfl s d
theorem w_ks5 (hk : RM x1) (g : Fin 4) : (ksc (kP 128 (by decide) (kB1 c a3 p3 x1) (kM1 c a3 p3 x1))) (ix2 g 0) = sc (kaF (fun s d => nat3 x1 0 s (640 + d)) g) :=
  ksc_v _ g _ (kP_v 128 _ _ _ (nat3 x1 0) 512 (kB1_v c a3 p3 x1) (v5800_v c a3 p3 x1) hk 640 rfl g)
theorem w_qc5 (hq : RQ x0) (r : Fin 1024) (d : Fin 128) : (sl.v7953 c a2 p2 a3 p3 a4 p4 z x0 x1 x2) (ix2 r d) = qcF ((fun g s d => nat3 x0 0 s (2560 + 128 * g + d)) (r.val % 4)) (r.val / 4) d := by
  rw [i_qc5]
  exact (qcm_v _ _ r d).trans (il_q5 c a2 p2 a3 a4 p3 p4 x0 x1 x2 hq r d)
theorem w_vc5 (hv : RM x2) (s : Fin 256) (d : Fin 128) : (sl.v5562 c a4 p4 x2) (ix2 s d) = vcF (fun s d => nat3 x2 0 s (640 + d)) s d := by
  rw [i_vc5]
  exact vC_v 128 _ _ _ (nat3 x2 0) 512 (ld_512 a4 p4 x2) hv 640 rfl s d
theorem w_vs5 (hv : RM x2) (d : Fin 128) : (extractStridedSlice S1x128 ![0, 128] (sl.v5523 c a4 p4 x2) (by decide)) (ix2 0 d) = sc (vaF (fun s d => nat3 x2 0 s (640 + d)) d) :=
  sl_v _ _ _ (fun j => sc (vaF (nat3 x2 0) j)) 512 (v5523_v c a4 p4 x2 hv) 640 rfl d
theorem w_mv5 (d : Fin 128) : (extractStridedSlice S1x128 ![0, 128] (sl.v5498 c a4 p4 x2) (by decide)) (ix2 0 d) = mvF (fun s d => nat3 x2 0 s (640 + d)) d :=
  sl_v _ _ _ (mvF (nat3 x2 0)) 512 (v5498_v c a4 p4 x2) 640 rfl d
theorem w_m50 (hq : RQ x0) (l : Fin 256) (d : Fin 128) : (sl.v7964 c a2 p2 x0) (ix2 l d) = mqF ((fun g s d => nat3 x0 0 s (2560 + 128 * g + d)) (l.val % 4)) 0 d * sinv (qaF ((fun g s d => nat3 x0 0 s (2560 + 128 * g + d)) (l.val % 4)) 0) := by
  rw [i_m50]
  exact mq_in _ (nat3 x0 0) 2560 (qB5_v c a2 p2 x0) hq 0 (by decide) _ _ _ _ _ _ rfl l d
theorem w_m51 (hq : RQ x0) (l : Fin 256) (d : Fin 128) : (sl.v8006 c a2 p2 x0) (ix2 l d) = mqF ((fun g s d => nat3 x0 0 s (2560 + 128 * g + d)) (l.val % 4)) 1 d * sinv (qaF ((fun g s d => nat3 x0 0 s (2560 + 128 * g + d)) (l.val % 4)) 1) := by
  rw [i_m51]
  exact mq_in _ (nat3 x0 0) 2560 (qB5_v c a2 p2 x0) hq 1 (by decide) _ _ _ _ _ _ rfl l d
theorem w_b500 (hq : RQ x0) (hk : RM x1) (r : Fin 128) :
    (sl.v7990 c a2 p2 a3 p3 x0 x1) (ix2 0 r) = sc (qaF ((fun g s d => nat3 x0 0 s (2560 + 128 * g + d)) (r.val % 4)) 0) * sc (kaF (fun s d => nat3 x1 0 s (640 + d)) 0) * ((LK : ℝ) : EReal) := by
  rw [i_b500]
  exact bt_in _ (nat3 x0 0) 2560 (qB5_v c a2 p2 x0) hq 0 (by decide) _ _ _ _ _ _ _ _ rfl rfl rfl rfl 0 _ _ _ (fun g => sc (kaF (fun s d => nat3 x1 0 s (640 + d)) g)) (w_ks5 c a3 p3 x1 hk) rfl r
theorem w_b501 (hq : RQ x0) (hk : RM x1) (r : Fin 128) :
    (sl.v7995 c a2 p2 a3 p3 x0 x1) (ix2 0 r) = sc (qaF ((fun g s d => nat3 x0 0 s (2560 + 128 * g + d)) (r.val % 4)) 0) * sc (kaF (fun s d => nat3 x1 0 s (640 + d)) 1) * ((LK : ℝ) : EReal) := by
  rw [i_b501]
  exact bt_in _ (nat3 x0 0) 2560 (qB5_v c a2 p2 x0) hq 0 (by decide) _ _ _ _ _ _ _ _ rfl rfl rfl rfl 1 _ _ _ (fun g => sc (kaF (fun s d => nat3 x1 0 s (640 + d)) g)) (w_ks5 c a3 p3 x1 hk) rfl r
theorem w_b510 (hq : RQ x0) (hk : RM x1) (r : Fin 128) :
    (sl.v8032 c a2 p2 a3 p3 x0 x1) (ix2 0 r) = sc (qaF ((fun g s d => nat3 x0 0 s (2560 + 128 * g + d)) (r.val % 4)) 1) * sc (kaF (fun s d => nat3 x1 0 s (640 + d)) 0) * ((LK : ℝ) : EReal) := by
  rw [i_b510]
  exact bt_in _ (nat3 x0 0) 2560 (qB5_v c a2 p2 x0) hq 1 (by decide) _ _ _ _ _ _ _ _ rfl rfl rfl rfl 0 _ _ _ (fun g => sc (kaF (fun s d => nat3 x1 0 s (640 + d)) g)) (w_ks5 c a3 p3 x1 hk) rfl r
theorem w_b511 (hq : RQ x0) (hk : RM x1) (r : Fin 128) :
    (sl.v8037 c a2 p2 a3 p3 x0 x1) (ix2 0 r) = sc (qaF ((fun g s d => nat3 x0 0 s (2560 + 128 * g + d)) (r.val % 4)) 1) * sc (kaF (fun s d => nat3 x1 0 s (640 + d)) 1) * ((LK : ℝ) : EReal) := by
  rw [i_b511]
  exact bt_in _ (nat3 x0 0) 2560 (qB5_v c a2 p2 x0) hq 1 (by decide) _ _ _ _ _ _ _ _ rfl rfl rfl rfl 1 _ _ _ (fun g => sc (kaF (fun s d => nat3 x1 0 s (640 + d)) g)) (w_ks5 c a3 p3 x1 hk) rfl r
theorem w_b512 (hq : RQ x0) (hk : RM x1) (r : Fin 128) :
    (sl.v8042 c a2 p2 a3 p3 x0 x1) (ix2 0 r) = sc (qaF ((fun g s d => nat3 x0 0 s (2560 + 128 * g + d)) (r.val % 4)) 1) * sc (kaF (fun s d => nat3 x1 0 s (640 + d)) 2) * ((LK : ℝ) : EReal) := by
  rw [i_b512]
  exact bt_in _ (nat3 x0 0) 2560 (qB5_v c a2 p2 x0) hq 1 (by decide) _ _ _ _ _ _ _ _ rfl rfl rfl rfl 2 _ _ _ (fun g => sc (kaF (fun s d => nat3 x1 0 s (640 + d)) g)) (w_ks5 c a3 p3 x1 hk) rfl r
theorem w_b513 (hq : RQ x0) (hk : RM x1) (r : Fin 128) :
    (sl.v8047 c a2 p2 a3 p3 x0 x1) (ix2 0 r) = sc (qaF ((fun g s d => nat3 x0 0 s (2560 + 128 * g + d)) (r.val % 4)) 1) * sc (kaF (fun s d => nat3 x1 0 s (640 + d)) 3) * ((LK : ℝ) : EReal) := by
  rw [i_b513]
  exact bt_in _ (nat3 x0 0) 2560 (qB5_v c a2 p2 x0) hq 1 (by decide) _ _ _ _ _ _ _ _ rfl rfl rfl rfl 3 _ _ _ (fun g => sc (kaF (fun s d => nat3 x1 0 s (640 + d)) g)) (w_ks5 c a3 p3 x1 hk) rfl r
theorem e5_00 : (sl.v8171 c a2 p2 a3 p3 a4 p4 z x0 x1 x2) = bk00 (sl.v6017 c a3 p3 x1) (sl.v7953 c a2 p2 a3 p3 a4 p4 z x0 x1 x2) (sl.v7964 c a2 p2 x0) (sl.v7990 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_01 : (sl.v8184 c a2 p2 a3 p3 a4 p4 z x0 x1 x2) = bk01 (sl.v6017 c a3 p3 x1) (sl.v7953 c a2 p2 a3 p3 a4 p4 z x0 x1 x2) (sl.v7964 c a2 p2 x0) (sl.v7990 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_10 : (sl.v8320 c a2 p2 a3 p3 a4 p4 z x0 x1 x2) = bk10 (sl.v6017 c a3 p3 x1) (sl.v7953 c a2 p2 a3 p3 a4 p4 z x0 x1 x2) (sl.v7964 c a2 p2 x0) (sl.v7990 c a2 p2 a3 p3 x0 x1) (sl.v7995 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_11 : (sl.v8333 c a2 p2 a3 p3 a4 p4 z x0 x1 x2) = bk11 (sl.v6017 c a3 p3 x1) (sl.v7953 c a2 p2 a3 p3 a4 p4 z x0 x1 x2) (sl.v7964 c a2 p2 x0) (sl.v7990 c a2 p2 a3 p3 x0 x1) (sl.v7995 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_20 : (sl.v8475 c a2 p2 a3 p3 a4 p4 z x0 x1 x2) = bk20 (sl.v6017 c a3 p3 x1) (sl.v7953 c a2 p2 a3 p3 a4 p4 z x0 x1 x2) (sl.v8006 c a2 p2 x0) (sl.v8032 c a2 p2 a3 p3 x0 x1) (sl.v8037 c a2 p2 a3 p3 x0 x1) (sl.v8042 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_21 : (sl.v8488 c a2 p2 a3 p3 a4 p4 z x0 x1 x2) = bk21 (sl.v6017 c a3 p3 x1) (sl.v7953 c a2 p2 a3 p3 a4 p4 z x0 x1 x2) (sl.v8006 c a2 p2 x0) (sl.v8032 c a2 p2 a3 p3 x0 x1) (sl.v8037 c a2 p2 a3 p3 x0 x1) (sl.v8042 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_30 : (sl.v8633 c a2 p2 a3 p3 a4 p4 z x0 x1 x2) = bk30 (sl.v6017 c a3 p3 x1) (sl.v7953 c a2 p2 a3 p3 a4 p4 z x0 x1 x2) (sl.v8006 c a2 p2 x0) (sl.v8032 c a2 p2 a3 p3 x0 x1) (sl.v8037 c a2 p2 a3 p3 x0 x1) (sl.v8042 c a2 p2 a3 p3 x0 x1) (sl.v8047 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
theorem e5_31 : (sl.v8646 c a2 p2 a3 p3 a4 p4 z x0 x1 x2) = bk31 (sl.v6017 c a3 p3 x1) (sl.v7953 c a2 p2 a3 p3 a4 p4 z x0 x1 x2) (sl.v8006 c a2 p2 x0) (sl.v8032 c a2 p2 a3 p3 x0 x1) (sl.v8037 c a2 p2 a3 p3 x0 x1) (sl.v8042 c a2 p2 a3 p3 x0 x1) (sl.v8047 c a2 p2 a3 p3 x0 x1) (sl.v5562 c a4 p4 x2) (extractStridedSlice S1x128 ![0, 128] (sl.v5523 c a4 p4 x2) (by decide)) (extractStridedSlice S1x128 ![0, 128] (sl.v5498 c a4 p4 x2) (by decide)) := rfl
/-- The sixth head of a block: the attention's output, the four query heads' rows interleaved. -/
theorem os_h5 (h0 : RE x0) (h1 : RE x1) (h2 : RE x2) (R : Fin 1024) (d : Fin 128) :
    View.canon (sl.HS1_48 c a2 p2 a3 p3 a4 p4 z x0 x1 x2) (ix2 R d) = oF (fun s d => nat3 x0 0 s (2560 + 128 * (R.val % 4) + d)) (fun s d => nat3 x1 0 s (640 + d)) (fun s d => nat3 x2 0 s (640 + d)) (R.val / 4) d := by
  refine os_eight _ _ _ _ _ _ _ _ _ _ _ _ _ _ _ _ _ (fun j => oF ((fun g s d => nat3 x0 0 s (2560 + 128 * g + d)) j) (fun s d => nat3 x1 0 s (640 + d)) (fun s d => nat3 x2 0 s (640 + d))) ?_ ?_ ?_ ?_ ?_ ?_ ?_ ?_ R d
  · rw [e5_00 c a2 p2 a3 a4 p3 p4 z x0 x1 x2]
    exact bk00_v _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m50 c a2 p2 x0 (rq h0)) (w_b500 c a2 p2 a3 p3 x0 x1 (rq h0) (rm h1)) (w_vc5 c a4 p4 x2 (rm h2)) (w_vs5 c a4 p4 x2 (rm h2)) (w_mv5 c a4 p4 x2)
  · rw [e5_01 c a2 p2 a3 a4 p3 p4 z x0 x1 x2]
    exact bk01_v _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m50 c a2 p2 x0 (rq h0)) (w_b500 c a2 p2 a3 p3 x0 x1 (rq h0) (rm h1)) (w_vc5 c a4 p4 x2 (rm h2)) (w_vs5 c a4 p4 x2 (rm h2)) (w_mv5 c a4 p4 x2)
  · rw [e5_10 c a2 p2 a3 a4 p3 p4 z x0 x1 x2]
    exact bk10_v _ _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m50 c a2 p2 x0 (rq h0)) (w_b500 c a2 p2 a3 p3 x0 x1 (rq h0) (rm h1)) (w_b501 c a2 p2 a3 p3 x0 x1 (rq h0) (rm h1)) (w_vc5 c a4 p4 x2 (rm h2)) (w_vs5 c a4 p4 x2 (rm h2)) (w_mv5 c a4 p4 x2)
  · rw [e5_11 c a2 p2 a3 a4 p3 p4 z x0 x1 x2]
    exact bk11_v _ _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m50 c a2 p2 x0 (rq h0)) (w_b500 c a2 p2 a3 p3 x0 x1 (rq h0) (rm h1)) (w_b501 c a2 p2 a3 p3 x0 x1 (rq h0) (rm h1)) (w_vc5 c a4 p4 x2 (rm h2)) (w_vs5 c a4 p4 x2 (rm h2)) (w_mv5 c a4 p4 x2)
  · rw [e5_20 c a2 p2 a3 a4 p3 p4 z x0 x1 x2]
    exact bk20_v _ _ _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m51 c a2 p2 x0 (rq h0)) (w_b510 c a2 p2 a3 p3 x0 x1 (rq h0) (rm h1)) (w_b511 c a2 p2 a3 p3 x0 x1 (rq h0) (rm h1)) (w_b512 c a2 p2 a3 p3 x0 x1 (rq h0) (rm h1)) (w_vc5 c a4 p4 x2 (rm h2)) (w_vs5 c a4 p4 x2 (rm h2)) (w_mv5 c a4 p4 x2)
  · rw [e5_21 c a2 p2 a3 a4 p3 p4 z x0 x1 x2]
    exact bk21_v _ _ _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m51 c a2 p2 x0 (rq h0)) (w_b510 c a2 p2 a3 p3 x0 x1 (rq h0) (rm h1)) (w_b511 c a2 p2 a3 p3 x0 x1 (rq h0) (rm h1)) (w_b512 c a2 p2 a3 p3 x0 x1 (rq h0) (rm h1)) (w_vc5 c a4 p4 x2 (rm h2)) (w_vs5 c a4 p4 x2 (rm h2)) (w_mv5 c a4 p4 x2)
  · rw [e5_30 c a2 p2 a3 a4 p3 p4 z x0 x1 x2]
    exact bk30_v _ _ _ _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m51 c a2 p2 x0 (rq h0)) (w_b510 c a2 p2 a3 p3 x0 x1 (rq h0) (rm h1)) (w_b511 c a2 p2 a3 p3 x0 x1 (rq h0) (rm h1)) (w_b512 c a2 p2 a3 p3 x0 x1 (rq h0) (rm h1)) (w_b513 c a2 p2 a3 p3 x0 x1 (rq h0) (rm h1)) (w_vc5 c a4 p4 x2 (rm h2)) (w_vs5 c a4 p4 x2 (rm h2)) (w_mv5 c a4 p4 x2)
  · rw [e5_31 c a2 p2 a3 a4 p3 p4 z x0 x1 x2]
    exact bk31_v _ _ _ _ _ _ _ _ _ _ (fun g s d => nat3 x0 0 s (2560 + 128 * g + d)) (fun s d => nat3 x1 0 s (640 + d)) (fun s d => nat3 x2 0 s (640 + d)) (fun g s d => h0 _ _) (fun s d => h1 _ _) (fun s d => h2 _ _) (w_kc5 c a3 p3 x1 (rm h1)) (w_qc5 c a2 p2 a3 a4 p3 p4 z x0 x1 x2 (rq h0)) (w_m51 c a2 p2 x0 (rq h0)) (w_b510 c a2 p2 a3 p3 x0 x1 (rq h0) (rm h1)) (w_b511 c a2 p2 a3 p3 x0 x1 (rq h0) (rm h1)) (w_b512 c a2 p2 a3 p3 x0 x1 (rq h0) (rm h1)) (w_b513 c a2 p2 a3 p3 x0 x1 (rq h0) (rm h1)) (w_vc5 c a4 p4 x2 (rm h2)) (w_vs5 c a4 p4 x2 (rm h2)) (w_mv5 c a4 p4 x2)
/-! ## The seventh head -/
theorem i_kc6 : (sl.v6104 c a3 p3 x1) = truncf .fp8e4m3 (kC 256 (by decide) (by decide) (by decide) (by decide) (by decide) (kB1 c a3 p3 x1) (kM1 c a3 p3 x1)) bitsLt_fp8e4m3_f32 := rfl
theorem i_qc6 : (sl.v9090 c a2 p2 a3 p3 a4 p4 z x0 x1 x2) = qcm z.view (sl.HS0_72 c a2 p2 a3 p3 a4 p4 x0 x1 x2) := rfl
theorem i_m60 : (sl.v9101 c a2 p2 x0) = mqa ![0, 0] (by decide) (mrow 0 (by decide) (by decide) (by decide) (by decide) (qM (qB6 c a2 p2 x0))) (qinv (qP (qB6 c a2 p2 x0))) := rfl
theorem i_m61 : (sl.v9143 c a2 p2 x0) = mqa ![4, 0] (by decide) (mrow 1 (by decide) (by decide) (by decide) (by decide) (qM (qB6 c a2 p2 x0))) (qinv (qP (qB6 c a2 p2 x0))) := rfl
theorem i_vc6 : (sl.v5580 c a4 p4 x2) = truncf .fp8e4m3 (vC 256 (by decide) (by decide) (vB1 a4 p4 x2)) bitsLt_fp8e4m3_f32 := rfl
theorem i_b600 : (sl.v9127 c a2 p2 a3 p3 x0 x1) = bta (sqm ![0, 0] ![1, 0] ![2, 0] ![3, 0] (by decide) (by decide) (by decide) (by decide) (qsc (qP (qB6 c a2 p2 x0)))) ![0, 0] (by decide) (ksc (kP 256 (by decide) (kB1 c a3 p3 x1) (kM1 c a3 p3 x1))) := rfl
theorem i_b601 : (sl.v9132 c a2 p2 a3 p3 x0 x1) = bta (sqm ![0, 0] ![1, 0] ![2, 0] ![3, 0] (by decide) (by decide) (by decide) (by decide) (qsc (qP (qB6 c a2 p2 x0)))) ![1, 0] (by decide) (ksc (kP 256 (by decide) (kB1 c a3 p3 x1) (kM1 c a3 p3 x1))) := rfl
theorem i_b610 : (sl.v9169 c a2 p2 a3 p3 x0 x1) = bta (sqm ![4, 0] ![5, 0] ![6, 0] ![7, 0] (by decide) (by decide) (by decide) (by decide) (qsc (qP (qB6 c a2 p2 x0)))) ![0, 0] (by decide) (ksc (kP 256 (by decide) (kB1 c a3 p3 x1) (kM1 c a3 p3 x1))) := rfl
theorem i_b611 : (sl.v9174 c a2 p2 a3 p3 x0 x1) = bta (sqm ![4, 0] ![5, 0] ![6, 0] ![7, 0] (by decide) (by decide) (by decide) (by decide) (qsc (qP (qB6 c a2 p2 x0)))) ![1, 0] (by decide) (ksc (kP 256 (by decide) (kB1 c a3 p3 x1) (kM1 c a3 p3 x1))) := rfl
theorem i_b612 : (sl.v9179 c a2 p2 a3 p3 x0 x1) = bta (sqm ![4, 0] ![5, 0] ![6, 0] ![7, 0] (by decide) (by decide) (by decide) (by decide) (qsc (qP (qB6 c a2 p2 x0)))) ![2, 0] (by decide) (ksc (kP 256 (by decide) (kB1 c a3 p3 x1) (kM1 c a3 p3 x1))) := rfl
theorem i_b613 : (sl.v9184 c a2 p2 a3 p3 x0 x1) = bta (sqm ![4, 0] ![5, 0] ![6, 0] ![7, 0] (by decide) (by decide) (by decide) (by decide) (qsc (qP (qB6 c a2 p2 x0)))) ![3, 0] (by decide) (ksc (kP 256 (by decide) (kB1 c a3 p3 x1) (kM1 c a3 p3 x1))) := rfl

theorem w_kc6 (hk : RM x1) (s : Fin 256) (d : Fin 128) : (sl.v6104 c a3 p3 x1) (ix2 s d) = kcF (fun s d => nat3 x1 0 s (768 + d)) s d := by
  rw [i_kc6]
  exact kC_v 256 _ _ _ _ _ _ _ (nat3 x1 0) 512 (kB1_v c a3 p3 x1) (v5800_v c a3 p3 x1) hk 768 rfl s d
theorem w_ks6 (hk : RM x1) (g : Fin 4) : (ksc (kP 256 (by decide) (kB1 c a3 p3 x1) (kM1 c a3 p3 x1))) (ix2 g 0) = sc (kaF (fun s d => nat3 x1 0 s (768 + d)) g) :=
  ksc_v _ g _ (kP_v 256 _ _ _ (nat3 x1 0) 512 (kB1_v c a3 p3 x1) (v5800_v c a3 p3 x1) hk 768 rfl g)
theorem w_qc6 (hq : RQ x0) (r : Fin 1024) (d : Fin 128) : (sl.v9090 c a2 p2 a3 p3 a4 p4 z x0 x1 x2) (ix2 r d) = qcF ((fun g s d => nat3 x0 0 s (3072 + 128 * g + d)) (r.val % 4)) (r.val / 4) d := by
  rw [i_qc6]
  exact (qcm_v _ _ r d).trans (il_q6 c a2 p2 a3 a4 p3 p4 x0 x1 x2 hq r d)
theorem w_vc6 (hv : RM x2) (s : Fin 256) (d : Fin 128) : (sl.v5580 c a4 p4 x2) (ix2 s d) = vcF (fun s d => nat3 x2 0 s (768 + d)) s d := by
  rw [i_vc6]
  exact vC_v 256 _ _ _ (nat3 x2 0) 512 (ld_512 a4 p4 x2) hv 768 rfl s d
theorem w_vs6 (hv : RM x2) (d : Fin 128) : (extractStridedSlice S1x128 ![0, 256] (sl.v5523 c a4 p4 x2) (by decide)) (ix2 0 d) = sc (vaF (fun s d => nat3 x2 0 s (768 + d)) d) :=
  sl_v _ _ _ (fun j => sc (vaF (nat3 x2 0) j)) 512 (v5523_v c a4 p4 x2 hv) 768 rfl d
theorem w_mv6 (d : Fin 128) : (extractStridedSlice S1x128 ![0, 256] (sl.v5498 c a4 p4 x2) (by decide)) (ix2 0 d) = mvF (fun s d => nat3 x2 0 s (768 + d)) d :=
  sl_v _ _ _ (mvF (nat3 x2 0)) 512 (v5498_v c a4 p4 x2) 768 rfl d
theorem w_m60 (hq : RQ x0) (l : Fin 256) (d : Fin 128) : (sl.v9101 c a2 p2 x0) (ix2 l d) = mqF ((fun g s d => nat3 x0 0 s (3072 + 128 * g + d)) (l.val % 4)) 0 d * sinv (qaF ((fun g s d => nat3 x0 0 s (3072 + 128 * g + d)) (l.val % 4)) 0) := by
  rw [i_m60]
  exact mq_in _ (nat3 x0 0) 3072 (qB6_v c a2 p2 x0) hq 0 (by decide) _ _ _ _ _ _ rfl l d
theorem w_m61 (hq : RQ x0) (l : Fin 256) (d : Fin 128) : (sl.v9143 c a2 p2 x0) (ix2 l d) = mqF ((fun g s d => nat3 x0 0 s (3072 + 128 * g + d)) (l.val % 4)) 1 d * sinv (qaF ((fun g s d => nat3 x0 0 s (3072 + 128 * g + d)) (l.val % 4)) 1) := by
  rw [i_m61]
  exact mq_in _ (nat3 x0 0) 3072 (qB6_v c a2 p2 x0) hq 1 (by decide) _ _ _ _ _ _ rfl l d
theorem w_b600 (hq : RQ x0) (hk : RM x1) (r : Fin 128) :
    (sl.v9127 c a2 p2 a3 p3 x0 x1) (ix2 0 r) = sc (qaF ((fun g s d => nat3 x0 0 s (3072 + 128 * g + d)) (r.val % 4)) 0) * sc (kaF (fun s d => nat3 x1 0 s (768 + d)) 0) * ((LK : ℝ) : EReal) := by
  rw [i_b600]
  exact bt_in _ (nat3 x0 0) 3072 (qB6_v c a2 p2 x0) hq 0 (by decide) _ _ _ _ _ _ _ _ rfl rfl rfl rfl 0 _ _ _ (fun g => sc (kaF (fun s d => nat3 x1 0 s (768 + d)) g)) (w_ks6 c a3 p3 x1 hk) rfl r
theorem w_b601 (hq : RQ x0) (hk : RM x1) (r : Fin 128) :
    (sl.v9132 c a2 p2 a3 p3 x0 x1) (ix2 0 r) = sc (qaF ((fun g s d => nat3 x0 0 s (3072 + 128 * g + d)) (r.val % 4)) 0) * sc (kaF (fun s d => nat3 x1 0 s (768 + d)) 1) * ((LK : ℝ) : EReal) := by
  rw [i_b601]
  exact bt_in _ (nat3 x0 0) 3072 (qB6_v c a2 p2 x0) hq 0 (by decide) _ _ _ _ _ _ _ _ rfl rfl rfl rfl 1 _ _ _ (fun g => sc (kaF (fun s d => nat3 x1 0 s (768 + d)) g)) (w_ks6 c a3 p3 x1 hk) rfl r
theorem w_b610 (hq : RQ x0) (hk : RM x1) (r : Fin 128) :
    (sl.v9169 c a2 p2 a3 p3 x0 x1) (ix2 0 r) = sc (qaF ((fun g s d => nat3 x0 0 s (3072 + 128 * g + d)) (r.val % 4)) 1) * sc (kaF (fun s d => nat3 x1 0 s (768 + d)) 0) * ((LK : ℝ) : EReal) := by
  rw [i_b610]
  exact bt_in _ (nat3 x0 0) 3072 (qB6_v c a2 p2 x0) hq 1 (by decide) _ _ _ _ _ _ _ _ rfl rfl rfl rfl 0 _ _ _ (fun g => sc (kaF (fun s d => nat3 x1 0 s (768 + d)) g)) (w_ks6 c a3 p3 x1 hk) rfl r
theorem w_b611 (hq : RQ x0) (hk : RM x1) (r : Fin 128) :
    (sl.v9174 c a2 p2 a3 p3 x0 x1) (ix2 0 r) = sc (qaF ((fun g s d => nat3 x0 0 s (3072 + 128 * g + d)) (r.val % 4)) 1) * sc (kaF (fun s d => nat3 x1 0 s (768 + d)) 1) * ((LK : ℝ) : EReal) := by
  rw [i_b611]
  exact bt_in _ (nat3 x0 0) 3072 (qB6_v c a2 p2 x0) hq 1 (by decide) _ _ _ _ _ _ _ _ rfl rfl rfl rfl 1 _ _ _ (fun g => sc (kaF (fun s d => nat3 x1 0 s (768 + d)) g)) (w_ks6 c a3 p3 x1 hk) rfl r
theorem w_b612 (hq : RQ x0) (hk : RM x1) (r : Fin 128) :
    (sl.v9179 c a2 p2 a3 p3 x0 x1) (ix2 0 r) = sc (qaF ((fun g s d => nat3 x0 0 s (3072 + 128 * g + d)) (r.val % 4)) 1) * sc (kaF (fun s d => nat3 x1 0 s (768 + d)) 2) * ((LK : ℝ) : EReal) := by
  rw [i_b612]
  exact bt_in _ (nat3 x0 0) 3072 (qB6_v c a2 p2 x0) hq 1 (by decide) _ _ _ _ _ _ _ _ rfl rfl rfl rfl 2 _ _ _ (fun g => sc (kaF (fun s d => nat3 x1 0 s (768 + d)) g)) (w_ks6 c a3 p3 x1 hk) rfl r
theorem w_b613 (hq : RQ x0) (hk : RM x1) (r : Fin 128) :
    (sl.v9184 c a2 p2 a3 p3 x0 x1) (ix2 0 r) = sc (qaF ((fun g s d => nat3 x0 0 s (3072 + 128 * g + d)) (r.val % 4)) 1) * sc (kaF (fun s d => nat3 x1 0 s (768 + d)) 3) * ((LK : ℝ) : EReal) := by
  rw [i_b613]
  exact bt_in _ (nat3 x0 0) 3072 (qB6_v c a2 p2 x0) hq 1 (by decide) _ _ _ _ _ _ _ _ rfl rfl rfl rfl 3 _ _ _ (fun g => sc (kaF (fun s d => nat3 x1 0 s (768 + d)) g)) (w_ks6 c a3 p3 x1 hk) rfl r
theorem e6_00 : (sl.v9308 c a2 p2 a3 p3 a4 p4 z x0 x1 x2) = bk00 (sl.v6104 c a3 p3 x1) (sl.v9090 c a2 p2 a3 p3 a4 p4 z x0 x1 x2) (sl.v9101 c a2 p2 x0) (sl.v9127 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_01 : (sl.v9321 c a2 p2 a3 p3 a4 p4 z x0 x1 x2) = bk01 (sl.v6104 c a3 p3 x1) (sl.v9090 c a2 p2 a3 p3 a4 p4 z x0 x1 x2) (sl.v9101 c a2 p2 x0) (sl.v9127 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_10 : (sl.v9457 c a2 p2 a3 p3 a4 p4 z x0 x1 x2) = bk10 (sl.v6104 c a3 p3 x1) (sl.v9090 c a2 p2 a3 p3 a4 p4 z x0 x1 x2) (sl.v9101 c a2 p2 x0) (sl.v9127 c a2 p2 a3 p3 x0 x1) (sl.v9132 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_11 : (sl.v9470 c a2 p2 a3 p3 a4 p4 z x0 x1 x2) = bk11 (sl.v6104 c a3 p3 x1) (sl.v9090 c a2 p2 a3 p3 a4 p4 z x0 x1 x2) (sl.v9101 c a2 p2 x0) (sl.v9127 c a2 p2 a3 p3 x0 x1) (sl.v9132 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_20 : (sl.v9612 c a2 p2 a3 p3 a4 p4 z x0 x1 x2) = bk20 (sl.v6104 c a3 p3 x1) (sl.v9090 c a2 p2 a3 p3 a4 p4 z x0 x1 x2) (sl.v9143 c a2 p2 x0) (sl.v9169 c a2 p2 a3 p3 x0 x1) (sl.v9174 c a2 p2 a3 p3 x0 x1) (sl.v9179 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_21 : (sl.v9625 c a2 p2 a3 p3 a4 p4 z x0 x1 x2) = bk21 (sl.v6104 c a3 p3 x1) (sl.v9090 c a2 p2 a3 p3 a4 p4 z x0 x1 x2) (sl.v9143 c a2 p2 x0) (sl.v9169 c a2 p2 a3 p3 x0 x1) (sl.v9174 c a2 p2 a3 p3 x0 x1) (sl.v9179 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_30 : (sl.v9770 c a2 p2 a3 p3 a4 p4 z x0 x1 x2) = bk30 (sl.v6104 c a3 p3 x1) (sl.v9090 c a2 p2 a3 p3 a4 p4 z x0 x1 x2) (sl.v9143 c a2 p2 x0) (sl.v9169 c a2 p2 a3 p3 x0 x1) (sl.v9174 c a2 p2 a3 p3 x0 x1) (sl.v9179 c a2 p2 a3 p3 x0 x1) (sl.v9184 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
theorem e6_31 : (sl.v9783 c a2 p2 a3 p3 a4 p4 z x0 x1 x2) = bk31 (sl.v6104 c a3 p3 x1) (sl.v9090 c a2 p2 a3 p3 a4 p4 z x0 x1 x2) (sl.v9143 c a2 p2 x0) (sl.v9169 c a2 p2 a3 p3 x0 x1) (sl.v9174 c a2 p2 a3 p3 x0 x1) (sl.v9179 c a2 p2 a3 p3 x0 x1) (sl.v9184 c a2 p2 a3 p3 x0 x1) (sl.v5580 c a4 p4 x2) (extractStridedSlice S1x128 ![0, 256] (sl.v5523 c a4 p4 x2) (by decide)) (extractStridedSlice S1x128 ![0, 256] (sl.v5498 c a4 p4 x2) (by decide)) := rfl
/-- The seventh head of a block: the attention's output, the four query heads' rows interleaved. -/
theorem os_h6 (h0 : RE x0) (h1 : RE x1) (h2 : RE x2) (R : Fin 1024) (d : Fin 128) :
    View.canon (sl.HS1_56 c a2 p2 a3 p3 a4 p4 z x0 x1 x2) (ix2 R d) = oF (fun s d => nat3 x0 0 s (3072 + 128 * (R.val % 4) + d)) (fun s d => nat3 x1 0 s (768 + d)) (fun s d => nat3 x2 0 s (768 + d)) (R.val / 4) d := by
  refine os_eight _ _ _ _ _ _ _ _ _ _ _ _ _ _ _ _ _ (fun j => oF ((fun g s d => nat3 x0 0 s (3072 + 128 * g + d)) j) (fun s d => nat3 x1 0 s (768 + d)) (fun s d => nat3 x2 0 s (768 + d))) ?_ ?_ ?_ ?_ ?_ ?_ ?_ ?_ R d
  · rw [e6_00 c a2 p2 a3 a4 p3 p4 z x0 x1 x2]
    exact bk00_v _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m60 c a2 p2 x0 (rq h0)) (w_b600 c a2 p2 a3 p3 x0 x1 (rq h0) (rm h1)) (w_vc6 c a4 p4 x2 (rm h2)) (w_vs6 c a4 p4 x2 (rm h2)) (w_mv6 c a4 p4 x2)
  · rw [e6_01 c a2 p2 a3 a4 p3 p4 z x0 x1 x2]
    exact bk01_v _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m60 c a2 p2 x0 (rq h0)) (w_b600 c a2 p2 a3 p3 x0 x1 (rq h0) (rm h1)) (w_vc6 c a4 p4 x2 (rm h2)) (w_vs6 c a4 p4 x2 (rm h2)) (w_mv6 c a4 p4 x2)
  · rw [e6_10 c a2 p2 a3 a4 p3 p4 z x0 x1 x2]
    exact bk10_v _ _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m60 c a2 p2 x0 (rq h0)) (w_b600 c a2 p2 a3 p3 x0 x1 (rq h0) (rm h1)) (w_b601 c a2 p2 a3 p3 x0 x1 (rq h0) (rm h1)) (w_vc6 c a4 p4 x2 (rm h2)) (w_vs6 c a4 p4 x2 (rm h2)) (w_mv6 c a4 p4 x2)
  · rw [e6_11 c a2 p2 a3 a4 p3 p4 z x0 x1 x2]
    exact bk11_v _ _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m60 c a2 p2 x0 (rq h0)) (w_b600 c a2 p2 a3 p3 x0 x1 (rq h0) (rm h1)) (w_b601 c a2 p2 a3 p3 x0 x1 (rq h0) (rm h1)) (w_vc6 c a4 p4 x2 (rm h2)) (w_vs6 c a4 p4 x2 (rm h2)) (w_mv6 c a4 p4 x2)
  · rw [e6_20 c a2 p2 a3 a4 p3 p4 z x0 x1 x2]
    exact bk20_v _ _ _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m61 c a2 p2 x0 (rq h0)) (w_b610 c a2 p2 a3 p3 x0 x1 (rq h0) (rm h1)) (w_b611 c a2 p2 a3 p3 x0 x1 (rq h0) (rm h1)) (w_b612 c a2 p2 a3 p3 x0 x1 (rq h0) (rm h1)) (w_vc6 c a4 p4 x2 (rm h2)) (w_vs6 c a4 p4 x2 (rm h2)) (w_mv6 c a4 p4 x2)
  · rw [e6_21 c a2 p2 a3 a4 p3 p4 z x0 x1 x2]
    exact bk21_v _ _ _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m61 c a2 p2 x0 (rq h0)) (w_b610 c a2 p2 a3 p3 x0 x1 (rq h0) (rm h1)) (w_b611 c a2 p2 a3 p3 x0 x1 (rq h0) (rm h1)) (w_b612 c a2 p2 a3 p3 x0 x1 (rq h0) (rm h1)) (w_vc6 c a4 p4 x2 (rm h2)) (w_vs6 c a4 p4 x2 (rm h2)) (w_mv6 c a4 p4 x2)
  · rw [e6_30 c a2 p2 a3 a4 p3 p4 z x0 x1 x2]
    exact bk30_v _ _ _ _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m61 c a2 p2 x0 (rq h0)) (w_b610 c a2 p2 a3 p3 x0 x1 (rq h0) (rm h1)) (w_b611 c a2 p2 a3 p3 x0 x1 (rq h0) (rm h1)) (w_b612 c a2 p2 a3 p3 x0 x1 (rq h0) (rm h1)) (w_b613 c a2 p2 a3 p3 x0 x1 (rq h0) (rm h1)) (w_vc6 c a4 p4 x2 (rm h2)) (w_vs6 c a4 p4 x2 (rm h2)) (w_mv6 c a4 p4 x2)
  · rw [e6_31 c a2 p2 a3 a4 p3 p4 z x0 x1 x2]
    exact bk31_v _ _ _ _ _ _ _ _ _ _ (fun g s d => nat3 x0 0 s (3072 + 128 * g + d)) (fun s d => nat3 x1 0 s (768 + d)) (fun s d => nat3 x2 0 s (768 + d)) (fun g s d => h0 _ _) (fun s d => h1 _ _) (fun s d => h2 _ _) (w_kc6 c a3 p3 x1 (rm h1)) (w_qc6 c a2 p2 a3 a4 p3 p4 z x0 x1 x2 (rq h0)) (w_m61 c a2 p2 x0 (rq h0)) (w_b610 c a2 p2 a3 p3 x0 x1 (rq h0) (rm h1)) (w_b611 c a2 p2 a3 p3 x0 x1 (rq h0) (rm h1)) (w_b612 c a2 p2 a3 p3 x0 x1 (rq h0) (rm h1)) (w_b613 c a2 p2 a3 p3 x0 x1 (rq h0) (rm h1)) (w_vc6 c a4 p4 x2 (rm h2)) (w_vs6 c a4 p4 x2 (rm h2)) (w_mv6 c a4 p4 x2)
/-! ## The eighth head -/
theorem i_kc7 : (sl.v6191 c a3 p3 x1) = truncf .fp8e4m3 (kC 384 (by decide) (by decide) (by decide) (by decide) (by decide) (kB1 c a3 p3 x1) (kM1 c a3 p3 x1)) bitsLt_fp8e4m3_f32 := rfl
theorem i_qc7 : (sl.r_51 c a2 p2 a3 p3 a4 p4 z x0 x1 x2) = qcm z.view (sl.HS0_80 c a2 p2 a3 p3 a4 p4 x0 x1 x2) := rfl
theorem i_m70 : (sl.r_53 c a2 p2 x0) = mqa ![0, 0] (by decide) (mrow 0 (by decide) (by decide) (by decide) (by decide) (qM (qB7 c a2 p2 x0))) (qinv (qP (qB7 c a2 p2 x0))) := rfl
theorem i_m71 : (sl.r_58 c a2 p2 x0) = mqa ![4, 0] (by decide) (mrow 1 (by decide) (by decide) (by decide) (by decide) (qM (qB7 c a2 p2 x0))) (qinv (qP (qB7 c a2 p2 x0))) := rfl
theorem i_vc7 : (sl.v5598 c a4 p4 x2) = truncf .fp8e4m3 (vC 384 (by decide) (by decide) (vB1 a4 p4 x2)) bitsLt_fp8e4m3_f32 := rfl
theorem i_b700 : (sl.r_54 c a2 p2 a3 p3 x0 x1) = bta (sqm ![0, 0] ![1, 0] ![2, 0] ![3, 0] (by decide) (by decide) (by decide) (by decide) (qsc (qP (qB7 c a2 p2 x0)))) ![0, 0] (by decide) (ksc (kP 384 (by decide) (kB1 c a3 p3 x1) (kM1 c a3 p3 x1))) := rfl
theorem i_b701 : (sl.r_55 c a2 p2 a3 p3 x0 x1) = bta (sqm ![0, 0] ![1, 0] ![2, 0] ![3, 0] (by decide) (by decide) (by decide) (by decide) (qsc (qP (qB7 c a2 p2 x0)))) ![1, 0] (by decide) (ksc (kP 384 (by decide) (kB1 c a3 p3 x1) (kM1 c a3 p3 x1))) := rfl
theorem i_b710 : (sl.r_59 c a2 p2 a3 p3 x0 x1) = bta (sqm ![4, 0] ![5, 0] ![6, 0] ![7, 0] (by decide) (by decide) (by decide) (by decide) (qsc (qP (qB7 c a2 p2 x0)))) ![0, 0] (by decide) (ksc (kP 384 (by decide) (kB1 c a3 p3 x1) (kM1 c a3 p3 x1))) := rfl
theorem i_b711 : (sl.r_60 c a2 p2 a3 p3 x0 x1) = bta (sqm ![4, 0] ![5, 0] ![6, 0] ![7, 0] (by decide) (by decide) (by decide) (by decide) (qsc (qP (qB7 c a2 p2 x0)))) ![1, 0] (by decide) (ksc (kP 384 (by decide) (kB1 c a3 p3 x1) (kM1 c a3 p3 x1))) := rfl
theorem i_b712 : (sl.r_61 c a2 p2 a3 p3 x0 x1) = bta (sqm ![4, 0] ![5, 0] ![6, 0] ![7, 0] (by decide) (by decide) (by decide) (by decide) (qsc (qP (qB7 c a2 p2 x0)))) ![2, 0] (by decide) (ksc (kP 384 (by decide) (kB1 c a3 p3 x1) (kM1 c a3 p3 x1))) := rfl
theorem i_b713 : (sl.r_62 c a2 p2 a3 p3 x0 x1) = bta (sqm ![4, 0] ![5, 0] ![6, 0] ![7, 0] (by decide) (by decide) (by decide) (by decide) (qsc (qP (qB7 c a2 p2 x0)))) ![3, 0] (by decide) (ksc (kP 384 (by decide) (kB1 c a3 p3 x1) (kM1 c a3 p3 x1))) := rfl

theorem w_kc7 (hk : RM x1) (s : Fin 256) (d : Fin 128) : (sl.v6191 c a3 p3 x1) (ix2 s d) = kcF (fun s d => nat3 x1 0 s (896 + d)) s d := by
  rw [i_kc7]
  exact kC_v 384 _ _ _ _ _ _ _ (nat3 x1 0) 512 (kB1_v c a3 p3 x1) (v5800_v c a3 p3 x1) hk 896 rfl s d
theorem w_ks7 (hk : RM x1) (g : Fin 4) : (ksc (kP 384 (by decide) (kB1 c a3 p3 x1) (kM1 c a3 p3 x1))) (ix2 g 0) = sc (kaF (fun s d => nat3 x1 0 s (896 + d)) g) :=
  ksc_v _ g _ (kP_v 384 _ _ _ (nat3 x1 0) 512 (kB1_v c a3 p3 x1) (v5800_v c a3 p3 x1) hk 896 rfl g)
theorem w_qc7 (hq : RQ x0) (r : Fin 1024) (d : Fin 128) : (sl.r_51 c a2 p2 a3 p3 a4 p4 z x0 x1 x2) (ix2 r d) = qcF ((fun g s d => nat3 x0 0 s (3584 + 128 * g + d)) (r.val % 4)) (r.val / 4) d := by
  rw [i_qc7]
  exact (qcm_v _ _ r d).trans (il_q7 c a2 p2 a3 a4 p3 p4 x0 x1 x2 hq r d)
theorem w_vc7 (hv : RM x2) (s : Fin 256) (d : Fin 128) : (sl.v5598 c a4 p4 x2) (ix2 s d) = vcF (fun s d => nat3 x2 0 s (896 + d)) s d := by
  rw [i_vc7]
  exact vC_v 384 _ _ _ (nat3 x2 0) 512 (ld_512 a4 p4 x2) hv 896 rfl s d
theorem w_vs7 (hv : RM x2) (d : Fin 128) : (extractStridedSlice S1x128 ![0, 384] (sl.v5523 c a4 p4 x2) (by decide)) (ix2 0 d) = sc (vaF (fun s d => nat3 x2 0 s (896 + d)) d) :=
  sl_v _ _ _ (fun j => sc (vaF (nat3 x2 0) j)) 512 (v5523_v c a4 p4 x2 hv) 896 rfl d
theorem w_mv7 (d : Fin 128) : (extractStridedSlice S1x128 ![0, 384] (sl.v5498 c a4 p4 x2) (by decide)) (ix2 0 d) = mvF (fun s d => nat3 x2 0 s (896 + d)) d :=
  sl_v _ _ _ (mvF (nat3 x2 0)) 512 (v5498_v c a4 p4 x2) 896 rfl d
theorem w_m70 (hq : RQ x0) (l : Fin 256) (d : Fin 128) : (sl.r_53 c a2 p2 x0) (ix2 l d) = mqF ((fun g s d => nat3 x0 0 s (3584 + 128 * g + d)) (l.val % 4)) 0 d * sinv (qaF ((fun g s d => nat3 x0 0 s (3584 + 128 * g + d)) (l.val % 4)) 0) := by
  rw [i_m70]
  exact mq_in _ (nat3 x0 0) 3584 (qB7_v c a2 p2 x0) hq 0 (by decide) _ _ _ _ _ _ rfl l d
theorem w_m71 (hq : RQ x0) (l : Fin 256) (d : Fin 128) : (sl.r_58 c a2 p2 x0) (ix2 l d) = mqF ((fun g s d => nat3 x0 0 s (3584 + 128 * g + d)) (l.val % 4)) 1 d * sinv (qaF ((fun g s d => nat3 x0 0 s (3584 + 128 * g + d)) (l.val % 4)) 1) := by
  rw [i_m71]
  exact mq_in _ (nat3 x0 0) 3584 (qB7_v c a2 p2 x0) hq 1 (by decide) _ _ _ _ _ _ rfl l d
theorem w_b700 (hq : RQ x0) (hk : RM x1) (r : Fin 128) :
    (sl.r_54 c a2 p2 a3 p3 x0 x1) (ix2 0 r) = sc (qaF ((fun g s d => nat3 x0 0 s (3584 + 128 * g + d)) (r.val % 4)) 0) * sc (kaF (fun s d => nat3 x1 0 s (896 + d)) 0) * ((LK : ℝ) : EReal) := by
  rw [i_b700]
  exact bt_in _ (nat3 x0 0) 3584 (qB7_v c a2 p2 x0) hq 0 (by decide) _ _ _ _ _ _ _ _ rfl rfl rfl rfl 0 _ _ _ (fun g => sc (kaF (fun s d => nat3 x1 0 s (896 + d)) g)) (w_ks7 c a3 p3 x1 hk) rfl r
theorem w_b701 (hq : RQ x0) (hk : RM x1) (r : Fin 128) :
    (sl.r_55 c a2 p2 a3 p3 x0 x1) (ix2 0 r) = sc (qaF ((fun g s d => nat3 x0 0 s (3584 + 128 * g + d)) (r.val % 4)) 0) * sc (kaF (fun s d => nat3 x1 0 s (896 + d)) 1) * ((LK : ℝ) : EReal) := by
  rw [i_b701]
  exact bt_in _ (nat3 x0 0) 3584 (qB7_v c a2 p2 x0) hq 0 (by decide) _ _ _ _ _ _ _ _ rfl rfl rfl rfl 1 _ _ _ (fun g => sc (kaF (fun s d => nat3 x1 0 s (896 + d)) g)) (w_ks7 c a3 p3 x1 hk) rfl r
theorem w_b710 (hq : RQ x0) (hk : RM x1) (r : Fin 128) :
    (sl.r_59 c a2 p2 a3 p3 x0 x1) (ix2 0 r) = sc (qaF ((fun g s d => nat3 x0 0 s (3584 + 128 * g + d)) (r.val % 4)) 1) * sc (kaF (fun s d => nat3 x1 0 s (896 + d)) 0) * ((LK : ℝ) : EReal) := by
  rw [i_b710]
  exact bt_in _ (nat3 x0 0) 3584 (qB7_v c a2 p2 x0) hq 1 (by decide) _ _ _ _ _ _ _ _ rfl rfl rfl rfl 0 _ _ _ (fun g => sc (kaF (fun s d => nat3 x1 0 s (896 + d)) g)) (w_ks7 c a3 p3 x1 hk) rfl r
theorem w_b711 (hq : RQ x0) (hk : RM x1) (r : Fin 128) :
    (sl.r_60 c a2 p2 a3 p3 x0 x1) (ix2 0 r) = sc (qaF ((fun g s d => nat3 x0 0 s (3584 + 128 * g + d)) (r.val % 4)) 1) * sc (kaF (fun s d => nat3 x1 0 s (896 + d)) 1) * ((LK : ℝ) : EReal) := by
  rw [i_b711]
  exact bt_in _ (nat3 x0 0) 3584 (qB7_v c a2 p2 x0) hq 1 (by decide) _ _ _ _ _ _ _ _ rfl rfl rfl rfl 1 _ _ _ (fun g => sc (kaF (fun s d => nat3 x1 0 s (896 + d)) g)) (w_ks7 c a3 p3 x1 hk) rfl r
theorem w_b712 (hq : RQ x0) (hk : RM x1) (r : Fin 128) :
    (sl.r_61 c a2 p2 a3 p3 x0 x1) (ix2 0 r) = sc (qaF ((fun g s d => nat3 x0 0 s (3584 + 128 * g + d)) (r.val % 4)) 1) * sc (kaF (fun s d => nat3 x1 0 s (896 + d)) 2) * ((LK : ℝ) : EReal) := by
  rw [i_b712]
  exact bt_in _ (nat3 x0 0) 3584 (qB7_v c a2 p2 x0) hq 1 (by decide) _ _ _ _ _ _ _ _ rfl rfl rfl rfl 2 _ _ _ (fun g => sc (kaF (fun s d => nat3 x1 0 s (896 + d)) g)) (w_ks7 c a3 p3 x1 hk) rfl r
theorem w_b713 (hq : RQ x0) (hk : RM x1) (r : Fin 128) :
    (sl.r_62 c a2 p2 a3 p3 x0 x1) (ix2 0 r) = sc (qaF ((fun g s d => nat3 x0 0 s (3584 + 128 * g + d)) (r.val % 4)) 1) * sc (kaF (fun s d => nat3 x1 0 s (896 + d)) 3) * ((LK : ℝ) : EReal) := by
  rw [i_b713]
  exact bt_in _ (nat3 x0 0) 3584 (qB7_v c a2 p2 x0) hq 1 (by decide) _ _ _ _ _ _ _ _ rfl rfl rfl rfl 3 _ _ _ (fun g => sc (kaF (fun s d => nat3 x1 0 s (896 + d)) g)) (w_ks7 c a3 p3 x1 hk) rfl r
theorem e7_00 : k0_pay1652 (F := Ideal) (sl.v5498 c a4 p4 x2) (sl.v5523 c a4 p4 x2) (sl.v5598 c a4 p4 x2) (sl.r_65 c a2 p2 a3 p3 a4 p4 z x0 x1 x2) (sl.r_67 c a2 p2 a3 p3 a4 p4 z x0 x1 x2) (sl.r_68 c a2 p2 a3 p3 a4 p4 z x0 x1 x2) = bk00 (sl.v6191 c a3 p3 x1) (sl.r_51 c a2 p2 a3 p3 a4 p4 z x0 x1 x2) (sl.r_53 c a2 p2 x0) (sl.r_54 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_01 : k0_pay1653 (F := Ideal) (sl.v5498 c a4 p4 x2) (sl.v5523 c a4 p4 x2) (sl.v5598 c a4 p4 x2) (sl.r_67 c a2 p2 a3 p3 a4 p4 z x0 x1 x2) (sl.r_68 c a2 p2 a3 p3 a4 p4 z x0 x1 x2) (sl.r_69 c a2 p2 a3 p3 a4 p4 z x0 x1 x2) = bk01 (sl.v6191 c a3 p3 x1) (sl.r_51 c a2 p2 a3 p3 a4 p4 z x0 x1 x2) (sl.r_53 c a2 p2 x0) (sl.r_54 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_10 : k0_pay1668 (F := Ideal) (sl.v5498 c a4 p4 x2) (sl.v5523 c a4 p4 x2) (sl.v5598 c a4 p4 x2) (sl.r_75 c a2 p2 a3 p3 a4 p4 z x0 x1 x2) (sl.r_76 c a2 p2 a3 p3 a4 p4 z x0 x1 x2) (sl.r_77 c a2 p2 a3 p3 a4 p4 z x0 x1 x2) (sl.r_78 c a2 p2 a3 p3 a4 p4 z x0 x1 x2) k0_pay1665 = bk10 (sl.v6191 c a3 p3 x1) (sl.r_51 c a2 p2 a3 p3 a4 p4 z x0 x1 x2) (sl.r_53 c a2 p2 x0) (sl.r_54 c a2 p2 a3 p3 x0 x1) (sl.r_55 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_11 : k0_pay1669 (F := Ideal) (sl.v5498 c a4 p4 x2) (sl.v5523 c a4 p4 x2) (sl.v5598 c a4 p4 x2) (sl.r_76 c a2 p2 a3 p3 a4 p4 z x0 x1 x2) (sl.r_77 c a2 p2 a3 p3 a4 p4 z x0 x1 x2) (sl.r_78 c a2 p2 a3 p3 a4 p4 z x0 x1 x2) k0_pay1665 = bk11 (sl.v6191 c a3 p3 x1) (sl.r_51 c a2 p2 a3 p3 a4 p4 z x0 x1 x2) (sl.r_53 c a2 p2 x0) (sl.r_54 c a2 p2 a3 p3 x0 x1) (sl.r_55 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_20 : k0_pay1684 (F := Ideal) (sl.v5498 c a4 p4 x2) (sl.v5523 c a4 p4 x2) (sl.v5598 c a4 p4 x2) (sl.r_83 c a2 p2 a3 p3 a4 p4 z x0 x1 x2) (sl.r_84 c a2 p2 a3 p3 a4 p4 z x0 x1 x2) (sl.r_85 c a2 p2 a3 p3 a4 p4 z x0 x1 x2) (sl.r_86 c a2 p2 a3 p3 a4 p4 z x0 x1 x2) sl.v1471 k0_pay1679 k0_pay1680 k0_pay1681 = bk20 (sl.v6191 c a3 p3 x1) (sl.r_51 c a2 p2 a3 p3 a4 p4 z x0 x1 x2) (sl.r_58 c a2 p2 x0) (sl.r_59 c a2 p2 a3 p3 x0 x1) (sl.r_60 c a2 p2 a3 p3 x0 x1) (sl.r_61 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_21 : k0_pay1686 (F := Ideal) (sl.v10759 c a2 p2 a3 p3 a4 p4 z x0 x1 x2) = bk21 (sl.v6191 c a3 p3 x1) (sl.r_51 c a2 p2 a3 p3 a4 p4 z x0 x1 x2) (sl.r_58 c a2 p2 x0) (sl.r_59 c a2 p2 a3 p3 x0 x1) (sl.r_60 c a2 p2 a3 p3 x0 x1) (sl.r_61 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_30 : k0_pay1702 (F := Ideal) (sl.r_96 c a2 p2 a3 p3 a4 p4 z x0 x1 x2) = bk30 (sl.v6191 c a3 p3 x1) (sl.r_51 c a2 p2 a3 p3 a4 p4 z x0 x1 x2) (sl.r_58 c a2 p2 x0) (sl.r_59 c a2 p2 a3 p3 x0 x1) (sl.r_60 c a2 p2 a3 p3 x0 x1) (sl.r_61 c a2 p2 a3 p3 x0 x1) (sl.r_62 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
theorem e7_31 : k0_pay1703 (F := Ideal) (sl.v5498 c a4 p4 x2) (sl.v5523 c a4 p4 x2) (sl.r_94 c a2 p2 a3 p3 a4 p4 z x0 x1 x2) (sl.r_95 c a2 p2 a3 p3 a4 p4 z x0 x1 x2) = bk31 (sl.v6191 c a3 p3 x1) (sl.r_51 c a2 p2 a3 p3 a4 p4 z x0 x1 x2) (sl.r_58 c a2 p2 x0) (sl.r_59 c a2 p2 a3 p3 x0 x1) (sl.r_60 c a2 p2 a3 p3 x0 x1) (sl.r_61 c a2 p2 a3 p3 x0 x1) (sl.r_62 c a2 p2 a3 p3 x0 x1) (sl.v5598 c a4 p4 x2) (extractStridedSlice S1x128 ![0, 384] (sl.v5523 c a4 p4 x2) (by decide)) (extractStridedSlice S1x128 ![0, 384] (sl.v5498 c a4 p4 x2) (by decide)) := rfl
/-- The eighth head of a block: the attention's output, the four query heads' rows interleaved. -/
theorem os_h7 (h0 : RE x0) (h1 : RE x1) (h2 : RE x2) (R : Fin 1024) (d : Fin 128) :
    View.canon (sl.HS1_64 c a2 p2 a3 p3 a4 p4 z x0 x1 x2) (ix2 R d) = oF (fun s d => nat3 x0 0 s (3584 + 128 * (R.val % 4) + d)) (fun s d => nat3 x1 0 s (896 + d)) (fun s d => nat3 x2 0 s (896 + d)) (R.val / 4) d := by
  refine os_eight _ _ _ _ _ _ _ _ _ _ _ _ _ _ _ _ _ (fun j => oF ((fun g s d => nat3 x0 0 s (3584 + 128 * g + d)) j) (fun s d => nat3 x1 0 s (896 + d)) (fun s d => nat3 x2 0 s (896 + d))) ?_ ?_ ?_ ?_ ?_ ?_ ?_ ?_ R d
  · rw [e7_00 c a2 p2 a3 a4 p3 p4 z x0 x1 x2]
    exact bk00_v _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m70 c a2 p2 x0 (rq h0)) (w_b700 c a2 p2 a3 p3 x0 x1 (rq h0) (rm h1)) (w_vc7 c a4 p4 x2 (rm h2)) (w_vs7 c a4 p4 x2 (rm h2)) (w_mv7 c a4 p4 x2)
  · rw [e7_01 c a2 p2 a3 a4 p3 p4 z x0 x1 x2]
    exact bk01_v _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m70 c a2 p2 x0 (rq h0)) (w_b700 c a2 p2 a3 p3 x0 x1 (rq h0) (rm h1)) (w_vc7 c a4 p4 x2 (rm h2)) (w_vs7 c a4 p4 x2 (rm h2)) (w_mv7 c a4 p4 x2)
  · rw [e7_10 c a2 p2 a3 a4 p3 p4 z x0 x1 x2]
    exact bk10_v _ _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m70 c a2 p2 x0 (rq h0)) (w_b700 c a2 p2 a3 p3 x0 x1 (rq h0) (rm h1)) (w_b701 c a2 p2 a3 p3 x0 x1 (rq h0) (rm h1)) (w_vc7 c a4 p4 x2 (rm h2)) (w_vs7 c a4 p4 x2 (rm h2)) (w_mv7 c a4 p4 x2)
  · rw [e7_11 c a2 p2 a3 a4 p3 p4 z x0 x1 x2]
    exact bk11_v _ _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m70 c a2 p2 x0 (rq h0)) (w_b700 c a2 p2 a3 p3 x0 x1 (rq h0) (rm h1)) (w_b701 c a2 p2 a3 p3 x0 x1 (rq h0) (rm h1)) (w_vc7 c a4 p4 x2 (rm h2)) (w_vs7 c a4 p4 x2 (rm h2)) (w_mv7 c a4 p4 x2)
  · rw [e7_20 c a2 p2 a3 a4 p3 p4 z x0 x1 x2]
    exact bk20_v _ _ _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m71 c a2 p2 x0 (rq h0)) (w_b710 c a2 p2 a3 p3 x0 x1 (rq h0) (rm h1)) (w_b711 c a2 p2 a3 p3 x0 x1 (rq h0) (rm h1)) (w_b712 c a2 p2 a3 p3 x0 x1 (rq h0) (rm h1)) (w_vc7 c a4 p4 x2 (rm h2)) (w_vs7 c a4 p4 x2 (rm h2)) (w_mv7 c a4 p4 x2)
  · rw [e7_21 c a2 p2 a3 a4 p3 p4 z x0 x1 x2]
    exact bk21_v _ _ _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m71 c a2 p2 x0 (rq h0)) (w_b710 c a2 p2 a3 p3 x0 x1 (rq h0) (rm h1)) (w_b711 c a2 p2 a3 p3 x0 x1 (rq h0) (rm h1)) (w_b712 c a2 p2 a3 p3 x0 x1 (rq h0) (rm h1)) (w_vc7 c a4 p4 x2 (rm h2)) (w_vs7 c a4 p4 x2 (rm h2)) (w_mv7 c a4 p4 x2)
  · rw [e7_30 c a2 p2 a3 a4 p3 p4 z x0 x1 x2]
    exact bk30_v _ _ _ _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m71 c a2 p2 x0 (rq h0)) (w_b710 c a2 p2 a3 p3 x0 x1 (rq h0) (rm h1)) (w_b711 c a2 p2 a3 p3 x0 x1 (rq h0) (rm h1)) (w_b712 c a2 p2 a3 p3 x0 x1 (rq h0) (rm h1)) (w_b713 c a2 p2 a3 p3 x0 x1 (rq h0) (rm h1)) (w_vc7 c a4 p4 x2 (rm h2)) (w_vs7 c a4 p4 x2 (rm h2)) (w_mv7 c a4 p4 x2)
  · rw [e7_31 c a2 p2 a3 a4 p3 p4 z x0 x1 x2]
    exact bk31_v _ _ _ _ _ _ _ _ _ _ (fun g s d => nat3 x0 0 s (3584 + 128 * g + d)) (fun s d => nat3 x1 0 s (896 + d)) (fun s d => nat3 x2 0 s (896 + d)) (fun g s d => h0 _ _) (fun s d => h1 _ _) (fun s d => h2 _ _) (w_kc7 c a3 p3 x1 (rm h1)) (w_qc7 c a2 p2 a3 a4 p3 p4 z x0 x1 x2 (rq h0)) (w_m71 c a2 p2 x0 (rq h0)) (w_b710 c a2 p2 a3 p3 x0 x1 (rq h0) (rm h1)) (w_b711 c a2 p2 a3 p3 x0 x1 (rq h0) (rm h1)) (w_b712 c a2 p2 a3 p3 x0 x1 (rq h0) (rm h1)) (w_b713 c a2 p2 a3 p3 x0 x1 (rq h0) (rm h1)) (w_vc7 c a4 p4 x2 (rm h2)) (w_vs7 c a4 p4 x2 (rm h2)) (w_mv7 c a4 p4 x2)
end
end Cert.KernelIdeal.Gen
end
-- ==== Proof.OutArr.lean ====
/- The outputs. -/
module
public import proofs.«01_k».proof.Proof.AttHeads0
public import proofs.«01_k».proof.Proof.AttHeads1
public import proofs.«01_k».proof.Proof.Arrays2
@[expose] public section
set_option maxRecDepth 16384
noncomputable section
namespace Cert.KernelIdeal.Gen
open Idealize.ShloMosaic Idealize.ShloMosaic.TcCoe Idealize.ShloMosaic.Tactic
open Idealize.ShloMosaic.Pipeline (Dat RDat Cfg Window)
open Cert.Sage
variable (m : (ℓ : Loc nD τ sig) → Buf (Elt Ideal) ℓ)

/-- A head's output depends on its own rows and columns only. -/
theorem oF_congr (X X' K K' V V' : ℕ → ℕ → EReal) (q d : ℕ) (hq : q < 256) (hd : d < 128) (hX : ∀ s d, s < 256 → d < 128 → X s d = X' s d)
    (hK : ∀ s d, s < 256 → d < 128 → K s d = K' s d) (hV : ∀ s d, s < 256 → d < 128 → V s d = V' s d) : oF X K V q d = oF X' K' V' q d := by
  have e1 : ∀ j, j < 256 → sF X K q j = sF X' K' q j := by
    intro j hj
    have f1 : ∑ d ∈ Finset.range 128, kcF K j d * qcF X q d = ∑ d ∈ Finset.range 128, kcF K' j d * qcF X' q d :=
      Finset.sum_congr rfl fun d hd => by rw [kcF_congr K K' j d hj (Finset.mem_range.mp hd) hK, qcF_congr' X X' q d hq (Finset.mem_range.mp hd) hX]
    have f2 : ∑ d ∈ Finset.range 128, kcF K j d * mqF X (q / 128) d = ∑ d ∈ Finset.range 128, kcF K' j d * mqF X' (q / 128) d :=
      Finset.sum_congr rfl fun d hd => by rw [kcF_congr K K' j d hj (Finset.mem_range.mp hd) hK, mqF_congr X X' (q / 128) d d (by omega) fun s hs => hX s d hs (Finset.mem_range.mp hd)]
    unfold sF
    rw [f1, f2, kaF_congr K K' (j / 64) (by omega) hK, qaF_congr X X' (q / 128) (by omega) hX]
  have e2 : ∀ j, j < 256 → smF X K q j = smF X' K' q j := by
    intro j hj
    unfold smF
    rw [e1 j hj]
  have e3 : mxF X K q = mxF X' K' q := by
    unfold mxF
    exact Finset.sup_congr rfl fun j hj => e2 j (Finset.mem_range.mp hj)
  have e4 : ∀ j, j < 256 → pF X K q j = pF X' K' q j := by
    intro j hj
    unfold pF
    rw [e2 j hj, e3]
  have e5 : lF X K q = lF X' K' q := by
    unfold lF
    exact Finset.sum_congr rfl fun j hj => e4 j (Finset.mem_range.mp hj)
  have e6 : ∀ j, j < 256 → pcF X K q j = pcF X' K' q j := by
    intro j hj
    unfold pcF
    rw [e4 j hj]
  unfold oF
  rw [e5, vaF_congr V V' d d fun s hs => hV s d hs hd, mvF_congr V V' d d fun s hs => hV s d hs hd,
    Finset.sum_congr rfl fun j hj => by rw [vcF_congr V V' j d (Finset.mem_range.mp hj) hd hV, e6 j (Finset.mem_range.mp hj)]]

/-- A piece's local index is its place less the piece's offset. -/
theorem ix3_off (s : Fin 256) (k : Fin 4096) (o : Fin 3 → ℕ) (x : S1x256x128.Idx)
    (hx : ∀ e : Fin 3, ((ix3 0 s k : S1x256x4096.Idx) e : ℕ) = o e + (x e : ℕ)) (h1 : o 1 = 0) :
    ∃ d : Fin 128, x = ix3 0 s d ∧ k.val = o 2 + d.val := by
  refine ⟨x 2, ?_, hx 2⟩
  funext e
  refine Fin.ext ?_
  have h0 : (x 0).val < 1 := (x 0).isLt
  have := hx 1
  fin_cases e <;> simp [ix3] at this h0 ⊢ <;> omega

/-- What a grid step leaves in its block of outputs. -/
theorem out3 (c : Dev nD) (t : Fin cfg0.N) (y5 : Vec Ideal S1x2x64 .f32) (y8 : Vec Ideal S1x4x16 .f32) (h0 : RE (iblk m c 0 t)) (h1 : RE (iblk m c 1 t)) (h2 : RE (iblk m c 2 t)) (s : Fin 256) (k : Fin 4096) :
    View.canon (pcs_3 m c t y5 y8) (ix3 0 s k) = oF (fun s d => nat3 (iblk m c 0 t) 0 s (128 * (k.val / 128) + d)) (fun s d => nat3 (iblk m c 1 t) 0 s (128 * (k.val / 512) + d))
      (fun s d => nat3 (iblk m c 2 t) 0 s (128 * (k.val / 512) + d)) s (k.val % 128) := by
  refine View.canon_eq_of_allAt _ _ _ (cover_3 m c t y5 y8 _) ?_
  have L0 := os_h0 c (ms0_0 t) (hs0_0 t) (ms0_1 t) (ms0_2 t) (hs0_1 t) (hs0_2 t) scM0_0 (iblk m c 0 t) (iblk m c 1 t) (iblk m c 2 t) h0 h1 h2
  have L1 := os_h1 c (ms0_0 t) (hs0_0 t) (ms0_1 t) (ms0_2 t) (hs0_1 t) (hs0_2 t) scM0_0 (iblk m c 0 t) (iblk m c 1 t) (iblk m c 2 t) h0 h1 h2
  have L2 := os_h2 c (ms0_0 t) (hs0_0 t) (ms0_1 t) (ms0_2 t) (hs0_1 t) (hs0_2 t) scM0_0 (iblk m c 0 t) (iblk m c 1 t) (iblk m c 2 t) h0 h1 h2
  have L3 := os_h3 c (ms0_0 t) (hs0_0 t) (ms0_1 t) (ms0_2 t) (hs0_1 t) (hs0_2 t) scM0_0 (iblk m c 0 t) (iblk m c 1 t) (iblk m c 2 t) h0 h1 h2
  have L4 := os_h4 c (ms0_0 t) (hs0_0 t) (ms0_1 t) (ms0_2 t) (hs0_1 t) (hs0_2 t) scM0_0 (iblk m c 0 t) (iblk m c 1 t) (iblk m c 2 t) h0 h1 h2
  have L5 := os_h5 c (ms0_0 t) (hs0_0 t) (ms0_1 t) (ms0_2 t) (hs0_1 t) (hs0_2 t) scM0_0 (iblk m c 0 t) (iblk m c 1 t) (iblk m c 2 t) h0 h1 h2
  have L6 := os_h6 c (ms0_0 t) (hs0_0 t) (ms0_1 t) (ms0_2 t) (hs0_1 t) (hs0_2 t) scM0_0 (iblk m c 0 t) (iblk m c 1 t) (iblk m c 2 t) h0 h1 h2
  have L7 := os_h7 c (ms0_0 t) (hs0_0 t) (ms0_1 t) (ms0_2 t) (hs0_1 t) (hs0_2 t) scM0_0 (iblk m c 0 t) (iblk m c 1 t) (iblk m c 2 t) h0 h1 h2
  unfold pcs_3 runAt kernelRun0_A
  refine View.allAt_cons_unit _ _ _ _ _ (fun x hx => ?_) ?_
  · obtain ⟨d, rfl, hk⟩ := ix3_off s k _ x hx rfl
    exact out_piece _ _ 3 7 3584 896 _ _ _ (nat3 (iblk m c 0 t) 0) (nat3 (iblk m c 1 t) 0) (nat3 (iblk m c 2 t) 0) (by decide) rfl rfl L7 s d k hk
  refine View.allAt_cons_unit _ _ _ _ _ (fun x hx => ?_) ?_
  · obtain ⟨d, rfl, hk⟩ := ix3_off s k _ x hx rfl
    exact out_piece _ _ 2 7 3584 896 _ _ _ (nat3 (iblk m c 0 t) 0) (nat3 (iblk m c 1 t) 0) (nat3 (iblk m c 2 t) 0) (by decide) rfl rfl L7 s d k hk
  refine View.allAt_cons_unit _ _ _ _ _ (fun x hx => ?_) ?_
  · obtain ⟨d, rfl, hk⟩ := ix3_off s k _ x hx rfl
    exact out_piece _ _ 1 7 3584 896 _ _ _ (nat3 (iblk m c 0 t) 0) (nat3 (iblk m c 1 t) 0) (nat3 (iblk m c 2 t) 0) (by decide) rfl rfl L7 s d k hk
  refine View.allAt_cons_unit _ _ _ _ _ (fun x hx => ?_) ?_
  · obtain ⟨d, rfl, hk⟩ := ix3_off s k _ x hx rfl
    exact out_piece _ _ 0 7 3584 896 _ _ _ (nat3 (iblk m c 0 t) 0) (nat3 (iblk m c 1 t) 0) (nat3 (iblk m c 2 t) 0) (by decide) rfl rfl L7 s d k hk
  refine View.allAt_cons_unit _ _ _ _ _ (fun x hx => ?_) ?_
  · obtain ⟨d, rfl, hk⟩ := ix3_off s k _ x hx rfl
    exact out_piece _ _ 3 6 3072 768 _ _ _ (nat3 (iblk m c 0 t) 0) (nat3 (iblk m c 1 t) 0) (nat3 (iblk m c 2 t) 0) (by decide) rfl rfl L6 s d k hk
  refine View.allAt_cons_unit _ _ _ _ _ (fun x hx => ?_) ?_
  · obtain ⟨d, rfl, hk⟩ := ix3_off s k _ x hx rfl
    exact out_piece _ _ 2 6 3072 768 _ _ _ (nat3 (iblk m c 0 t) 0) (nat3 (iblk m c 1 t) 0) (nat3 (iblk m c 2 t) 0) (by decide) rfl rfl L6 s d k hk
  refine View.allAt_cons_unit _ _ _ _ _ (fun x hx => ?_) ?_
  · obtain ⟨d, rfl, hk⟩ := ix3_off s k _ x hx rfl
    exact out_piece _ _ 1 6 3072 768 _ _ _ (nat3 (iblk m c 0 t) 0) (nat3 (iblk m c 1 t) 0) (nat3 (iblk m c 2 t) 0) (by decide) rfl rfl L6 s d k hk
  refine View.allAt_cons_unit _ _ _ _ _ (fun x hx => ?_) ?_
  · obtain ⟨d, rfl, hk⟩ := ix3_off s k _ x hx rfl
    exact out_piece _ _ 0 6 3072 768 _ _ _ (nat3 (iblk m c 0 t) 0) (nat3 (iblk m c 1 t) 0) (nat3 (iblk m c 2 t) 0) (by decide) rfl rfl L6 s d k hk
  refine View.allAt_cons_unit _ _ _ _ _ (fun x hx => ?_) ?_
  · obtain ⟨d, rfl, hk⟩ := ix3_off s k _ x hx rfl
    exact out_piece _ _ 3 5 2560 640 _ _ _ (nat3 (iblk m c 0 t) 0) (nat3 (iblk m c 1 t) 0) (nat3 (iblk m c 2 t) 0) (by decide) rfl rfl L5 s d k hk
  refine View.allAt_cons_unit _ _ _ _ _ (fun x hx => ?_) ?_
  · obtain ⟨d, rfl, hk⟩ := ix3_off s k _ x hx rfl
    exact out_piece _ _ 2 5 2560 640 _ _ _ (nat3 (iblk m c 0 t) 0) (nat3 (iblk m c 1 t) 0) (nat3 (iblk m c 2 t) 0) (by decide) rfl rfl L5 s d k hk
  refine View.allAt_cons_unit _ _ _ _ _ (fun x hx => ?_) ?_
  · obtain ⟨d, rfl, hk⟩ := ix3_off s k _ x hx rfl
    exact out_piece _ _ 1 5 2560 640 _ _ _ (nat3 (iblk m c 0 t) 0) (nat3 (iblk m c 1 t) 0) (nat3 (iblk m c 2 t) 0) (by decide) rfl rfl L5 s d k hk
  refine View.allAt_cons_unit _ _ _ _ _ (fun x hx => ?_) ?_
  · obtain ⟨d, rfl, hk⟩ := ix3_off s k _ x hx rfl
    exact out_piece _ _ 0 5 2560 640 _ _ _ (nat3 (iblk m c 0 t) 0) (nat3 (iblk m c 1 t) 0) (nat3 (iblk m c 2 t) 0) (by decide) rfl rfl L5 s d k hk
  refine View.allAt_cons_unit _ _ _ _ _ (fun x hx => ?_) ?_
  · obtain ⟨d, rfl, hk⟩ := ix3_off s k _ x hx rfl
    exact out_piece _ _ 3 4 2048 512 _ _ _ (nat3 (iblk m c 0 t) 0) (nat3 (iblk m c 1 t) 0) (nat3 (iblk m c 2 t) 0) (by decide) rfl rfl L4 s d k hk
  refine View.allAt_cons_unit _ _ _ _ _ (fun x hx => ?_) ?_
  · obtain ⟨d, rfl, hk⟩ := ix3_off s k _ x hx rfl
    exact out_piece _ _ 2 4 2048 512 _ _ _ (nat3 (iblk m c 0 t) 0) (nat3 (iblk m c 1 t) 0) (nat3 (iblk m c 2 t) 0) (by decide) rfl rfl L4 s d k hk
  refine View.allAt_cons_unit _ _ _ _ _ (fun x hx => ?_) ?_
  · obtain ⟨d, rfl, hk⟩ := ix3_off s k _ x hx rfl
    exact out_piece _ _ 1 4 2048 512 _ _ _ (nat3 (iblk m c 0 t) 0) (nat3 (iblk m c 1 t) 0) (nat3 (iblk m c 2 t) 0) (by decide) rfl rfl L4 s d k hk
  refine View.allAt_cons_unit _ _ _ _ _ (fun x hx => ?_) ?_
  · obtain ⟨d, rfl, hk⟩ := ix3_off s k _ x hx rfl
    exact out_piece _ _ 0 4 2048 512 _ _ _ (nat3 (iblk m c 0 t) 0) (nat3 (iblk m c 1 t) 0) (nat3 (iblk m c 2 t) 0) (by decide) rfl rfl L4 s d k hk
  refine View.allAt_cons_unit _ _ _ _ _ (fun x hx => ?_) ?_
  · obtain ⟨d, rfl, hk⟩ := ix3_off s k _ x hx rfl
    exact out_piece _ _ 3 3 1536 384 _ _ _ (nat3 (iblk m c 0 t) 0) (nat3 (iblk m c 1 t) 0) (nat3 (iblk m c 2 t) 0) (by decide) rfl rfl L3 s d k hk
  refine View.allAt_cons_unit _ _ _ _ _ (fun x hx => ?_) ?_
  · obtain ⟨d, rfl, hk⟩ := ix3_off s k _ x hx rfl
    exact out_piece _ _ 2 3 1536 384 _ _ _ (nat3 (iblk m c 0 t) 0) (nat3 (iblk m c 1 t) 0) (nat3 (iblk m c 2 t) 0) (by decide) rfl rfl L3 s d k hk
  refine View.allAt_cons_unit _ _ _ _ _ (fun x hx => ?_) ?_
  · obtain ⟨d, rfl, hk⟩ := ix3_off s k _ x hx rfl
    exact out_piece _ _ 1 3 1536 384 _ _ _ (nat3 (iblk m c 0 t) 0) (nat3 (iblk m c 1 t) 0) (nat3 (iblk m c 2 t) 0) (by decide) rfl rfl L3 s d k hk
  refine View.allAt_cons_unit _ _ _ _ _ (fun x hx => ?_) ?_
  · obtain ⟨d, rfl, hk⟩ := ix3_off s k _ x hx rfl
    exact out_piece _ _ 0 3 1536 384 _ _ _ (nat3 (iblk m c 0 t) 0) (nat3 (iblk m c 1 t) 0) (nat3 (iblk m c 2 t) 0) (by decide) rfl rfl L3 s d k hk
  refine View.allAt_cons_unit _ _ _ _ _ (fun x hx => ?_) ?_
  · obtain ⟨d, rfl, hk⟩ := ix3_off s k _ x hx rfl
    exact out_piece _ _ 3 2 1024 256 _ _ _ (nat3 (iblk m c 0 t) 0) (nat3 (iblk m c 1 t) 0) (nat3 (iblk m c 2 t) 0) (by decide) rfl rfl L2 s d k hk
  refine View.allAt_cons_unit _ _ _ _ _ (fun x hx => ?_) ?_
  · obtain ⟨d, rfl, hk⟩ := ix3_off s k _ x hx rfl
    exact out_piece _ _ 2 2 1024 256 _ _ _ (nat3 (iblk m c 0 t) 0) (nat3 (iblk m c 1 t) 0) (nat3 (iblk m c 2 t) 0) (by decide) rfl rfl L2 s d k hk
  refine View.allAt_cons_unit _ _ _ _ _ (fun x hx => ?_) ?_
  · obtain ⟨d, rfl, hk⟩ := ix3_off s k _ x hx rfl
    exact out_piece _ _ 1 2 1024 256 _ _ _ (nat3 (iblk m c 0 t) 0) (nat3 (iblk m c 1 t) 0) (nat3 (iblk m c 2 t) 0) (by decide) rfl rfl L2 s d k hk
  refine View.allAt_cons_unit _ _ _ _ _ (fun x hx => ?_) ?_
  · obtain ⟨d, rfl, hk⟩ := ix3_off s k _ x hx rfl
    exact out_piece _ _ 0 2 1024 256 _ _ _ (nat3 (iblk m c 0 t) 0) (nat3 (iblk m c 1 t) 0) (nat3 (iblk m c 2 t) 0) (by decide) rfl rfl L2 s d k hk
  refine View.allAt_cons_unit _ _ _ _ _ (fun x hx => ?_) ?_
  · obtain ⟨d, rfl, hk⟩ := ix3_off s k _ x hx rfl
    exact out_piece _ _ 3 1 512 128 _ _ _ (nat3 (iblk m c 0 t) 0) (nat3 (iblk m c 1 t) 0) (nat3 (iblk m c 2 t) 0) (by decide) rfl rfl L1 s d k hk
  refine View.allAt_cons_unit _ _ _ _ _ (fun x hx => ?_) ?_
  · obtain ⟨d, rfl, hk⟩ := ix3_off s k _ x hx rfl
    exact out_piece _ _ 2 1 512 128 _ _ _ (nat3 (iblk m c 0 t) 0) (nat3 (iblk m c 1 t) 0) (nat3 (iblk m c 2 t) 0) (by decide) rfl rfl L1 s d k hk
  refine View.allAt_cons_unit _ _ _ _ _ (fun x hx => ?_) ?_
  · obtain ⟨d, rfl, hk⟩ := ix3_off s k _ x hx rfl
    exact out_piece _ _ 1 1 512 128 _ _ _ (nat3 (iblk m c 0 t) 0) (nat3 (iblk m c 1 t) 0) (nat3 (iblk m c 2 t) 0) (by decide) rfl rfl L1 s d k hk
  refine View.allAt_cons_unit _ _ _ _ _ (fun x hx => ?_) ?_
  · obtain ⟨d, rfl, hk⟩ := ix3_off s k _ x hx rfl
    exact out_piece _ _ 0 1 512 128 _ _ _ (nat3 (iblk m c 0 t) 0) (nat3 (iblk m c 1 t) 0) (nat3 (iblk m c 2 t) 0) (by decide) rfl rfl L1 s d k hk
  refine View.allAt_cons_unit _ _ _ _ _ (fun x hx => ?_) ?_
  · obtain ⟨d, rfl, hk⟩ := ix3_off s k _ x hx rfl
    exact out_piece _ _ 3 0 0 0 _ _ _ (nat3 (iblk m c 0 t) 0) (nat3 (iblk m c 1 t) 0) (nat3 (iblk m c 2 t) 0) (by decide) rfl rfl L0 s d k hk
  refine View.allAt_cons_unit _ _ _ _ _ (fun x hx => ?_) ?_
  · obtain ⟨d, rfl, hk⟩ := ix3_off s k _ x hx rfl
    exact out_piece _ _ 2 0 0 0 _ _ _ (nat3 (iblk m c 0 t) 0) (nat3 (iblk m c 1 t) 0) (nat3 (iblk m c 2 t) 0) (by decide) rfl rfl L0 s d k hk
  refine View.allAt_cons_unit _ _ _ _ _ (fun x hx => ?_) ?_
  · obtain ⟨d, rfl, hk⟩ := ix3_off s k _ x hx rfl
    exact out_piece _ _ 1 0 0 0 _ _ _ (nat3 (iblk m c 0 t) 0) (nat3 (iblk m c 1 t) 0) (nat3 (iblk m c 2 t) 0) (by decide) rfl rfl L0 s d k hk
  refine View.allAt_cons_unit _ _ _ _ _ (fun x hx => ?_) ?_
  · obtain ⟨d, rfl, hk⟩ := ix3_off s k _ x hx rfl
    exact out_piece _ _ 0 0 0 0 _ _ _ (nat3 (iblk m c 0 t) 0) (nat3 (iblk m c 1 t) 0) (nat3 (iblk m c 2 t) 0) (by decide) rfl rfl L0 s d k hk
  exact View.allAt_nil _ _

/-- The outputs. -/
theorem arr_3 {r : PUnit × MemSt nD τ sig (Elt Ideal)} (h : RDat.FramePost (cfgs 0) (rdat m) (V m) r) (c : Dev nD)
    (hr0 : ∀ i, ∃ r : ℝ, m ((c.tc : Thread nD τ).loc main_arg0) i = (r : EReal)) (hr1 : ∀ i, ∃ r : ℝ, m ((c.tc : Thread nD τ).loc main_arg1) i = (r : EReal))
    (hr2 : ∀ i, ∃ r : ℝ, m ((c.tc : Thread nD τ).loc main_arg2) i = (r : EReal)) :
    r.2.mem ((c.tc : Thread nD τ).loc main_v0_0) = fun i => oF (XH (m ((c.tc : Thread nD τ).loc main_arg0)) (i 0).val ((i 2).val / 128)) (XH (m ((c.tc : Thread nD τ).loc main_arg1)) (i 0).val ((i 2).val / 512))
      (XH (m ((c.tc : Thread nD τ).loc main_arg2)) (i 0).val ((i 2).val / 512)) (i 1).val ((i 2).val % 128) := by
  refine arr_gen m h c 3 (fun i => oF (XH (m ((c.tc : Thread nD τ).loc main_arg0)) (i 0).val ((i 2).val / 128)) (XH (m ((c.tc : Thread nD τ).loc main_arg1)) (i 0).val ((i 2).val / 512))
      (XH (m ((c.tc : Thread nD τ).loc main_arg2)) (i 0).val ((i 2).val / 512)) (i 1).val ((i 2).val % 128)) (by decide +kernel) (Memref.isWhole_whole _) ?_
  rintro t Y X hf - ⟨y5, y8, rfl⟩ (y : S1x256x4096.Idx)
  have h0 := (congrArg (View.canon (pcs_3 m c t y5 y8)) (eta3 (b := 256) (c := 4096) y)).trans (out3 m c t y5 y8 (fun _ _ => nat_real _ (fun _ => hr0 _) _) (fun _ _ => nat_real _ (fun _ => hr1 _) _) (fun _ _ => nat_real _ (fun _ => hr2 _) _) (y 1) (y 2))
  generalize View.canon (pcs_3 m c t y5 y8) = X at h0 ⊢
  blk_simp [idx_3]
  refine h0.trans ?_
  idx_bounds y
  have b1 : (y 1).val < 256 := (y 1).isLt
  have b2 : (y 2).val < 4096 := (y 2).isLt
  refine (oF_congr _ (XH (m ((c.tc : Thread nD τ).loc main_arg0)) (t.val / 2) ((4096 * (t.val % 2) + (y 2).val) / 128)) _ (XH (m ((c.tc : Thread nD τ).loc main_arg1)) (t.val / 2) ((4096 * (t.val % 2) + (y 2).val) / 512))
    _ (XH (m ((c.tc : Thread nD τ).loc main_arg2)) (t.val / 2) ((4096 * (t.val % 2) + (y 2).val) / 512)) _ _ b1 (by omega) (fun s d hs hd => ?_) (fun s d hs hd => ?_) (fun s d hs hd => ?_)).trans ?_
  · unfold XH
    rw [iblk0_v m c t s _ hs (by omega)]
    congr 1; omega
  · unfold XH
    rw [iblk1_v m c t s _ hs (by omega)]
    congr 1; omega
  · unfold XH
    rw [iblk2_v m c t s _ hs (by omega)]
    congr 1; omega
  · refine cg4 (fun b k s d => oF (XH (m ((c.tc : Thread nD τ).loc main_arg0)) b (k / 128)) (XH (m ((c.tc : Thread nD τ).loc main_arg1)) b (k / 512)) (XH (m ((c.tc : Thread nD τ).loc main_arg2)) b (k / 512)) s d) ?_ ?_ ?_ ?_ <;> simp <;> omega
end Cert.KernelIdeal.Gen
end
-- ==== Proof.lean ====
/- The claim: the frames, the precondition read as "every entry is a real number", and the values on both sides. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameK
public import proofs.«01_k».proof.Proof.Arrays3
public import proofs.«01_k».proof.Proof.RefOut
public import proofs.«01_k».proof.Proof.OutArr

@[expose] public section

set_option maxRecDepth 16384

noncomputable section

namespace Cert.Proof

open Idealize.ShloMosaic Idealize.ShloMosaic.TcCoe Idealize.SL.Sem
open Cert.Sage

instance pre_facts : Cert.Pre_finite.Facts := ⟨by decide, by decide⟩

/-- An entry smaller in size than infinity is a real number. -/
theorem real_of {s : Shape} (hb : (⟨0, ![]⟩ : Shape).BroadcastsInDim s (![] : Fin 0 → Fin s.rank)) (x : FVec Ideal s .bf16)
    (h : cmpf .olt (Host.absf x) (broadcastInDim s ![] hb (constant (F := Ideal) ⟨0, ![]⟩ .bf16 0x7F80#16)) = fun _ => 1#1) (i : s.Idx) :
    ∃ r : ℝ, x i = (r : EReal) := by
  have h1 : FloatOps.cmpf (F := Ideal) .olt (max (x i) (-x i) : EReal) (Ideal.ofBits .bf16 0x7F80#16) = 1#1 := congrFun h i
  rw [ofBits_inf_bf16] at h1
  have h2 : max (x i) (-x i) < (⊤ : EReal) := by
    by_contra hc
    have h3 : (FloatOps.cmpf (F := Ideal) (φ := .bf16) .olt (max (x i) (-x i) : EReal) (⊤ : EReal)) = BitVec.ofBool (decide (max (x i) (-x i) < (⊤ : EReal))) := rfl
    rw [h3, decide_eq_false hc] at h1
    exact absurd h1 (by decide)
  have ht : x i ≠ ⊤ := fun e => by rw [e] at h2; simp at h2
  have hb' : x i ≠ ⊥ := fun e => by rw [e] at h2; simp at h2
  exact ⟨(x i).toReal, (EReal.coe_toReal ht hb').symm⟩

/-- The precondition says that every entry of the three arguments is a real number. -/
theorem reals_of {m : (ℓ : Loc Cert.KernelIdeal.nD Cert.KernelIdeal.τ Cert.KernelIdeal.sig) → Buf (Elt Ideal) ℓ} (hp : Pre_KernelIdeal_finite m) (c : Dev Cert.KernelIdeal.nD) :
    (∀ i, ∃ r : ℝ, (m ((c.tc : Thread Cert.KernelIdeal.nD Cert.KernelIdeal.τ).loc Cert.KernelIdeal.main_arg0)) i = (r : EReal)) ∧ (∀ i, ∃ r : ℝ, (m ((c.tc : Thread Cert.KernelIdeal.nD Cert.KernelIdeal.τ).loc Cert.KernelIdeal.main_arg1)) i = (r : EReal)) ∧ (∀ i, ∃ r : ℝ, (m ((c.tc : Thread Cert.KernelIdeal.nD Cert.KernelIdeal.τ).loc Cert.KernelIdeal.main_arg2)) i = (r : EReal)) :=
  ⟨real_of _ _ (hp c).1, real_of _ _ (hp c).2.1, real_of _ _ (hp c).2.2⟩

theorem ref_out (x0 : FVec Ideal ⟨3, ![6, 256, 8192]⟩ .bf16) (x1 x2 : FVec Ideal ⟨3, ![6, 256, 2048]⟩ .bf16) :
    Cert.ReferenceIdeal.Read.val_main_v166 (F := Ideal) x0 x1 x2 = fun i => oF (XH x0 (i 0).val ((i 2).val / 128)) (XH x1 (i 0).val ((i 2).val / 512)) (XH x2 (i 0).val ((i 2).val / 512)) (i 1).val ((i 2).val % 128) :=
  funext fun i => Cert.ReferenceIdeal.Read.v166_r x0 x1 x2 i

theorem ref_out' (m' : (ℓ : Loc Cert.ReferenceIdeal.nD Cert.ReferenceIdeal.τ Cert.ReferenceIdeal.sig) → Buf (Elt Ideal) ℓ) (c : Dev Cert.ReferenceIdeal.nD) (x0 : FVec Ideal ⟨3, ![6, 256, 8192]⟩ .bf16) (h0 : (m' ((c.tc : Thread Cert.ReferenceIdeal.nD Cert.ReferenceIdeal.τ).loc Cert.ReferenceIdeal.main_arg0)) = x0) (x1 : FVec Ideal ⟨3, ![6, 256, 2048]⟩ .bf16) (h1 : (m' ((c.tc : Thread Cert.ReferenceIdeal.nD Cert.ReferenceIdeal.τ).loc Cert.ReferenceIdeal.main_arg1)) = x1) (x2 : FVec Ideal ⟨3, ![6, 256, 2048]⟩ .bf16) (h2 : (m' ((c.tc : Thread Cert.ReferenceIdeal.nD Cert.ReferenceIdeal.τ).loc Cert.ReferenceIdeal.main_arg2)) = x2) :
    Cert.ReferenceIdeal.Read.val_main_v166 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) = fun i => oF (XH x0 (i 0).val ((i 2).val / 128)) (XH x1 (i 0).val ((i 2).val / 512)) (XH x2 (i 0).val ((i 2).val / 512)) (i 1).val ((i 2).val % 128) := by
  subst h0 h1 h2
  exact ref_out _ _ _

theorem ref_qcodes (x0 : FVec Ideal ⟨3, ![6, 256, 8192]⟩ .bf16) :
    Cert.ReferenceIdeal.Read.val_main_v168 (F := Ideal) x0 = fun i => qcF (XH x0 (i 0).val (i 2).val) (i 1).val (i 3).val :=
  funext fun i => Cert.ReferenceIdeal.Read.v168_r x0 i

theorem ref_qcodes' (m' : (ℓ : Loc Cert.ReferenceIdeal.nD Cert.ReferenceIdeal.τ Cert.ReferenceIdeal.sig) → Buf (Elt Ideal) ℓ) (c : Dev Cert.ReferenceIdeal.nD) (x0 : FVec Ideal ⟨3, ![6, 256, 8192]⟩ .bf16) (h0 : (m' ((c.tc : Thread Cert.ReferenceIdeal.nD Cert.ReferenceIdeal.τ).loc Cert.ReferenceIdeal.main_arg0)) = x0) :
    Cert.ReferenceIdeal.Read.val_main_v168 (F := Ideal) (StableHlo.launchContents m' c (Proc.devRef .tc Cert.ReferenceIdeal.main_arg0)) = fun i => qcF (XH x0 (i 0).val (i 2).val) (i 1).val (i 3).val := by
  subst h0
  exact ref_qcodes _

theorem ref_qscales (x0 : FVec Ideal ⟨3, ![6, 256, 8192]⟩ .bf16) :
    Cert.ReferenceIdeal.Read.val_main_v35 (F := Ideal) x0 = fun i => sc (qaF (XH x0 (i 0).val (i 2).val) (i 1).val) :=
  funext fun i => Cert.ReferenceIdeal.Read.v35_r x0 i

theorem ref_qscales' (m' : (ℓ : Loc Cert.ReferenceIdeal.nD Cert.ReferenceIdeal.τ Cert.ReferenceIdeal.sig) → Buf (Elt Ideal) ℓ) (c : Dev Cert.ReferenceIdeal.nD) (x0 : FVec Ideal ⟨3, ![6, 256, 8192]⟩ .bf16) (h0 : (m' ((c.tc : Thread Cert.ReferenceIdeal.nD Cert.ReferenceIdeal.τ).loc Cert.ReferenceIdeal.main_arg0)) = x0) :
    Cert.ReferenceIdeal.Read.val_main_v35 (F := Ideal) (StableHlo.launchContents m' c (Proc.devRef .tc Cert.ReferenceIdeal.main_arg0)) = fun i => sc (qaF (XH x0 (i 0).val (i 2).val) (i 1).val) := by
  subst h0
  exact ref_qscales _

theorem ref_qmeans (x0 : FVec Ideal ⟨3, ![6, 256, 8192]⟩ .bf16) :
    Cert.ReferenceIdeal.Read.val_main_v6 (F := Ideal) x0 = fun i => mqF (XH x0 (i 0).val (i 2).val) (i 1).val (i 3).val :=
  funext fun i => Cert.ReferenceIdeal.Read.v6_r x0 i

theorem ref_qmeans' (m' : (ℓ : Loc Cert.ReferenceIdeal.nD Cert.ReferenceIdeal.τ Cert.ReferenceIdeal.sig) → Buf (Elt Ideal) ℓ) (c : Dev Cert.ReferenceIdeal.nD) (x0 : FVec Ideal ⟨3, ![6, 256, 8192]⟩ .bf16) (h0 : (m' ((c.tc : Thread Cert.ReferenceIdeal.nD Cert.ReferenceIdeal.τ).loc Cert.ReferenceIdeal.main_arg0)) = x0) :
    Cert.ReferenceIdeal.Read.val_main_v6 (F := Ideal) (StableHlo.launchContents m' c (Proc.devRef .tc Cert.ReferenceIdeal.main_arg0)) = fun i => mqF (XH x0 (i 0).val (i 2).val) (i 1).val (i 3).val := by
  subst h0
  exact ref_qmeans _

theorem ref_kcodes (x1 : FVec Ideal ⟨3, ![6, 256, 2048]⟩ .bf16) :
    Cert.ReferenceIdeal.Read.val_main_v169 (F := Ideal) x1 = fun i => kcF (XH x1 (i 0).val (i 2).val) (i 1).val (i 3).val :=
  funext fun i => Cert.ReferenceIdeal.Read.v169_r x1 i

theorem ref_kcodes' (m' : (ℓ : Loc Cert.ReferenceIdeal.nD Cert.ReferenceIdeal.τ Cert.ReferenceIdeal.sig) → Buf (Elt Ideal) ℓ) (c : Dev Cert.ReferenceIdeal.nD) (x1 : FVec Ideal ⟨3, ![6, 256, 2048]⟩ .bf16) (h1 : (m' ((c.tc : Thread Cert.ReferenceIdeal.nD Cert.ReferenceIdeal.τ).loc Cert.ReferenceIdeal.main_arg1)) = x1) :
    Cert.ReferenceIdeal.Read.val_main_v169 (F := Ideal) (StableHlo.launchContents m' c (Proc.devRef .tc Cert.ReferenceIdeal.main_arg1)) = fun i => kcF (XH x1 (i 0).val (i 2).val) (i 1).val (i 3).val := by
  subst h1
  exact ref_kcodes _

theorem ref_kscales (x1 : FVec Ideal ⟨3, ![6, 256, 2048]⟩ .bf16) :
    Cert.ReferenceIdeal.Read.val_main_v71 (F := Ideal) x1 = fun i => sc (kaF (XH x1 (i 0).val (i 2).val) (i 1).val) :=
  funext fun i => Cert.ReferenceIdeal.Read.v71_r x1 i

theorem ref_kscales' (m' : (ℓ : Loc Cert.ReferenceIdeal.nD Cert.ReferenceIdeal.τ Cert.ReferenceIdeal.sig) → Buf (Elt Ideal) ℓ) (c : Dev Cert.ReferenceIdeal.nD) (x1 : FVec Ideal ⟨3, ![6, 256, 2048]⟩ .bf16) (h1 : (m' ((c.tc : Thread Cert.ReferenceIdeal.nD Cert.ReferenceIdeal.τ).loc Cert.ReferenceIdeal.main_arg1)) = x1) :
    Cert.ReferenceIdeal.Read.val_main_v71 (F := Ideal) (StableHlo.launchContents m' c (Proc.devRef .tc Cert.ReferenceIdeal.main_arg1)) = fun i => sc (kaF (XH x1 (i 0).val (i 2).val) (i 1).val) := by
  subst h1
  exact ref_kscales _

theorem ref_kmeans (x1 : FVec Ideal ⟨3, ![6, 256, 2048]⟩ .bf16) :
    Cert.ReferenceIdeal.Read.val_main_v41 (F := Ideal) x1 = fun i => mvF (XH x1 (i 0).val (i 1).val) (i 2).val :=
  funext fun i => Cert.ReferenceIdeal.Read.v41_r x1 i

theorem ref_kmeans' (m' : (ℓ : Loc Cert.ReferenceIdeal.nD Cert.ReferenceIdeal.τ Cert.ReferenceIdeal.sig) → Buf (Elt Ideal) ℓ) (c : Dev Cert.ReferenceIdeal.nD) (x1 : FVec Ideal ⟨3, ![6, 256, 2048]⟩ .bf16) (h1 : (m' ((c.tc : Thread Cert.ReferenceIdeal.nD Cert.ReferenceIdeal.τ).loc Cert.ReferenceIdeal.main_arg1)) = x1) :
    Cert.ReferenceIdeal.Read.val_main_v41 (F := Ideal) (StableHlo.launchContents m' c (Proc.devRef .tc Cert.ReferenceIdeal.main_arg1)) = fun i => mvF (XH x1 (i 0).val (i 1).val) (i 2).val := by
  subst h1
  exact ref_kmeans _

theorem ref_vcodes (x2 : FVec Ideal ⟨3, ![6, 256, 2048]⟩ .bf16) :
    Cert.ReferenceIdeal.Read.val_main_v170 (F := Ideal) x2 = fun i => vcF (XH x2 (i 0).val (i 2).val) (i 1).val (i 3).val :=
  funext fun i => Cert.ReferenceIdeal.Read.v170_r x2 i

theorem ref_vcodes' (m' : (ℓ : Loc Cert.ReferenceIdeal.nD Cert.ReferenceIdeal.τ Cert.ReferenceIdeal.sig) → Buf (Elt Ideal) ℓ) (c : Dev Cert.ReferenceIdeal.nD) (x2 : FVec Ideal ⟨3, ![6, 256, 2048]⟩ .bf16) (h2 : (m' ((c.tc : Thread Cert.ReferenceIdeal.nD Cert.ReferenceIdeal.τ).loc Cert.ReferenceIdeal.main_arg2)) = x2) :
    Cert.ReferenceIdeal.Read.val_main_v170 (F := Ideal) (StableHlo.launchContents m' c (Proc.devRef .tc Cert.ReferenceIdeal.main_arg2)) = fun i => vcF (XH x2 (i 0).val (i 2).val) (i 1).val (i 3).val := by
  subst h2
  exact ref_vcodes _

theorem ref_vscales (x2 : FVec Ideal ⟨3, ![6, 256, 2048]⟩ .bf16) :
    Cert.ReferenceIdeal.Read.val_main_v106 (F := Ideal) x2 = fun i => sc (vaF (XH x2 (i 0).val (i 1).val) (i 2).val) :=
  funext fun i => Cert.ReferenceIdeal.Read.v106_r x2 i

theorem ref_vscales' (m' : (ℓ : Loc Cert.ReferenceIdeal.nD Cert.ReferenceIdeal.τ Cert.ReferenceIdeal.sig) → Buf (Elt Ideal) ℓ) (c : Dev Cert.ReferenceIdeal.nD) (x2 : FVec Ideal ⟨3, ![6, 256, 2048]⟩ .bf16) (h2 : (m' ((c.tc : Thread Cert.ReferenceIdeal.nD Cert.ReferenceIdeal.τ).loc Cert.ReferenceIdeal.main_arg2)) = x2) :
    Cert.ReferenceIdeal.Read.val_main_v106 (F := Ideal) (StableHlo.launchContents m' c (Proc.devRef .tc Cert.ReferenceIdeal.main_arg2)) = fun i => sc (vaF (XH x2 (i 0).val (i 1).val) (i 2).val) := by
  subst h2
  exact ref_vscales _

theorem ref_vmeans (x2 : FVec Ideal ⟨3, ![6, 256, 2048]⟩ .bf16) :
    Cert.ReferenceIdeal.Read.val_main_v77 (F := Ideal) x2 = fun i => mvF (XH x2 (i 0).val (i 1).val) (i 2).val :=
  funext fun i => Cert.ReferenceIdeal.Read.v77_r x2 i

theorem ref_vmeans' (m' : (ℓ : Loc Cert.ReferenceIdeal.nD Cert.ReferenceIdeal.τ Cert.ReferenceIdeal.sig) → Buf (Elt Ideal) ℓ) (c : Dev Cert.ReferenceIdeal.nD) (x2 : FVec Ideal ⟨3, ![6, 256, 2048]⟩ .bf16) (h2 : (m' ((c.tc : Thread Cert.ReferenceIdeal.nD Cert.ReferenceIdeal.τ).loc Cert.ReferenceIdeal.main_arg2)) = x2) :
    Cert.ReferenceIdeal.Read.val_main_v77 (F := Ideal) (StableHlo.launchContents m' c (Proc.devRef .tc Cert.ReferenceIdeal.main_arg2)) = fun i => mvF (XH x2 (i 0).val (i 1).val) (i 2).val := by
  subst h2
  exact ref_vmeans _

/-- Kernel and reference end with the same arrays. -/
theorem values : algebraic_KernelIdeal_ReferenceIdeal_pre_finite := by
  intro m g m' g' hp hag
  refine ⟨fun c i => oF (XH (m ((c.tc : Thread Cert.KernelIdeal.nD Cert.KernelIdeal.τ).loc Cert.KernelIdeal.main_arg0)) (i 0).val ((i 2).val / 128)) (XH (m ((c.tc : Thread Cert.KernelIdeal.nD Cert.KernelIdeal.τ).loc Cert.KernelIdeal.main_arg1)) (i 0).val ((i 2).val / 512)) (XH (m ((c.tc : Thread Cert.KernelIdeal.nD Cert.KernelIdeal.τ).loc Cert.KernelIdeal.main_arg2)) (i 0).val ((i 2).val / 512)) (i 1).val ((i 2).val % 128),
    fun c i => qcF (XH (m ((c.tc : Thread Cert.KernelIdeal.nD Cert.KernelIdeal.τ).loc Cert.KernelIdeal.main_arg0)) (i 0).val (i 2).val) (i 1).val (i 3).val,
    fun c i => sc (qaF (XH (m ((c.tc : Thread Cert.KernelIdeal.nD Cert.KernelIdeal.τ).loc Cert.KernelIdeal.main_arg0)) (i 0).val (i 2).val) (i 1).val),
    fun c i => mqF (XH (m ((c.tc : Thread Cert.KernelIdeal.nD Cert.KernelIdeal.τ).loc Cert.KernelIdeal.main_arg0)) (i 0).val (i 2).val) (i 1).val (i 3).val,
    fun c i => kcF (XH (m ((c.tc : Thread Cert.KernelIdeal.nD Cert.KernelIdeal.τ).loc Cert.KernelIdeal.main_arg1)) (i 0).val (i 2).val) (i 1).val (i 3).val,
    fun c i => sc (kaF (XH (m ((c.tc : Thread Cert.KernelIdeal.nD Cert.KernelIdeal.τ).loc Cert.KernelIdeal.main_arg1)) (i 0).val (i 2).val) (i 1).val),
    fun c i => mvF (XH (m ((c.tc : Thread Cert.KernelIdeal.nD Cert.KernelIdeal.τ).loc Cert.KernelIdeal.main_arg1)) (i 0).val (i 1).val) (i 2).val,
    fun c i => vcF (XH (m ((c.tc : Thread Cert.KernelIdeal.nD Cert.KernelIdeal.τ).loc Cert.KernelIdeal.main_arg2)) (i 0).val (i 2).val) (i 1).val (i 3).val,
    fun c i => sc (vaF (XH (m ((c.tc : Thread Cert.KernelIdeal.nD Cert.KernelIdeal.τ).loc Cert.KernelIdeal.main_arg2)) (i 0).val (i 1).val) (i 2).val),
    fun c i => mvF (XH (m ((c.tc : Thread Cert.KernelIdeal.nD Cert.KernelIdeal.τ).loc Cert.KernelIdeal.main_arg2)) (i 0).val (i 1).val) (i 2).val, ?_, ?_⟩
  · refine (θ_run _ _ _).mono (fun _ h c => ⟨(Cert.KernelIdeal.Gen.arr_3 m h.1 c (reals_of hp c).1 (reals_of hp c).2.1 (reals_of hp c).2.2),
      (Cert.KernelIdeal.Gen.arr_4 m h.1 c (reals_of hp c).1),
      (Cert.KernelIdeal.Gen.arr_5 m h.1 c (reals_of hp c).1),
      (Cert.KernelIdeal.Gen.arr_6 m h.1 c),
      (Cert.KernelIdeal.Gen.arr_7 m h.1 c (reals_of hp c).2.1),
      (Cert.KernelIdeal.Gen.arr_8 m h.1 c (reals_of hp c).2.1),
      (Cert.KernelIdeal.Gen.arr_9 m h.1 c),
      (Cert.KernelIdeal.Gen.arr_10 m h.1 c (reals_of hp c).2.2),
      (Cert.KernelIdeal.Gen.arr_11 m h.1 c (reals_of hp c).2.2),
      (Cert.KernelIdeal.Gen.arr_12 m h.1 c),
      Cert.KernelIdeal.Gen.args_of m h.1 c⟩) (Cert.KernelIdeal.Gen.run_main_quiescent m g)
  · refine (θ_run _ _ _).mono ?_ (Cert.ReferenceIdeal.Value.run m' g')
    intro r h c
    refine ⟨?_, ?_, ?_, ?_, ?_, ?_, ?_, ?_, ?_, ?_, (h c).2.2.2.2.2.2.2.2.2.2⟩
    · exact ((h c).1.trans (Cert.ReferenceIdeal.Read.val_main_v166_eq (StableHlo.launchContents m' c))).trans (ref_out' m' c _ (hag c).1 _ (hag c).2.1 _ (hag c).2.2)
    · exact ((h c).2.1.trans (Cert.ReferenceIdeal.Read.val_main_v168_eq (StableHlo.launchContents m' c))).trans (ref_qcodes' m' c _ (hag c).1)
    · exact ((h c).2.2.1.trans (Cert.ReferenceIdeal.Read.val_main_v35_eq (StableHlo.launchContents m' c))).trans (ref_qscales' m' c _ (hag c).1)
    · exact ((h c).2.2.2.1.trans (Cert.ReferenceIdeal.Read.val_main_v6_eq (StableHlo.launchContents m' c))).trans (ref_qmeans' m' c _ (hag c).1)
    · exact ((h c).2.2.2.2.1.trans (Cert.ReferenceIdeal.Read.val_main_v169_eq (StableHlo.launchContents m' c))).trans (ref_kcodes' m' c _ (hag c).2.1)
    · exact ((h c).2.2.2.2.2.1.trans (Cert.ReferenceIdeal.Read.val_main_v71_eq (StableHlo.launchContents m' c))).trans (ref_kscales' m' c _ (hag c).2.1)
    · exact ((h c).2.2.2.2.2.2.1.trans (Cert.ReferenceIdeal.Read.val_main_v41_eq (StableHlo.launchContents m' c))).trans (ref_kmeans' m' c _ (hag c).2.1)
    · exact ((h c).2.2.2.2.2.2.2.1.trans (Cert.ReferenceIdeal.Read.val_main_v170_eq (StableHlo.launchContents m' c))).trans (ref_vcodes' m' c _ (hag c).2.2)
    · exact ((h c).2.2.2.2.2.2.2.2.1.trans (Cert.ReferenceIdeal.Read.val_main_v106_eq (StableHlo.launchContents m' c))).trans (ref_vscales' m' c _ (hag c).2.2)
    · exact ((h c).2.2.2.2.2.2.2.2.2.1.trans (Cert.ReferenceIdeal.Read.val_main_v77_eq (StableHlo.launchContents m' c))).trans (ref_vmeans' m' c _ (hag c).2.2)

/-- The reference ends, its arguments unchanged and every counter at zero. -/
theorem ref_frame : quiescent_ReferenceIdeal := fun m ρ _ =>
  (θ_run _ _ _).mono (fun _ h => ⟨fun c => (h c).2.2.2.2.2.2.2.2.2.2, Idealize.ShloMosaic.sem_eq_zero_of_no_sems (by decide) _⟩) (Cert.ReferenceIdeal.Value.run m ρ)

/-- The idealized kernel ends, its arguments unchanged and every counter at zero. -/
theorem kernel_frame : quiescent_KernelIdeal := fun m ρ _ =>
  (θ_run _ _ _).mono (fun _ h => ⟨fun c => Cert.KernelIdeal.Gen.args_of m h.1 c, h.2⟩) (Cert.KernelIdeal.Gen.run_main_quiescent m ρ)

theorem claim : Cert.Claim := ⟨Cert.Kernel.Gen.facts, Cert.KernelIdeal.Gen.facts, Cert.ReferenceIdeal.Gen.facts, pre_facts,
  fun m ρ _ => Cert.Kernel.Gen.frame m ρ, kernel_frame, fun m ρ _ => kernel_frame m ρ trivial,
  ref_frame, fun m ρ _ => ref_frame m ρ trivial,
  ⟨IdealRules.named_const.statement Cert.KernelIdeal.κ "log2e" .f32 0x3FB8AA3B#32 (((Real.log 2)⁻¹ : ℝ) : EReal) rfl,
  IdealRules.named_const.statement Cert.KernelIdeal.κ "sm_log2e" .f32 0x3E0293EE#32 (((Real.sqrt 128)⁻¹ * (Real.log 2)⁻¹ : ℝ) : EReal) rfl⟩,
  values⟩

end Cert.Proof

end
